-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite [hPre_finite : Cert.Pre_finite.Facts] (m : (ℓ : Loc Cert.FoxIdeal.nD Cert.FoxIdeal.τ Cert.FoxIdeal.sig) → Buf (Elt Ideal) ℓ) : Prop :=
  ∀ c : Dev Cert.FoxIdeal.nD,
    (Cert.Pre_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4)) (m ((c.tc : Thread Cert.FoxIdeal.nD Cert.FoxIdeal.τ).loc Cert.FoxIdeal.main_arg5)) (m ((c.tc : Thread Cert.FoxIdeal.nD Cert.FoxIdeal.τ).loc Cert.FoxIdeal.main_arg6)) (m ((c.tc : Thread Cert.FoxIdeal.nD Cert.FoxIdeal.τ).loc Cert.FoxIdeal.main_arg7)) (m ((c.tc : Thread Cert.FoxIdeal.nD Cert.FoxIdeal.τ).loc Cert.FoxIdeal.main_arg8)) (m ((c.tc : Thread Cert.FoxIdeal.nD Cert.FoxIdeal.τ).loc Cert.FoxIdeal.main_arg9))) = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_finite [hPre_finite : Cert.Pre_finite.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4)) (m ((c.tc : Thread Cert.FoxRefIdeal.nD Cert.FoxRefIdeal.τ).loc Cert.FoxRefIdeal.main_arg5)) (m ((c.tc : Thread Cert.FoxRefIdeal.nD Cert.FoxRefIdeal.τ).loc Cert.FoxRefIdeal.main_arg6)) (m ((c.tc : Thread Cert.FoxRefIdeal.nD Cert.FoxRefIdeal.τ).loc Cert.FoxRefIdeal.main_arg7)) (m ((c.tc : Thread Cert.FoxRefIdeal.nD Cert.FoxRefIdeal.τ).loc Cert.FoxRefIdeal.main_arg8)) (m ((c.tc : Thread Cert.FoxRefIdeal.nD Cert.FoxRefIdeal.τ).loc Cert.FoxRefIdeal.main_arg9))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_DwGate (m : (ℓ : Loc Cert.DwGate.nD Cert.DwGate.τ Cert.DwGate.sig) → Buf (Elt Bits) ℓ) : Prop :=
  True

def Pre_DwGateIdeal (m : (ℓ : Loc Cert.DwGateIdeal.nD Cert.DwGateIdeal.τ Cert.DwGateIdeal.sig) → Buf (Elt Ideal) ℓ) : Prop :=
  True

def Pre_DwGateRefIdeal (m : (ℓ : Loc Cert.DwGateRefIdeal.nD Cert.DwGateRefIdeal.τ Cert.DwGateRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostIdeal_finite_post [hPre_finite_post : Cert.Pre_finite_post.Facts] (m : (ℓ : Loc Cert.PostIdeal.nD Cert.PostIdeal.τ Cert.PostIdeal.sig) → Buf (Elt Ideal) ℓ) : Prop :=
  ∀ c : Dev Cert.PostIdeal.nD,
    (Cert.Pre_finite_post.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8))) = (fun _ => 1#1)

def Pre_PostRefIdeal (m : (ℓ : Loc Cert.PostRefIdeal.nD Cert.PostRefIdeal.τ Cert.PostRefIdeal.sig) → Buf (Elt Ideal) ℓ) : Prop :=
  True

def Pre_PostRefIdeal_finite_post [hPre_finite_post : Cert.Pre_finite_post.Facts] (m : (ℓ : Loc Cert.PostRefIdeal.nD Cert.PostRefIdeal.τ Cert.PostRefIdeal.sig) → Buf (Elt Ideal) ℓ) : Prop :=
  ∀ c : Dev Cert.PostRefIdeal.nD,
    (Cert.Pre_finite_post.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8))) = (fun _ => 1#1)

def Pre_DwRwkv (m : (ℓ : Loc Cert.DwRwkv.nD Cert.DwRwkv.τ Cert.DwRwkv.sig) → Buf (Elt Bits) ℓ) : Prop :=
  True

def Pre_DwRwkvIdeal (m : (ℓ : Loc Cert.DwRwkvIdeal.nD Cert.DwRwkvIdeal.τ Cert.DwRwkvIdeal.sig) → Buf (Elt Ideal) ℓ) : Prop :=
  True

def Pre_DwRwkvRefIdeal (m : (ℓ : Loc Cert.DwRwkvRefIdeal.nD Cert.DwRwkvRefIdeal.τ Cert.DwRwkvRefIdeal.sig) → Buf (Elt Ideal) ℓ) : Prop :=
  True

def Pre_ProjRwkv (m : (ℓ : Loc Cert.ProjRwkv.nD Cert.ProjRwkv.τ Cert.ProjRwkv.sig) → Buf (Elt Bits) ℓ) : Prop :=
  True

def Pre_ProjRwkvIdeal (m : (ℓ : Loc Cert.ProjRwkvIdeal.nD Cert.ProjRwkvIdeal.τ Cert.ProjRwkvIdeal.sig) → Buf (Elt Ideal) ℓ) : Prop :=
  True

def Pre_ProjRwkvRefIdeal (m : (ℓ : Loc Cert.ProjRwkvRefIdeal.nD Cert.ProjRwkvRefIdeal.τ Cert.ProjRwkvRefIdeal.sig) → Buf (Elt Ideal) ℓ) : Prop :=
  True

def Pre_ProjGate (m : (ℓ : Loc Cert.ProjGate.nD Cert.ProjGate.τ Cert.ProjGate.sig) → Buf (Elt Bits) ℓ) : Prop :=
  True

def Pre_ProjGateIdeal (m : (ℓ : Loc Cert.ProjGateIdeal.nD Cert.ProjGateIdeal.τ Cert.ProjGateIdeal.sig) → Buf (Elt Ideal) ℓ) : Prop :=
  True

def Pre_ProjGateRefIdeal (m : (ℓ : Loc Cert.ProjGateRefIdeal.nD Cert.ProjGateRefIdeal.τ Cert.ProjGateRefIdeal.sig) → Buf (Elt Ideal) ℓ) : Prop :=
  True

def Pre_AdamwIn (m : (ℓ : Loc Cert.AdamwIn.nD Cert.AdamwIn.τ Cert.AdamwIn.sig) → Buf (Elt Bits) ℓ) : Prop :=
  True

def Pre_AdamwInIdeal (m : (ℓ : Loc Cert.AdamwInIdeal.nD Cert.AdamwInIdeal.τ Cert.AdamwInIdeal.sig) → Buf (Elt Ideal) ℓ) : Prop :=
  True

def Pre_AdamwInRefIdeal (m : (ℓ : Loc Cert.AdamwInRefIdeal.nD Cert.AdamwInRefIdeal.τ Cert.AdamwInRefIdeal.sig) → Buf (Elt Ideal) ℓ) : Prop :=
  True

def Pre_AdamwLora (m : (ℓ : Loc Cert.AdamwLora.nD Cert.AdamwLora.τ Cert.AdamwLora.sig) → Buf (Elt Bits) ℓ) : Prop :=
  True

def Pre_AdamwLoraIdeal (m : (ℓ : Loc Cert.AdamwLoraIdeal.nD Cert.AdamwLoraIdeal.τ Cert.AdamwLoraIdeal.sig) → Buf (Elt Ideal) ℓ) : Prop :=
  True

def Pre_AdamwLoraRefIdeal (m : (ℓ : Loc Cert.AdamwLoraRefIdeal.nD Cert.AdamwLoraRefIdeal.τ Cert.AdamwLoraRefIdeal.sig) → Buf (Elt Ideal) ℓ) : Prop :=
  True

def Pre_AdamwOutA (m : (ℓ : Loc Cert.AdamwOutA.nD Cert.AdamwOutA.τ Cert.AdamwOutA.sig) → Buf (Elt Bits) ℓ) : Prop :=
  True

def Pre_AdamwOutAIdeal (m : (ℓ : Loc Cert.AdamwOutAIdeal.nD Cert.AdamwOutAIdeal.τ Cert.AdamwOutAIdeal.sig) → Buf (Elt Ideal) ℓ) : Prop :=
  True

def Pre_AdamwOutARefIdeal (m : (ℓ : Loc Cert.AdamwOutARefIdeal.nD Cert.AdamwOutARefIdeal.τ Cert.AdamwOutARefIdeal.sig) → Buf (Elt Ideal) ℓ) : Prop :=
  True

def Pre_AdamwOut (m : (ℓ : Loc Cert.AdamwOut.nD Cert.AdamwOut.τ Cert.AdamwOut.sig) → Buf (Elt Bits) ℓ) : Prop :=
  True

def Pre_AdamwOutIdeal (m : (ℓ : Loc Cert.AdamwOutIdeal.nD Cert.AdamwOutIdeal.τ Cert.AdamwOutIdeal.sig) → Buf (Elt Ideal) ℓ) : Prop :=
  True

def Pre_AdamwOutRefIdeal (m : (ℓ : Loc Cert.AdamwOutRefIdeal.nD Cert.AdamwOutRefIdeal.τ Cert.AdamwOutRefIdeal.sig) → Buf (Elt Ideal) ℓ) : Prop :=
  True

def Pre_AdamwSmall (m : (ℓ : Loc Cert.AdamwSmall.nD Cert.AdamwSmall.τ Cert.AdamwSmall.sig) → Buf (Elt Bits) ℓ) : Prop :=
  True

def Pre_AdamwSmallIdeal (m : (ℓ : Loc Cert.AdamwSmallIdeal.nD Cert.AdamwSmallIdeal.τ Cert.AdamwSmallIdeal.sig) → Buf (Elt Ideal) ℓ) : Prop :=
  True

def Pre_AdamwSmallRefIdeal (m : (ℓ : Loc Cert.AdamwSmallRefIdeal.nD Cert.AdamwSmallRefIdeal.τ Cert.AdamwSmallRefIdeal.sig) → Buf (Elt Ideal) ℓ) : Prop :=
  True

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3)
      ∧ r.2.mem ((c.tc : Thread Cert.Fox.nD Cert.Fox.τ).loc Cert.Fox.main_arg4) = m ((c.tc : Thread Cert.Fox.nD Cert.Fox.τ).loc Cert.Fox.main_arg4)
      ∧ r.2.mem ((c.tc : Thread Cert.Fox.nD Cert.Fox.τ).loc Cert.Fox.main_arg5) = m ((c.tc : Thread Cert.Fox.nD Cert.Fox.τ).loc Cert.Fox.main_arg5)
      ∧ r.2.mem ((c.tc : Thread Cert.Fox.nD Cert.Fox.τ).loc Cert.Fox.main_arg6) = m ((c.tc : Thread Cert.Fox.nD Cert.Fox.τ).loc Cert.Fox.main_arg6)
      ∧ r.2.mem ((c.tc : Thread Cert.Fox.nD Cert.Fox.τ).loc Cert.Fox.main_arg7) = m ((c.tc : Thread Cert.Fox.nD Cert.Fox.τ).loc Cert.Fox.main_arg7)
      ∧ r.2.mem ((c.tc : Thread Cert.Fox.nD Cert.Fox.τ).loc Cert.Fox.main_arg8) = m ((c.tc : Thread Cert.Fox.nD Cert.Fox.τ).loc Cert.Fox.main_arg8)
      ∧ r.2.mem ((c.tc : Thread Cert.Fox.nD Cert.Fox.τ).loc Cert.Fox.main_arg9) = m ((c.tc : Thread Cert.Fox.nD Cert.Fox.τ).loc Cert.Fox.main_arg9))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4)
      ∧ r.2.mem ((c.tc : Thread Cert.FoxIdeal.nD Cert.FoxIdeal.τ).loc Cert.FoxIdeal.main_arg5) = m ((c.tc : Thread Cert.FoxIdeal.nD Cert.FoxIdeal.τ).loc Cert.FoxIdeal.main_arg5)
      ∧ r.2.mem ((c.tc : Thread Cert.FoxIdeal.nD Cert.FoxIdeal.τ).loc Cert.FoxIdeal.main_arg6) = m ((c.tc : Thread Cert.FoxIdeal.nD Cert.FoxIdeal.τ).loc Cert.FoxIdeal.main_arg6)
      ∧ r.2.mem ((c.tc : Thread Cert.FoxIdeal.nD Cert.FoxIdeal.τ).loc Cert.FoxIdeal.main_arg7) = m ((c.tc : Thread Cert.FoxIdeal.nD Cert.FoxIdeal.τ).loc Cert.FoxIdeal.main_arg7)
      ∧ r.2.mem ((c.tc : Thread Cert.FoxIdeal.nD Cert.FoxIdeal.τ).loc Cert.FoxIdeal.main_arg8) = m ((c.tc : Thread Cert.FoxIdeal.nD Cert.FoxIdeal.τ).loc Cert.FoxIdeal.main_arg8)
      ∧ r.2.mem ((c.tc : Thread Cert.FoxIdeal.nD Cert.FoxIdeal.τ).loc Cert.FoxIdeal.main_arg9) = m ((c.tc : Thread Cert.FoxIdeal.nD Cert.FoxIdeal.τ).loc Cert.FoxIdeal.main_arg9))
      ∧ r.2.sem = fun _ => 0)

def quiescent_FoxIdeal_pre_finite [hFoxIdeal : Cert.FoxIdeal.Facts] [hPre_finite : Cert.Pre_finite.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4)
      ∧ r.2.mem ((c.tc : Thread Cert.FoxIdeal.nD Cert.FoxIdeal.τ).loc Cert.FoxIdeal.main_arg5) = m ((c.tc : Thread Cert.FoxIdeal.nD Cert.FoxIdeal.τ).loc Cert.FoxIdeal.main_arg5)
      ∧ r.2.mem ((c.tc : Thread Cert.FoxIdeal.nD Cert.FoxIdeal.τ).loc Cert.FoxIdeal.main_arg6) = m ((c.tc : Thread Cert.FoxIdeal.nD Cert.FoxIdeal.τ).loc Cert.FoxIdeal.main_arg6)
      ∧ r.2.mem ((c.tc : Thread Cert.FoxIdeal.nD Cert.FoxIdeal.τ).loc Cert.FoxIdeal.main_arg7) = m ((c.tc : Thread Cert.FoxIdeal.nD Cert.FoxIdeal.τ).loc Cert.FoxIdeal.main_arg7)
      ∧ r.2.mem ((c.tc : Thread Cert.FoxIdeal.nD Cert.FoxIdeal.τ).loc Cert.FoxIdeal.main_arg8) = m ((c.tc : Thread Cert.FoxIdeal.nD Cert.FoxIdeal.τ).loc Cert.FoxIdeal.main_arg8)
      ∧ r.2.mem ((c.tc : Thread Cert.FoxIdeal.nD Cert.FoxIdeal.τ).loc Cert.FoxIdeal.main_arg9) = m ((c.tc : Thread Cert.FoxIdeal.nD Cert.FoxIdeal.τ).loc Cert.FoxIdeal.main_arg9))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4)
      ∧ r.2.mem ((c.tc : Thread Cert.FoxRefIdeal.nD Cert.FoxRefIdeal.τ).loc Cert.FoxRefIdeal.main_arg5) = m ((c.tc : Thread Cert.FoxRefIdeal.nD Cert.FoxRefIdeal.τ).loc Cert.FoxRefIdeal.main_arg5)
      ∧ r.2.mem ((c.tc : Thread Cert.FoxRefIdeal.nD Cert.FoxRefIdeal.τ).loc Cert.FoxRefIdeal.main_arg6) = m ((c.tc : Thread Cert.FoxRefIdeal.nD Cert.FoxRefIdeal.τ).loc Cert.FoxRefIdeal.main_arg6)
      ∧ r.2.mem ((c.tc : Thread Cert.FoxRefIdeal.nD Cert.FoxRefIdeal.τ).loc Cert.FoxRefIdeal.main_arg7) = m ((c.tc : Thread Cert.FoxRefIdeal.nD Cert.FoxRefIdeal.τ).loc Cert.FoxRefIdeal.main_arg7)
      ∧ r.2.mem ((c.tc : Thread Cert.FoxRefIdeal.nD Cert.FoxRefIdeal.τ).loc Cert.FoxRefIdeal.main_arg8) = m ((c.tc : Thread Cert.FoxRefIdeal.nD Cert.FoxRefIdeal.τ).loc Cert.FoxRefIdeal.main_arg8)
      ∧ r.2.mem ((c.tc : Thread Cert.FoxRefIdeal.nD Cert.FoxRefIdeal.τ).loc Cert.FoxRefIdeal.main_arg9) = m ((c.tc : Thread Cert.FoxRefIdeal.nD Cert.FoxRefIdeal.τ).loc Cert.FoxRefIdeal.main_arg9))
      ∧ r.2.sem = fun _ => 0)

def quiescent_FoxRefIdeal_pre_finite [hFoxRefIdeal : Cert.FoxRefIdeal.Facts] [hPre_finite : Cert.Pre_finite.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_finite m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4)
      ∧ r.2.mem ((c.tc : Thread Cert.FoxRefIdeal.nD Cert.FoxRefIdeal.τ).loc Cert.FoxRefIdeal.main_arg5) = m ((c.tc : Thread Cert.FoxRefIdeal.nD Cert.FoxRefIdeal.τ).loc Cert.FoxRefIdeal.main_arg5)
      ∧ r.2.mem ((c.tc : Thread Cert.FoxRefIdeal.nD Cert.FoxRefIdeal.τ).loc Cert.FoxRefIdeal.main_arg6) = m ((c.tc : Thread Cert.FoxRefIdeal.nD Cert.FoxRefIdeal.τ).loc Cert.FoxRefIdeal.main_arg6)
      ∧ r.2.mem ((c.tc : Thread Cert.FoxRefIdeal.nD Cert.FoxRefIdeal.τ).loc Cert.FoxRefIdeal.main_arg7) = m ((c.tc : Thread Cert.FoxRefIdeal.nD Cert.FoxRefIdeal.τ).loc Cert.FoxRefIdeal.main_arg7)
      ∧ r.2.mem ((c.tc : Thread Cert.FoxRefIdeal.nD Cert.FoxRefIdeal.τ).loc Cert.FoxRefIdeal.main_arg8) = m ((c.tc : Thread Cert.FoxRefIdeal.nD Cert.FoxRefIdeal.τ).loc Cert.FoxRefIdeal.main_arg8)
      ∧ r.2.mem ((c.tc : Thread Cert.FoxRefIdeal.nD Cert.FoxRefIdeal.τ).loc Cert.FoxRefIdeal.main_arg9) = m ((c.tc : Thread Cert.FoxRefIdeal.nD Cert.FoxRefIdeal.τ).loc Cert.FoxRefIdeal.main_arg9))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6))
      ∧ r.2.sem = fun _ => 0)

def quiescent_DwGate [hDwGate : Cert.DwGate.Facts] : Prop :=
  ∀ (m : (ℓ : Loc Cert.DwGate.nD Cert.DwGate.τ Cert.DwGate.sig) → Buf (Elt Bits) ℓ) (g : Dev Cert.DwGate.nD → PrngReg), Pre_DwGate m →
    θ_run (Cert.DwGate.defs (F := Bits)) (onTc (τ := Cert.DwGate.τ) (Cert.DwGate.main (F := Bits))) ⟨m, fun _ => 0, g⟩ (fun r => (∀ c : Dev Cert.DwGate.nD,
      r.2.mem ((c.tc : Thread Cert.DwGate.nD Cert.DwGate.τ).loc Cert.DwGate.main_arg0) = m ((c.tc : Thread Cert.DwGate.nD Cert.DwGate.τ).loc Cert.DwGate.main_arg0)
      ∧ r.2.mem ((c.tc : Thread Cert.DwGate.nD Cert.DwGate.τ).loc Cert.DwGate.main_arg1) = m ((c.tc : Thread Cert.DwGate.nD Cert.DwGate.τ).loc Cert.DwGate.main_arg1))
      ∧ r.2.sem = fun _ => 0)

def quiescent_DwGateIdeal [hDwGateIdeal : Cert.DwGateIdeal.Facts] : Prop :=
  ∀ (m : (ℓ : Loc Cert.DwGateIdeal.nD Cert.DwGateIdeal.τ Cert.DwGateIdeal.sig) → Buf (Elt Ideal) ℓ) (g : Dev Cert.DwGateIdeal.nD → PrngReg), Pre_DwGateIdeal m →
    θ_run (Cert.DwGateIdeal.defs (F := Ideal)) (onTc (τ := Cert.DwGateIdeal.τ) (Cert.DwGateIdeal.main (F := Ideal))) ⟨m, fun _ => 0, g⟩ (fun r => (∀ c : Dev Cert.DwGateIdeal.nD,
      r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
      ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ r.2.sem = fun _ => 0)

def quiescent_DwGateRefIdeal [hDwGateRefIdeal : Cert.DwGateRefIdeal.Facts] : Prop :=
  ∀ (m : (ℓ : Loc Cert.DwGateRefIdeal.nD Cert.DwGateRefIdeal.τ Cert.DwGateRefIdeal.sig) → Buf (Elt Ideal) ℓ) (g : Dev Cert.DwGateRefIdeal.nD → PrngReg), Pre_DwGateRefIdeal m →
    θ_run (Cert.DwGateRefIdeal.defs (F := Ideal)) (onTc (τ := Cert.DwGateRefIdeal.τ) (Cert.DwGateRefIdeal.main (F := Ideal))) ⟨m, fun _ => 0, g⟩ (fun r => (∀ c : Dev Cert.DwGateRefIdeal.nD,
      r.2.mem ((c.tc : Thread Cert.DwGateRefIdeal.nD Cert.DwGateRefIdeal.τ).loc Cert.DwGateRefIdeal.main_arg0) = m ((c.tc : Thread Cert.DwGateRefIdeal.nD Cert.DwGateRefIdeal.τ).loc Cert.DwGateRefIdeal.main_arg0)
      ∧ r.2.mem ((c.tc : Thread Cert.DwGateRefIdeal.nD Cert.DwGateRefIdeal.τ).loc Cert.DwGateRefIdeal.main_arg1) = m ((c.tc : Thread Cert.DwGateRefIdeal.nD Cert.DwGateRefIdeal.τ).loc Cert.DwGateRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8))
      ∧ r.2.sem = fun _ => 0)

def quiescent_PostIdeal_pre_finite_post [hPostIdeal : Cert.PostIdeal.Facts] [hPre_finite_post : Cert.Pre_finite_post.Facts] : Prop :=
  ∀ (m : (ℓ : Loc Cert.PostIdeal.nD Cert.PostIdeal.τ Cert.PostIdeal.sig) → Buf (Elt Ideal) ℓ) (g : Dev Cert.PostIdeal.nD → PrngReg), Pre_PostIdeal_finite_post m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8))
      ∧ r.2.sem = fun _ => 0)

def quiescent_PostRefIdeal_pre_finite_post [hPostRefIdeal : Cert.PostRefIdeal.Facts] [hPre_finite_post : Cert.Pre_finite_post.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal_finite_post m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8))
      ∧ r.2.sem = fun _ => 0)

def quiescent_DwRwkv [hDwRwkv : Cert.DwRwkv.Facts] : Prop :=
  ∀ (m : (ℓ : Loc Cert.DwRwkv.nD Cert.DwRwkv.τ Cert.DwRwkv.sig) → Buf (Elt Bits) ℓ) (g : Dev Cert.DwRwkv.nD → PrngReg), Pre_DwRwkv m →
    θ_run (Cert.DwRwkv.defs (F := Bits)) (onTc (τ := Cert.DwRwkv.τ) (Cert.DwRwkv.main (F := Bits))) ⟨m, fun _ => 0, g⟩ (fun r => (∀ c : Dev Cert.DwRwkv.nD,
      r.2.mem ((c.tc : Thread Cert.DwRwkv.nD Cert.DwRwkv.τ).loc Cert.DwRwkv.main_arg0) = m ((c.tc : Thread Cert.DwRwkv.nD Cert.DwRwkv.τ).loc Cert.DwRwkv.main_arg0)
      ∧ r.2.mem ((c.tc : Thread Cert.DwRwkv.nD Cert.DwRwkv.τ).loc Cert.DwRwkv.main_arg1) = m ((c.tc : Thread Cert.DwRwkv.nD Cert.DwRwkv.τ).loc Cert.DwRwkv.main_arg1))
      ∧ r.2.sem = fun _ => 0)

def quiescent_DwRwkvIdeal [hDwRwkvIdeal : Cert.DwRwkvIdeal.Facts] : Prop :=
  ∀ (m : (ℓ : Loc Cert.DwRwkvIdeal.nD Cert.DwRwkvIdeal.τ Cert.DwRwkvIdeal.sig) → Buf (Elt Ideal) ℓ) (g : Dev Cert.DwRwkvIdeal.nD → PrngReg), Pre_DwRwkvIdeal m →
    θ_run (Cert.DwRwkvIdeal.defs (F := Ideal)) (onTc (τ := Cert.DwRwkvIdeal.τ) (Cert.DwRwkvIdeal.main (F := Ideal))) ⟨m, fun _ => 0, g⟩ (fun r => (∀ c : Dev Cert.DwRwkvIdeal.nD,
      r.2.mem ((c.tc : Thread Cert.DwRwkvIdeal.nD Cert.DwRwkvIdeal.τ).loc Cert.DwRwkvIdeal.main_arg0) = m ((c.tc : Thread Cert.DwRwkvIdeal.nD Cert.DwRwkvIdeal.τ).loc Cert.DwRwkvIdeal.main_arg0)
      ∧ r.2.mem ((c.tc : Thread Cert.DwRwkvIdeal.nD Cert.DwRwkvIdeal.τ).loc Cert.DwRwkvIdeal.main_arg1) = m ((c.tc : Thread Cert.DwRwkvIdeal.nD Cert.DwRwkvIdeal.τ).loc Cert.DwRwkvIdeal.main_arg1))
      ∧ r.2.sem = fun _ => 0)

def quiescent_DwRwkvRefIdeal [hDwRwkvRefIdeal : Cert.DwRwkvRefIdeal.Facts] : Prop :=
  ∀ (m : (ℓ : Loc Cert.DwRwkvRefIdeal.nD Cert.DwRwkvRefIdeal.τ Cert.DwRwkvRefIdeal.sig) → Buf (Elt Ideal) ℓ) (g : Dev Cert.DwRwkvRefIdeal.nD → PrngReg), Pre_DwRwkvRefIdeal m →
    θ_run (Cert.DwRwkvRefIdeal.defs (F := Ideal)) (onTc (τ := Cert.DwRwkvRefIdeal.τ) (Cert.DwRwkvRefIdeal.main (F := Ideal))) ⟨m, fun _ => 0, g⟩ (fun r => (∀ c : Dev Cert.DwRwkvRefIdeal.nD,
      r.2.mem ((c.tc : Thread Cert.DwRwkvRefIdeal.nD Cert.DwRwkvRefIdeal.τ).loc Cert.DwRwkvRefIdeal.main_arg0) = m ((c.tc : Thread Cert.DwRwkvRefIdeal.nD Cert.DwRwkvRefIdeal.τ).loc Cert.DwRwkvRefIdeal.main_arg0)
      ∧ r.2.mem ((c.tc : Thread Cert.DwRwkvRefIdeal.nD Cert.DwRwkvRefIdeal.τ).loc Cert.DwRwkvRefIdeal.main_arg1) = m ((c.tc : Thread Cert.DwRwkvRefIdeal.nD Cert.DwRwkvRefIdeal.τ).loc Cert.DwRwkvRefIdeal.main_arg1))
      ∧ r.2.sem = fun _ => 0)

def quiescent_ProjRwkv [hProjRwkv : Cert.ProjRwkv.Facts] : Prop :=
  ∀ (m : (ℓ : Loc Cert.ProjRwkv.nD Cert.ProjRwkv.τ Cert.ProjRwkv.sig) → Buf (Elt Bits) ℓ) (g : Dev Cert.ProjRwkv.nD → PrngReg), Pre_ProjRwkv m →
    θ_run (Cert.ProjRwkv.defs (F := Bits)) (onTc (τ := Cert.ProjRwkv.τ) (Cert.ProjRwkv.main (F := Bits))) ⟨m, fun _ => 0, g⟩ (fun r => (∀ c : Dev Cert.ProjRwkv.nD,
      r.2.mem ((c.tc : Thread Cert.ProjRwkv.nD Cert.ProjRwkv.τ).loc Cert.ProjRwkv.main_arg0) = m ((c.tc : Thread Cert.ProjRwkv.nD Cert.ProjRwkv.τ).loc Cert.ProjRwkv.main_arg0)
      ∧ r.2.mem ((c.tc : Thread Cert.ProjRwkv.nD Cert.ProjRwkv.τ).loc Cert.ProjRwkv.main_arg1) = m ((c.tc : Thread Cert.ProjRwkv.nD Cert.ProjRwkv.τ).loc Cert.ProjRwkv.main_arg1))
      ∧ r.2.sem = fun _ => 0)

def quiescent_ProjRwkvIdeal [hProjRwkvIdeal : Cert.ProjRwkvIdeal.Facts] : Prop :=
  ∀ (m : (ℓ : Loc Cert.ProjRwkvIdeal.nD Cert.ProjRwkvIdeal.τ Cert.ProjRwkvIdeal.sig) → Buf (Elt Ideal) ℓ) (g : Dev Cert.ProjRwkvIdeal.nD → PrngReg), Pre_ProjRwkvIdeal m →
    θ_run (Cert.ProjRwkvIdeal.defs (F := Ideal)) (onTc (τ := Cert.ProjRwkvIdeal.τ) (Cert.ProjRwkvIdeal.main (F := Ideal))) ⟨m, fun _ => 0, g⟩ (fun r => (∀ c : Dev Cert.ProjRwkvIdeal.nD,
      r.2.mem ((c.tc : Thread Cert.ProjRwkvIdeal.nD Cert.ProjRwkvIdeal.τ).loc Cert.ProjRwkvIdeal.main_arg0) = m ((c.tc : Thread Cert.ProjRwkvIdeal.nD Cert.ProjRwkvIdeal.τ).loc Cert.ProjRwkvIdeal.main_arg0)
      ∧ r.2.mem ((c.tc : Thread Cert.ProjRwkvIdeal.nD Cert.ProjRwkvIdeal.τ).loc Cert.ProjRwkvIdeal.main_arg1) = m ((c.tc : Thread Cert.ProjRwkvIdeal.nD Cert.ProjRwkvIdeal.τ).loc Cert.ProjRwkvIdeal.main_arg1))
      ∧ r.2.sem = fun _ => 0)

def quiescent_ProjRwkvRefIdeal [hProjRwkvRefIdeal : Cert.ProjRwkvRefIdeal.Facts] : Prop :=
  ∀ (m : (ℓ : Loc Cert.ProjRwkvRefIdeal.nD Cert.ProjRwkvRefIdeal.τ Cert.ProjRwkvRefIdeal.sig) → Buf (Elt Ideal) ℓ) (g : Dev Cert.ProjRwkvRefIdeal.nD → PrngReg), Pre_ProjRwkvRefIdeal m →
    θ_run (Cert.ProjRwkvRefIdeal.defs (F := Ideal)) (onTc (τ := Cert.ProjRwkvRefIdeal.τ) (Cert.ProjRwkvRefIdeal.main (F := Ideal))) ⟨m, fun _ => 0, g⟩ (fun r => (∀ c : Dev Cert.ProjRwkvRefIdeal.nD,
      r.2.mem ((c.tc : Thread Cert.ProjRwkvRefIdeal.nD Cert.ProjRwkvRefIdeal.τ).loc Cert.ProjRwkvRefIdeal.main_arg0) = m ((c.tc : Thread Cert.ProjRwkvRefIdeal.nD Cert.ProjRwkvRefIdeal.τ).loc Cert.ProjRwkvRefIdeal.main_arg0)
      ∧ r.2.mem ((c.tc : Thread Cert.ProjRwkvRefIdeal.nD Cert.ProjRwkvRefIdeal.τ).loc Cert.ProjRwkvRefIdeal.main_arg1) = m ((c.tc : Thread Cert.ProjRwkvRefIdeal.nD Cert.ProjRwkvRefIdeal.τ).loc Cert.ProjRwkvRefIdeal.main_arg1))
      ∧ r.2.sem = fun _ => 0)

def quiescent_ProjGate [hProjGate : Cert.ProjGate.Facts] : Prop :=
  ∀ (m : (ℓ : Loc Cert.ProjGate.nD Cert.ProjGate.τ Cert.ProjGate.sig) → Buf (Elt Bits) ℓ) (g : Dev Cert.ProjGate.nD → PrngReg), Pre_ProjGate m →
    θ_run (Cert.ProjGate.defs (F := Bits)) (onTc (τ := Cert.ProjGate.τ) (Cert.ProjGate.main (F := Bits))) ⟨m, fun _ => 0, g⟩ (fun r => (∀ c : Dev Cert.ProjGate.nD,
      r.2.mem ((c.tc : Thread Cert.ProjGate.nD Cert.ProjGate.τ).loc Cert.ProjGate.main_arg0) = m ((c.tc : Thread Cert.ProjGate.nD Cert.ProjGate.τ).loc Cert.ProjGate.main_arg0)
      ∧ r.2.mem ((c.tc : Thread Cert.ProjGate.nD Cert.ProjGate.τ).loc Cert.ProjGate.main_arg1) = m ((c.tc : Thread Cert.ProjGate.nD Cert.ProjGate.τ).loc Cert.ProjGate.main_arg1))
      ∧ r.2.sem = fun _ => 0)

def quiescent_ProjGateIdeal [hProjGateIdeal : Cert.ProjGateIdeal.Facts] : Prop :=
  ∀ (m : (ℓ : Loc Cert.ProjGateIdeal.nD Cert.ProjGateIdeal.τ Cert.ProjGateIdeal.sig) → Buf (Elt Ideal) ℓ) (g : Dev Cert.ProjGateIdeal.nD → PrngReg), Pre_ProjGateIdeal m →
    θ_run (Cert.ProjGateIdeal.defs (F := Ideal)) (onTc (τ := Cert.ProjGateIdeal.τ) (Cert.ProjGateIdeal.main (F := Ideal))) ⟨m, fun _ => 0, g⟩ (fun r => (∀ c : Dev Cert.ProjGateIdeal.nD,
      r.2.mem ((c.tc : Thread Cert.ProjGateIdeal.nD Cert.ProjGateIdeal.τ).loc Cert.ProjGateIdeal.main_arg0) = m ((c.tc : Thread Cert.ProjGateIdeal.nD Cert.ProjGateIdeal.τ).loc Cert.ProjGateIdeal.main_arg0)
      ∧ r.2.mem ((c.tc : Thread Cert.ProjGateIdeal.nD Cert.ProjGateIdeal.τ).loc Cert.ProjGateIdeal.main_arg1) = m ((c.tc : Thread Cert.ProjGateIdeal.nD Cert.ProjGateIdeal.τ).loc Cert.ProjGateIdeal.main_arg1))
      ∧ r.2.sem = fun _ => 0)

def quiescent_ProjGateRefIdeal [hProjGateRefIdeal : Cert.ProjGateRefIdeal.Facts] : Prop :=
  ∀ (m : (ℓ : Loc Cert.ProjGateRefIdeal.nD Cert.ProjGateRefIdeal.τ Cert.ProjGateRefIdeal.sig) → Buf (Elt Ideal) ℓ) (g : Dev Cert.ProjGateRefIdeal.nD → PrngReg), Pre_ProjGateRefIdeal m →
    θ_run (Cert.ProjGateRefIdeal.defs (F := Ideal)) (onTc (τ := Cert.ProjGateRefIdeal.τ) (Cert.ProjGateRefIdeal.main (F := Ideal))) ⟨m, fun _ => 0, g⟩ (fun r => (∀ c : Dev Cert.ProjGateRefIdeal.nD,
      r.2.mem ((c.tc : Thread Cert.ProjGateRefIdeal.nD Cert.ProjGateRefIdeal.τ).loc Cert.ProjGateRefIdeal.main_arg0) = m ((c.tc : Thread Cert.ProjGateRefIdeal.nD Cert.ProjGateRefIdeal.τ).loc Cert.ProjGateRefIdeal.main_arg0)
      ∧ r.2.mem ((c.tc : Thread Cert.ProjGateRefIdeal.nD Cert.ProjGateRefIdeal.τ).loc Cert.ProjGateRefIdeal.main_arg1) = m ((c.tc : Thread Cert.ProjGateRefIdeal.nD Cert.ProjGateRefIdeal.τ).loc Cert.ProjGateRefIdeal.main_arg1))
      ∧ r.2.sem = fun _ => 0)

def quiescent_AdamwIn [hAdamwIn : Cert.AdamwIn.Facts] : Prop :=
  ∀ (m : (ℓ : Loc Cert.AdamwIn.nD Cert.AdamwIn.τ Cert.AdamwIn.sig) → Buf (Elt Bits) ℓ) (g : Dev Cert.AdamwIn.nD → PrngReg), Pre_AdamwIn m →
    θ_run (Cert.AdamwIn.defs (F := Bits)) (onTc (τ := Cert.AdamwIn.τ) (Cert.AdamwIn.main (F := Bits))) ⟨m, fun _ => 0, g⟩ (fun r => (∀ c : Dev Cert.AdamwIn.nD,
      r.2.mem ((c.tc : Thread Cert.AdamwIn.nD Cert.AdamwIn.τ).loc Cert.AdamwIn.main_arg0) = m ((c.tc : Thread Cert.AdamwIn.nD Cert.AdamwIn.τ).loc Cert.AdamwIn.main_arg0)
      ∧ r.2.mem ((c.tc : Thread Cert.AdamwIn.nD Cert.AdamwIn.τ).loc Cert.AdamwIn.main_arg1) = m ((c.tc : Thread Cert.AdamwIn.nD Cert.AdamwIn.τ).loc Cert.AdamwIn.main_arg1)
      ∧ r.2.mem ((c.tc : Thread Cert.AdamwIn.nD Cert.AdamwIn.τ).loc Cert.AdamwIn.main_arg2) = m ((c.tc : Thread Cert.AdamwIn.nD Cert.AdamwIn.τ).loc Cert.AdamwIn.main_arg2)
      ∧ r.2.mem ((c.tc : Thread Cert.AdamwIn.nD Cert.AdamwIn.τ).loc Cert.AdamwIn.main_arg3) = m ((c.tc : Thread Cert.AdamwIn.nD Cert.AdamwIn.τ).loc Cert.AdamwIn.main_arg3)
      ∧ r.2.mem ((c.tc : Thread Cert.AdamwIn.nD Cert.AdamwIn.τ).loc Cert.AdamwIn.main_arg4) = m ((c.tc : Thread Cert.AdamwIn.nD Cert.AdamwIn.τ).loc Cert.AdamwIn.main_arg4))
      ∧ r.2.sem = fun _ => 0)

def quiescent_AdamwInIdeal [hAdamwInIdeal : Cert.AdamwInIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg), Pre_AdamwInIdeal m →
    θ_run (Cert.AdamwInIdeal.defs (F := Ideal)) (onTc (τ := Cert.AdamwInIdeal.τ) (Cert.AdamwInIdeal.main (F := Ideal))) ⟨m, fun _ => 0, g⟩ (fun r => (∀ c : Dev Cert.AdamwInIdeal.nD,
      r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
      ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
      ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
      ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3)
      ∧ r.2.mem ((c.tc : Thread Cert.AdamwInIdeal.nD Cert.AdamwInIdeal.τ).loc Cert.AdamwInIdeal.main_arg4) = m ((c.tc : Thread Cert.AdamwInIdeal.nD Cert.AdamwInIdeal.τ).loc Cert.AdamwInIdeal.main_arg4))
      ∧ r.2.sem = fun _ => 0)

def quiescent_AdamwInRefIdeal [hAdamwInRefIdeal : Cert.AdamwInRefIdeal.Facts] : Prop :=
  ∀ (m : (ℓ : Loc Cert.AdamwInRefIdeal.nD Cert.AdamwInRefIdeal.τ Cert.AdamwInRefIdeal.sig) → Buf (Elt Ideal) ℓ) (g : Dev Cert.AdamwInRefIdeal.nD → PrngReg), Pre_AdamwInRefIdeal m →
    θ_run (Cert.AdamwInRefIdeal.defs (F := Ideal)) (onTc (τ := Cert.AdamwInRefIdeal.τ) (Cert.AdamwInRefIdeal.main (F := Ideal))) ⟨m, fun _ => 0, g⟩ (fun r => (∀ c : Dev Cert.AdamwInRefIdeal.nD,
      r.2.mem ((c.tc : Thread Cert.AdamwInRefIdeal.nD Cert.AdamwInRefIdeal.τ).loc Cert.AdamwInRefIdeal.main_arg0) = m ((c.tc : Thread Cert.AdamwInRefIdeal.nD Cert.AdamwInRefIdeal.τ).loc Cert.AdamwInRefIdeal.main_arg0)
      ∧ r.2.mem ((c.tc : Thread Cert.AdamwInRefIdeal.nD Cert.AdamwInRefIdeal.τ).loc Cert.AdamwInRefIdeal.main_arg1) = m ((c.tc : Thread Cert.AdamwInRefIdeal.nD Cert.AdamwInRefIdeal.τ).loc Cert.AdamwInRefIdeal.main_arg1)
      ∧ r.2.mem ((c.tc : Thread Cert.AdamwInRefIdeal.nD Cert.AdamwInRefIdeal.τ).loc Cert.AdamwInRefIdeal.main_arg2) = m ((c.tc : Thread Cert.AdamwInRefIdeal.nD Cert.AdamwInRefIdeal.τ).loc Cert.AdamwInRefIdeal.main_arg2)
      ∧ r.2.mem ((c.tc : Thread Cert.AdamwInRefIdeal.nD Cert.AdamwInRefIdeal.τ).loc Cert.AdamwInRefIdeal.main_arg3) = m ((c.tc : Thread Cert.AdamwInRefIdeal.nD Cert.AdamwInRefIdeal.τ).loc Cert.AdamwInRefIdeal.main_arg3)
      ∧ r.2.mem ((c.tc : Thread Cert.AdamwInRefIdeal.nD Cert.AdamwInRefIdeal.τ).loc Cert.AdamwInRefIdeal.main_arg4) = m ((c.tc : Thread Cert.AdamwInRefIdeal.nD Cert.AdamwInRefIdeal.τ).loc Cert.AdamwInRefIdeal.main_arg4))
      ∧ r.2.sem = fun _ => 0)

def quiescent_AdamwLora [hAdamwLora : Cert.AdamwLora.Facts] : Prop :=
  ∀ (m : (ℓ : Loc Cert.AdamwLora.nD Cert.AdamwLora.τ Cert.AdamwLora.sig) → Buf (Elt Bits) ℓ) (g : Dev Cert.AdamwLora.nD → PrngReg), Pre_AdamwLora m →
    θ_run (Cert.AdamwLora.defs (F := Bits)) (onTc (τ := Cert.AdamwLora.τ) (Cert.AdamwLora.main (F := Bits))) ⟨m, fun _ => 0, g⟩ (fun r => (∀ c : Dev Cert.AdamwLora.nD,
      r.2.mem ((c.tc : Thread Cert.AdamwLora.nD Cert.AdamwLora.τ).loc Cert.AdamwLora.main_arg0) = m ((c.tc : Thread Cert.AdamwLora.nD Cert.AdamwLora.τ).loc Cert.AdamwLora.main_arg0)
      ∧ r.2.mem ((c.tc : Thread Cert.AdamwLora.nD Cert.AdamwLora.τ).loc Cert.AdamwLora.main_arg1) = m ((c.tc : Thread Cert.AdamwLora.nD Cert.AdamwLora.τ).loc Cert.AdamwLora.main_arg1)
      ∧ r.2.mem ((c.tc : Thread Cert.AdamwLora.nD Cert.AdamwLora.τ).loc Cert.AdamwLora.main_arg2) = m ((c.tc : Thread Cert.AdamwLora.nD Cert.AdamwLora.τ).loc Cert.AdamwLora.main_arg2)
      ∧ r.2.mem ((c.tc : Thread Cert.AdamwLora.nD Cert.AdamwLora.τ).loc Cert.AdamwLora.main_arg3) = m ((c.tc : Thread Cert.AdamwLora.nD Cert.AdamwLora.τ).loc Cert.AdamwLora.main_arg3)
      ∧ r.2.mem ((c.tc : Thread Cert.AdamwLora.nD Cert.AdamwLora.τ).loc Cert.AdamwLora.main_arg4) = m ((c.tc : Thread Cert.AdamwLora.nD Cert.AdamwLora.τ).loc Cert.AdamwLora.main_arg4))
      ∧ r.2.sem = fun _ => 0)

def quiescent_AdamwLoraIdeal [hAdamwLoraIdeal : Cert.AdamwLoraIdeal.Facts] : Prop :=
  ∀ (m : (ℓ : Loc Cert.AdamwLoraIdeal.nD Cert.AdamwLoraIdeal.τ Cert.AdamwLoraIdeal.sig) → Buf (Elt Ideal) ℓ) (g : Dev Cert.AdamwLoraIdeal.nD → PrngReg), Pre_AdamwLoraIdeal m →
    θ_run (Cert.AdamwLoraIdeal.defs (F := Ideal)) (onTc (τ := Cert.AdamwLoraIdeal.τ) (Cert.AdamwLoraIdeal.main (F := Ideal))) ⟨m, fun _ => 0, g⟩ (fun r => (∀ c : Dev Cert.AdamwLoraIdeal.nD,
      r.2.mem ((c.tc : Thread Cert.AdamwLoraIdeal.nD Cert.AdamwLoraIdeal.τ).loc Cert.AdamwLoraIdeal.main_arg0) = m ((c.tc : Thread Cert.AdamwLoraIdeal.nD Cert.AdamwLoraIdeal.τ).loc Cert.AdamwLoraIdeal.main_arg0)
      ∧ r.2.mem ((c.tc : Thread Cert.AdamwLoraIdeal.nD Cert.AdamwLoraIdeal.τ).loc Cert.AdamwLoraIdeal.main_arg1) = m ((c.tc : Thread Cert.AdamwLoraIdeal.nD Cert.AdamwLoraIdeal.τ).loc Cert.AdamwLoraIdeal.main_arg1)
      ∧ r.2.mem ((c.tc : Thread Cert.AdamwLoraIdeal.nD Cert.AdamwLoraIdeal.τ).loc Cert.AdamwLoraIdeal.main_arg2) = m ((c.tc : Thread Cert.AdamwLoraIdeal.nD Cert.AdamwLoraIdeal.τ).loc Cert.AdamwLoraIdeal.main_arg2)
      ∧ r.2.mem ((c.tc : Thread Cert.AdamwLoraIdeal.nD Cert.AdamwLoraIdeal.τ).loc Cert.AdamwLoraIdeal.main_arg3) = m ((c.tc : Thread Cert.AdamwLoraIdeal.nD Cert.AdamwLoraIdeal.τ).loc Cert.AdamwLoraIdeal.main_arg3)
      ∧ r.2.mem ((c.tc : Thread Cert.AdamwLoraIdeal.nD Cert.AdamwLoraIdeal.τ).loc Cert.AdamwLoraIdeal.main_arg4) = m ((c.tc : Thread Cert.AdamwLoraIdeal.nD Cert.AdamwLoraIdeal.τ).loc Cert.AdamwLoraIdeal.main_arg4))
      ∧ r.2.sem = fun _ => 0)

def quiescent_AdamwLoraRefIdeal [hAdamwLoraRefIdeal : Cert.AdamwLoraRefIdeal.Facts] : Prop :=
  ∀ (m : (ℓ : Loc Cert.AdamwLoraRefIdeal.nD Cert.AdamwLoraRefIdeal.τ Cert.AdamwLoraRefIdeal.sig) → Buf (Elt Ideal) ℓ) (g : Dev Cert.AdamwLoraRefIdeal.nD → PrngReg), Pre_AdamwLoraRefIdeal m →
    θ_run (Cert.AdamwLoraRefIdeal.defs (F := Ideal)) (onTc (τ := Cert.AdamwLoraRefIdeal.τ) (Cert.AdamwLoraRefIdeal.main (F := Ideal))) ⟨m, fun _ => 0, g⟩ (fun r => (∀ c : Dev Cert.AdamwLoraRefIdeal.nD,
      r.2.mem ((c.tc : Thread Cert.AdamwLoraRefIdeal.nD Cert.AdamwLoraRefIdeal.τ).loc Cert.AdamwLoraRefIdeal.main_arg0) = m ((c.tc : Thread Cert.AdamwLoraRefIdeal.nD Cert.AdamwLoraRefIdeal.τ).loc Cert.AdamwLoraRefIdeal.main_arg0)
      ∧ r.2.mem ((c.tc : Thread Cert.AdamwLoraRefIdeal.nD Cert.AdamwLoraRefIdeal.τ).loc Cert.AdamwLoraRefIdeal.main_arg1) = m ((c.tc : Thread Cert.AdamwLoraRefIdeal.nD Cert.AdamwLoraRefIdeal.τ).loc Cert.AdamwLoraRefIdeal.main_arg1)
      ∧ r.2.mem ((c.tc : Thread Cert.AdamwLoraRefIdeal.nD Cert.AdamwLoraRefIdeal.τ).loc Cert.AdamwLoraRefIdeal.main_arg2) = m ((c.tc : Thread Cert.AdamwLoraRefIdeal.nD Cert.AdamwLoraRefIdeal.τ).loc Cert.AdamwLoraRefIdeal.main_arg2)
      ∧ r.2.mem ((c.tc : Thread Cert.AdamwLoraRefIdeal.nD Cert.AdamwLoraRefIdeal.τ).loc Cert.AdamwLoraRefIdeal.main_arg3) = m ((c.tc : Thread Cert.AdamwLoraRefIdeal.nD Cert.AdamwLoraRefIdeal.τ).loc Cert.AdamwLoraRefIdeal.main_arg3)
      ∧ r.2.mem ((c.tc : Thread Cert.AdamwLoraRefIdeal.nD Cert.AdamwLoraRefIdeal.τ).loc Cert.AdamwLoraRefIdeal.main_arg4) = m ((c.tc : Thread Cert.AdamwLoraRefIdeal.nD Cert.AdamwLoraRefIdeal.τ).loc Cert.AdamwLoraRefIdeal.main_arg4))
      ∧ r.2.sem = fun _ => 0)

def quiescent_AdamwOutA [hAdamwOutA : Cert.AdamwOutA.Facts] : Prop :=
  ∀ (m : (ℓ : Loc Cert.AdamwOutA.nD Cert.AdamwOutA.τ Cert.AdamwOutA.sig) → Buf (Elt Bits) ℓ) (g : Dev Cert.AdamwOutA.nD → PrngReg), Pre_AdamwOutA m →
    θ_run (Cert.AdamwOutA.defs (F := Bits)) (onTc (τ := Cert.AdamwOutA.τ) (Cert.AdamwOutA.main (F := Bits))) ⟨m, fun _ => 0, g⟩ (fun r => (∀ c : Dev Cert.AdamwOutA.nD,
      r.2.mem ((c.tc : Thread Cert.AdamwOutA.nD Cert.AdamwOutA.τ).loc Cert.AdamwOutA.main_arg0) = m ((c.tc : Thread Cert.AdamwOutA.nD Cert.AdamwOutA.τ).loc Cert.AdamwOutA.main_arg0)
      ∧ r.2.mem ((c.tc : Thread Cert.AdamwOutA.nD Cert.AdamwOutA.τ).loc Cert.AdamwOutA.main_arg1) = m ((c.tc : Thread Cert.AdamwOutA.nD Cert.AdamwOutA.τ).loc Cert.AdamwOutA.main_arg1)
      ∧ r.2.mem ((c.tc : Thread Cert.AdamwOutA.nD Cert.AdamwOutA.τ).loc Cert.AdamwOutA.main_arg2) = m ((c.tc : Thread Cert.AdamwOutA.nD Cert.AdamwOutA.τ).loc Cert.AdamwOutA.main_arg2)
      ∧ r.2.mem ((c.tc : Thread Cert.AdamwOutA.nD Cert.AdamwOutA.τ).loc Cert.AdamwOutA.main_arg3) = m ((c.tc : Thread Cert.AdamwOutA.nD Cert.AdamwOutA.τ).loc Cert.AdamwOutA.main_arg3)
      ∧ r.2.mem ((c.tc : Thread Cert.AdamwOutA.nD Cert.AdamwOutA.τ).loc Cert.AdamwOutA.main_arg4) = m ((c.tc : Thread Cert.AdamwOutA.nD Cert.AdamwOutA.τ).loc Cert.AdamwOutA.main_arg4))
      ∧ r.2.sem = fun _ => 0)

def quiescent_AdamwOutAIdeal [hAdamwOutAIdeal : Cert.AdamwOutAIdeal.Facts] : Prop :=
  ∀ (m : (ℓ : Loc Cert.AdamwOutAIdeal.nD Cert.AdamwOutAIdeal.τ Cert.AdamwOutAIdeal.sig) → Buf (Elt Ideal) ℓ) (g : Dev Cert.AdamwOutAIdeal.nD → PrngReg), Pre_AdamwOutAIdeal m →
    θ_run (Cert.AdamwOutAIdeal.defs (F := Ideal)) (onTc (τ := Cert.AdamwOutAIdeal.τ) (Cert.AdamwOutAIdeal.main (F := Ideal))) ⟨m, fun _ => 0, g⟩ (fun r => (∀ c : Dev Cert.AdamwOutAIdeal.nD,
      r.2.mem ((c.tc : Thread Cert.AdamwOutAIdeal.nD Cert.AdamwOutAIdeal.τ).loc Cert.AdamwOutAIdeal.main_arg0) = m ((c.tc : Thread Cert.AdamwOutAIdeal.nD Cert.AdamwOutAIdeal.τ).loc Cert.AdamwOutAIdeal.main_arg0)
      ∧ r.2.mem ((c.tc : Thread Cert.AdamwOutAIdeal.nD Cert.AdamwOutAIdeal.τ).loc Cert.AdamwOutAIdeal.main_arg1) = m ((c.tc : Thread Cert.AdamwOutAIdeal.nD Cert.AdamwOutAIdeal.τ).loc Cert.AdamwOutAIdeal.main_arg1)
      ∧ r.2.mem ((c.tc : Thread Cert.AdamwOutAIdeal.nD Cert.AdamwOutAIdeal.τ).loc Cert.AdamwOutAIdeal.main_arg2) = m ((c.tc : Thread Cert.AdamwOutAIdeal.nD Cert.AdamwOutAIdeal.τ).loc Cert.AdamwOutAIdeal.main_arg2)
      ∧ r.2.mem ((c.tc : Thread Cert.AdamwOutAIdeal.nD Cert.AdamwOutAIdeal.τ).loc Cert.AdamwOutAIdeal.main_arg3) = m ((c.tc : Thread Cert.AdamwOutAIdeal.nD Cert.AdamwOutAIdeal.τ).loc Cert.AdamwOutAIdeal.main_arg3)
      ∧ r.2.mem ((c.tc : Thread Cert.AdamwOutAIdeal.nD Cert.AdamwOutAIdeal.τ).loc Cert.AdamwOutAIdeal.main_arg4) = m ((c.tc : Thread Cert.AdamwOutAIdeal.nD Cert.AdamwOutAIdeal.τ).loc Cert.AdamwOutAIdeal.main_arg4))
      ∧ r.2.sem = fun _ => 0)

def quiescent_AdamwOutARefIdeal [hAdamwOutARefIdeal : Cert.AdamwOutARefIdeal.Facts] : Prop :=
  ∀ (m : (ℓ : Loc Cert.AdamwOutARefIdeal.nD Cert.AdamwOutARefIdeal.τ Cert.AdamwOutARefIdeal.sig) → Buf (Elt Ideal) ℓ) (g : Dev Cert.AdamwOutARefIdeal.nD → PrngReg), Pre_AdamwOutARefIdeal m →
    θ_run (Cert.AdamwOutARefIdeal.defs (F := Ideal)) (onTc (τ := Cert.AdamwOutARefIdeal.τ) (Cert.AdamwOutARefIdeal.main (F := Ideal))) ⟨m, fun _ => 0, g⟩ (fun r => (∀ c : Dev Cert.AdamwOutARefIdeal.nD,
      r.2.mem ((c.tc : Thread Cert.AdamwOutARefIdeal.nD Cert.AdamwOutARefIdeal.τ).loc Cert.AdamwOutARefIdeal.main_arg0) = m ((c.tc : Thread Cert.AdamwOutARefIdeal.nD Cert.AdamwOutARefIdeal.τ).loc Cert.AdamwOutARefIdeal.main_arg0)
      ∧ r.2.mem ((c.tc : Thread Cert.AdamwOutARefIdeal.nD Cert.AdamwOutARefIdeal.τ).loc Cert.AdamwOutARefIdeal.main_arg1) = m ((c.tc : Thread Cert.AdamwOutARefIdeal.nD Cert.AdamwOutARefIdeal.τ).loc Cert.AdamwOutARefIdeal.main_arg1)
      ∧ r.2.mem ((c.tc : Thread Cert.AdamwOutARefIdeal.nD Cert.AdamwOutARefIdeal.τ).loc Cert.AdamwOutARefIdeal.main_arg2) = m ((c.tc : Thread Cert.AdamwOutARefIdeal.nD Cert.AdamwOutARefIdeal.τ).loc Cert.AdamwOutARefIdeal.main_arg2)
      ∧ r.2.mem ((c.tc : Thread Cert.AdamwOutARefIdeal.nD Cert.AdamwOutARefIdeal.τ).loc Cert.AdamwOutARefIdeal.main_arg3) = m ((c.tc : Thread Cert.AdamwOutARefIdeal.nD Cert.AdamwOutARefIdeal.τ).loc Cert.AdamwOutARefIdeal.main_arg3)
      ∧ r.2.mem ((c.tc : Thread Cert.AdamwOutARefIdeal.nD Cert.AdamwOutARefIdeal.τ).loc Cert.AdamwOutARefIdeal.main_arg4) = m ((c.tc : Thread Cert.AdamwOutARefIdeal.nD Cert.AdamwOutARefIdeal.τ).loc Cert.AdamwOutARefIdeal.main_arg4))
      ∧ r.2.sem = fun _ => 0)

def quiescent_AdamwOut [hAdamwOut : Cert.AdamwOut.Facts] : Prop :=
  ∀ (m : (ℓ : Loc Cert.AdamwOut.nD Cert.AdamwOut.τ Cert.AdamwOut.sig) → Buf (Elt Bits) ℓ) (g : Dev Cert.AdamwOut.nD → PrngReg), Pre_AdamwOut m →
    θ_run (Cert.AdamwOut.defs (F := Bits)) (onTc (τ := Cert.AdamwOut.τ) (Cert.AdamwOut.main (F := Bits))) ⟨m, fun _ => 0, g⟩ (fun r => (∀ c : Dev Cert.AdamwOut.nD,
      r.2.mem ((c.tc : Thread Cert.AdamwOut.nD Cert.AdamwOut.τ).loc Cert.AdamwOut.main_arg0) = m ((c.tc : Thread Cert.AdamwOut.nD Cert.AdamwOut.τ).loc Cert.AdamwOut.main_arg0)
      ∧ r.2.mem ((c.tc : Thread Cert.AdamwOut.nD Cert.AdamwOut.τ).loc Cert.AdamwOut.main_arg1) = m ((c.tc : Thread Cert.AdamwOut.nD Cert.AdamwOut.τ).loc Cert.AdamwOut.main_arg1)
      ∧ r.2.mem ((c.tc : Thread Cert.AdamwOut.nD Cert.AdamwOut.τ).loc Cert.AdamwOut.main_arg2) = m ((c.tc : Thread Cert.AdamwOut.nD Cert.AdamwOut.τ).loc Cert.AdamwOut.main_arg2)
      ∧ r.2.mem ((c.tc : Thread Cert.AdamwOut.nD Cert.AdamwOut.τ).loc Cert.AdamwOut.main_arg3) = m ((c.tc : Thread Cert.AdamwOut.nD Cert.AdamwOut.τ).loc Cert.AdamwOut.main_arg3)
      ∧ r.2.mem ((c.tc : Thread Cert.AdamwOut.nD Cert.AdamwOut.τ).loc Cert.AdamwOut.main_arg4) = m ((c.tc : Thread Cert.AdamwOut.nD Cert.AdamwOut.τ).loc Cert.AdamwOut.main_arg4))
      ∧ r.2.sem = fun _ => 0)

def quiescent_AdamwOutIdeal [hAdamwOutIdeal : Cert.AdamwOutIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg), Pre_AdamwOutIdeal m →
    θ_run (Cert.AdamwOutIdeal.defs (F := Ideal)) (onTc (τ := Cert.AdamwOutIdeal.τ) (Cert.AdamwOutIdeal.main (F := Ideal))) ⟨m, fun _ => 0, g⟩ (fun r => (∀ c : Dev Cert.AdamwOutIdeal.nD,
      r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
      ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
      ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
      ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3)
      ∧ r.2.mem ((c.tc : Thread Cert.AdamwOutIdeal.nD Cert.AdamwOutIdeal.τ).loc Cert.AdamwOutIdeal.main_arg4) = m ((c.tc : Thread Cert.AdamwOutIdeal.nD Cert.AdamwOutIdeal.τ).loc Cert.AdamwOutIdeal.main_arg4))
      ∧ r.2.sem = fun _ => 0)

def quiescent_AdamwOutRefIdeal [hAdamwOutRefIdeal : Cert.AdamwOutRefIdeal.Facts] : Prop :=
  ∀ (m : (ℓ : Loc Cert.AdamwOutRefIdeal.nD Cert.AdamwOutRefIdeal.τ Cert.AdamwOutRefIdeal.sig) → Buf (Elt Ideal) ℓ) (g : Dev Cert.AdamwOutRefIdeal.nD → PrngReg), Pre_AdamwOutRefIdeal m →
    θ_run (Cert.AdamwOutRefIdeal.defs (F := Ideal)) (onTc (τ := Cert.AdamwOutRefIdeal.τ) (Cert.AdamwOutRefIdeal.main (F := Ideal))) ⟨m, fun _ => 0, g⟩ (fun r => (∀ c : Dev Cert.AdamwOutRefIdeal.nD,
      r.2.mem ((c.tc : Thread Cert.AdamwOutRefIdeal.nD Cert.AdamwOutRefIdeal.τ).loc Cert.AdamwOutRefIdeal.main_arg0) = m ((c.tc : Thread Cert.AdamwOutRefIdeal.nD Cert.AdamwOutRefIdeal.τ).loc Cert.AdamwOutRefIdeal.main_arg0)
      ∧ r.2.mem ((c.tc : Thread Cert.AdamwOutRefIdeal.nD Cert.AdamwOutRefIdeal.τ).loc Cert.AdamwOutRefIdeal.main_arg1) = m ((c.tc : Thread Cert.AdamwOutRefIdeal.nD Cert.AdamwOutRefIdeal.τ).loc Cert.AdamwOutRefIdeal.main_arg1)
      ∧ r.2.mem ((c.tc : Thread Cert.AdamwOutRefIdeal.nD Cert.AdamwOutRefIdeal.τ).loc Cert.AdamwOutRefIdeal.main_arg2) = m ((c.tc : Thread Cert.AdamwOutRefIdeal.nD Cert.AdamwOutRefIdeal.τ).loc Cert.AdamwOutRefIdeal.main_arg2)
      ∧ r.2.mem ((c.tc : Thread Cert.AdamwOutRefIdeal.nD Cert.AdamwOutRefIdeal.τ).loc Cert.AdamwOutRefIdeal.main_arg3) = m ((c.tc : Thread Cert.AdamwOutRefIdeal.nD Cert.AdamwOutRefIdeal.τ).loc Cert.AdamwOutRefIdeal.main_arg3)
      ∧ r.2.mem ((c.tc : Thread Cert.AdamwOutRefIdeal.nD Cert.AdamwOutRefIdeal.τ).loc Cert.AdamwOutRefIdeal.main_arg4) = m ((c.tc : Thread Cert.AdamwOutRefIdeal.nD Cert.AdamwOutRefIdeal.τ).loc Cert.AdamwOutRefIdeal.main_arg4))
      ∧ r.2.sem = fun _ => 0)

def quiescent_AdamwSmall [hAdamwSmall : Cert.AdamwSmall.Facts] : Prop :=
  ∀ (m : (ℓ : Loc Cert.AdamwSmall.nD Cert.AdamwSmall.τ Cert.AdamwSmall.sig) → Buf (Elt Bits) ℓ) (g : Dev Cert.AdamwSmall.nD → PrngReg), Pre_AdamwSmall m →
    θ_run (Cert.AdamwSmall.defs (F := Bits)) (onTc (τ := Cert.AdamwSmall.τ) (Cert.AdamwSmall.main (F := Bits))) ⟨m, fun _ => 0, g⟩ (fun r => (∀ c : Dev Cert.AdamwSmall.nD,
      r.2.mem ((c.tc : Thread Cert.AdamwSmall.nD Cert.AdamwSmall.τ).loc Cert.AdamwSmall.main_arg0) = m ((c.tc : Thread Cert.AdamwSmall.nD Cert.AdamwSmall.τ).loc Cert.AdamwSmall.main_arg0)
      ∧ r.2.mem ((c.tc : Thread Cert.AdamwSmall.nD Cert.AdamwSmall.τ).loc Cert.AdamwSmall.main_arg1) = m ((c.tc : Thread Cert.AdamwSmall.nD Cert.AdamwSmall.τ).loc Cert.AdamwSmall.main_arg1)
      ∧ r.2.mem ((c.tc : Thread Cert.AdamwSmall.nD Cert.AdamwSmall.τ).loc Cert.AdamwSmall.main_arg2) = m ((c.tc : Thread Cert.AdamwSmall.nD Cert.AdamwSmall.τ).loc Cert.AdamwSmall.main_arg2)
      ∧ r.2.mem ((c.tc : Thread Cert.AdamwSmall.nD Cert.AdamwSmall.τ).loc Cert.AdamwSmall.main_arg3) = m ((c.tc : Thread Cert.AdamwSmall.nD Cert.AdamwSmall.τ).loc Cert.AdamwSmall.main_arg3))
      ∧ r.2.sem = fun _ => 0)

def quiescent_AdamwSmallIdeal [hAdamwSmallIdeal : Cert.AdamwSmallIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg), Pre_AdamwSmallIdeal m →
    θ_run (Cert.AdamwSmallIdeal.defs (F := Ideal)) (onTc (τ := Cert.AdamwSmallIdeal.τ) (Cert.AdamwSmallIdeal.main (F := Ideal))) ⟨m, fun _ => 0, g⟩ (fun r => (∀ c : Dev Cert.AdamwSmallIdeal.nD,
      r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
      ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
      ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
      ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ r.2.sem = fun _ => 0)

def quiescent_AdamwSmallRefIdeal [hAdamwSmallRefIdeal : Cert.AdamwSmallRefIdeal.Facts] : Prop :=
  ∀ (m : (ℓ : Loc Cert.AdamwSmallRefIdeal.nD Cert.AdamwSmallRefIdeal.τ Cert.AdamwSmallRefIdeal.sig) → Buf (Elt Ideal) ℓ) (g : Dev Cert.AdamwSmallRefIdeal.nD → PrngReg), Pre_AdamwSmallRefIdeal m →
    θ_run (Cert.AdamwSmallRefIdeal.defs (F := Ideal)) (onTc (τ := Cert.AdamwSmallRefIdeal.τ) (Cert.AdamwSmallRefIdeal.main (F := Ideal))) ⟨m, fun _ => 0, g⟩ (fun r => (∀ c : Dev Cert.AdamwSmallRefIdeal.nD,
      r.2.mem ((c.tc : Thread Cert.AdamwSmallRefIdeal.nD Cert.AdamwSmallRefIdeal.τ).loc Cert.AdamwSmallRefIdeal.main_arg0) = m ((c.tc : Thread Cert.AdamwSmallRefIdeal.nD Cert.AdamwSmallRefIdeal.τ).loc Cert.AdamwSmallRefIdeal.main_arg0)
      ∧ r.2.mem ((c.tc : Thread Cert.AdamwSmallRefIdeal.nD Cert.AdamwSmallRefIdeal.τ).loc Cert.AdamwSmallRefIdeal.main_arg1) = m ((c.tc : Thread Cert.AdamwSmallRefIdeal.nD Cert.AdamwSmallRefIdeal.τ).loc Cert.AdamwSmallRefIdeal.main_arg1)
      ∧ r.2.mem ((c.tc : Thread Cert.AdamwSmallRefIdeal.nD Cert.AdamwSmallRefIdeal.τ).loc Cert.AdamwSmallRefIdeal.main_arg2) = m ((c.tc : Thread Cert.AdamwSmallRefIdeal.nD Cert.AdamwSmallRefIdeal.τ).loc Cert.AdamwSmallRefIdeal.main_arg2)
      ∧ r.2.mem ((c.tc : Thread Cert.AdamwSmallRefIdeal.nD Cert.AdamwSmallRefIdeal.τ).loc Cert.AdamwSmallRefIdeal.main_arg3) = m ((c.tc : Thread Cert.AdamwSmallRefIdeal.nD Cert.AdamwSmallRefIdeal.τ).loc Cert.AdamwSmallRefIdeal.main_arg3))
      ∧ r.2.sem = fun _ => 0)

def preserves_Fox_FoxIdeal : Prop :=
  True

def algebraic_FoxIdeal_FoxRefIdeal_pre_finite [hFoxIdeal : Cert.FoxIdeal.Facts] [hFoxRefIdeal : Cert.FoxRefIdeal.Facts] [hPre_finite : Cert.Pre_finite.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_finite m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)
      ∧ m' ((c.tc : Thread Cert.FoxRefIdeal.nD Cert.FoxRefIdeal.τ).loc Cert.FoxRefIdeal.main_arg4) = m ((c.tc : Thread Cert.FoxIdeal.nD Cert.FoxIdeal.τ).loc Cert.FoxIdeal.main_arg4)
      ∧ m' ((c.tc : Thread Cert.FoxRefIdeal.nD Cert.FoxRefIdeal.τ).loc Cert.FoxRefIdeal.main_arg5) = m ((c.tc : Thread Cert.FoxIdeal.nD Cert.FoxIdeal.τ).loc Cert.FoxIdeal.main_arg5)
      ∧ m' ((c.tc : Thread Cert.FoxRefIdeal.nD Cert.FoxRefIdeal.τ).loc Cert.FoxRefIdeal.main_arg6) = m ((c.tc : Thread Cert.FoxIdeal.nD Cert.FoxIdeal.τ).loc Cert.FoxIdeal.main_arg6)
      ∧ m' ((c.tc : Thread Cert.FoxRefIdeal.nD Cert.FoxRefIdeal.τ).loc Cert.FoxRefIdeal.main_arg7) = m ((c.tc : Thread Cert.FoxIdeal.nD Cert.FoxIdeal.τ).loc Cert.FoxIdeal.main_arg7)
      ∧ m' ((c.tc : Thread Cert.FoxRefIdeal.nD Cert.FoxRefIdeal.τ).loc Cert.FoxRefIdeal.main_arg8) = m ((c.tc : Thread Cert.FoxIdeal.nD Cert.FoxIdeal.τ).loc Cert.FoxIdeal.main_arg8)
      ∧ m' ((c.tc : Thread Cert.FoxRefIdeal.nD Cert.FoxRefIdeal.τ).loc Cert.FoxRefIdeal.main_arg9) = m ((c.tc : Thread Cert.FoxIdeal.nD Cert.FoxIdeal.τ).loc Cert.FoxIdeal.main_arg9)) →
    ∃ (v0 : (c : Dev Cert.FoxIdeal.nD) → Buf (Elt Ideal) ((c.tc : Thread Cert.FoxIdeal.nD Cert.FoxIdeal.τ).loc Cert.FoxIdeal.main_v13_0)) (v1 : (c : Dev Cert.FoxIdeal.nD) → Buf (Elt Ideal) ((c.tc : Thread Cert.FoxIdeal.nD Cert.FoxIdeal.τ).loc Cert.FoxIdeal.main_v13_1)) (v2 : (c : Dev Cert.FoxIdeal.nD) → Buf (Elt Ideal) ((c.tc : Thread Cert.FoxIdeal.nD Cert.FoxIdeal.τ).loc Cert.FoxIdeal.main_v13_2)) (v3 : (c : Dev Cert.FoxIdeal.nD) → Buf (Elt Ideal) ((c.tc : Thread Cert.FoxIdeal.nD Cert.FoxIdeal.τ).loc Cert.FoxIdeal.main_v13_3)) (v4 : (c : Dev Cert.FoxIdeal.nD) → Buf (Elt Ideal) ((c.tc : Thread Cert.FoxIdeal.nD Cert.FoxIdeal.τ).loc Cert.FoxIdeal.main_v13_4)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v13_0) = v0 c
          ∧ r.2.mem ((c.tc : Thread Cert.FoxIdeal.nD Cert.FoxIdeal.τ).loc Cert.FoxIdeal.main_v13_1) = v1 c
          ∧ r.2.mem ((c.tc : Thread Cert.FoxIdeal.nD Cert.FoxIdeal.τ).loc Cert.FoxIdeal.main_v13_2) = v2 c
          ∧ r.2.mem ((c.tc : Thread Cert.FoxIdeal.nD Cert.FoxIdeal.τ).loc Cert.FoxIdeal.main_v13_3) = v3 c
          ∧ r.2.mem ((c.tc : Thread Cert.FoxIdeal.nD Cert.FoxIdeal.τ).loc Cert.FoxIdeal.main_v13_4) = v4 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
          ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4)
          ∧ r.2.mem ((c.tc : Thread Cert.FoxIdeal.nD Cert.FoxIdeal.τ).loc Cert.FoxIdeal.main_arg5) = m ((c.tc : Thread Cert.FoxIdeal.nD Cert.FoxIdeal.τ).loc Cert.FoxIdeal.main_arg5)
          ∧ r.2.mem ((c.tc : Thread Cert.FoxIdeal.nD Cert.FoxIdeal.τ).loc Cert.FoxIdeal.main_arg6) = m ((c.tc : Thread Cert.FoxIdeal.nD Cert.FoxIdeal.τ).loc Cert.FoxIdeal.main_arg6)
          ∧ r.2.mem ((c.tc : Thread Cert.FoxIdeal.nD Cert.FoxIdeal.τ).loc Cert.FoxIdeal.main_arg7) = m ((c.tc : Thread Cert.FoxIdeal.nD Cert.FoxIdeal.τ).loc Cert.FoxIdeal.main_arg7)
          ∧ r.2.mem ((c.tc : Thread Cert.FoxIdeal.nD Cert.FoxIdeal.τ).loc Cert.FoxIdeal.main_arg8) = m ((c.tc : Thread Cert.FoxIdeal.nD Cert.FoxIdeal.τ).loc Cert.FoxIdeal.main_arg8)
          ∧ r.2.mem ((c.tc : Thread Cert.FoxIdeal.nD Cert.FoxIdeal.τ).loc Cert.FoxIdeal.main_arg9) = m ((c.tc : Thread Cert.FoxIdeal.nD Cert.FoxIdeal.τ).loc Cert.FoxIdeal.main_arg9))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v105) = v0 c
          ∧ r.2.mem ((c.tc : Thread Cert.FoxRefIdeal.nD Cert.FoxRefIdeal.τ).loc Cert.FoxRefIdeal.main_v106) = v1 c
          ∧ r.2.mem ((c.tc : Thread Cert.FoxRefIdeal.nD Cert.FoxRefIdeal.τ).loc Cert.FoxRefIdeal.main_v107) = v2 c
          ∧ r.2.mem ((c.tc : Thread Cert.FoxRefIdeal.nD Cert.FoxRefIdeal.τ).loc Cert.FoxRefIdeal.main_v108) = v3 c
          ∧ r.2.mem ((c.tc : Thread Cert.FoxRefIdeal.nD Cert.FoxRefIdeal.τ).loc Cert.FoxRefIdeal.main_v109) = v4 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3)
          ∧ r.2.mem ((c.tc : Thread Cert.FoxRefIdeal.nD Cert.FoxRefIdeal.τ).loc Cert.FoxRefIdeal.main_arg4) = m' ((c.tc : Thread Cert.FoxRefIdeal.nD Cert.FoxRefIdeal.τ).loc Cert.FoxRefIdeal.main_arg4)
          ∧ r.2.mem ((c.tc : Thread Cert.FoxRefIdeal.nD Cert.FoxRefIdeal.τ).loc Cert.FoxRefIdeal.main_arg5) = m' ((c.tc : Thread Cert.FoxRefIdeal.nD Cert.FoxRefIdeal.τ).loc Cert.FoxRefIdeal.main_arg5)
          ∧ r.2.mem ((c.tc : Thread Cert.FoxRefIdeal.nD Cert.FoxRefIdeal.τ).loc Cert.FoxRefIdeal.main_arg6) = m' ((c.tc : Thread Cert.FoxRefIdeal.nD Cert.FoxRefIdeal.τ).loc Cert.FoxRefIdeal.main_arg6)
          ∧ r.2.mem ((c.tc : Thread Cert.FoxRefIdeal.nD Cert.FoxRefIdeal.τ).loc Cert.FoxRefIdeal.main_arg7) = m' ((c.tc : Thread Cert.FoxRefIdeal.nD Cert.FoxRefIdeal.τ).loc Cert.FoxRefIdeal.main_arg7)
          ∧ r.2.mem ((c.tc : Thread Cert.FoxRefIdeal.nD Cert.FoxRefIdeal.τ).loc Cert.FoxRefIdeal.main_arg8) = m' ((c.tc : Thread Cert.FoxRefIdeal.nD Cert.FoxRefIdeal.τ).loc Cert.FoxRefIdeal.main_arg8)
          ∧ r.2.mem ((c.tc : Thread Cert.FoxRefIdeal.nD Cert.FoxRefIdeal.τ).loc Cert.FoxRefIdeal.main_arg9) = m' ((c.tc : Thread Cert.FoxRefIdeal.nD Cert.FoxRefIdeal.τ).loc Cert.FoxRefIdeal.main_arg9))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)) →
    ∃ (v0 : (c : Dev Cert.InprojIdeal.nD) → Buf (Elt Ideal) ((c.tc : Thread Cert.InprojIdeal.nD Cert.InprojIdeal.τ).loc Cert.InprojIdeal.main_v5_0)) (v1 : (c : Dev Cert.InprojIdeal.nD) → Buf (Elt Ideal) ((c.tc : Thread Cert.InprojIdeal.nD Cert.InprojIdeal.τ).loc Cert.InprojIdeal.main_v5_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v5_0) = v0 c
          ∧ r.2.mem ((c.tc : Thread Cert.InprojIdeal.nD Cert.InprojIdeal.τ).loc Cert.InprojIdeal.main_v5_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v42) = v0 c
          ∧ r.2.mem ((c.tc : Thread Cert.InprojRefIdeal.nD Cert.InprojRefIdeal.τ).loc Cert.InprojRefIdeal.main_v25) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6))

def preserves_DwGate_DwGateIdeal : Prop :=
  True

def algebraic_DwGateIdeal_DwGateRefIdeal [hDwGateIdeal : Cert.DwGateIdeal.Facts] [hDwGateRefIdeal : Cert.DwGateRefIdeal.Facts] : Prop :=
  ∀ (m : (ℓ : Loc Cert.DwGateIdeal.nD Cert.DwGateIdeal.τ Cert.DwGateIdeal.sig) → Buf (Elt Ideal) ℓ) (g : Dev Cert.DwGateIdeal.nD → PrngReg)
    (m' : (ℓ : Loc Cert.DwGateRefIdeal.nD Cert.DwGateRefIdeal.τ Cert.DwGateRefIdeal.sig) → Buf (Elt Ideal) ℓ) (g' : Dev Cert.DwGateRefIdeal.nD → PrngReg), Pre_DwGateIdeal m →
    (∀ c : Dev Cert.DwGateIdeal.nD,
      m' ((c.tc : Thread Cert.DwGateRefIdeal.nD Cert.DwGateRefIdeal.τ).loc Cert.DwGateRefIdeal.main_arg0) = m ((c.tc : Thread Cert.DwGateIdeal.nD Cert.DwGateIdeal.τ).loc Cert.DwGateIdeal.main_arg0)
      ∧ m' ((c.tc : Thread Cert.DwGateRefIdeal.nD Cert.DwGateRefIdeal.τ).loc Cert.DwGateRefIdeal.main_arg1) = m ((c.tc : Thread Cert.DwGateIdeal.nD Cert.DwGateIdeal.τ).loc Cert.DwGateIdeal.main_arg1)) →
    ∃ (v0 : (c : Dev Cert.DwGateIdeal.nD) → Buf (Elt Ideal) ((c.tc : Thread Cert.DwGateIdeal.nD Cert.DwGateIdeal.τ).loc Cert.DwGateIdeal.main_v1)),
      θ_run (Cert.DwGateIdeal.defs (F := Ideal)) (onTc (τ := Cert.DwGateIdeal.τ) (Cert.DwGateIdeal.main (F := Ideal))) ⟨m, fun _ => 0, g⟩ (fun r => ∀ c : Dev Cert.DwGateIdeal.nD,
          r.2.mem ((c.tc : Thread Cert.DwGateIdeal.nD Cert.DwGateIdeal.τ).loc Cert.DwGateIdeal.main_v1) = v0 c
          ∧ r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
          ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ θ_run (Cert.DwGateRefIdeal.defs (F := Ideal)) (onTc (τ := Cert.DwGateRefIdeal.τ) (Cert.DwGateRefIdeal.main (F := Ideal))) ⟨m', fun _ => 0, g'⟩ (fun r => ∀ c : Dev Cert.DwGateRefIdeal.nD,
          r.2.mem ((c.tc : Thread Cert.DwGateRefIdeal.nD Cert.DwGateRefIdeal.τ).loc Cert.DwGateRefIdeal.main_v4) = v0 c
          ∧ r.2.mem ((c.tc : Thread Cert.DwGateRefIdeal.nD Cert.DwGateRefIdeal.τ).loc Cert.DwGateRefIdeal.main_arg0) = m' ((c.tc : Thread Cert.DwGateRefIdeal.nD Cert.DwGateRefIdeal.τ).loc Cert.DwGateRefIdeal.main_arg0)
          ∧ r.2.mem ((c.tc : Thread Cert.DwGateRefIdeal.nD Cert.DwGateRefIdeal.τ).loc Cert.DwGateRefIdeal.main_arg1) = m' ((c.tc : Thread Cert.DwGateRefIdeal.nD Cert.DwGateRefIdeal.τ).loc Cert.DwGateRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v1_0)) (v1 : (c : Dev Cert.MergeIdeal.nD) → Buf (Elt Ideal) ((c.tc : Thread Cert.MergeIdeal.nD Cert.MergeIdeal.τ).loc Cert.MergeIdeal.main_v1_1)) (v2 : (c : Dev Cert.MergeIdeal.nD) → Buf (Elt Ideal) ((c.tc : Thread Cert.MergeIdeal.nD Cert.MergeIdeal.τ).loc Cert.MergeIdeal.main_v1_2)) (v3 : (c : Dev Cert.MergeIdeal.nD) → Buf (Elt Ideal) ((c.tc : Thread Cert.MergeIdeal.nD Cert.MergeIdeal.τ).loc Cert.MergeIdeal.main_v1_3)) (v4 : (c : Dev Cert.MergeIdeal.nD) → Buf (Elt Ideal) ((c.tc : Thread Cert.MergeIdeal.nD Cert.MergeIdeal.τ).loc Cert.MergeIdeal.main_v1_4)) (v5 : (c : Dev Cert.MergeIdeal.nD) → Buf (Elt Ideal) ((c.tc : Thread Cert.MergeIdeal.nD Cert.MergeIdeal.τ).loc Cert.MergeIdeal.main_v1_5)) (v6 : (c : Dev Cert.MergeIdeal.nD) → Buf (Elt Ideal) ((c.tc : Thread Cert.MergeIdeal.nD Cert.MergeIdeal.τ).loc Cert.MergeIdeal.main_v1_6)) (v7 : (c : Dev Cert.MergeIdeal.nD) → Buf (Elt Ideal) ((c.tc : Thread Cert.MergeIdeal.nD Cert.MergeIdeal.τ).loc Cert.MergeIdeal.main_v1_7)) (v8 : (c : Dev Cert.MergeIdeal.nD) → Buf (Elt Ideal) ((c.tc : Thread Cert.MergeIdeal.nD Cert.MergeIdeal.τ).loc Cert.MergeIdeal.main_v1_8)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1_0) = v0 c
          ∧ r.2.mem ((c.tc : Thread Cert.MergeIdeal.nD Cert.MergeIdeal.τ).loc Cert.MergeIdeal.main_v1_1) = v1 c
          ∧ r.2.mem ((c.tc : Thread Cert.MergeIdeal.nD Cert.MergeIdeal.τ).loc Cert.MergeIdeal.main_v1_2) = v2 c
          ∧ r.2.mem ((c.tc : Thread Cert.MergeIdeal.nD Cert.MergeIdeal.τ).loc Cert.MergeIdeal.main_v1_3) = v3 c
          ∧ r.2.mem ((c.tc : Thread Cert.MergeIdeal.nD Cert.MergeIdeal.τ).loc Cert.MergeIdeal.main_v1_4) = v4 c
          ∧ r.2.mem ((c.tc : Thread Cert.MergeIdeal.nD Cert.MergeIdeal.τ).loc Cert.MergeIdeal.main_v1_5) = v5 c
          ∧ r.2.mem ((c.tc : Thread Cert.MergeIdeal.nD Cert.MergeIdeal.τ).loc Cert.MergeIdeal.main_v1_6) = v6 c
          ∧ r.2.mem ((c.tc : Thread Cert.MergeIdeal.nD Cert.MergeIdeal.τ).loc Cert.MergeIdeal.main_v1_7) = v7 c
          ∧ r.2.mem ((c.tc : Thread Cert.MergeIdeal.nD Cert.MergeIdeal.τ).loc Cert.MergeIdeal.main_v1_8) = v8 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v82) = v0 c
          ∧ r.2.mem ((c.tc : Thread Cert.MergeRefIdeal.nD Cert.MergeRefIdeal.τ).loc Cert.MergeRefIdeal.main_v98) = v1 c
          ∧ r.2.mem ((c.tc : Thread Cert.MergeRefIdeal.nD Cert.MergeRefIdeal.τ).loc Cert.MergeRefIdeal.main_v95) = v2 c
          ∧ r.2.mem ((c.tc : Thread Cert.MergeRefIdeal.nD Cert.MergeRefIdeal.τ).loc Cert.MergeRefIdeal.main_v92) = v3 c
          ∧ r.2.mem ((c.tc : Thread Cert.MergeRefIdeal.nD Cert.MergeRefIdeal.τ).loc Cert.MergeRefIdeal.main_v97) = v4 c
          ∧ r.2.mem ((c.tc : Thread Cert.MergeRefIdeal.nD Cert.MergeRefIdeal.τ).loc Cert.MergeRefIdeal.main_v94) = v5 c
          ∧ r.2.mem ((c.tc : Thread Cert.MergeRefIdeal.nD Cert.MergeRefIdeal.τ).loc Cert.MergeRefIdeal.main_v84) = v6 c
          ∧ r.2.mem ((c.tc : Thread Cert.MergeRefIdeal.nD Cert.MergeRefIdeal.τ).loc Cert.MergeRefIdeal.main_v99) = v7 c
          ∧ r.2.mem ((c.tc : Thread Cert.MergeRefIdeal.nD Cert.MergeRefIdeal.τ).loc Cert.MergeRefIdeal.main_v56) = v8 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Post_PostIdeal : Prop :=
  True

def algebraic_PostIdeal_PostRefIdeal_pre_finite_post [hPostIdeal : Cert.PostIdeal.Facts] [hPostRefIdeal : Cert.PostRefIdeal.Facts] [hPre_finite_post : Cert.Pre_finite_post.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal_finite_post m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)) →
    ∃ (v0 : (c : Dev Cert.PostIdeal.nD) → Buf (Elt Ideal) ((c.tc : Thread Cert.PostIdeal.nD Cert.PostIdeal.τ).loc Cert.PostIdeal.main_v1_0)) (v1 : (c : Dev Cert.PostIdeal.nD) → Buf (Elt Ideal) ((c.tc : Thread Cert.PostIdeal.nD Cert.PostIdeal.τ).loc Cert.PostIdeal.main_v1_1)) (v2 : (c : Dev Cert.PostIdeal.nD) → Buf (Elt Ideal) ((c.tc : Thread Cert.PostIdeal.nD Cert.PostIdeal.τ).loc Cert.PostIdeal.main_v1_2)) (v3 : (c : Dev Cert.PostIdeal.nD) → Buf (Elt Ideal) ((c.tc : Thread Cert.PostIdeal.nD Cert.PostIdeal.τ).loc Cert.PostIdeal.main_v1_3)) (v4 : (c : Dev Cert.PostIdeal.nD) → Buf (Elt Ideal) ((c.tc : Thread Cert.PostIdeal.nD Cert.PostIdeal.τ).loc Cert.PostIdeal.main_v1_4)) (v5 : (c : Dev Cert.PostIdeal.nD) → Buf (Elt Ideal) ((c.tc : Thread Cert.PostIdeal.nD Cert.PostIdeal.τ).loc Cert.PostIdeal.main_v1_5)) (v6 : (c : Dev Cert.PostIdeal.nD) → Buf (Elt Ideal) ((c.tc : Thread Cert.PostIdeal.nD Cert.PostIdeal.τ).loc Cert.PostIdeal.main_v1_6)) (v7 : (c : Dev Cert.PostIdeal.nD) → Buf (Elt Ideal) ((c.tc : Thread Cert.PostIdeal.nD Cert.PostIdeal.τ).loc Cert.PostIdeal.main_v1_7)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v1_0) = v0 c
          ∧ r.2.mem ((c.tc : Thread Cert.PostIdeal.nD Cert.PostIdeal.τ).loc Cert.PostIdeal.main_v1_1) = v1 c
          ∧ r.2.mem ((c.tc : Thread Cert.PostIdeal.nD Cert.PostIdeal.τ).loc Cert.PostIdeal.main_v1_2) = v2 c
          ∧ r.2.mem ((c.tc : Thread Cert.PostIdeal.nD Cert.PostIdeal.τ).loc Cert.PostIdeal.main_v1_3) = v3 c
          ∧ r.2.mem ((c.tc : Thread Cert.PostIdeal.nD Cert.PostIdeal.τ).loc Cert.PostIdeal.main_v1_4) = v4 c
          ∧ r.2.mem ((c.tc : Thread Cert.PostIdeal.nD Cert.PostIdeal.τ).loc Cert.PostIdeal.main_v1_5) = v5 c
          ∧ r.2.mem ((c.tc : Thread Cert.PostIdeal.nD Cert.PostIdeal.τ).loc Cert.PostIdeal.main_v1_6) = v6 c
          ∧ r.2.mem ((c.tc : Thread Cert.PostIdeal.nD Cert.PostIdeal.τ).loc Cert.PostIdeal.main_v1_7) = v7 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v104) = v0 c
          ∧ r.2.mem ((c.tc : Thread Cert.PostRefIdeal.nD Cert.PostRefIdeal.τ).loc Cert.PostRefIdeal.main_v68) = v1 c
          ∧ r.2.mem ((c.tc : Thread Cert.PostRefIdeal.nD Cert.PostRefIdeal.τ).loc Cert.PostRefIdeal.main_v67) = v2 c
          ∧ r.2.mem ((c.tc : Thread Cert.PostRefIdeal.nD Cert.PostRefIdeal.τ).loc Cert.PostRefIdeal.main_v56) = v3 c
          ∧ r.2.mem ((c.tc : Thread Cert.PostRefIdeal.nD Cert.PostRefIdeal.τ).loc Cert.PostRefIdeal.main_v49) = v4 c
          ∧ r.2.mem ((c.tc : Thread Cert.PostRefIdeal.nD Cert.PostRefIdeal.τ).loc Cert.PostRefIdeal.main_v79) = v5 c
          ∧ r.2.mem ((c.tc : Thread Cert.PostRefIdeal.nD Cert.PostRefIdeal.τ).loc Cert.PostRefIdeal.main_v72) = v6 c
          ∧ r.2.mem ((c.tc : Thread Cert.PostRefIdeal.nD Cert.PostRefIdeal.τ).loc Cert.PostRefIdeal.main_v105) = v7 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8))

def preserves_DwRwkv_DwRwkvIdeal : Prop :=
  True

def algebraic_DwRwkvIdeal_DwRwkvRefIdeal [hDwRwkvIdeal : Cert.DwRwkvIdeal.Facts] [hDwRwkvRefIdeal : Cert.DwRwkvRefIdeal.Facts] : Prop :=
  ∀ (m : (ℓ : Loc Cert.DwRwkvIdeal.nD Cert.DwRwkvIdeal.τ Cert.DwRwkvIdeal.sig) → Buf (Elt Ideal) ℓ) (g : Dev Cert.DwRwkvIdeal.nD → PrngReg)
    (m' : (ℓ : Loc Cert.DwRwkvRefIdeal.nD Cert.DwRwkvRefIdeal.τ Cert.DwRwkvRefIdeal.sig) → Buf (Elt Ideal) ℓ) (g' : Dev Cert.DwRwkvRefIdeal.nD → PrngReg), Pre_DwRwkvIdeal m →
    (∀ c : Dev Cert.DwRwkvIdeal.nD,
      m' ((c.tc : Thread Cert.DwRwkvRefIdeal.nD Cert.DwRwkvRefIdeal.τ).loc Cert.DwRwkvRefIdeal.main_arg0) = m ((c.tc : Thread Cert.DwRwkvIdeal.nD Cert.DwRwkvIdeal.τ).loc Cert.DwRwkvIdeal.main_arg0)
      ∧ m' ((c.tc : Thread Cert.DwRwkvRefIdeal.nD Cert.DwRwkvRefIdeal.τ).loc Cert.DwRwkvRefIdeal.main_arg1) = m ((c.tc : Thread Cert.DwRwkvIdeal.nD Cert.DwRwkvIdeal.τ).loc Cert.DwRwkvIdeal.main_arg1)) →
    ∃ (v0 : (c : Dev Cert.DwRwkvIdeal.nD) → Buf (Elt Ideal) ((c.tc : Thread Cert.DwRwkvIdeal.nD Cert.DwRwkvIdeal.τ).loc Cert.DwRwkvIdeal.main_v1)),
      θ_run (Cert.DwRwkvIdeal.defs (F := Ideal)) (onTc (τ := Cert.DwRwkvIdeal.τ) (Cert.DwRwkvIdeal.main (F := Ideal))) ⟨m, fun _ => 0, g⟩ (fun r => ∀ c : Dev Cert.DwRwkvIdeal.nD,
          r.2.mem ((c.tc : Thread Cert.DwRwkvIdeal.nD Cert.DwRwkvIdeal.τ).loc Cert.DwRwkvIdeal.main_v1) = v0 c
          ∧ r.2.mem ((c.tc : Thread Cert.DwRwkvIdeal.nD Cert.DwRwkvIdeal.τ).loc Cert.DwRwkvIdeal.main_arg0) = m ((c.tc : Thread Cert.DwRwkvIdeal.nD Cert.DwRwkvIdeal.τ).loc Cert.DwRwkvIdeal.main_arg0)
          ∧ r.2.mem ((c.tc : Thread Cert.DwRwkvIdeal.nD Cert.DwRwkvIdeal.τ).loc Cert.DwRwkvIdeal.main_arg1) = m ((c.tc : Thread Cert.DwRwkvIdeal.nD Cert.DwRwkvIdeal.τ).loc Cert.DwRwkvIdeal.main_arg1))
      ∧ θ_run (Cert.DwRwkvRefIdeal.defs (F := Ideal)) (onTc (τ := Cert.DwRwkvRefIdeal.τ) (Cert.DwRwkvRefIdeal.main (F := Ideal))) ⟨m', fun _ => 0, g'⟩ (fun r => ∀ c : Dev Cert.DwRwkvRefIdeal.nD,
          r.2.mem ((c.tc : Thread Cert.DwRwkvRefIdeal.nD Cert.DwRwkvRefIdeal.τ).loc Cert.DwRwkvRefIdeal.main_v4) = v0 c
          ∧ r.2.mem ((c.tc : Thread Cert.DwRwkvRefIdeal.nD Cert.DwRwkvRefIdeal.τ).loc Cert.DwRwkvRefIdeal.main_arg0) = m' ((c.tc : Thread Cert.DwRwkvRefIdeal.nD Cert.DwRwkvRefIdeal.τ).loc Cert.DwRwkvRefIdeal.main_arg0)
          ∧ r.2.mem ((c.tc : Thread Cert.DwRwkvRefIdeal.nD Cert.DwRwkvRefIdeal.τ).loc Cert.DwRwkvRefIdeal.main_arg1) = m' ((c.tc : Thread Cert.DwRwkvRefIdeal.nD Cert.DwRwkvRefIdeal.τ).loc Cert.DwRwkvRefIdeal.main_arg1))

def preserves_ProjRwkv_ProjRwkvIdeal : Prop :=
  True

def algebraic_ProjRwkvIdeal_ProjRwkvRefIdeal [hProjRwkvIdeal : Cert.ProjRwkvIdeal.Facts] [hProjRwkvRefIdeal : Cert.ProjRwkvRefIdeal.Facts] : Prop :=
  ∀ (m : (ℓ : Loc Cert.ProjRwkvIdeal.nD Cert.ProjRwkvIdeal.τ Cert.ProjRwkvIdeal.sig) → Buf (Elt Ideal) ℓ) (g : Dev Cert.ProjRwkvIdeal.nD → PrngReg)
    (m' : (ℓ : Loc Cert.ProjRwkvRefIdeal.nD Cert.ProjRwkvRefIdeal.τ Cert.ProjRwkvRefIdeal.sig) → Buf (Elt Ideal) ℓ) (g' : Dev Cert.ProjRwkvRefIdeal.nD → PrngReg), Pre_ProjRwkvIdeal m →
    (∀ c : Dev Cert.ProjRwkvIdeal.nD,
      m' ((c.tc : Thread Cert.ProjRwkvRefIdeal.nD Cert.ProjRwkvRefIdeal.τ).loc Cert.ProjRwkvRefIdeal.main_arg0) = m ((c.tc : Thread Cert.ProjRwkvIdeal.nD Cert.ProjRwkvIdeal.τ).loc Cert.ProjRwkvIdeal.main_arg0)
      ∧ m' ((c.tc : Thread Cert.ProjRwkvRefIdeal.nD Cert.ProjRwkvRefIdeal.τ).loc Cert.ProjRwkvRefIdeal.main_arg1) = m ((c.tc : Thread Cert.ProjRwkvIdeal.nD Cert.ProjRwkvIdeal.τ).loc Cert.ProjRwkvIdeal.main_arg1)) →
    ∃ (v0 : (c : Dev Cert.ProjRwkvIdeal.nD) → Buf (Elt Ideal) ((c.tc : Thread Cert.ProjRwkvIdeal.nD Cert.ProjRwkvIdeal.τ).loc Cert.ProjRwkvIdeal.main_v1)),
      θ_run (Cert.ProjRwkvIdeal.defs (F := Ideal)) (onTc (τ := Cert.ProjRwkvIdeal.τ) (Cert.ProjRwkvIdeal.main (F := Ideal))) ⟨m, fun _ => 0, g⟩ (fun r => ∀ c : Dev Cert.ProjRwkvIdeal.nD,
          r.2.mem ((c.tc : Thread Cert.ProjRwkvIdeal.nD Cert.ProjRwkvIdeal.τ).loc Cert.ProjRwkvIdeal.main_v1) = v0 c
          ∧ r.2.mem ((c.tc : Thread Cert.ProjRwkvIdeal.nD Cert.ProjRwkvIdeal.τ).loc Cert.ProjRwkvIdeal.main_arg0) = m ((c.tc : Thread Cert.ProjRwkvIdeal.nD Cert.ProjRwkvIdeal.τ).loc Cert.ProjRwkvIdeal.main_arg0)
          ∧ r.2.mem ((c.tc : Thread Cert.ProjRwkvIdeal.nD Cert.ProjRwkvIdeal.τ).loc Cert.ProjRwkvIdeal.main_arg1) = m ((c.tc : Thread Cert.ProjRwkvIdeal.nD Cert.ProjRwkvIdeal.τ).loc Cert.ProjRwkvIdeal.main_arg1))
      ∧ θ_run (Cert.ProjRwkvRefIdeal.defs (F := Ideal)) (onTc (τ := Cert.ProjRwkvRefIdeal.τ) (Cert.ProjRwkvRefIdeal.main (F := Ideal))) ⟨m', fun _ => 0, g'⟩ (fun r => ∀ c : Dev Cert.ProjRwkvRefIdeal.nD,
          r.2.mem ((c.tc : Thread Cert.ProjRwkvRefIdeal.nD Cert.ProjRwkvRefIdeal.τ).loc Cert.ProjRwkvRefIdeal.main_v3) = v0 c
          ∧ r.2.mem ((c.tc : Thread Cert.ProjRwkvRefIdeal.nD Cert.ProjRwkvRefIdeal.τ).loc Cert.ProjRwkvRefIdeal.main_arg0) = m' ((c.tc : Thread Cert.ProjRwkvRefIdeal.nD Cert.ProjRwkvRefIdeal.τ).loc Cert.ProjRwkvRefIdeal.main_arg0)
          ∧ r.2.mem ((c.tc : Thread Cert.ProjRwkvRefIdeal.nD Cert.ProjRwkvRefIdeal.τ).loc Cert.ProjRwkvRefIdeal.main_arg1) = m' ((c.tc : Thread Cert.ProjRwkvRefIdeal.nD Cert.ProjRwkvRefIdeal.τ).loc Cert.ProjRwkvRefIdeal.main_arg1))

def preserves_ProjGate_ProjGateIdeal : Prop :=
  True

def algebraic_ProjGateIdeal_ProjGateRefIdeal [hProjGateIdeal : Cert.ProjGateIdeal.Facts] [hProjGateRefIdeal : Cert.ProjGateRefIdeal.Facts] : Prop :=
  ∀ (m : (ℓ : Loc Cert.ProjGateIdeal.nD Cert.ProjGateIdeal.τ Cert.ProjGateIdeal.sig) → Buf (Elt Ideal) ℓ) (g : Dev Cert.ProjGateIdeal.nD → PrngReg)
    (m' : (ℓ : Loc Cert.ProjGateRefIdeal.nD Cert.ProjGateRefIdeal.τ Cert.ProjGateRefIdeal.sig) → Buf (Elt Ideal) ℓ) (g' : Dev Cert.ProjGateRefIdeal.nD → PrngReg), Pre_ProjGateIdeal m →
    (∀ c : Dev Cert.ProjGateIdeal.nD,
      m' ((c.tc : Thread Cert.ProjGateRefIdeal.nD Cert.ProjGateRefIdeal.τ).loc Cert.ProjGateRefIdeal.main_arg0) = m ((c.tc : Thread Cert.ProjGateIdeal.nD Cert.ProjGateIdeal.τ).loc Cert.ProjGateIdeal.main_arg0)
      ∧ m' ((c.tc : Thread Cert.ProjGateRefIdeal.nD Cert.ProjGateRefIdeal.τ).loc Cert.ProjGateRefIdeal.main_arg1) = m ((c.tc : Thread Cert.ProjGateIdeal.nD Cert.ProjGateIdeal.τ).loc Cert.ProjGateIdeal.main_arg1)) →
    ∃ (v0 : (c : Dev Cert.ProjGateIdeal.nD) → Buf (Elt Ideal) ((c.tc : Thread Cert.ProjGateIdeal.nD Cert.ProjGateIdeal.τ).loc Cert.ProjGateIdeal.main_v1)),
      θ_run (Cert.ProjGateIdeal.defs (F := Ideal)) (onTc (τ := Cert.ProjGateIdeal.τ) (Cert.ProjGateIdeal.main (F := Ideal))) ⟨m, fun _ => 0, g⟩ (fun r => ∀ c : Dev Cert.ProjGateIdeal.nD,
          r.2.mem ((c.tc : Thread Cert.ProjGateIdeal.nD Cert.ProjGateIdeal.τ).loc Cert.ProjGateIdeal.main_v1) = v0 c
          ∧ r.2.mem ((c.tc : Thread Cert.ProjGateIdeal.nD Cert.ProjGateIdeal.τ).loc Cert.ProjGateIdeal.main_arg0) = m ((c.tc : Thread Cert.ProjGateIdeal.nD Cert.ProjGateIdeal.τ).loc Cert.ProjGateIdeal.main_arg0)
          ∧ r.2.mem ((c.tc : Thread Cert.ProjGateIdeal.nD Cert.ProjGateIdeal.τ).loc Cert.ProjGateIdeal.main_arg1) = m ((c.tc : Thread Cert.ProjGateIdeal.nD Cert.ProjGateIdeal.τ).loc Cert.ProjGateIdeal.main_arg1))
      ∧ θ_run (Cert.ProjGateRefIdeal.defs (F := Ideal)) (onTc (τ := Cert.ProjGateRefIdeal.τ) (Cert.ProjGateRefIdeal.main (F := Ideal))) ⟨m', fun _ => 0, g'⟩ (fun r => ∀ c : Dev Cert.ProjGateRefIdeal.nD,
          r.2.mem ((c.tc : Thread Cert.ProjGateRefIdeal.nD Cert.ProjGateRefIdeal.τ).loc Cert.ProjGateRefIdeal.main_v3) = v0 c
          ∧ r.2.mem ((c.tc : Thread Cert.ProjGateRefIdeal.nD Cert.ProjGateRefIdeal.τ).loc Cert.ProjGateRefIdeal.main_arg0) = m' ((c.tc : Thread Cert.ProjGateRefIdeal.nD Cert.ProjGateRefIdeal.τ).loc Cert.ProjGateRefIdeal.main_arg0)
          ∧ r.2.mem ((c.tc : Thread Cert.ProjGateRefIdeal.nD Cert.ProjGateRefIdeal.τ).loc Cert.ProjGateRefIdeal.main_arg1) = m' ((c.tc : Thread Cert.ProjGateRefIdeal.nD Cert.ProjGateRefIdeal.τ).loc Cert.ProjGateRefIdeal.main_arg1))

def preserves_AdamwIn_AdamwInIdeal : Prop :=
  True

def algebraic_AdamwInIdeal_AdamwInRefIdeal [hAdamwInIdeal : Cert.AdamwInIdeal.Facts] [hAdamwInRefIdeal : Cert.AdamwInRefIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg)
    (m' : (ℓ : Loc Cert.AdamwInRefIdeal.nD Cert.AdamwInRefIdeal.τ Cert.AdamwInRefIdeal.sig) → Buf (Elt Ideal) ℓ) (g' : Dev Cert.AdamwInRefIdeal.nD → PrngReg), Pre_AdamwInIdeal m →
    (∀ c : Dev Cert.AdamwInIdeal.nD,
      m' ((c.tc : Thread Cert.AdamwInRefIdeal.nD Cert.AdamwInRefIdeal.τ).loc Cert.AdamwInRefIdeal.main_arg0) = m ((c.tc : Thread Cert.AdamwInIdeal.nD Cert.AdamwInIdeal.τ).loc Cert.AdamwInIdeal.main_arg0)
      ∧ m' ((c.tc : Thread Cert.AdamwInRefIdeal.nD Cert.AdamwInRefIdeal.τ).loc Cert.AdamwInRefIdeal.main_arg1) = m ((c.tc : Thread Cert.AdamwInIdeal.nD Cert.AdamwInIdeal.τ).loc Cert.AdamwInIdeal.main_arg1)
      ∧ m' ((c.tc : Thread Cert.AdamwInRefIdeal.nD Cert.AdamwInRefIdeal.τ).loc Cert.AdamwInRefIdeal.main_arg2) = m ((c.tc : Thread Cert.AdamwInIdeal.nD Cert.AdamwInIdeal.τ).loc Cert.AdamwInIdeal.main_arg2)
      ∧ m' ((c.tc : Thread Cert.AdamwInRefIdeal.nD Cert.AdamwInRefIdeal.τ).loc Cert.AdamwInRefIdeal.main_arg3) = m ((c.tc : Thread Cert.AdamwInIdeal.nD Cert.AdamwInIdeal.τ).loc Cert.AdamwInIdeal.main_arg3)
      ∧ m' ((c.tc : Thread Cert.AdamwInRefIdeal.nD Cert.AdamwInRefIdeal.τ).loc Cert.AdamwInRefIdeal.main_arg4) = m ((c.tc : Thread Cert.AdamwInIdeal.nD Cert.AdamwInIdeal.τ).loc Cert.AdamwInIdeal.main_arg4)) →
    ∃ (v0 : (c : Dev Cert.AdamwInIdeal.nD) → Buf (Elt Ideal) ((c.tc : Thread Cert.AdamwInIdeal.nD Cert.AdamwInIdeal.τ).loc Cert.AdamwInIdeal.main_v0_0)) (v1 : (c : Dev Cert.AdamwInIdeal.nD) → Buf (Elt Ideal) ((c.tc : Thread Cert.AdamwInIdeal.nD Cert.AdamwInIdeal.τ).loc Cert.AdamwInIdeal.main_v0_1)) (v2 : (c : Dev Cert.AdamwInIdeal.nD) → Buf (Elt Ideal) ((c.tc : Thread Cert.AdamwInIdeal.nD Cert.AdamwInIdeal.τ).loc Cert.AdamwInIdeal.main_v0_2)) (v3 : (c : Dev Cert.AdamwInIdeal.nD) → Buf (Elt Ideal) ((c.tc : Thread Cert.AdamwInIdeal.nD Cert.AdamwInIdeal.τ).loc Cert.AdamwInIdeal.main_v0_3)) (v4 : (c : Dev Cert.AdamwInIdeal.nD) → Buf (Elt Ideal) ((c.tc : Thread Cert.AdamwInIdeal.nD Cert.AdamwInIdeal.τ).loc Cert.AdamwInIdeal.main_v0_4)),
      θ_run (Cert.AdamwInIdeal.defs (F := Ideal)) (onTc (τ := Cert.AdamwInIdeal.τ) (Cert.AdamwInIdeal.main (F := Ideal))) ⟨m, fun _ => 0, g⟩ (fun r => ∀ c : Dev Cert.AdamwInIdeal.nD,
          r.2.mem ((c.tc : Thread Cert.AdamwInIdeal.nD Cert.AdamwInIdeal.τ).loc Cert.AdamwInIdeal.main_v0_0) = v0 c
          ∧ r.2.mem ((c.tc : Thread Cert.AdamwInIdeal.nD Cert.AdamwInIdeal.τ).loc Cert.AdamwInIdeal.main_v0_1) = v1 c
          ∧ r.2.mem ((c.tc : Thread Cert.AdamwInIdeal.nD Cert.AdamwInIdeal.τ).loc Cert.AdamwInIdeal.main_v0_2) = v2 c
          ∧ r.2.mem ((c.tc : Thread Cert.AdamwInIdeal.nD Cert.AdamwInIdeal.τ).loc Cert.AdamwInIdeal.main_v0_3) = v3 c
          ∧ r.2.mem ((c.tc : Thread Cert.AdamwInIdeal.nD Cert.AdamwInIdeal.τ).loc Cert.AdamwInIdeal.main_v0_4) = v4 c
          ∧ r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
          ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
          ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
          ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3)
          ∧ r.2.mem ((c.tc : Thread Cert.AdamwInIdeal.nD Cert.AdamwInIdeal.τ).loc Cert.AdamwInIdeal.main_arg4) = m ((c.tc : Thread Cert.AdamwInIdeal.nD Cert.AdamwInIdeal.τ).loc Cert.AdamwInIdeal.main_arg4))
      ∧ θ_run (Cert.AdamwInRefIdeal.defs (F := Ideal)) (onTc (τ := Cert.AdamwInRefIdeal.τ) (Cert.AdamwInRefIdeal.main (F := Ideal))) ⟨m', fun _ => 0, g'⟩ (fun r => ∀ c : Dev Cert.AdamwInRefIdeal.nD,
          r.2.mem ((c.tc : Thread Cert.AdamwInRefIdeal.nD Cert.AdamwInRefIdeal.τ).loc Cert.AdamwInRefIdeal.main_v0) = v0 c
          ∧ r.2.mem ((c.tc : Thread Cert.AdamwInRefIdeal.nD Cert.AdamwInRefIdeal.τ).loc Cert.AdamwInRefIdeal.main_v24) = v1 c
          ∧ r.2.mem ((c.tc : Thread Cert.AdamwInRefIdeal.nD Cert.AdamwInRefIdeal.τ).loc Cert.AdamwInRefIdeal.main_v5) = v2 c
          ∧ r.2.mem ((c.tc : Thread Cert.AdamwInRefIdeal.nD Cert.AdamwInRefIdeal.τ).loc Cert.AdamwInRefIdeal.main_v11) = v3 c
          ∧ r.2.mem ((c.tc : Thread Cert.AdamwInRefIdeal.nD Cert.AdamwInRefIdeal.τ).loc Cert.AdamwInRefIdeal.main_v25) = v4 c
          ∧ r.2.mem ((c.tc : Thread Cert.AdamwInRefIdeal.nD Cert.AdamwInRefIdeal.τ).loc Cert.AdamwInRefIdeal.main_arg0) = m' ((c.tc : Thread Cert.AdamwInRefIdeal.nD Cert.AdamwInRefIdeal.τ).loc Cert.AdamwInRefIdeal.main_arg0)
          ∧ r.2.mem ((c.tc : Thread Cert.AdamwInRefIdeal.nD Cert.AdamwInRefIdeal.τ).loc Cert.AdamwInRefIdeal.main_arg1) = m' ((c.tc : Thread Cert.AdamwInRefIdeal.nD Cert.AdamwInRefIdeal.τ).loc Cert.AdamwInRefIdeal.main_arg1)
          ∧ r.2.mem ((c.tc : Thread Cert.AdamwInRefIdeal.nD Cert.AdamwInRefIdeal.τ).loc Cert.AdamwInRefIdeal.main_arg2) = m' ((c.tc : Thread Cert.AdamwInRefIdeal.nD Cert.AdamwInRefIdeal.τ).loc Cert.AdamwInRefIdeal.main_arg2)
          ∧ r.2.mem ((c.tc : Thread Cert.AdamwInRefIdeal.nD Cert.AdamwInRefIdeal.τ).loc Cert.AdamwInRefIdeal.main_arg3) = m' ((c.tc : Thread Cert.AdamwInRefIdeal.nD Cert.AdamwInRefIdeal.τ).loc Cert.AdamwInRefIdeal.main_arg3)
          ∧ r.2.mem ((c.tc : Thread Cert.AdamwInRefIdeal.nD Cert.AdamwInRefIdeal.τ).loc Cert.AdamwInRefIdeal.main_arg4) = m' ((c.tc : Thread Cert.AdamwInRefIdeal.nD Cert.AdamwInRefIdeal.τ).loc Cert.AdamwInRefIdeal.main_arg4))

def preserves_AdamwLora_AdamwLoraIdeal : Prop :=
  True

def algebraic_AdamwLoraIdeal_AdamwLoraRefIdeal [hAdamwLoraIdeal : Cert.AdamwLoraIdeal.Facts] [hAdamwLoraRefIdeal : Cert.AdamwLoraRefIdeal.Facts] : Prop :=
  ∀ (m : (ℓ : Loc Cert.AdamwLoraIdeal.nD Cert.AdamwLoraIdeal.τ Cert.AdamwLoraIdeal.sig) → Buf (Elt Ideal) ℓ) (g : Dev Cert.AdamwLoraIdeal.nD → PrngReg)
    (m' : (ℓ : Loc Cert.AdamwLoraRefIdeal.nD Cert.AdamwLoraRefIdeal.τ Cert.AdamwLoraRefIdeal.sig) → Buf (Elt Ideal) ℓ) (g' : Dev Cert.AdamwLoraRefIdeal.nD → PrngReg), Pre_AdamwLoraIdeal m →
    (∀ c : Dev Cert.AdamwLoraIdeal.nD,
      m' ((c.tc : Thread Cert.AdamwLoraRefIdeal.nD Cert.AdamwLoraRefIdeal.τ).loc Cert.AdamwLoraRefIdeal.main_arg0) = m ((c.tc : Thread Cert.AdamwLoraIdeal.nD Cert.AdamwLoraIdeal.τ).loc Cert.AdamwLoraIdeal.main_arg0)
      ∧ m' ((c.tc : Thread Cert.AdamwLoraRefIdeal.nD Cert.AdamwLoraRefIdeal.τ).loc Cert.AdamwLoraRefIdeal.main_arg1) = m ((c.tc : Thread Cert.AdamwLoraIdeal.nD Cert.AdamwLoraIdeal.τ).loc Cert.AdamwLoraIdeal.main_arg1)
      ∧ m' ((c.tc : Thread Cert.AdamwLoraRefIdeal.nD Cert.AdamwLoraRefIdeal.τ).loc Cert.AdamwLoraRefIdeal.main_arg2) = m ((c.tc : Thread Cert.AdamwLoraIdeal.nD Cert.AdamwLoraIdeal.τ).loc Cert.AdamwLoraIdeal.main_arg2)
      ∧ m' ((c.tc : Thread Cert.AdamwLoraRefIdeal.nD Cert.AdamwLoraRefIdeal.τ).loc Cert.AdamwLoraRefIdeal.main_arg3) = m ((c.tc : Thread Cert.AdamwLoraIdeal.nD Cert.AdamwLoraIdeal.τ).loc Cert.AdamwLoraIdeal.main_arg3)
      ∧ m' ((c.tc : Thread Cert.AdamwLoraRefIdeal.nD Cert.AdamwLoraRefIdeal.τ).loc Cert.AdamwLoraRefIdeal.main_arg4) = m ((c.tc : Thread Cert.AdamwLoraIdeal.nD Cert.AdamwLoraIdeal.τ).loc Cert.AdamwLoraIdeal.main_arg4)) →
    ∃ (v0 : (c : Dev Cert.AdamwLoraIdeal.nD) → Buf (Elt Ideal) ((c.tc : Thread Cert.AdamwLoraIdeal.nD Cert.AdamwLoraIdeal.τ).loc Cert.AdamwLoraIdeal.main_v0_0)) (v1 : (c : Dev Cert.AdamwLoraIdeal.nD) → Buf (Elt Ideal) ((c.tc : Thread Cert.AdamwLoraIdeal.nD Cert.AdamwLoraIdeal.τ).loc Cert.AdamwLoraIdeal.main_v0_1)) (v2 : (c : Dev Cert.AdamwLoraIdeal.nD) → Buf (Elt Ideal) ((c.tc : Thread Cert.AdamwLoraIdeal.nD Cert.AdamwLoraIdeal.τ).loc Cert.AdamwLoraIdeal.main_v0_2)) (v3 : (c : Dev Cert.AdamwLoraIdeal.nD) → Buf (Elt Ideal) ((c.tc : Thread Cert.AdamwLoraIdeal.nD Cert.AdamwLoraIdeal.τ).loc Cert.AdamwLoraIdeal.main_v0_3)) (v4 : (c : Dev Cert.AdamwLoraIdeal.nD) → Buf (Elt Ideal) ((c.tc : Thread Cert.AdamwLoraIdeal.nD Cert.AdamwLoraIdeal.τ).loc Cert.AdamwLoraIdeal.main_v0_4)),
      θ_run (Cert.AdamwLoraIdeal.defs (F := Ideal)) (onTc (τ := Cert.AdamwLoraIdeal.τ) (Cert.AdamwLoraIdeal.main (F := Ideal))) ⟨m, fun _ => 0, g⟩ (fun r => ∀ c : Dev Cert.AdamwLoraIdeal.nD,
          r.2.mem ((c.tc : Thread Cert.AdamwLoraIdeal.nD Cert.AdamwLoraIdeal.τ).loc Cert.AdamwLoraIdeal.main_v0_0) = v0 c
          ∧ r.2.mem ((c.tc : Thread Cert.AdamwLoraIdeal.nD Cert.AdamwLoraIdeal.τ).loc Cert.AdamwLoraIdeal.main_v0_1) = v1 c
          ∧ r.2.mem ((c.tc : Thread Cert.AdamwLoraIdeal.nD Cert.AdamwLoraIdeal.τ).loc Cert.AdamwLoraIdeal.main_v0_2) = v2 c
          ∧ r.2.mem ((c.tc : Thread Cert.AdamwLoraIdeal.nD Cert.AdamwLoraIdeal.τ).loc Cert.AdamwLoraIdeal.main_v0_3) = v3 c
          ∧ r.2.mem ((c.tc : Thread Cert.AdamwLoraIdeal.nD Cert.AdamwLoraIdeal.τ).loc Cert.AdamwLoraIdeal.main_v0_4) = v4 c
          ∧ r.2.mem ((c.tc : Thread Cert.AdamwLoraIdeal.nD Cert.AdamwLoraIdeal.τ).loc Cert.AdamwLoraIdeal.main_arg0) = m ((c.tc : Thread Cert.AdamwLoraIdeal.nD Cert.AdamwLoraIdeal.τ).loc Cert.AdamwLoraIdeal.main_arg0)
          ∧ r.2.mem ((c.tc : Thread Cert.AdamwLoraIdeal.nD Cert.AdamwLoraIdeal.τ).loc Cert.AdamwLoraIdeal.main_arg1) = m ((c.tc : Thread Cert.AdamwLoraIdeal.nD Cert.AdamwLoraIdeal.τ).loc Cert.AdamwLoraIdeal.main_arg1)
          ∧ r.2.mem ((c.tc : Thread Cert.AdamwLoraIdeal.nD Cert.AdamwLoraIdeal.τ).loc Cert.AdamwLoraIdeal.main_arg2) = m ((c.tc : Thread Cert.AdamwLoraIdeal.nD Cert.AdamwLoraIdeal.τ).loc Cert.AdamwLoraIdeal.main_arg2)
          ∧ r.2.mem ((c.tc : Thread Cert.AdamwLoraIdeal.nD Cert.AdamwLoraIdeal.τ).loc Cert.AdamwLoraIdeal.main_arg3) = m ((c.tc : Thread Cert.AdamwLoraIdeal.nD Cert.AdamwLoraIdeal.τ).loc Cert.AdamwLoraIdeal.main_arg3)
          ∧ r.2.mem ((c.tc : Thread Cert.AdamwLoraIdeal.nD Cert.AdamwLoraIdeal.τ).loc Cert.AdamwLoraIdeal.main_arg4) = m ((c.tc : Thread Cert.AdamwLoraIdeal.nD Cert.AdamwLoraIdeal.τ).loc Cert.AdamwLoraIdeal.main_arg4))
      ∧ θ_run (Cert.AdamwLoraRefIdeal.defs (F := Ideal)) (onTc (τ := Cert.AdamwLoraRefIdeal.τ) (Cert.AdamwLoraRefIdeal.main (F := Ideal))) ⟨m', fun _ => 0, g'⟩ (fun r => ∀ c : Dev Cert.AdamwLoraRefIdeal.nD,
          r.2.mem ((c.tc : Thread Cert.AdamwLoraRefIdeal.nD Cert.AdamwLoraRefIdeal.τ).loc Cert.AdamwLoraRefIdeal.main_v0) = v0 c
          ∧ r.2.mem ((c.tc : Thread Cert.AdamwLoraRefIdeal.nD Cert.AdamwLoraRefIdeal.τ).loc Cert.AdamwLoraRefIdeal.main_v24) = v1 c
          ∧ r.2.mem ((c.tc : Thread Cert.AdamwLoraRefIdeal.nD Cert.AdamwLoraRefIdeal.τ).loc Cert.AdamwLoraRefIdeal.main_v5) = v2 c
          ∧ r.2.mem ((c.tc : Thread Cert.AdamwLoraRefIdeal.nD Cert.AdamwLoraRefIdeal.τ).loc Cert.AdamwLoraRefIdeal.main_v11) = v3 c
          ∧ r.2.mem ((c.tc : Thread Cert.AdamwLoraRefIdeal.nD Cert.AdamwLoraRefIdeal.τ).loc Cert.AdamwLoraRefIdeal.main_v25) = v4 c
          ∧ r.2.mem ((c.tc : Thread Cert.AdamwLoraRefIdeal.nD Cert.AdamwLoraRefIdeal.τ).loc Cert.AdamwLoraRefIdeal.main_arg0) = m' ((c.tc : Thread Cert.AdamwLoraRefIdeal.nD Cert.AdamwLoraRefIdeal.τ).loc Cert.AdamwLoraRefIdeal.main_arg0)
          ∧ r.2.mem ((c.tc : Thread Cert.AdamwLoraRefIdeal.nD Cert.AdamwLoraRefIdeal.τ).loc Cert.AdamwLoraRefIdeal.main_arg1) = m' ((c.tc : Thread Cert.AdamwLoraRefIdeal.nD Cert.AdamwLoraRefIdeal.τ).loc Cert.AdamwLoraRefIdeal.main_arg1)
          ∧ r.2.mem ((c.tc : Thread Cert.AdamwLoraRefIdeal.nD Cert.AdamwLoraRefIdeal.τ).loc Cert.AdamwLoraRefIdeal.main_arg2) = m' ((c.tc : Thread Cert.AdamwLoraRefIdeal.nD Cert.AdamwLoraRefIdeal.τ).loc Cert.AdamwLoraRefIdeal.main_arg2)
          ∧ r.2.mem ((c.tc : Thread Cert.AdamwLoraRefIdeal.nD Cert.AdamwLoraRefIdeal.τ).loc Cert.AdamwLoraRefIdeal.main_arg3) = m' ((c.tc : Thread Cert.AdamwLoraRefIdeal.nD Cert.AdamwLoraRefIdeal.τ).loc Cert.AdamwLoraRefIdeal.main_arg3)
          ∧ r.2.mem ((c.tc : Thread Cert.AdamwLoraRefIdeal.nD Cert.AdamwLoraRefIdeal.τ).loc Cert.AdamwLoraRefIdeal.main_arg4) = m' ((c.tc : Thread Cert.AdamwLoraRefIdeal.nD Cert.AdamwLoraRefIdeal.τ).loc Cert.AdamwLoraRefIdeal.main_arg4))

def preserves_AdamwOutA_AdamwOutAIdeal : Prop :=
  True

def algebraic_AdamwOutAIdeal_AdamwOutARefIdeal [hAdamwOutAIdeal : Cert.AdamwOutAIdeal.Facts] [hAdamwOutARefIdeal : Cert.AdamwOutARefIdeal.Facts] : Prop :=
  ∀ (m : (ℓ : Loc Cert.AdamwOutAIdeal.nD Cert.AdamwOutAIdeal.τ Cert.AdamwOutAIdeal.sig) → Buf (Elt Ideal) ℓ) (g : Dev Cert.AdamwOutAIdeal.nD → PrngReg)
    (m' : (ℓ : Loc Cert.AdamwOutARefIdeal.nD Cert.AdamwOutARefIdeal.τ Cert.AdamwOutARefIdeal.sig) → Buf (Elt Ideal) ℓ) (g' : Dev Cert.AdamwOutARefIdeal.nD → PrngReg), Pre_AdamwOutAIdeal m →
    (∀ c : Dev Cert.AdamwOutAIdeal.nD,
      m' ((c.tc : Thread Cert.AdamwOutARefIdeal.nD Cert.AdamwOutARefIdeal.τ).loc Cert.AdamwOutARefIdeal.main_arg0) = m ((c.tc : Thread Cert.AdamwOutAIdeal.nD Cert.AdamwOutAIdeal.τ).loc Cert.AdamwOutAIdeal.main_arg0)
      ∧ m' ((c.tc : Thread Cert.AdamwOutARefIdeal.nD Cert.AdamwOutARefIdeal.τ).loc Cert.AdamwOutARefIdeal.main_arg1) = m ((c.tc : Thread Cert.AdamwOutAIdeal.nD Cert.AdamwOutAIdeal.τ).loc Cert.AdamwOutAIdeal.main_arg1)
      ∧ m' ((c.tc : Thread Cert.AdamwOutARefIdeal.nD Cert.AdamwOutARefIdeal.τ).loc Cert.AdamwOutARefIdeal.main_arg2) = m ((c.tc : Thread Cert.AdamwOutAIdeal.nD Cert.AdamwOutAIdeal.τ).loc Cert.AdamwOutAIdeal.main_arg2)
      ∧ m' ((c.tc : Thread Cert.AdamwOutARefIdeal.nD Cert.AdamwOutARefIdeal.τ).loc Cert.AdamwOutARefIdeal.main_arg3) = m ((c.tc : Thread Cert.AdamwOutAIdeal.nD Cert.AdamwOutAIdeal.τ).loc Cert.AdamwOutAIdeal.main_arg3)
      ∧ m' ((c.tc : Thread Cert.AdamwOutARefIdeal.nD Cert.AdamwOutARefIdeal.τ).loc Cert.AdamwOutARefIdeal.main_arg4) = m ((c.tc : Thread Cert.AdamwOutAIdeal.nD Cert.AdamwOutAIdeal.τ).loc Cert.AdamwOutAIdeal.main_arg4)) →
    ∃ (v0 : (c : Dev Cert.AdamwOutAIdeal.nD) → Buf (Elt Ideal) ((c.tc : Thread Cert.AdamwOutAIdeal.nD Cert.AdamwOutAIdeal.τ).loc Cert.AdamwOutAIdeal.main_v0_0)) (v1 : (c : Dev Cert.AdamwOutAIdeal.nD) → Buf (Elt Ideal) ((c.tc : Thread Cert.AdamwOutAIdeal.nD Cert.AdamwOutAIdeal.τ).loc Cert.AdamwOutAIdeal.main_v0_1)) (v2 : (c : Dev Cert.AdamwOutAIdeal.nD) → Buf (Elt Ideal) ((c.tc : Thread Cert.AdamwOutAIdeal.nD Cert.AdamwOutAIdeal.τ).loc Cert.AdamwOutAIdeal.main_v0_2)) (v3 : (c : Dev Cert.AdamwOutAIdeal.nD) → Buf (Elt Ideal) ((c.tc : Thread Cert.AdamwOutAIdeal.nD Cert.AdamwOutAIdeal.τ).loc Cert.AdamwOutAIdeal.main_v0_3)) (v4 : (c : Dev Cert.AdamwOutAIdeal.nD) → Buf (Elt Ideal) ((c.tc : Thread Cert.AdamwOutAIdeal.nD Cert.AdamwOutAIdeal.τ).loc Cert.AdamwOutAIdeal.main_v0_4)),
      θ_run (Cert.AdamwOutAIdeal.defs (F := Ideal)) (onTc (τ := Cert.AdamwOutAIdeal.τ) (Cert.AdamwOutAIdeal.main (F := Ideal))) ⟨m, fun _ => 0, g⟩ (fun r => ∀ c : Dev Cert.AdamwOutAIdeal.nD,
          r.2.mem ((c.tc : Thread Cert.AdamwOutAIdeal.nD Cert.AdamwOutAIdeal.τ).loc Cert.AdamwOutAIdeal.main_v0_0) = v0 c
          ∧ r.2.mem ((c.tc : Thread Cert.AdamwOutAIdeal.nD Cert.AdamwOutAIdeal.τ).loc Cert.AdamwOutAIdeal.main_v0_1) = v1 c
          ∧ r.2.mem ((c.tc : Thread Cert.AdamwOutAIdeal.nD Cert.AdamwOutAIdeal.τ).loc Cert.AdamwOutAIdeal.main_v0_2) = v2 c
          ∧ r.2.mem ((c.tc : Thread Cert.AdamwOutAIdeal.nD Cert.AdamwOutAIdeal.τ).loc Cert.AdamwOutAIdeal.main_v0_3) = v3 c
          ∧ r.2.mem ((c.tc : Thread Cert.AdamwOutAIdeal.nD Cert.AdamwOutAIdeal.τ).loc Cert.AdamwOutAIdeal.main_v0_4) = v4 c
          ∧ r.2.mem ((c.tc : Thread Cert.AdamwOutAIdeal.nD Cert.AdamwOutAIdeal.τ).loc Cert.AdamwOutAIdeal.main_arg0) = m ((c.tc : Thread Cert.AdamwOutAIdeal.nD Cert.AdamwOutAIdeal.τ).loc Cert.AdamwOutAIdeal.main_arg0)
          ∧ r.2.mem ((c.tc : Thread Cert.AdamwOutAIdeal.nD Cert.AdamwOutAIdeal.τ).loc Cert.AdamwOutAIdeal.main_arg1) = m ((c.tc : Thread Cert.AdamwOutAIdeal.nD Cert.AdamwOutAIdeal.τ).loc Cert.AdamwOutAIdeal.main_arg1)
          ∧ r.2.mem ((c.tc : Thread Cert.AdamwOutAIdeal.nD Cert.AdamwOutAIdeal.τ).loc Cert.AdamwOutAIdeal.main_arg2) = m ((c.tc : Thread Cert.AdamwOutAIdeal.nD Cert.AdamwOutAIdeal.τ).loc Cert.AdamwOutAIdeal.main_arg2)
          ∧ r.2.mem ((c.tc : Thread Cert.AdamwOutAIdeal.nD Cert.AdamwOutAIdeal.τ).loc Cert.AdamwOutAIdeal.main_arg3) = m ((c.tc : Thread Cert.AdamwOutAIdeal.nD Cert.AdamwOutAIdeal.τ).loc Cert.AdamwOutAIdeal.main_arg3)
          ∧ r.2.mem ((c.tc : Thread Cert.AdamwOutAIdeal.nD Cert.AdamwOutAIdeal.τ).loc Cert.AdamwOutAIdeal.main_arg4) = m ((c.tc : Thread Cert.AdamwOutAIdeal.nD Cert.AdamwOutAIdeal.τ).loc Cert.AdamwOutAIdeal.main_arg4))
      ∧ θ_run (Cert.AdamwOutARefIdeal.defs (F := Ideal)) (onTc (τ := Cert.AdamwOutARefIdeal.τ) (Cert.AdamwOutARefIdeal.main (F := Ideal))) ⟨m', fun _ => 0, g'⟩ (fun r => ∀ c : Dev Cert.AdamwOutARefIdeal.nD,
          r.2.mem ((c.tc : Thread Cert.AdamwOutARefIdeal.nD Cert.AdamwOutARefIdeal.τ).loc Cert.AdamwOutARefIdeal.main_v0) = v0 c
          ∧ r.2.mem ((c.tc : Thread Cert.AdamwOutARefIdeal.nD Cert.AdamwOutARefIdeal.τ).loc Cert.AdamwOutARefIdeal.main_v24) = v1 c
          ∧ r.2.mem ((c.tc : Thread Cert.AdamwOutARefIdeal.nD Cert.AdamwOutARefIdeal.τ).loc Cert.AdamwOutARefIdeal.main_v5) = v2 c
          ∧ r.2.mem ((c.tc : Thread Cert.AdamwOutARefIdeal.nD Cert.AdamwOutARefIdeal.τ).loc Cert.AdamwOutARefIdeal.main_v11) = v3 c
          ∧ r.2.mem ((c.tc : Thread Cert.AdamwOutARefIdeal.nD Cert.AdamwOutARefIdeal.τ).loc Cert.AdamwOutARefIdeal.main_v25) = v4 c
          ∧ r.2.mem ((c.tc : Thread Cert.AdamwOutARefIdeal.nD Cert.AdamwOutARefIdeal.τ).loc Cert.AdamwOutARefIdeal.main_arg0) = m' ((c.tc : Thread Cert.AdamwOutARefIdeal.nD Cert.AdamwOutARefIdeal.τ).loc Cert.AdamwOutARefIdeal.main_arg0)
          ∧ r.2.mem ((c.tc : Thread Cert.AdamwOutARefIdeal.nD Cert.AdamwOutARefIdeal.τ).loc Cert.AdamwOutARefIdeal.main_arg1) = m' ((c.tc : Thread Cert.AdamwOutARefIdeal.nD Cert.AdamwOutARefIdeal.τ).loc Cert.AdamwOutARefIdeal.main_arg1)
          ∧ r.2.mem ((c.tc : Thread Cert.AdamwOutARefIdeal.nD Cert.AdamwOutARefIdeal.τ).loc Cert.AdamwOutARefIdeal.main_arg2) = m' ((c.tc : Thread Cert.AdamwOutARefIdeal.nD Cert.AdamwOutARefIdeal.τ).loc Cert.AdamwOutARefIdeal.main_arg2)
          ∧ r.2.mem ((c.tc : Thread Cert.AdamwOutARefIdeal.nD Cert.AdamwOutARefIdeal.τ).loc Cert.AdamwOutARefIdeal.main_arg3) = m' ((c.tc : Thread Cert.AdamwOutARefIdeal.nD Cert.AdamwOutARefIdeal.τ).loc Cert.AdamwOutARefIdeal.main_arg3)
          ∧ r.2.mem ((c.tc : Thread Cert.AdamwOutARefIdeal.nD Cert.AdamwOutARefIdeal.τ).loc Cert.AdamwOutARefIdeal.main_arg4) = m' ((c.tc : Thread Cert.AdamwOutARefIdeal.nD Cert.AdamwOutARefIdeal.τ).loc Cert.AdamwOutARefIdeal.main_arg4))

def preserves_AdamwOut_AdamwOutIdeal : Prop :=
  True

def algebraic_AdamwOutIdeal_AdamwOutRefIdeal [hAdamwOutIdeal : Cert.AdamwOutIdeal.Facts] [hAdamwOutRefIdeal : Cert.AdamwOutRefIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg)
    (m' : (ℓ : Loc Cert.AdamwOutRefIdeal.nD Cert.AdamwOutRefIdeal.τ Cert.AdamwOutRefIdeal.sig) → Buf (Elt Ideal) ℓ) (g' : Dev Cert.AdamwOutRefIdeal.nD → PrngReg), Pre_AdamwOutIdeal m →
    (∀ c : Dev Cert.AdamwOutIdeal.nD,
      m' ((c.tc : Thread Cert.AdamwOutRefIdeal.nD Cert.AdamwOutRefIdeal.τ).loc Cert.AdamwOutRefIdeal.main_arg0) = m ((c.tc : Thread Cert.AdamwOutIdeal.nD Cert.AdamwOutIdeal.τ).loc Cert.AdamwOutIdeal.main_arg0)
      ∧ m' ((c.tc : Thread Cert.AdamwOutRefIdeal.nD Cert.AdamwOutRefIdeal.τ).loc Cert.AdamwOutRefIdeal.main_arg1) = m ((c.tc : Thread Cert.AdamwOutIdeal.nD Cert.AdamwOutIdeal.τ).loc Cert.AdamwOutIdeal.main_arg1)
      ∧ m' ((c.tc : Thread Cert.AdamwOutRefIdeal.nD Cert.AdamwOutRefIdeal.τ).loc Cert.AdamwOutRefIdeal.main_arg2) = m ((c.tc : Thread Cert.AdamwOutIdeal.nD Cert.AdamwOutIdeal.τ).loc Cert.AdamwOutIdeal.main_arg2)
      ∧ m' ((c.tc : Thread Cert.AdamwOutRefIdeal.nD Cert.AdamwOutRefIdeal.τ).loc Cert.AdamwOutRefIdeal.main_arg3) = m ((c.tc : Thread Cert.AdamwOutIdeal.nD Cert.AdamwOutIdeal.τ).loc Cert.AdamwOutIdeal.main_arg3)
      ∧ m' ((c.tc : Thread Cert.AdamwOutRefIdeal.nD Cert.AdamwOutRefIdeal.τ).loc Cert.AdamwOutRefIdeal.main_arg4) = m ((c.tc : Thread Cert.AdamwOutIdeal.nD Cert.AdamwOutIdeal.τ).loc Cert.AdamwOutIdeal.main_arg4)) →
    ∃ (v0 : (c : Dev Cert.AdamwOutIdeal.nD) → Buf (Elt Ideal) ((c.tc : Thread Cert.AdamwOutIdeal.nD Cert.AdamwOutIdeal.τ).loc Cert.AdamwOutIdeal.main_v0_0)) (v1 : (c : Dev Cert.AdamwOutIdeal.nD) → Buf (Elt Ideal) ((c.tc : Thread Cert.AdamwOutIdeal.nD Cert.AdamwOutIdeal.τ).loc Cert.AdamwOutIdeal.main_v0_1)) (v2 : (c : Dev Cert.AdamwOutIdeal.nD) → Buf (Elt Ideal) ((c.tc : Thread Cert.AdamwOutIdeal.nD Cert.AdamwOutIdeal.τ).loc Cert.AdamwOutIdeal.main_v0_2)) (v3 : (c : Dev Cert.AdamwOutIdeal.nD) → Buf (Elt Ideal) ((c.tc : Thread Cert.AdamwOutIdeal.nD Cert.AdamwOutIdeal.τ).loc Cert.AdamwOutIdeal.main_v0_3)) (v4 : (c : Dev Cert.AdamwOutIdeal.nD) → Buf (Elt Ideal) ((c.tc : Thread Cert.AdamwOutIdeal.nD Cert.AdamwOutIdeal.τ).loc Cert.AdamwOutIdeal.main_v0_4)),
      θ_run (Cert.AdamwOutIdeal.defs (F := Ideal)) (onTc (τ := Cert.AdamwOutIdeal.τ) (Cert.AdamwOutIdeal.main (F := Ideal))) ⟨m, fun _ => 0, g⟩ (fun r => ∀ c : Dev Cert.AdamwOutIdeal.nD,
          r.2.mem ((c.tc : Thread Cert.AdamwOutIdeal.nD Cert.AdamwOutIdeal.τ).loc Cert.AdamwOutIdeal.main_v0_0) = v0 c
          ∧ r.2.mem ((c.tc : Thread Cert.AdamwOutIdeal.nD Cert.AdamwOutIdeal.τ).loc Cert.AdamwOutIdeal.main_v0_1) = v1 c
          ∧ r.2.mem ((c.tc : Thread Cert.AdamwOutIdeal.nD Cert.AdamwOutIdeal.τ).loc Cert.AdamwOutIdeal.main_v0_2) = v2 c
          ∧ r.2.mem ((c.tc : Thread Cert.AdamwOutIdeal.nD Cert.AdamwOutIdeal.τ).loc Cert.AdamwOutIdeal.main_v0_3) = v3 c
          ∧ r.2.mem ((c.tc : Thread Cert.AdamwOutIdeal.nD Cert.AdamwOutIdeal.τ).loc Cert.AdamwOutIdeal.main_v0_4) = v4 c
          ∧ r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
          ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
          ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
          ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3)
          ∧ r.2.mem ((c.tc : Thread Cert.AdamwOutIdeal.nD Cert.AdamwOutIdeal.τ).loc Cert.AdamwOutIdeal.main_arg4) = m ((c.tc : Thread Cert.AdamwOutIdeal.nD Cert.AdamwOutIdeal.τ).loc Cert.AdamwOutIdeal.main_arg4))
      ∧ θ_run (Cert.AdamwOutRefIdeal.defs (F := Ideal)) (onTc (τ := Cert.AdamwOutRefIdeal.τ) (Cert.AdamwOutRefIdeal.main (F := Ideal))) ⟨m', fun _ => 0, g'⟩ (fun r => ∀ c : Dev Cert.AdamwOutRefIdeal.nD,
          r.2.mem ((c.tc : Thread Cert.AdamwOutRefIdeal.nD Cert.AdamwOutRefIdeal.τ).loc Cert.AdamwOutRefIdeal.main_v0) = v0 c
          ∧ r.2.mem ((c.tc : Thread Cert.AdamwOutRefIdeal.nD Cert.AdamwOutRefIdeal.τ).loc Cert.AdamwOutRefIdeal.main_v24) = v1 c
          ∧ r.2.mem ((c.tc : Thread Cert.AdamwOutRefIdeal.nD Cert.AdamwOutRefIdeal.τ).loc Cert.AdamwOutRefIdeal.main_v5) = v2 c
          ∧ r.2.mem ((c.tc : Thread Cert.AdamwOutRefIdeal.nD Cert.AdamwOutRefIdeal.τ).loc Cert.AdamwOutRefIdeal.main_v11) = v3 c
          ∧ r.2.mem ((c.tc : Thread Cert.AdamwOutRefIdeal.nD Cert.AdamwOutRefIdeal.τ).loc Cert.AdamwOutRefIdeal.main_v25) = v4 c
          ∧ r.2.mem ((c.tc : Thread Cert.AdamwOutRefIdeal.nD Cert.AdamwOutRefIdeal.τ).loc Cert.AdamwOutRefIdeal.main_arg0) = m' ((c.tc : Thread Cert.AdamwOutRefIdeal.nD Cert.AdamwOutRefIdeal.τ).loc Cert.AdamwOutRefIdeal.main_arg0)
          ∧ r.2.mem ((c.tc : Thread Cert.AdamwOutRefIdeal.nD Cert.AdamwOutRefIdeal.τ).loc Cert.AdamwOutRefIdeal.main_arg1) = m' ((c.tc : Thread Cert.AdamwOutRefIdeal.nD Cert.AdamwOutRefIdeal.τ).loc Cert.AdamwOutRefIdeal.main_arg1)
          ∧ r.2.mem ((c.tc : Thread Cert.AdamwOutRefIdeal.nD Cert.AdamwOutRefIdeal.τ).loc Cert.AdamwOutRefIdeal.main_arg2) = m' ((c.tc : Thread Cert.AdamwOutRefIdeal.nD Cert.AdamwOutRefIdeal.τ).loc Cert.AdamwOutRefIdeal.main_arg2)
          ∧ r.2.mem ((c.tc : Thread Cert.AdamwOutRefIdeal.nD Cert.AdamwOutRefIdeal.τ).loc Cert.AdamwOutRefIdeal.main_arg3) = m' ((c.tc : Thread Cert.AdamwOutRefIdeal.nD Cert.AdamwOutRefIdeal.τ).loc Cert.AdamwOutRefIdeal.main_arg3)
          ∧ r.2.mem ((c.tc : Thread Cert.AdamwOutRefIdeal.nD Cert.AdamwOutRefIdeal.τ).loc Cert.AdamwOutRefIdeal.main_arg4) = m' ((c.tc : Thread Cert.AdamwOutRefIdeal.nD Cert.AdamwOutRefIdeal.τ).loc Cert.AdamwOutRefIdeal.main_arg4))

def preserves_AdamwSmall_AdamwSmallIdeal : Prop :=
  True

def algebraic_AdamwSmallIdeal_AdamwSmallRefIdeal [hAdamwSmallIdeal : Cert.AdamwSmallIdeal.Facts] [hAdamwSmallRefIdeal : Cert.AdamwSmallRefIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg)
    (m' : (ℓ : Loc Cert.AdamwSmallRefIdeal.nD Cert.AdamwSmallRefIdeal.τ Cert.AdamwSmallRefIdeal.sig) → Buf (Elt Ideal) ℓ) (g' : Dev Cert.AdamwSmallRefIdeal.nD → PrngReg), Pre_AdamwSmallIdeal m →
    (∀ c : Dev Cert.AdamwSmallIdeal.nD,
      m' ((c.tc : Thread Cert.AdamwSmallRefIdeal.nD Cert.AdamwSmallRefIdeal.τ).loc Cert.AdamwSmallRefIdeal.main_arg0) = m ((c.tc : Thread Cert.AdamwSmallIdeal.nD Cert.AdamwSmallIdeal.τ).loc Cert.AdamwSmallIdeal.main_arg0)
      ∧ m' ((c.tc : Thread Cert.AdamwSmallRefIdeal.nD Cert.AdamwSmallRefIdeal.τ).loc Cert.AdamwSmallRefIdeal.main_arg1) = m ((c.tc : Thread Cert.AdamwSmallIdeal.nD Cert.AdamwSmallIdeal.τ).loc Cert.AdamwSmallIdeal.main_arg1)
      ∧ m' ((c.tc : Thread Cert.AdamwSmallRefIdeal.nD Cert.AdamwSmallRefIdeal.τ).loc Cert.AdamwSmallRefIdeal.main_arg2) = m ((c.tc : Thread Cert.AdamwSmallIdeal.nD Cert.AdamwSmallIdeal.τ).loc Cert.AdamwSmallIdeal.main_arg2)
      ∧ m' ((c.tc : Thread Cert.AdamwSmallRefIdeal.nD Cert.AdamwSmallRefIdeal.τ).loc Cert.AdamwSmallRefIdeal.main_arg3) = m ((c.tc : Thread Cert.AdamwSmallIdeal.nD Cert.AdamwSmallIdeal.τ).loc Cert.AdamwSmallIdeal.main_arg3)) →
    ∃ (v0 : (c : Dev Cert.AdamwSmallIdeal.nD) → Buf (Elt Ideal) ((c.tc : Thread Cert.AdamwSmallIdeal.nD Cert.AdamwSmallIdeal.τ).loc Cert.AdamwSmallIdeal.main_v0_0)) (v1 : (c : Dev Cert.AdamwSmallIdeal.nD) → Buf (Elt Ideal) ((c.tc : Thread Cert.AdamwSmallIdeal.nD Cert.AdamwSmallIdeal.τ).loc Cert.AdamwSmallIdeal.main_v0_1)) (v2 : (c : Dev Cert.AdamwSmallIdeal.nD) → Buf (Elt Ideal) ((c.tc : Thread Cert.AdamwSmallIdeal.nD Cert.AdamwSmallIdeal.τ).loc Cert.AdamwSmallIdeal.main_v0_2)) (v3 : (c : Dev Cert.AdamwSmallIdeal.nD) → Buf (Elt Ideal) ((c.tc : Thread Cert.AdamwSmallIdeal.nD Cert.AdamwSmallIdeal.τ).loc Cert.AdamwSmallIdeal.main_v0_3)),
      θ_run (Cert.AdamwSmallIdeal.defs (F := Ideal)) (onTc (τ := Cert.AdamwSmallIdeal.τ) (Cert.AdamwSmallIdeal.main (F := Ideal))) ⟨m, fun _ => 0, g⟩ (fun r => ∀ c : Dev Cert.AdamwSmallIdeal.nD,
          r.2.mem ((c.tc : Thread Cert.AdamwSmallIdeal.nD Cert.AdamwSmallIdeal.τ).loc Cert.AdamwSmallIdeal.main_v0_0) = v0 c
          ∧ r.2.mem ((c.tc : Thread Cert.AdamwSmallIdeal.nD Cert.AdamwSmallIdeal.τ).loc Cert.AdamwSmallIdeal.main_v0_1) = v1 c
          ∧ r.2.mem ((c.tc : Thread Cert.AdamwSmallIdeal.nD Cert.AdamwSmallIdeal.τ).loc Cert.AdamwSmallIdeal.main_v0_2) = v2 c
          ∧ r.2.mem ((c.tc : Thread Cert.AdamwSmallIdeal.nD Cert.AdamwSmallIdeal.τ).loc Cert.AdamwSmallIdeal.main_v0_3) = v3 c
          ∧ r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
          ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
          ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
          ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ θ_run (Cert.AdamwSmallRefIdeal.defs (F := Ideal)) (onTc (τ := Cert.AdamwSmallRefIdeal.τ) (Cert.AdamwSmallRefIdeal.main (F := Ideal))) ⟨m', fun _ => 0, g'⟩ (fun r => ∀ c : Dev Cert.AdamwSmallRefIdeal.nD,
          r.2.mem ((c.tc : Thread Cert.AdamwSmallRefIdeal.nD Cert.AdamwSmallRefIdeal.τ).loc Cert.AdamwSmallRefIdeal.main_arg3) = v0 c
          ∧ r.2.mem ((c.tc : Thread Cert.AdamwSmallRefIdeal.nD Cert.AdamwSmallRefIdeal.τ).loc Cert.AdamwSmallRefIdeal.main_v23) = v1 c
          ∧ r.2.mem ((c.tc : Thread Cert.AdamwSmallRefIdeal.nD Cert.AdamwSmallRefIdeal.τ).loc Cert.AdamwSmallRefIdeal.main_v4) = v2 c
          ∧ r.2.mem ((c.tc : Thread Cert.AdamwSmallRefIdeal.nD Cert.AdamwSmallRefIdeal.τ).loc Cert.AdamwSmallRefIdeal.main_v10) = v3 c
          ∧ r.2.mem ((c.tc : Thread Cert.AdamwSmallRefIdeal.nD Cert.AdamwSmallRefIdeal.τ).loc Cert.AdamwSmallRefIdeal.main_arg0) = m' ((c.tc : Thread Cert.AdamwSmallRefIdeal.nD Cert.AdamwSmallRefIdeal.τ).loc Cert.AdamwSmallRefIdeal.main_arg0)
          ∧ r.2.mem ((c.tc : Thread Cert.AdamwSmallRefIdeal.nD Cert.AdamwSmallRefIdeal.τ).loc Cert.AdamwSmallRefIdeal.main_arg1) = m' ((c.tc : Thread Cert.AdamwSmallRefIdeal.nD Cert.AdamwSmallRefIdeal.τ).loc Cert.AdamwSmallRefIdeal.main_arg1)
          ∧ r.2.mem ((c.tc : Thread Cert.AdamwSmallRefIdeal.nD Cert.AdamwSmallRefIdeal.τ).loc Cert.AdamwSmallRefIdeal.main_arg2) = m' ((c.tc : Thread Cert.AdamwSmallRefIdeal.nD Cert.AdamwSmallRefIdeal.τ).loc Cert.AdamwSmallRefIdeal.main_arg2)
          ∧ r.2.mem ((c.tc : Thread Cert.AdamwSmallRefIdeal.nD Cert.AdamwSmallRefIdeal.τ).loc Cert.AdamwSmallRefIdeal.main_arg3) = m' ((c.tc : Thread Cert.AdamwSmallRefIdeal.nD Cert.AdamwSmallRefIdeal.τ).loc Cert.AdamwSmallRefIdeal.main_arg3))

def Claim : Prop :=
  ∃ (hFox : Cert.Fox.Facts) (hFoxIdeal : Cert.FoxIdeal.Facts) (hFoxRefIdeal : Cert.FoxRefIdeal.Facts) (hInproj : Cert.Inproj.Facts) (hInprojIdeal : Cert.InprojIdeal.Facts) (hInprojRefIdeal : Cert.InprojRefIdeal.Facts) (hDwGate : Cert.DwGate.Facts) (hDwGateIdeal : Cert.DwGateIdeal.Facts) (hDwGateRefIdeal : Cert.DwGateRefIdeal.Facts) (hMerge : Cert.Merge.Facts) (hMergeIdeal : Cert.MergeIdeal.Facts) (hMergeRefIdeal : Cert.MergeRefIdeal.Facts) (hPost : Cert.Post.Facts) (hPostIdeal : Cert.PostIdeal.Facts) (hPostRefIdeal : Cert.PostRefIdeal.Facts) (hDwRwkv : Cert.DwRwkv.Facts) (hDwRwkvIdeal : Cert.DwRwkvIdeal.Facts) (hDwRwkvRefIdeal : Cert.DwRwkvRefIdeal.Facts) (hProjRwkv : Cert.ProjRwkv.Facts) (hProjRwkvIdeal : Cert.ProjRwkvIdeal.Facts) (hProjRwkvRefIdeal : Cert.ProjRwkvRefIdeal.Facts) (hProjGate : Cert.ProjGate.Facts) (hProjGateIdeal : Cert.ProjGateIdeal.Facts) (hProjGateRefIdeal : Cert.ProjGateRefIdeal.Facts) (hAdamwIn : Cert.AdamwIn.Facts) (hAdamwInIdeal : Cert.AdamwInIdeal.Facts) (hAdamwInRefIdeal : Cert.AdamwInRefIdeal.Facts) (hAdamwLora : Cert.AdamwLora.Facts) (hAdamwLoraIdeal : Cert.AdamwLoraIdeal.Facts) (hAdamwLoraRefIdeal : Cert.AdamwLoraRefIdeal.Facts) (hAdamwOutA : Cert.AdamwOutA.Facts) (hAdamwOutAIdeal : Cert.AdamwOutAIdeal.Facts) (hAdamwOutARefIdeal : Cert.AdamwOutARefIdeal.Facts) (hAdamwOut : Cert.AdamwOut.Facts) (hAdamwOutIdeal : Cert.AdamwOutIdeal.Facts) (hAdamwOutRefIdeal : Cert.AdamwOutRefIdeal.Facts) (hAdamwSmall : Cert.AdamwSmall.Facts) (hAdamwSmallIdeal : Cert.AdamwSmallIdeal.Facts) (hAdamwSmallRefIdeal : Cert.AdamwSmallRefIdeal.Facts) (hPre_finite : Cert.Pre_finite.Facts) (hPre_finite_post : Cert.Pre_finite_post.Facts),
    quiescent_Fox (hFox := hFox)
    ∧ quiescent_FoxIdeal (hFoxIdeal := hFoxIdeal)
    ∧ quiescent_FoxIdeal_pre_finite (hFoxIdeal := hFoxIdeal) (hPre_finite := hPre_finite)
    ∧ quiescent_FoxRefIdeal (hFoxRefIdeal := hFoxRefIdeal)
    ∧ quiescent_FoxRefIdeal_pre_finite (hFoxRefIdeal := hFoxRefIdeal) (hPre_finite := hPre_finite)
    ∧ quiescent_Inproj (hInproj := hInproj)
    ∧ quiescent_InprojIdeal (hInprojIdeal := hInprojIdeal)
    ∧ quiescent_InprojRefIdeal (hInprojRefIdeal := hInprojRefIdeal)
    ∧ quiescent_DwGate (hDwGate := hDwGate)
    ∧ quiescent_DwGateIdeal (hDwGateIdeal := hDwGateIdeal)
    ∧ quiescent_DwGateRefIdeal (hDwGateRefIdeal := hDwGateRefIdeal)
    ∧ quiescent_Merge (hMerge := hMerge)
    ∧ quiescent_MergeIdeal (hMergeIdeal := hMergeIdeal)
    ∧ quiescent_MergeRefIdeal (hMergeRefIdeal := hMergeRefIdeal)
    ∧ quiescent_Post (hPost := hPost)
    ∧ quiescent_PostIdeal (hPostIdeal := hPostIdeal)
    ∧ quiescent_PostIdeal_pre_finite_post (hPostIdeal := hPostIdeal) (hPre_finite_post := hPre_finite_post)
    ∧ quiescent_PostRefIdeal (hPostRefIdeal := hPostRefIdeal)
    ∧ quiescent_PostRefIdeal_pre_finite_post (hPostRefIdeal := hPostRefIdeal) (hPre_finite_post := hPre_finite_post)
    ∧ quiescent_DwRwkv (hDwRwkv := hDwRwkv)
    ∧ quiescent_DwRwkvIdeal (hDwRwkvIdeal := hDwRwkvIdeal)
    ∧ quiescent_DwRwkvRefIdeal (hDwRwkvRefIdeal := hDwRwkvRefIdeal)
    ∧ quiescent_ProjRwkv (hProjRwkv := hProjRwkv)
    ∧ quiescent_ProjRwkvIdeal (hProjRwkvIdeal := hProjRwkvIdeal)
    ∧ quiescent_ProjRwkvRefIdeal (hProjRwkvRefIdeal := hProjRwkvRefIdeal)
    ∧ quiescent_ProjGate (hProjGate := hProjGate)
    ∧ quiescent_ProjGateIdeal (hProjGateIdeal := hProjGateIdeal)
    ∧ quiescent_ProjGateRefIdeal (hProjGateRefIdeal := hProjGateRefIdeal)
    ∧ quiescent_AdamwIn (hAdamwIn := hAdamwIn)
    ∧ quiescent_AdamwInIdeal (hAdamwInIdeal := hAdamwInIdeal)
    ∧ quiescent_AdamwInRefIdeal (hAdamwInRefIdeal := hAdamwInRefIdeal)
    ∧ quiescent_AdamwLora (hAdamwLora := hAdamwLora)
    ∧ quiescent_AdamwLoraIdeal (hAdamwLoraIdeal := hAdamwLoraIdeal)
    ∧ quiescent_AdamwLoraRefIdeal (hAdamwLoraRefIdeal := hAdamwLoraRefIdeal)
    ∧ quiescent_AdamwOutA (hAdamwOutA := hAdamwOutA)
    ∧ quiescent_AdamwOutAIdeal (hAdamwOutAIdeal := hAdamwOutAIdeal)
    ∧ quiescent_AdamwOutARefIdeal (hAdamwOutARefIdeal := hAdamwOutARefIdeal)
    ∧ quiescent_AdamwOut (hAdamwOut := hAdamwOut)
    ∧ quiescent_AdamwOutIdeal (hAdamwOutIdeal := hAdamwOutIdeal)
    ∧ quiescent_AdamwOutRefIdeal (hAdamwOutRefIdeal := hAdamwOutRefIdeal)
    ∧ quiescent_AdamwSmall (hAdamwSmall := hAdamwSmall)
    ∧ quiescent_AdamwSmallIdeal (hAdamwSmallIdeal := hAdamwSmallIdeal)
    ∧ quiescent_AdamwSmallRefIdeal (hAdamwSmallRefIdeal := hAdamwSmallRefIdeal)
    ∧ preserves_Fox_FoxIdeal
    ∧ algebraic_FoxIdeal_FoxRefIdeal_pre_finite (hFoxIdeal := hFoxIdeal) (hFoxRefIdeal := hFoxRefIdeal) (hPre_finite := hPre_finite)
    ∧ preserves_Inproj_InprojIdeal
    ∧ algebraic_InprojIdeal_InprojRefIdeal (hInprojIdeal := hInprojIdeal) (hInprojRefIdeal := hInprojRefIdeal)
    ∧ preserves_DwGate_DwGateIdeal
    ∧ algebraic_DwGateIdeal_DwGateRefIdeal (hDwGateIdeal := hDwGateIdeal) (hDwGateRefIdeal := hDwGateRefIdeal)
    ∧ preserves_Merge_MergeIdeal
    ∧ algebraic_MergeIdeal_MergeRefIdeal (hMergeIdeal := hMergeIdeal) (hMergeRefIdeal := hMergeRefIdeal)
    ∧ preserves_Post_PostIdeal
    ∧ algebraic_PostIdeal_PostRefIdeal_pre_finite_post (hPostIdeal := hPostIdeal) (hPostRefIdeal := hPostRefIdeal) (hPre_finite_post := hPre_finite_post)
    ∧ preserves_DwRwkv_DwRwkvIdeal
    ∧ algebraic_DwRwkvIdeal_DwRwkvRefIdeal (hDwRwkvIdeal := hDwRwkvIdeal) (hDwRwkvRefIdeal := hDwRwkvRefIdeal)
    ∧ preserves_ProjRwkv_ProjRwkvIdeal
    ∧ algebraic_ProjRwkvIdeal_ProjRwkvRefIdeal (hProjRwkvIdeal := hProjRwkvIdeal) (hProjRwkvRefIdeal := hProjRwkvRefIdeal)
    ∧ preserves_ProjGate_ProjGateIdeal
    ∧ algebraic_ProjGateIdeal_ProjGateRefIdeal (hProjGateIdeal := hProjGateIdeal) (hProjGateRefIdeal := hProjGateRefIdeal)
    ∧ preserves_AdamwIn_AdamwInIdeal
    ∧ algebraic_AdamwInIdeal_AdamwInRefIdeal (hAdamwInIdeal := hAdamwInIdeal) (hAdamwInRefIdeal := hAdamwInRefIdeal)
    ∧ preserves_AdamwLora_AdamwLoraIdeal
    ∧ algebraic_AdamwLoraIdeal_AdamwLoraRefIdeal (hAdamwLoraIdeal := hAdamwLoraIdeal) (hAdamwLoraRefIdeal := hAdamwLoraRefIdeal)
    ∧ preserves_AdamwOutA_AdamwOutAIdeal
    ∧ algebraic_AdamwOutAIdeal_AdamwOutARefIdeal (hAdamwOutAIdeal := hAdamwOutAIdeal) (hAdamwOutARefIdeal := hAdamwOutARefIdeal)
    ∧ preserves_AdamwOut_AdamwOutIdeal
    ∧ algebraic_AdamwOutIdeal_AdamwOutRefIdeal (hAdamwOutIdeal := hAdamwOutIdeal) (hAdamwOutRefIdeal := hAdamwOutRefIdeal)
    ∧ preserves_AdamwSmall_AdamwSmallIdeal
    ∧ algebraic_AdamwSmallIdeal_AdamwSmallRefIdeal (hAdamwSmallIdeal := hAdamwSmallIdeal) (hAdamwSmallRefIdeal := hAdamwSmallRefIdeal)
-- ==== Pre_finite.lean ====
abbrev S2048x1024 : Shape := ⟨2, ![2048, 1024]⟩
abbrev S1024x2056 : Shape := ⟨2, ![1024, 2056]⟩
abbrev S1x8 : Shape := ⟨2, ![1, 8]⟩
abbrev S1x64 : Shape := ⟨2, ![1, 64]⟩
abbrev S2048x512 : Shape := ⟨2, ![2048, 512]⟩
abbrev S8x2048 : Shape := ⟨2, ![8, 2048]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x2056 : S_.BroadcastsInDim S1024x2056 (![] : Fin 0 → Fin S1024x2056.rank)
  reducesTo_S1024x2056_S_d0_1 : S1024x2056.ReducesTo [0, 1] S_
  bcast_S_S1x64 : S_.BroadcastsInDim S1x64 (![] : Fin 0 → Fin S1x64.rank)
  reducesTo_S1x64_S_d0_1 : S1x64.ReducesTo [0, 1] S_
  bcast_S_S2048x512 : S_.BroadcastsInDim S2048x512 (![] : Fin 0 → Fin S2048x512.rank)
  reducesTo_S2048x512_S_d0_1 : S2048x512.ReducesTo [0, 1] S_
  bcast_S_S8x2048 : S_.BroadcastsInDim S8x2048 (![] : Fin 0 → Fin S8x2048.rank)
  reducesTo_S8x2048_S_d0_1 : S8x2048.ReducesTo [0, 1] S_

variable [Facts]

def fn_part2 {F : FTy → Type} [FloatOps F] (main_v30 : IVec S_ 1) (main_v33 : IVec S8x2048 1) (main_c_11 : IVec S_ 1) : IVec S_ 1 :=
  let main_v34 : IVec S_ 1 := (fun x v => Host.reduce IntOp.andi x v reducesTo_S8x2048_S_d0_1 h_S_) main_v33 main_c_11
  let main_v35 : IVec S_ 1 := andi main_v30 main_v34
  main_v35

def fn_part1 {F : FTy → Type} [FloatOps F] (main_arg5 : FVec F S2048x512 .f32) (main_arg6 : FVec F S2048x512 .f32) (main_arg9 : FVec F S8x2048 .f32) (main_v15 : IVec S_ 1) (main_v16 : FVec F S1x64 .f32) (main_cst_4 : FVec F S_ .f32) : IVec S_ 1 :=
  let main_v17 : FVec F S1x64 .f32 := broadcastInDim S1x64 ![] bcast_S_S1x64 main_cst_4
  let main_v18 : IVec S1x64 1 := cmpf .olt main_v16 main_v17
  let main_c_5 : IVec S_ 1 := constantI S_ 1 1#1
  let main_v19 : IVec S_ 1 := (fun x v => Host.reduce IntOp.andi x v reducesTo_S1x64_S_d0_1 h_S_) main_v18 main_c_5
  let main_v20 : IVec S_ 1 := andi main_v15 main_v19
  let main_v21 : FVec F S2048x512 .f32 := Host.absf main_arg5
  let main_cst_6 : FVec F S_ .f32 := constant S_ .f32 0x7F800000#32
  let main_v22 : FVec F S2048x512 .f32 := broadcastInDim S2048x512 ![] bcast_S_S2048x512 main_cst_6
  let main_v23 : IVec S2048x512 1 := cmpf .olt main_v21 main_v22
  let main_c_7 : IVec S_ 1 := constantI S_ 1 1#1
  let main_v24 : IVec S_ 1 := (fun x v => Host.reduce IntOp.andi x v reducesTo_S2048x512_S_d0_1 h_S_) main_v23 main_c_7
  let main_v25 : IVec S_ 1 := andi main_v20 main_v24
  let main_v26 : FVec F S2048x512 .f32 := Host.absf main_arg6
  let main_cst_8 : FVec F S_ .f32 := constant S_ .f32 0x7F800000#32
  let main_v27 : FVec F S2048x512 .f32 := broadcastInDim S2048x512 ![] bcast_S_S2048x512 main_cst_8
  let main_v28 : IVec S2048x512 1 := cmpf .olt main_v26 main_v27
  let main_c_9 : IVec S_ 1 := constantI S_ 1 1#1
  let main_v29 : IVec S_ 1 := (fun x v => Host.reduce IntOp.andi x v reducesTo_S2048x512_S_d0_1 h_S_) main_v28 main_c_9
  let main_v30 : IVec S_ 1 := andi main_v25 main_v29
  let main_v31 : FVec F S8x2048 .f32 := Host.absf main_arg9
  let main_cst_10 : FVec F S_ .f32 := constant S_ .f32 0x7F800000#32
  let main_v32 : FVec F S8x2048 .f32 := broadcastInDim S8x2048 ![] bcast_S_S8x2048 main_cst_10
  let main_v33 : IVec S8x2048 1 := cmpf .olt main_v31 main_v32
  let main_c_11 : IVec S_ 1 := constantI S_ 1 1#1
  fn_part2 (F := F) main_v30 main_v33 main_c_11

def fn {F : FTy → Type} [FloatOps F] (main_arg0 : FVec F S2048x1024 .bf16) (main_arg1 : FVec F S1024x2056 .bf16) (main_arg2 : FVec F S1x8 .f32) (main_arg3 : FVec F S1x64 .f32) (main_arg4 : FVec F S1x64 .f32) (main_arg5 : FVec F S2048x512 .f32) (main_arg6 : FVec F S2048x512 .f32) (main_arg7 : FVec F S2048x512 .f32) (main_arg8 : FVec F S2048x512 .f32) (main_arg9 : FVec F S8x2048 .f32) : IVec S_ 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_c : IVec S_ 1 := constantI S_ 1 1#1
  let main_v4 : IVec S_ 1 := (fun x v => Host.reduce IntOp.andi x v reducesTo_S2048x1024_S_d0_1 h_S_) main_v3 main_c
  let main_v5 : FVec F S1024x2056 .f32 := (extf .f32 · bitsLt_bf16_f32) main_arg1
  let main_v6 : FVec F S1024x2056 .f32 := Host.absf main_v5
  let main_cst_0 : FVec F S_ .f32 := constant S_ .f32 0x7F800000#32
  let main_v7 : FVec F S1024x2056 .f32 := broadcastInDim S1024x2056 ![] bcast_S_S1024x2056 main_cst_0
  let main_v8 : IVec S1024x2056 1 := cmpf .olt main_v6 main_v7
  let main_c_1 : IVec S_ 1 := constantI S_ 1 1#1
  let main_v9 : IVec S_ 1 := (fun x v => Host.reduce IntOp.andi x v reducesTo_S1024x2056_S_d0_1 h_S_) main_v8 main_c_1
  let main_v10 : IVec S_ 1 := andi main_v4 main_v9
  let main_v11 : FVec F S1x64 .f32 := Host.absf main_arg3
  let main_cst_2 : FVec F S_ .f32 := constant S_ .f32 0x7F800000#32
  let main_v12 : FVec F S1x64 .f32 := broadcastInDim S1x64 ![] bcast_S_S1x64 main_cst_2
  let main_v13 : IVec S1x64 1 := cmpf .olt main_v11 main_v12
  let main_c_3 : IVec S_ 1 := constantI S_ 1 1#1
  let main_v14 : IVec S_ 1 := (fun x v => Host.reduce IntOp.andi x v reducesTo_S1x64_S_d0_1 h_S_) main_v13 main_c_3
  let main_v15 : IVec S_ 1 := andi main_v10 main_v14
  let main_v16 : FVec F S1x64 .f32 := Host.absf main_arg4
  let main_cst_4 : FVec F S_ .f32 := constant S_ .f32 0x7F800000#32
  fn_part1 (F := F) main_arg5 main_arg6 main_arg9 main_v15 main_v16 main_cst_4
-- ==== Pre_finite_post.lean ====
abbrev S2048x512 : Shape := ⟨2, ![2048, 512]⟩
abbrev S1x512 : Shape := ⟨2, ![1, 512]⟩
abbrev S8x64 : Shape := ⟨2, ![8, 64]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S1x512 : S_.BroadcastsInDim S1x512 (![] : Fin 0 → Fin S1x512.rank)
  reducesTo_S1x512_S_d0_1 : S1x512.ReducesTo [0, 1] S_
  bcast_S_S8x64 : S_.BroadcastsInDim S8x64 (![] : Fin 0 → Fin S8x64.rank)
  reducesTo_S8x64_S_d0_1 : S8x64.ReducesTo [0, 1] S_

variable [Facts]

def fn_part2 {F : FTy → Type} [FloatOps F] (main_arg7 : FVec F S1x512 .f32) (main_arg8 : FVec F S8x64 .f32) (main_v33 : IVec S_ 1) : IVec S_ 1 :=
  let main_v34 : FVec F S1x512 .f32 := Host.absf main_arg7
  let main_cst_12 : FVec F S_ .f32 := constant S_ .f32 0x7F800000#32
  let main_v35 : FVec F S1x512 .f32 := broadcastInDim S1x512 ![] bcast_S_S1x512 main_cst_12
  let main_v36 : IVec S1x512 1 := cmpf .olt main_v34 main_v35
  let main_c_13 : IVec S_ 1 := constantI S_ 1 1#1
  let main_v37 : IVec S_ 1 := (fun x v => Host.reduce IntOp.andi x v reducesTo_S1x512_S_d0_1 h_S_) main_v36 main_c_13
  let main_v38 : IVec S_ 1 := andi main_v33 main_v37
  let main_v39 : FVec F S8x64 .f32 := Host.absf main_arg8
  let main_cst_14 : FVec F S_ .f32 := constant S_ .f32 0x7F800000#32
  let main_v40 : FVec F S8x64 .f32 := broadcastInDim S8x64 ![] bcast_S_S8x64 main_cst_14
  let main_v41 : IVec S8x64 1 := cmpf .olt main_v39 main_v40
  let main_c_15 : IVec S_ 1 := constantI S_ 1 1#1
  let main_v42 : IVec S_ 1 := (fun x v => Host.reduce IntOp.andi x v reducesTo_S8x64_S_d0_1 h_S_) main_v41 main_c_15
  let main_v43 : IVec S_ 1 := andi main_v38 main_v42
  main_v43

def fn_part1 {F : FTy → Type} [FloatOps F] (main_arg4 : FVec F S2048x512 .f32) (main_arg5 : FVec F S2048x512 .f32) (main_arg6 : FVec F S1x512 .f32) (main_arg7 : FVec F S1x512 .f32) (main_arg8 : FVec F S8x64 .f32) (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  let main_v19 : FVec F S2048x512 .f32 := Host.absf main_arg4
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S2048x512 .f32 := Host.absf main_arg5
  let main_cst_8 : FVec F S_ .f32 := constant S_ .f32 0x7F800000#32
  let main_v25 : FVec F S2048x512 .f32 := broadcastInDim S2048x512 ![] bcast_S_S2048x512 main_cst_8
  let main_v26 : IVec S2048x512 1 := cmpf .olt main_v24 main_v25
  let main_c_9 : IVec S_ 1 := constantI S_ 1 1#1
  let main_v27 : IVec S_ 1 := (fun x v => Host.reduce IntOp.andi x v reducesTo_S2048x512_S_d0_1 h_S_) main_v26 main_c_9
  let main_v28 : IVec S_ 1 := andi main_v23 main_v27
  let main_v29 : FVec F S1x512 .f32 := Host.absf main_arg6
  let main_cst_10 : FVec F S_ .f32 := constant S_ .f32 0x7F800000#32
  let main_v30 : FVec F S1x512 .f32 := broadcastInDim S1x512 ![] bcast_S_S1x512 main_cst_10
  let main_v31 : IVec S1x512 1 := cmpf .olt main_v29 main_v30
  let main_c_11 : IVec S_ 1 := constantI S_ 1 1#1
  let main_v32 : IVec S_ 1 := (fun x v => Host.reduce IntOp.andi x v reducesTo_S1x512_S_d0_1 h_S_) main_v31 main_c_11
  let main_v33 : IVec S_ 1 := andi main_v28 main_v32
  fn_part2 (F := F) main_arg7 main_arg8 main_v33

def fn {F : FTy → Type} [FloatOps F] (main_arg0 : FVec F S2048x512 .f32) (main_arg1 : FVec F S2048x512 .f32) (main_arg2 : FVec F S2048x512 .f32) (main_arg3 : FVec F S2048x512 .f32) (main_arg4 : FVec F S2048x512 .f32) (main_arg5 : FVec F S2048x512 .f32) (main_arg6 : FVec F S1x512 .f32) (main_arg7 : FVec F S1x512 .f32) (main_arg8 : FVec F S8x64 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S2048x512 .f32 := Host.absf main_arg3
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_arg4 main_arg5 main_arg6 main_arg7 main_arg8 main_v13 main_v16
-- ==== Fox.lean ====
abbrev S2048x1024 : Shape := ⟨2, ![2048, 1024]⟩
abbrev S1024x2056 : Shape := ⟨2, ![1024, 2056]⟩
abbrev S1x8 : Shape := ⟨2, ![1, 8]⟩
abbrev S1x64 : Shape := ⟨2, ![1, 64]⟩
abbrev S2048x512 : Shape := ⟨2, ![2048, 512]⟩
abbrev S8x2048 : Shape := ⟨2, ![8, 2048]⟩
abbrev S_ : Shape := ⟨0, ![]⟩
abbrev S1024x120 : Shape := ⟨2, ![1024, 120]⟩
abbrev S1024x2176 : Shape := ⟨2, ![1024, 2176]⟩
abbrev S1x128 : Shape := ⟨2, ![1, 128]⟩
abbrev S1x1x1x64 : Shape := ⟨4, ![1, 1, 1, 64]⟩
abbrev S1x1x8x64 : Shape := ⟨4, ![1, 1, 8, 64]⟩
abbrev S1x512 : Shape := ⟨2, ![1, 512]⟩
abbrev S2048x2176 : Shape := ⟨2, ![2048, 2176]⟩
abbrev S2048x8 : Shape := ⟨2, ![2048, 8]⟩
abbrev S2048x128 : Shape := ⟨2, ![2048, 128]⟩
abbrev S1024x2048 : Shape := ⟨2, ![1024, 2048]⟩
abbrev S256x2176 : Shape := ⟨2, ![256, 2176]⟩
abbrev S1024x256 : Shape := ⟨2, ![1024, 256]⟩
abbrev S256x512 : Shape := ⟨2, ![256, 512]⟩
abbrev S256x128 : Shape := ⟨2, ![256, 128]⟩
abbrev S128x128 : Shape := ⟨2, ![128, 128]⟩
abbrev S512 : Shape := ⟨1, ![512]⟩
abbrev S256x256 : Shape := ⟨2, ![256, 256]⟩
abbrev S128 : Shape := ⟨1, ![128]⟩

abbrev nBuf : Space → Nat
  | .hbm => 33
  | .vmem => 24
  | .smem => 0
  | _ => 0

abbrev bufTy : (tb : Table) → Fin (tcTables nBuf tb) → BufTy
  | .hbm, ⟨0, _⟩ => ⟨S2048x1024, .bf16⟩
  | .hbm, ⟨1, _⟩ => ⟨S1024x2056, .bf16⟩
  | .hbm, ⟨2, _⟩ => ⟨S1x8, .f32⟩
  | .hbm, ⟨3, _⟩ => ⟨S1x64, .f32⟩
  | .hbm, ⟨4, _⟩ => ⟨S1x64, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S8x2048, .f32⟩
  | .hbm, ⟨10, _⟩ => ⟨S_, .bf16⟩
  | .hbm, ⟨11, _⟩ => ⟨S1024x120, .bf16⟩
  | .hbm, ⟨12, _⟩ => ⟨S1024x2176, .bf16⟩
  | .hbm, ⟨13, _⟩ => ⟨S_, .i32⟩
  | .hbm, ⟨14, _⟩ => ⟨S_, .f32⟩
  | .hbm, ⟨15, _⟩ => ⟨S1x128, .f32⟩
  | .hbm, ⟨16, _⟩ => ⟨S1x1x1x64, .f32⟩
  | .hbm, ⟨17, _⟩ => ⟨S1x1x8x64, .f32⟩
  | .hbm, ⟨18, _⟩ => ⟨S1x512, .f32⟩
  | .hbm, ⟨19, _⟩ => ⟨S1x1x1x64, .f32⟩
  | .hbm, ⟨20, _⟩ => ⟨S1x1x8x64, .f32⟩
  | .hbm, ⟨21, _⟩ => ⟨S1x512, .f32⟩
  | .hbm, ⟨22, _⟩ => ⟨S2048x2176, .f32⟩
  | .hbm, ⟨23, _⟩ => ⟨S2048x8, .f32⟩
  | .hbm, ⟨24, _⟩ => ⟨S_, .i32⟩
  | .hbm, ⟨25, _⟩ => ⟨S_, .f32⟩
  | .hbm, ⟨26, _⟩ => ⟨S2048x128, .f32⟩
  | .hbm, ⟨27, _⟩ => ⟨S1024x2048, .bf16⟩
  | .hbm, ⟨28, _⟩ => ⟨S2048x2176, .f32⟩
  | .hbm, ⟨29, _⟩ => ⟨S1024x2176, .f32⟩
  | .hbm, ⟨30, _⟩ => ⟨S1x512, .f32⟩
  | .hbm, ⟨31, _⟩ => ⟨S1x512, .f32⟩
  | .hbm, ⟨32, _⟩ => ⟨S1x128, .f32⟩
  | .local _ .vmem, ⟨0, _⟩ => ⟨S256x2176, .f32⟩
  | .local _ .vmem, ⟨1, _⟩ => ⟨S256x2176, .f32⟩
  | .local _ .vmem, ⟨2, _⟩ => ⟨S1024x256, .bf16⟩
  | .local _ .vmem, ⟨3, _⟩ => ⟨S1024x256, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x128, .f32⟩
  | .local _ .vmem, ⟨13, _⟩ => ⟨S256x128, .f32⟩
  | .local _ .vmem, ⟨14, _⟩ => ⟨S1x128, .f32⟩
  | .local _ .vmem, ⟨15, _⟩ => ⟨S1x512, .f32⟩
  | .local _ .vmem, ⟨16, _⟩ => ⟨S1x512, .f32⟩
  | .local _ .vmem, ⟨17, _⟩ => ⟨S256x2176, .f32⟩
  | .local _ .vmem, ⟨18, _⟩ => ⟨S256x2176, .f32⟩
  | .local _ .vmem, ⟨19, _⟩ => ⟨S1024x2176, .f32⟩
  | .local _ .vmem, ⟨20, _⟩ => ⟨S1x512, .f32⟩
  | .local _ .vmem, ⟨21, _⟩ => ⟨S1x512, .f32⟩
  | .local _ .vmem, ⟨22, _⟩ => ⟨S1x128, .f32⟩
  | .local _ .vmem, ⟨23, _⟩ => ⟨S1x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_call1_v0 : Ref sig .tc := ⟨.hbm, 25, rfl⟩
abbrev main_v11 : Ref sig .tc := ⟨.hbm, 26, rfl⟩
abbrev main_v12 : Ref sig .tc := ⟨.hbm, 27, rfl⟩
abbrev main_v13_0 : Ref sig .tc := ⟨.hbm, 28, rfl⟩
abbrev main_v13_1 : Ref sig .tc := ⟨.hbm, 29, rfl⟩
abbrev main_v13_2 : Ref sig .tc := ⟨.hbm, 30, rfl⟩
abbrev main_v13_3 : Ref sig .tc := ⟨.hbm, 31, rfl⟩
abbrev main_v13_4 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21
abbrev cc0_sem14_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2176 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2176 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x2176 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== FoxRefIdeal.lean ====
abbrev S2048x1024 : Shape := ⟨2, ![2048, 1024]⟩
abbrev S1024x2056 : Shape := ⟨2, ![1024, 2056]⟩
abbrev S1x8 : Shape := ⟨2, ![1, 8]⟩
abbrev S1x64 : Shape := ⟨2, ![1, 64]⟩
abbrev S2048x512 : Shape := ⟨2, ![2048, 512]⟩
abbrev S8x2048 : Shape := ⟨2, ![8, 2048]⟩
abbrev S8x64 : Shape := ⟨2, ![8, 64]⟩
abbrev S_ : Shape := ⟨0, ![]⟩
abbrev S2048x2056 : Shape := ⟨2, ![2048, 2056]⟩
abbrev S2048x8 : Shape := ⟨2, ![2048, 8]⟩
abbrev S2048x8x64 : Shape := ⟨3, ![2048, 8, 64]⟩
abbrev S2048x8x1 : Shape := ⟨3, ![2048, 8, 1]⟩
abbrev S1x8x64 : Shape := ⟨3, ![1, 8, 64]⟩
abbrev S8 : Shape := ⟨1, ![8]⟩
abbrev S2056x1024 : Shape := ⟨2, ![2056, 1024]⟩
abbrev S2048x2176 : Shape := ⟨2, ![2048, 2176]⟩
abbrev S1024x2176 : Shape := ⟨2, ![1024, 2176]⟩
abbrev S1x512 : Shape := ⟨2, ![1, 512]⟩
abbrev S1x128 : Shape := ⟨2, ![1, 128]⟩

abbrev nBuf : Space → Nat
  | .hbm => 199
  | .vmem => 0
  | .smem => 0
  | _ => 0

abbrev hbmTy0_0 (i : Nat) : BufTy := match i % 128 with
  | 0 => ⟨S2048x1024, .bf16⟩
  | 1 => ⟨S1024x2056, .bf16⟩
  | 2 => ⟨S1x8, .f32⟩
  | 3 => ⟨S1x64, .f32⟩
  | 4 => ⟨S1x64, .f32⟩
  | 5 => ⟨S2048x512, .f32⟩
  | 6 => ⟨S2048x512, .f32⟩
  | 7 => ⟨S2048x512, .f32⟩
  | 8 => ⟨S2048x512, .f32⟩
  | 9 => ⟨S8x2048, .f32⟩
  | 10 => ⟨S8x64, .f32⟩
  | 11 => ⟨S8x64, .f32⟩
  | 12 => ⟨S_, .f32⟩
  | 13 => ⟨S2048x2056, .f32⟩
  | 14 => ⟨S1024x2056, .f32⟩
  | 15 => ⟨S2048x1024, .f32⟩
  | 16 => ⟨S2048x2056, .f32⟩
  | 17 => ⟨S2048x2056, .f32⟩
  | 18 => ⟨S2048x512, .f32⟩
  | 19 => ⟨S2048x512, .f32⟩
  | 20 => ⟨S2048x512, .f32⟩
  | 21 => ⟨S2048x512, .f32⟩
  | 22 => ⟨S2048x8, .f32⟩
  | 23 => ⟨S2048x8x64, .f32⟩
  | 24 => ⟨S2048x8x64, .f32⟩
  | 25 => ⟨S_, .f32⟩
  | 26 => ⟨S2048x8, .f32⟩
  | 27 => ⟨S2048x8x1, .f32⟩
  | 28 => ⟨S_, .f32⟩
  | 29 => ⟨S2048x8x1, .f32⟩
  | 30 => ⟨S2048x8x1, .f32⟩
  | 31 => ⟨S_, .f32⟩
  | 32 => ⟨S2048x8x1, .f32⟩
  | 33 => ⟨S2048x8x1, .f32⟩
  | 34 => ⟨S2048x8x1, .f32⟩
  | 35 => ⟨S2048x8x1, .f32⟩
  | 36 => ⟨S_, .f32⟩
  | 37 => ⟨S2048x8x1, .f32⟩
  | 38 => ⟨S2048x8x1, .f32⟩
  | 39 => ⟨S2048x8x64, .f32⟩
  | 40 => ⟨S2048x8x64, .f32⟩
  | 41 => ⟨S1x8x64, .f32⟩
  | 42 => ⟨S2048x8x64, .f32⟩
  | 43 => ⟨S2048x8x64, .f32⟩
  | 44 => ⟨S2048x8x64, .f32⟩
  | 45 => ⟨S2048x8x64, .f32⟩
  | 46 => ⟨S_, .f32⟩
  | 47 => ⟨S2048x8, .f32⟩
  | 48 => ⟨S2048x8x1, .f32⟩
  | 49 => ⟨S_, .f32⟩
  | 50 => ⟨S2048x8x1, .f32⟩
  | 51 => ⟨S2048x8x1, .f32⟩
  | 52 => ⟨S_, .f32⟩
  | 53 => ⟨S2048x8x1, .f32⟩
  | 54 => ⟨S2048x8x1, .f32⟩
  | 55 => ⟨S2048x8x1, .f32⟩
  | 56 => ⟨S2048x8x1, .f32⟩
  | 57 => ⟨S_, .f32⟩
  | 58 => ⟨S2048x8x1, .f32⟩
  | 59 => ⟨S2048x8x1, .f32⟩
  | 60 => ⟨S2048x8x64, .f32⟩
  | 61 => ⟨S2048x8x64, .f32⟩
  | 62 => ⟨S1x8x64, .f32⟩
  | 63 => ⟨S2048x8x64, .f32⟩
  | 64 => ⟨S2048x8x64, .f32⟩
  | 65 => ⟨S2048x8, .f32⟩
  | 66 => ⟨S2048x8, .f32⟩
  | 67 => ⟨S2048x8, .f32⟩
  | 68 => ⟨S_, .f32⟩
  | 69 => ⟨S2048x8, .f32⟩
  | 70 => ⟨S2048x8, .f32⟩
  | 71 => ⟨S2048x8, .f32⟩
  | 72 => ⟨S2048x8, .f32⟩
  | 73 => ⟨S2048x8, .i1⟩
  | 74 => ⟨S2048x8, .f32⟩
  | 75 => ⟨S2048x8, .f32⟩
  | 76 => ⟨S2048x8, .f32⟩
  | 77 => ⟨S2048x8, .f32⟩
  | 78 => ⟨S2048x8, .f32⟩
  | 79 => ⟨S2048x8, .f32⟩
  | 80 => ⟨S2048x8, .f32⟩
  | 81 => ⟨S2048x8, .f32⟩
  | 82 => ⟨S_, .f32⟩
  | 83 => ⟨S2048x8, .f32⟩
  | 84 => ⟨S2048x8, .i1⟩
  | 85 => ⟨S_, .f32⟩
  | 86 => ⟨S2048x8, .f32⟩
  | 87 => ⟨S2048x8, .f32⟩
  | 88 => ⟨S_, .f32⟩
  | 89 => ⟨S2048x8, .f32⟩
  | 90 => ⟨S2048x8, .i1⟩
  | 91 => ⟨S_, .f32⟩
  | 92 => ⟨S2048x8, .f32⟩
  | 93 => ⟨S2048x8, .f32⟩
  | 94 => ⟨S2048x8, .f32⟩
  | 95 => ⟨S2048x8, .f32⟩
  | 96 => ⟨S_, .f32⟩
  | 97 => ⟨S_, .f32⟩
  | 98 => ⟨S_, .i1⟩
  | 99 => ⟨S_, .f32⟩
  | 100 => ⟨S_, .f32⟩
  | 101 => ⟨S_, .f32⟩
  | 102 => ⟨S_, .f32⟩
  | 103 => ⟨S2048x8, .f32⟩
  | 104 => ⟨S2048x8, .i1⟩
  | 105 => ⟨S_, .f32⟩
  | 106 => ⟨S2048x8, .f32⟩
  | 107 => ⟨S2048x8, .f32⟩
  | 108 => ⟨S2048x8, .f32⟩
  | 109 => ⟨S2048x8, .f32⟩
  | 110 => ⟨S2048x8, .f32⟩
  | 111 => ⟨S_, .f32⟩
  | 112 => ⟨S2048x8, .f32⟩
  | 113 => ⟨S2048x8, .f32⟩
  | 114 => ⟨S2048x8, .f32⟩
  | 115 => ⟨S_, .f32⟩
  | 116 => ⟨S_, .f32⟩
  | 117 => ⟨S2048x8, .f32⟩
  | 118 => ⟨S8x2048, .f32⟩
  | 119 => ⟨S2048x512, .f32⟩
  | 120 => ⟨S2048x512, .f32⟩
  | 121 => ⟨S2048x8x64, .f32⟩
  | 122 => ⟨S2048x8x64, .f32⟩
  | 123 => ⟨S2048x8, .f32⟩
  | 124 => ⟨S_, .f32⟩
  | 125 => ⟨S_, .f32⟩
  | 126 => ⟨S2048x8, .f32⟩
  | 127 => ⟨S2048x8, .f32⟩
  | _ => ⟨S2048x1024, .bf16⟩

abbrev hbmTy0_1 (i : Nat) : BufTy := match i % 128 with
  | 0 => ⟨S2048x8, .f32⟩
  | 1 => ⟨S2048x8, .f32⟩
  | 2 => ⟨S_, .f32⟩
  | 3 => ⟨S8, .f32⟩
  | 4 => ⟨S1x8, .f32⟩
  | 5 => ⟨S2048x8x64, .f32⟩
  | 6 => ⟨S_, .f32⟩
  | 7 => ⟨S8x64, .f32⟩
  | 8 => ⟨S1x8x64, .f32⟩
  | 9 => ⟨S2048x8x64, .f32⟩
  | 10 => ⟨S2048x8x64, .f32⟩
  | 11 => ⟨S_, .f32⟩
  | 12 => ⟨S8x64, .f32⟩
  | 13 => ⟨S2048x8x64, .f32⟩
  | 14 => ⟨S_, .f32⟩
  | 15 => ⟨S2048x8, .f32⟩
  | 16 => ⟨S2048x8x1, .f32⟩
  | 17 => ⟨S2048x8x64, .f32⟩
  | 18 => ⟨S2048x8x64, .f32⟩
  | 19 => ⟨S2048x8x1, .f32⟩
  | 20 => ⟨S_, .f32⟩
  | 21 => ⟨S2048x8x1, .f32⟩
  | 22 => ⟨S2048x8x1, .f32⟩
  | 23 => ⟨S_, .f32⟩
  | 24 => ⟨S2048x8, .f32⟩
  | 25 => ⟨S2048x8x64, .f32⟩
  | 26 => ⟨S2048x8x64, .f32⟩
  | 27 => ⟨S2048x8x64, .f32⟩
  | 28 => ⟨S2048x8x64, .f32⟩
  | 29 => ⟨S2048x8x64, .f32⟩
  | 30 => ⟨S2048x512, .f32⟩
  | 31 => ⟨S2048x8x64, .f32⟩
  | 32 => ⟨S_, .f32⟩
  | 33 => ⟨S8x64, .f32⟩
  | 34 => ⟨S1x8x64, .f32⟩
  | 35 => ⟨S2048x8x64, .f32⟩
  | 36 => ⟨S2048x8x64, .f32⟩
  | 37 => ⟨S_, .f32⟩
  | 38 => ⟨S8x64, .f32⟩
  | 39 => ⟨S2048x8x64, .f32⟩
  | 40 => ⟨S_, .f32⟩
  | 41 => ⟨S2048x8, .f32⟩
  | 42 => ⟨S2048x8x1, .f32⟩
  | 43 => ⟨S2048x8x64, .f32⟩
  | 44 => ⟨S2048x8x64, .f32⟩
  | 45 => ⟨S2048x8x1, .f32⟩
  | 46 => ⟨S_, .f32⟩
  | 47 => ⟨S2048x8x1, .f32⟩
  | 48 => ⟨S2048x8x1, .f32⟩
  | 49 => ⟨S_, .f32⟩
  | 50 => ⟨S2048x8, .f32⟩
  | 51 => ⟨S2048x8x64, .f32⟩
  | 52 => ⟨S2048x8x64, .f32⟩
  | 53 => ⟨S2048x8x64, .f32⟩
  | 54 => ⟨S2048x8x64, .f32⟩
  | 55 => ⟨S2048x8x64, .f32⟩
  | 56 => ⟨S2048x512, .f32⟩
  | 57 => ⟨S2048x2056, .f32⟩
  | 58 => ⟨S2056x1024, .f32⟩
  | 59 => ⟨S1024x2056, .f32⟩
  | 60 => ⟨S_, .i32⟩
  | 61 => ⟨S_, .f32⟩
  | 62 => ⟨S2048x2176, .f32⟩
  | 63 => ⟨S_, .i32⟩
  | 64 => ⟨S_, .f32⟩
  | 65 => ⟨S1024x2176, .f32⟩
  | 66 => ⟨S1x512, .f32⟩
  | 67 => ⟨S1x512, .f32⟩
  | 68 => ⟨S_, .i32⟩
  | 69 => ⟨S_, .f32⟩
  | 70 => ⟨S1x128, .f32⟩
  | _ => ⟨S2048x1024, .bf16⟩

abbrev hbmTy (i : Nat) : BufTy := match i / 128 with
  | 0 => hbmTy0_0 i
  | 1 => hbmTy0_1 i
  | _ => ⟨S2048x1024, .bf16⟩

abbrev bufTy : (tb : Table) → Fin (tcTables nBuf tb) → BufTy
  | .hbm, ⟨i, _⟩ => hbmTy i
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_v0 : Ref sig .tc := ⟨.hbm, 67, rfl⟩
abbrev main_call0_call0_cst : Ref sig .tc := ⟨.hbm, 68, rfl⟩
abbrev main_call0_call0_v0 : Ref sig .tc := ⟨.hbm, 69, rfl⟩
abbrev main_call0_call0_v1 : Ref sig .tc := ⟨.hbm, 70, rfl⟩
abbrev main_call0_call0_v2 : Ref sig .tc := ⟨.hbm, 71, rfl⟩
abbrev main_call0_call0_v3 : Ref sig .tc := ⟨.hbm, 72, rfl⟩
abbrev main_call0_call0_v4 : Ref sig .tc := ⟨.hbm, 73, rfl⟩
abbrev main_call0_call0_v5 : Ref sig .tc := ⟨.hbm, 74, rfl⟩
abbrev main_call0_call0_v6 : Ref sig .tc := ⟨.hbm, 75, rfl⟩
abbrev main_call0_call0_v7 : Ref sig .tc := ⟨.hbm, 76, rfl⟩
abbrev main_call0_call0_v8 : Ref sig .tc := ⟨.hbm, 77, rfl⟩
abbrev main_call0_call0_v9 : Ref sig .tc := ⟨.hbm, 78, rfl⟩
abbrev main_call0_call0_v10 : Ref sig .tc := ⟨.hbm, 79, rfl⟩
abbrev main_call0_call0_v11 : Ref sig .tc := ⟨.hbm, 80, rfl⟩
abbrev main_call0_v1_0 : Ref sig .tc := ⟨.hbm, 81, rfl⟩
abbrev main_call0_call0_cst_0 : Ref sig .tc := ⟨.hbm, 82, rfl⟩
abbrev main_call0_call0_v13 : Ref sig .tc := ⟨.hbm, 83, rfl⟩
abbrev main_call0_call0_v14 : Ref sig .tc := ⟨.hbm, 84, rfl⟩
abbrev main_call0_call0_cst_1 : Ref sig .tc := ⟨.hbm, 85, rfl⟩
abbrev main_call0_call0_v15 : Ref sig .tc := ⟨.hbm, 86, rfl⟩
abbrev main_call0_call0_v16 : Ref sig .tc := ⟨.hbm, 87, rfl⟩
abbrev main_call0_call0_cst_2 : Ref sig .tc := ⟨.hbm, 88, rfl⟩
abbrev main_call0_call0_v17 : Ref sig .tc := ⟨.hbm, 89, rfl⟩
abbrev main_call0_call0_v18 : Ref sig .tc := ⟨.hbm, 90, rfl⟩
abbrev main_call0_call0_cst_3 : Ref sig .tc := ⟨.hbm, 91, rfl⟩
abbrev main_call0_call0_v19 : Ref sig .tc := ⟨.hbm, 92, rfl⟩
abbrev main_call0_call0_v20 : Ref sig .tc := ⟨.hbm, 93, rfl⟩
abbrev main_call0_call0_v21 : Ref sig .tc := ⟨.hbm, 94, rfl⟩
abbrev main_v48_1 : Ref sig .tc := ⟨.hbm, 95, rfl⟩
abbrev main_call0_call0_cst_4 : Ref sig .tc := ⟨.hbm, 96, rfl⟩
abbrev main_call0_call0_cst_5 : Ref sig .tc := ⟨.hbm, 97, rfl⟩
abbrev main_call0_call0_v23 : Ref sig .tc := ⟨.hbm, 98, rfl⟩
abbrev main_call0_call0_cst_6 : Ref sig .tc := ⟨.hbm, 99, rfl⟩
abbrev main_call0_call0_cst_7 : Ref sig .tc := ⟨.hbm, 100, rfl⟩
abbrev main_call0_call0_v24 : Ref sig .tc := ⟨.hbm, 101, rfl⟩
abbrev main_call0_call0_cst_8 : Ref sig .tc := ⟨.hbm, 102, rfl⟩
abbrev main_call0_call0_v25 : Ref sig .tc := ⟨.hbm, 103, rfl⟩
abbrev main_call0_call0_v26 : Ref sig .tc := ⟨.hbm, 104, rfl⟩
abbrev main_call0_call0_cst_9 : Ref sig .tc := ⟨.hbm, 105, rfl⟩
abbrev main_call0_call0_v27 : Ref sig .tc := ⟨.hbm, 106, rfl⟩
abbrev main_call0_call0_v28 : Ref sig .tc := ⟨.hbm, 107, rfl⟩
abbrev main_call0_call0_v29 : Ref sig .tc := ⟨.hbm, 108, rfl⟩
abbrev main_call0_call0_v30 : Ref sig .tc := ⟨.hbm, 109, rfl⟩
abbrev main_call0_call0_v31 : Ref sig .tc := ⟨.hbm, 110, rfl⟩
abbrev main_call0_call0_cst_10 : Ref sig .tc := ⟨.hbm, 111, rfl⟩
abbrev main_call0_call0_v32 : Ref sig .tc := ⟨.hbm, 112, rfl⟩
abbrev main_v48_2 : Ref sig .tc := ⟨.hbm, 113, rfl⟩
abbrev main_v48_0 : Ref sig .tc := ⟨.hbm, 114, rfl⟩
abbrev main_call1_call0_cst : Ref sig .tc := ⟨.hbm, 115, rfl⟩
abbrev main_call1_call0_v0 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_call2_call0_cst : Ref sig .tc := ⟨.hbm, 124, rfl⟩
abbrev main_call2_call0_v0 : Ref sig .tc := ⟨.hbm, 125, rfl⟩
abbrev main_v56 : Ref sig .tc := ⟨.hbm, 126, rfl⟩
abbrev main_call3_v0 : Ref sig .tc := ⟨.hbm, 127, rfl⟩
abbrev main_call3_v1 : Ref sig .tc := ⟨.hbm, 128, rfl⟩
abbrev main_v57 : Ref sig .tc := ⟨.hbm, 129, rfl⟩
abbrev main_cst_8 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_cst_9 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_cst_10 : Ref sig .tc := ⟨.hbm, 139, rfl⟩
abbrev main_v65 : Ref sig .tc := ⟨.hbm, 140, rfl⟩
abbrev main_v66 : Ref sig .tc := ⟨.hbm, 141, rfl⟩
abbrev main_cst_11 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩
abbrev main_cst_12 : Ref sig .tc := ⟨.hbm, 148, rfl⟩
abbrev main_v72 : Ref sig .tc := ⟨.hbm, 149, rfl⟩
abbrev main_v73 : Ref sig .tc := ⟨.hbm, 150, rfl⟩
abbrev main_cst_13 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_cst_14 : Ref sig .tc := ⟨.hbm, 160, rfl⟩
abbrev main_v82 : Ref sig .tc := ⟨.hbm, 161, rfl⟩
abbrev main_v83 : Ref sig .tc := ⟨.hbm, 162, rfl⟩
abbrev main_v84 : Ref sig .tc := ⟨.hbm, 163, rfl⟩
abbrev main_v85 : Ref sig .tc := ⟨.hbm, 164, rfl⟩
abbrev main_cst_15 : Ref sig .tc := ⟨.hbm, 165, rfl⟩
abbrev main_v86 : Ref sig .tc := ⟨.hbm, 166, rfl⟩
abbrev main_v87 : Ref sig .tc := ⟨.hbm, 167, rfl⟩
abbrev main_cst_16 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_cst_17 : Ref sig .tc := ⟨.hbm, 174, rfl⟩
abbrev main_v93 : Ref sig .tc := ⟨.hbm, 175, rfl⟩
abbrev main_v94 : Ref sig .tc := ⟨.hbm, 176, rfl⟩
abbrev main_cst_18 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_c : Ref sig .tc := ⟨.hbm, 188, rfl⟩
abbrev main_call4_v0 : Ref sig .tc := ⟨.hbm, 189, rfl⟩
abbrev main_v105 : Ref sig .tc := ⟨.hbm, 190, rfl⟩
abbrev main_c_19 : Ref sig .tc := ⟨.hbm, 191, rfl⟩
abbrev main_call5_v0 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_c_20 : Ref sig .tc := ⟨.hbm, 196, rfl⟩
abbrev main_call6_v0 : Ref sig .tc := ⟨.hbm, 197, rfl⟩
abbrev main_v109 : Ref sig .tc := ⟨.hbm, 198, rfl⟩

abbrev nD : Nat := 1
abbrev τ : Topo := Topo.v7x

variable {F : FTy → Type} [FloatOps F]
-- ==== Inproj.lean ====
abbrev S2048x2176 : Shape := ⟨2, ![2048, 2176]⟩
abbrev S2048x2048 : Shape := ⟨2, ![2048, 2048]⟩
abbrev S1024x6280 : Shape := ⟨2, ![1024, 6280]⟩
abbrev S2048x1024 : Shape := ⟨2, ![2048, 1024]⟩
abbrev S1x1024 : Shape := ⟨2, ![1, 1024]⟩
abbrev S1024x2176 : Shape := ⟨2, ![1024, 2176]⟩
abbrev S1024x2056 : Shape := ⟨2, ![1024, 2056]⟩
abbrev S_ : Shape := ⟨0, ![]⟩
abbrev S1024x120 : Shape := ⟨2, ![1024, 120]⟩
abbrev S1024x2048 : Shape := ⟨2, ![1024, 2048]⟩
abbrev S256x2176 : Shape := ⟨2, ![256, 2176]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 15
  | .vmem => 17
  | .smem => 0
  | _ => 0

abbrev bufTy : (tb : Table) → Fin (tcTables nBuf tb) → BufTy
  | .hbm, ⟨0, _⟩ => ⟨S2048x2176, .f32⟩
  | .hbm, ⟨1, _⟩ => ⟨S2048x2176, .f32⟩
  | .hbm, ⟨2, _⟩ => ⟨S2048x2048, .f32⟩
  | .hbm, ⟨3, _⟩ => ⟨S1024x6280, .bf16⟩
  | .hbm, ⟨4, _⟩ => ⟨S2048x1024, .f32⟩
  | .hbm, ⟨5, _⟩ => ⟨S2048x1024, .f32⟩
  | .hbm, ⟨6, _⟩ => ⟨S1x1024, .f32⟩
  | .hbm, ⟨7, _⟩ => ⟨S1024x2176, .bf16⟩
  | .hbm, ⟨8, _⟩ => ⟨S1024x2056, .bf16⟩
  | .hbm, ⟨9, _⟩ => ⟨S_, .bf16⟩
  | .hbm, ⟨10, _⟩ => ⟨S1024x120, .bf16⟩
  | .hbm, ⟨11, _⟩ => ⟨S1024x2176, .bf16⟩
  | .hbm, ⟨12, _⟩ => ⟨S1024x2048, .bf16⟩
  | .hbm, ⟨13, _⟩ => ⟨S2048x1024, .f32⟩
  | .hbm, ⟨14, _⟩ => ⟨S1x1024, .f32⟩
  | .local _ .vmem, ⟨0, _⟩ => ⟨S256x2176, .f32⟩
  | .local _ .vmem, ⟨1, _⟩ => ⟨S256x2176, .f32⟩
  | .local _ .vmem, ⟨2, _⟩ => ⟨S256x2176, .f32⟩
  | .local _ .vmem, ⟨3, _⟩ => ⟨S256x2176, .f32⟩
  | .local _ .vmem, ⟨4, _⟩ => ⟨S256x2048, .f32⟩
  | .local _ .vmem, ⟨5, _⟩ => ⟨S256x2048, .f32⟩
  | .local _ .vmem, ⟨6, _⟩ => ⟨S1024x2176, .bf16⟩
  | .local _ .vmem, ⟨7, _⟩ => ⟨S1024x2176, .bf16⟩
  | .local _ .vmem, ⟨8, _⟩ => ⟨S1024x2048, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | _, _ => ⟨S2048x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2176 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2176 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2176 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2176 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== InprojRefIdeal.lean ====
abbrev S2048x2176 : Shape := ⟨2, ![2048, 2176]⟩
abbrev S2048x2048 : Shape := ⟨2, ![2048, 2048]⟩
abbrev S1024x6280 : Shape := ⟨2, ![1024, 6280]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S2048x6280 : Shape := ⟨2, ![2048, 6280]⟩
abbrev S2048x2056 : Shape := ⟨2, ![2048, 2056]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S2048x2176, .f32⟩
  | .hbm, ⟨1, _⟩ => ⟨S2048x2176, .f32⟩
  | .hbm, ⟨2, _⟩ => ⟨S2048x2048, .f32⟩
  | .hbm, ⟨3, _⟩ => ⟨S1024x6280, .bf16⟩
  | .hbm, ⟨4, _⟩ => ⟨S2048x1024, .f32⟩
  | .hbm, ⟨5, _⟩ => ⟨S2048x1024, .f32⟩
  | .hbm, ⟨6, _⟩ => ⟨S1x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S1024x6280, .f32⟩
  | .hbm, ⟨27, _⟩ => ⟨S2048x6280, .f32⟩
  | .hbm, ⟨28, _⟩ => ⟨S2048x2176, .f32⟩
  | .hbm, ⟨29, _⟩ => ⟨S2048x2056, .f32⟩
  | .hbm, ⟨30, _⟩ => ⟨S2048x2048, .f32⟩
  | .hbm, ⟨31, _⟩ => ⟨S2048x2056, .f32⟩
  | .hbm, ⟨32, _⟩ => ⟨S2048x6280, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S2048, .f32⟩
  | .hbm, ⟨43, _⟩ => ⟨S2048x1, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1, .f32⟩
  | .hbm, ⟨48, _⟩ => ⟨S_, .f32⟩
  | .hbm, ⟨49, _⟩ => ⟨S2048x1, .f32⟩
  | .hbm, ⟨50, _⟩ => ⟨S2048x1, .f32⟩
  | .hbm, ⟨51, _⟩ => ⟨S_, .f32⟩
  | .hbm, ⟨52, _⟩ => ⟨S2048, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | _, _ => ⟨S2048x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== DwGate.lean ====
abbrev S2048x1024 : Shape := ⟨2, ![2048, 1024]⟩
abbrev S2048x2048 : Shape := ⟨2, ![2048, 2048]⟩
abbrev S1024x2048 : Shape := ⟨2, ![1024, 2048]⟩
abbrev S1024x512 : Shape := ⟨2, ![1024, 512]⟩
abbrev S512x2048 : Shape := ⟨2, ![512, 2048]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .f32⟩
  | .hbm, ⟨2, _⟩ => ⟨S1024x2048, .bf16⟩
  | .hbm, ⟨3, _⟩ => ⟨S1024x2048, .f32⟩
  | .local _ .vmem, ⟨0, _⟩ => ⟨S1024x512, .bf16⟩
  | .local _ .vmem, ⟨1, _⟩ => ⟨S1024x512, .bf16⟩
  | .local _ .vmem, ⟨2, _⟩ => ⟨S512x2048, .f32⟩
  | .local _ .vmem, ⟨3, _⟩ => ⟨S512x2048, .f32⟩
  | .local _ .vmem, ⟨4, _⟩ => ⟨S1024x2048, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DwGateRefIdeal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .f32⟩
  | .hbm, ⟨2, _⟩ => ⟨S_, .f32⟩
  | .hbm, ⟨3, _⟩ => ⟨S1024x2048, .f32⟩
  | .hbm, ⟨4, _⟩ => ⟨S2048x1024, .f32⟩
  | .hbm, ⟨5, _⟩ => ⟨S2048x2048, .f32⟩
  | .hbm, ⟨6, _⟩ => ⟨S2048x1024, .f32⟩
  | .hbm, ⟨7, _⟩ => ⟨S1024x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Merge.lean ====
abbrev S2048x512 : Shape := ⟨2, ![2048, 512]⟩
abbrev S2048x2048 : Shape := ⟨2, ![2048, 2048]⟩
abbrev S2048x1024 : Shape := ⟨2, ![2048, 1024]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S256x512 : Shape := ⟨2, ![256, 512]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 19
  | .vmem => 27
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x2048, .f32⟩
  | .hbm, ⟨3, _⟩ => ⟨S2048x1024, .f32⟩
  | .hbm, ⟨4, _⟩ => ⟨S2048x1024, .f32⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S1024, .f32⟩
  | .hbm, ⟨9, _⟩ => ⟨S1x1024, .f32⟩
  | .hbm, ⟨10, _⟩ => ⟨S2048x1024, .f32⟩
  | .hbm, ⟨11, _⟩ => ⟨S2048x512, .f32⟩
  | .hbm, ⟨12, _⟩ => ⟨S2048x512, .f32⟩
  | .hbm, ⟨13, _⟩ => ⟨S2048x2048, .f32⟩
  | .hbm, ⟨14, _⟩ => ⟨S512x1024, .f32⟩
  | .hbm, ⟨15, _⟩ => ⟨S512x1024, .f32⟩
  | .hbm, ⟨16, _⟩ => ⟨S1024x1024, .f32⟩
  | .hbm, ⟨17, _⟩ => ⟨S1x1024, .f32⟩
  | .hbm, ⟨18, _⟩ => ⟨S1x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x2048, .f32⟩
  | .local _ .vmem, ⟨5, _⟩ => ⟨S256x2048, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x2048, .f32⟩
  | .local _ .vmem, ⟨21, _⟩ => ⟨S256x2048, .f32⟩
  | .local _ .vmem, ⟨22, _⟩ => ⟨S512x1024, .f32⟩
  | .local _ .vmem, ⟨23, _⟩ => ⟨S512x1024, .f32⟩
  | .local _ .vmem, ⟨24, _⟩ => ⟨S1024x1024, .f32⟩
  | .local _ .vmem, ⟨25, _⟩ => ⟨S1x1024, .f32⟩
  | .local _ .vmem, ⟨26, _⟩ => ⟨S1x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v1_4 : Ref sig .tc := ⟨.hbm, 14, rfl⟩
abbrev main_v1_5 : Ref sig .tc := ⟨.hbm, 15, rfl⟩
abbrev main_v1_6 : Ref sig .tc := ⟨.hbm, 16, rfl⟩
abbrev main_v1_7 : Ref sig .tc := ⟨.hbm, 17, rfl⟩
abbrev main_v1_8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S512x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== MergeRefIdeal.lean ====
abbrev S2048x512 : Shape := ⟨2, ![2048, 512]⟩
abbrev S2048x2048 : Shape := ⟨2, ![2048, 2048]⟩
abbrev S2048x1024 : Shape := ⟨2, ![2048, 1024]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1024x512 : Shape := ⟨2, ![1024, 512]⟩

abbrev nBuf : Space → Nat
  | .hbm => 133
  | .vmem => 0
  | .smem => 0
  | _ => 0

abbrev hbmTy0_0 (i : Nat) : BufTy := match i % 128 with
  | 0 => ⟨S2048x512, .f32⟩
  | 1 => ⟨S2048x512, .f32⟩
  | 2 => ⟨S2048x2048, .f32⟩
  | 3 => ⟨S2048x1024, .f32⟩
  | 4 => ⟨S2048x1024, .f32⟩
  | 5 => ⟨S512x1024, .bf16⟩
  | 6 => ⟨S512x1024, .bf16⟩
  | 7 => ⟨S1024x1024, .bf16⟩
  | 8 => ⟨S1024, .f32⟩
  | 9 => ⟨S512x1024, .f32⟩
  | 10 => ⟨S512x1024, .f32⟩
  | 11 => ⟨S1024x1024, .f32⟩
  | 12 => ⟨S2048x1024, .f32⟩
  | 13 => ⟨S2048x1024, .f32⟩
  | 14 => ⟨S2048x1024, .f32⟩
  | 15 => ⟨S2048x1024, .f32⟩
  | 16 => ⟨S2048x1024, .f32⟩
  | 17 => ⟨S2048x1024, .f32⟩
  | 18 => ⟨S_, .f32⟩
  | 19 => ⟨S2048x1024, .f32⟩
  | 20 => ⟨S2048x1024, .f32⟩
  | 21 => ⟨S_, .f32⟩
  | 22 => ⟨S2048x1024, .f32⟩
  | 23 => ⟨S2048x1024, .f32⟩
  | 24 => ⟨S_, .f32⟩
  | 25 => ⟨S2048x1024, .f32⟩
  | 26 => ⟨S2048x1024, .f32⟩
  | 27 => ⟨S2048x1024, .f32⟩
  | 28 => ⟨S2048x1024, .f32⟩
  | 29 => ⟨S2048x1024, .f32⟩
  | 30 => ⟨S2048x1024, .f32⟩
  | 31 => ⟨S_, .f32⟩
  | 32 => ⟨S2048x1024, .f32⟩
  | 33 => ⟨S2048x1024, .f32⟩
  | 34 => ⟨S_, .f32⟩
  | 35 => ⟨S2048x1024, .f32⟩
  | 36 => ⟨S2048x1024, .f32⟩
  | 37 => ⟨S_, .f32⟩
  | 38 => ⟨S2048x1024, .f32⟩
  | 39 => ⟨S2048x1024, .f32⟩
  | 40 => ⟨S2048x1024, .f32⟩
  | 41 => ⟨S2048x1024, .f32⟩
  | 42 => ⟨S2048x1024, .f32⟩
  | 43 => ⟨S2048x1024, .f32⟩
  | 44 => ⟨S2048x1024, .f32⟩
  | 45 => ⟨S2048x1024, .f32⟩
  | 46 => ⟨S_, .f32⟩
  | 47 => ⟨S2048, .f32⟩
  | 48 => ⟨S2048x1, .f32⟩
  | 49 => ⟨S_, .f32⟩
  | 50 => ⟨S2048x1, .f32⟩
  | 51 => ⟨S2048x1, .f32⟩
  | 52 => ⟨S_, .f32⟩
  | 53 => ⟨S2048x1, .f32⟩
  | 54 => ⟨S2048x1, .f32⟩
  | 55 => ⟨S2048x1, .f32⟩
  | 56 => ⟨S2048x1, .f32⟩
  | 57 => ⟨S_, .f32⟩
  | 58 => ⟨S2048x1, .f32⟩
  | 59 => ⟨S2048x1, .f32⟩
  | 60 => ⟨S2048x1024, .f32⟩
  | 61 => ⟨S2048x1024, .f32⟩
  | 62 => ⟨S1x1024, .f32⟩
  | 63 => ⟨S2048x1024, .f32⟩
  | 64 => ⟨S2048x1024, .f32⟩
  | 65 => ⟨S2048x1024, .f32⟩
  | 66 => ⟨S2048x1024, .f32⟩
  | 67 => ⟨S_, .f32⟩
  | 68 => ⟨S2048x1024, .f32⟩
  | 69 => ⟨S2048x1024, .f32⟩
  | 70 => ⟨S_, .f32⟩
  | 71 => ⟨S2048, .f32⟩
  | 72 => ⟨S_, .f32⟩
  | 73 => ⟨S2048, .f32⟩
  | 74 => ⟨S2048, .f32⟩
  | 75 => ⟨S_, .f32⟩
  | 76 => ⟨S_, .f32⟩
  | 77 => ⟨S_, .f32⟩
  | 78 => ⟨S_, .f32⟩
  | 79 => ⟨S_, .f32⟩
  | 80 => ⟨S1024, .f32⟩
  | 81 => ⟨S1x1024, .f32⟩
  | 82 => ⟨S_, .f32⟩
  | 83 => ⟨S_, .f32⟩
  | 84 => ⟨S_, .f32⟩
  | 85 => ⟨S2048, .f32⟩
  | 86 => ⟨S_, .f32⟩
  | 87 => ⟨S2048, .f32⟩
  | 88 => ⟨S2048, .f32⟩
  | 89 => ⟨S2048x1024, .f32⟩
  | 90 => ⟨S2048x1024, .f32⟩
  | 91 => ⟨S2048x1024, .f32⟩
  | 92 => ⟨S_, .f32⟩
  | 93 => ⟨S1024, .f32⟩
  | 94 => ⟨S1x1024, .f32⟩
  | 95 => ⟨S2048x1024, .f32⟩
  | 96 => ⟨S2048x1024, .f32⟩
  | 97 => ⟨S_, .f32⟩
  | 98 => ⟨S1024, .f32⟩
  | 99 => ⟨S2048x1024, .f32⟩
  | 100 => ⟨S_, .f32⟩
  | 101 => ⟨S2048, .f32⟩
  | 102 => ⟨S2048x1, .f32⟩
  | 103 => ⟨S2048x1024, .f32⟩
  | 104 => ⟨S2048x1024, .f32⟩
  | 105 => ⟨S2048x1, .f32⟩
  | 106 => ⟨S_, .f32⟩
  | 107 => ⟨S2048x1, .f32⟩
  | 108 => ⟨S2048x1, .f32⟩
  | 109 => ⟨S_, .f32⟩
  | 110 => ⟨S2048, .f32⟩
  | 111 => ⟨S2048x1024, .f32⟩
  | 112 => ⟨S2048x1024, .f32⟩
  | 113 => ⟨S2048x1024, .f32⟩
  | 114 => ⟨S2048x1024, .f32⟩
  | 115 => ⟨S2048x1024, .f32⟩
  | 116 => ⟨S1024x1024, .f32⟩
  | 117 => ⟨S1024x1024, .f32⟩
  | 118 => ⟨S2048x1024, .f32⟩
  | 119 => ⟨S2048x1024, .f32⟩
  | 120 => ⟨S2048x1024, .f32⟩
  | 121 => ⟨S2048x1024, .f32⟩
  | 122 => ⟨S2048x1024, .f32⟩
  | 123 => ⟨S2048x1024, .f32⟩
  | 124 => ⟨S2048x1024, .f32⟩
  | 125 => ⟨S2048x2048, .f32⟩
  | 126 => ⟨S1024x512, .f32⟩
  | 127 => ⟨S512x1024, .f32⟩
  | _ => ⟨S2048x512, .f32⟩

abbrev hbmTy0_1 (i : Nat) : BufTy := match i % 128 with
  | 0 => ⟨S2048x512, .f32⟩
  | 1 => ⟨S1024x512, .f32⟩
  | 2 => ⟨S512x1024, .f32⟩
  | 3 => ⟨S2048x512, .f32⟩
  | 4 => ⟨S1x1024, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_cst_13 : Ref sig .tc := ⟨.hbm, 77, rfl⟩
abbrev main_v54 : Ref sig .tc := ⟨.hbm, 78, rfl⟩
abbrev main_cst_14 : Ref sig .tc := ⟨.hbm, 79, rfl⟩
abbrev main_v55 : Ref sig .tc := ⟨.hbm, 80, rfl⟩
abbrev main_v56 : Ref sig .tc := ⟨.hbm, 81, rfl⟩
abbrev main_cst_15 : Ref sig .tc := ⟨.hbm, 82, rfl⟩
abbrev main_cst_16 : Ref sig .tc := ⟨.hbm, 83, rfl⟩
abbrev main_v57 : Ref sig .tc := ⟨.hbm, 84, rfl⟩
abbrev main_v58 : Ref sig .tc := ⟨.hbm, 85, rfl⟩
abbrev main_cst_17 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_18 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_19 : Ref sig .tc := ⟨.hbm, 97, rfl⟩
abbrev main_v68 : Ref sig .tc := ⟨.hbm, 98, rfl⟩
abbrev main_v69 : Ref sig .tc := ⟨.hbm, 99, rfl⟩
abbrev main_cst_20 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_21 : Ref sig .tc := ⟨.hbm, 106, rfl⟩
abbrev main_v75 : Ref sig .tc := ⟨.hbm, 107, rfl⟩
abbrev main_v76 : Ref sig .tc := ⟨.hbm, 108, rfl⟩
abbrev main_cst_22 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩

abbrev nD : Nat := 1
abbrev τ : Topo := Topo.v7x

variable {F : FTy → Type} [FloatOps F]
-- ==== Post.lean ====
abbrev S2048x512 : Shape := ⟨2, ![2048, 512]⟩
abbrev S1x512 : Shape := ⟨2, ![1, 512]⟩
abbrev S8x64 : Shape := ⟨2, ![8, 64]⟩
abbrev S256x512 : Shape := ⟨2, ![256, 512]⟩
abbrev S128x128 : Shape := ⟨2, ![128, 128]⟩
abbrev S256x128 : Shape := ⟨2, ![256, 128]⟩
abbrev S512 : Shape := ⟨1, ![512]⟩

abbrev nBuf : Space → Nat
  | .hbm => 18
  | .vmem => 28
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S1x512, .f32⟩
  | .hbm, ⟨7, _⟩ => ⟨S1x512, .f32⟩
  | .hbm, ⟨8, _⟩ => ⟨S8x64, .f32⟩
  | .hbm, ⟨9, _⟩ => ⟨S1x512, .f32⟩
  | .hbm, ⟨10, _⟩ => ⟨S2048x512, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S1x512, .f32⟩
  | .hbm, ⟨16, _⟩ => ⟨S1x512, .f32⟩
  | .hbm, ⟨17, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v1_4 : Ref sig .tc := ⟨.hbm, 14, rfl⟩
abbrev main_v1_5 : Ref sig .tc := ⟨.hbm, 15, rfl⟩
abbrev main_v1_6 : Ref sig .tc := ⟨.hbm, 16, rfl⟩
abbrev main_v1_7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem15_0 : DmaSem sig := 26
abbrev cc0_sem16_0 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== PostRefIdeal.lean ====
abbrev S2048x512 : Shape := ⟨2, ![2048, 512]⟩
abbrev S1x512 : Shape := ⟨2, ![1, 512]⟩
abbrev S8x64 : Shape := ⟨2, ![8, 64]⟩
abbrev S2048x8x64 : Shape := ⟨3, ![2048, 8, 64]⟩
abbrev S_ : Shape := ⟨0, ![]⟩
abbrev S2048x8 : Shape := ⟨2, ![2048, 8]⟩
abbrev S2048x8x1 : Shape := ⟨3, ![2048, 8, 1]⟩
abbrev S1x8x64 : Shape := ⟨3, ![1, 8, 64]⟩

abbrev nBuf : Space → Nat
  | .hbm => 153
  | .vmem => 0
  | .smem => 0
  | _ => 0

abbrev hbmTy0_0 (i : Nat) : BufTy := match i % 128 with
  | 0 => ⟨S2048x512, .f32⟩
  | 1 => ⟨S2048x512, .f32⟩
  | 2 => ⟨S2048x512, .f32⟩
  | 3 => ⟨S2048x512, .f32⟩
  | 4 => ⟨S2048x512, .f32⟩
  | 5 => ⟨S2048x512, .f32⟩
  | 6 => ⟨S1x512, .f32⟩
  | 7 => ⟨S1x512, .f32⟩
  | 8 => ⟨S8x64, .f32⟩
  | 9 => ⟨S2048x8x64, .f32⟩
  | 10 => ⟨S_, .f32⟩
  | 11 => ⟨S2048x8, .f32⟩
  | 12 => ⟨S2048x8x1, .f32⟩
  | 13 => ⟨S_, .f32⟩
  | 14 => ⟨S2048x8x1, .f32⟩
  | 15 => ⟨S2048x8x1, .f32⟩
  | 16 => ⟨S2048x8x64, .f32⟩
  | 17 => ⟨S2048x8x64, .f32⟩
  | 18 => ⟨S2048x8x64, .f32⟩
  | 19 => ⟨S_, .f32⟩
  | 20 => ⟨S2048x8x64, .f32⟩
  | 21 => ⟨S2048x8x64, .f32⟩
  | 22 => ⟨S_, .f32⟩
  | 23 => ⟨S2048x8, .f32⟩
  | 24 => ⟨S2048x8x1, .f32⟩
  | 25 => ⟨S_, .f32⟩
  | 26 => ⟨S2048x8x1, .f32⟩
  | 27 => ⟨S2048x8x1, .f32⟩
  | 28 => ⟨S2048x8x64, .f32⟩
  | 29 => ⟨S2048x8x64, .f32⟩
  | 30 => ⟨S_, .f32⟩
  | 31 => ⟨S2048x8x1, .f32⟩
  | 32 => ⟨S2048x8x1, .f32⟩
  | 33 => ⟨S2048x8x1, .f32⟩
  | 34 => ⟨S2048x8x1, .f32⟩
  | 35 => ⟨S_, .f32⟩
  | 36 => ⟨S2048x8x1, .f32⟩
  | 37 => ⟨S2048x8x1, .f32⟩
  | 38 => ⟨S2048x8x64, .f32⟩
  | 39 => ⟨S2048x8x64, .f32⟩
  | 40 => ⟨S8x64, .f32⟩
  | 41 => ⟨S1x8x64, .f32⟩
  | 42 => ⟨S2048x8x64, .f32⟩
  | 43 => ⟨S2048x8x64, .f32⟩
  | 44 => ⟨S8x64, .f32⟩
  | 45 => ⟨S1x8x64, .f32⟩
  | 46 => ⟨S2048x8x64, .f32⟩
  | 47 => ⟨S2048x8x64, .f32⟩
  | 48 => ⟨S2048x8x64, .f32⟩
  | 49 => ⟨S2048x8x64, .f32⟩
  | 50 => ⟨S2048x8x64, .f32⟩
  | 51 => ⟨S1x8x64, .f32⟩
  | 52 => ⟨S2048x8x64, .f32⟩
  | 53 => ⟨S2048x8x64, .f32⟩
  | 54 => ⟨S_, .f32⟩
  | 55 => ⟨S2048x8, .f32⟩
  | 56 => ⟨S2048x8x1, .f32⟩
  | 57 => ⟨S2048x8x64, .f32⟩
  | 58 => ⟨S2048x8x64, .f32⟩
  | 59 => ⟨S2048x8x64, .f32⟩
  | 60 => ⟨S2048x8x64, .f32⟩
  | 61 => ⟨S2048x512, .f32⟩
  | 62 => ⟨S2048x512, .f32⟩
  | 63 => ⟨S2048x512, .f32⟩
  | 64 => ⟨S_, .f32⟩
  | 65 => ⟨S2048x512, .f32⟩
  | 66 => ⟨S2048x512, .f32⟩
  | 67 => ⟨S_, .f32⟩
  | 68 => ⟨S2048x512, .f32⟩
  | 69 => ⟨S2048x512, .f32⟩
  | 70 => ⟨S_, .f32⟩
  | 71 => ⟨S2048x512, .f32⟩
  | 72 => ⟨S2048x512, .f32⟩
  | 73 => ⟨S2048x512, .f32⟩
  | 74 => ⟨S2048x512, .f32⟩
  | 75 => ⟨S2048x512, .f32⟩
  | 76 => ⟨S2048x512, .f32⟩
  | 77 => ⟨S2048x512, .f32⟩
  | 78 => ⟨S2048x512, .f32⟩
  | 79 => ⟨S2048x512, .f32⟩
  | 80 => ⟨S2048x512, .f32⟩
  | 81 => ⟨S2048x512, .f32⟩
  | 82 => ⟨S2048x8x64, .f32⟩
  | 83 => ⟨S2048x8x64, .f32⟩
  | 84 => ⟨S2048x8x64, .f32⟩
  | 85 => ⟨S2048x8x64, .f32⟩
  | 86 => ⟨S_, .f32⟩
  | 87 => ⟨S2048x8, .f32⟩
  | 88 => ⟨S2048x8x1, .f32⟩
  | 89 => ⟨S2048x512, .f32⟩
  | 90 => ⟨S_, .f32⟩
  | 91 => ⟨S2048x8, .f32⟩
  | 92 => ⟨S2048x8x64, .f32⟩
  | 93 => ⟨S2048x8x64, .f32⟩
  | 94 => ⟨S_, .f32⟩
  | 95 => ⟨S8x64, .f32⟩
  | 96 => ⟨S1x8x64, .f32⟩
  | 97 => ⟨S2048x8x64, .f32⟩
  | 98 => ⟨S2048x8x64, .f32⟩
  | 99 => ⟨S_, .f32⟩
  | 100 => ⟨S8x64, .f32⟩
  | 101 => ⟨S2048x8x64, .f32⟩
  | 102 => ⟨S2048x8x64, .f32⟩
  | 103 => ⟨S2048x512, .f32⟩
  | 104 => ⟨S2048x512, .f32⟩
  | 105 => ⟨S_, .f32⟩
  | 106 => ⟨S8x64, .f32⟩
  | 107 => ⟨S1x8x64, .f32⟩
  | 108 => ⟨S_, .f32⟩
  | 109 => ⟨S8x64, .f32⟩
  | 110 => ⟨S1x512, .f32⟩
  | 111 => ⟨S2048x8x64, .f32⟩
  | 112 => ⟨S_, .f32⟩
  | 113 => ⟨S8x64, .f32⟩
  | 114 => ⟨S1x8x64, .f32⟩
  | 115 => ⟨S2048x8x64, .f32⟩
  | 116 => ⟨S2048x8x64, .f32⟩
  | 117 => ⟨S_, .f32⟩
  | 118 => ⟨S8x64, .f32⟩
  | 119 => ⟨S1x512, .f32⟩
  | 120 => ⟨S2048x8x64, .f32⟩
  | 121 => ⟨S_, .f32⟩
  | 122 => ⟨S2048x8, .f32⟩
  | 123 => ⟨S2048x8x1, .f32⟩
  | 124 => ⟨S2048x8x64, .f32⟩
  | 125 => ⟨S2048x8x64, .f32⟩
  | 126 => ⟨S2048x8x1, .f32⟩
  | 127 => ⟨S2048x8x64, .f32⟩
  | _ => ⟨S2048x512, .f32⟩

abbrev hbmTy0_1 (i : Nat) : BufTy := match i % 128 with
  | 0 => ⟨S_, .f32⟩
  | 1 => ⟨S2048x8, .f32⟩
  | 2 => ⟨S2048x8x1, .f32⟩
  | 3 => ⟨S_, .f32⟩
  | 4 => ⟨S2048x8x1, .f32⟩
  | 5 => ⟨S2048x8x1, .f32⟩
  | 6 => ⟨S_, .f32⟩
  | 7 => ⟨S2048x8, .f32⟩
  | 8 => ⟨S2048x8x64, .f32⟩
  | 9 => ⟨S2048x8x64, .f32⟩
  | 10 => ⟨S2048x8x64, .f32⟩
  | 11 => ⟨S_, .f32⟩
  | 12 => ⟨S2048x8, .f32⟩
  | 13 => ⟨S2048x8x1, .f32⟩
  | 14 => ⟨S2048x8x64, .f32⟩
  | 15 => ⟨S2048x8x1, .f32⟩
  | 16 => ⟨S_, .f32⟩
  | 17 => ⟨S2048x8x1, .f32⟩
  | 18 => ⟨S2048x8x1, .f32⟩
  | 19 => ⟨S_, .f32⟩
  | 20 => ⟨S2048x8, .f32⟩
  | 21 => ⟨S2048x8x64, .f32⟩
  | 22 => ⟨S2048x8x64, .f32⟩
  | 23 => ⟨S2048x512, .f32⟩
  | 24 => ⟨S1x512, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_v45_2 : Ref sig .tc := ⟨.hbm, 69, rfl⟩
abbrev main_call0_cst_1 : Ref sig .tc := ⟨.hbm, 70, rfl⟩
abbrev main_call0_v6 : Ref sig .tc := ⟨.hbm, 71, rfl⟩
abbrev main_call0_v7 : Ref sig .tc := ⟨.hbm, 72, rfl⟩
abbrev main_v45_1 : Ref sig .tc := ⟨.hbm, 73, rfl⟩
abbrev main_v45_0 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_7 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_8 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_9 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_10 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_11 : Ref sig .tc := ⟨.hbm, 105, rfl⟩
abbrev main_v69 : Ref sig .tc := ⟨.hbm, 106, rfl⟩
abbrev main_v70 : Ref sig .tc := ⟨.hbm, 107, rfl⟩
abbrev main_cst_12 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_13 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_14 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_15 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_cst_16 : Ref sig .tc := ⟨.hbm, 128, rfl⟩
abbrev main_v87 : Ref sig .tc := ⟨.hbm, 129, rfl⟩
abbrev main_v88 : Ref sig .tc := ⟨.hbm, 130, rfl⟩
abbrev main_cst_17 : Ref sig .tc := ⟨.hbm, 131, rfl⟩
abbrev main_v89 : Ref sig .tc := ⟨.hbm, 132, rfl⟩
abbrev main_v90 : Ref sig .tc := ⟨.hbm, 133, rfl⟩
abbrev main_cst_18 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst_19 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_20 : Ref sig .tc := ⟨.hbm, 144, rfl⟩
abbrev main_v99 : Ref sig .tc := ⟨.hbm, 145, rfl⟩
abbrev main_v100 : Ref sig .tc := ⟨.hbm, 146, rfl⟩
abbrev main_cst_21 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩

abbrev nD : Nat := 1
abbrev τ : Topo := Topo.v7x

variable {F : FTy → Type} [FloatOps F]
-- ==== DwRwkv.lean ====
abbrev S2048x1024 : Shape := ⟨2, ![2048, 1024]⟩
abbrev S2048x2176 : Shape := ⟨2, ![2048, 2176]⟩
abbrev S1024x2048 : Shape := ⟨2, ![1024, 2048]⟩
abbrev S1024x2176 : Shape := ⟨2, ![1024, 2176]⟩
abbrev S1024x512 : Shape := ⟨2, ![1024, 512]⟩
abbrev S512x2176 : Shape := ⟨2, ![512, 2176]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x2176, .f32⟩
  | .hbm, ⟨2, _⟩ => ⟨S1024x2048, .bf16⟩
  | .hbm, ⟨3, _⟩ => ⟨S1024x2176, .f32⟩
  | .local _ .vmem, ⟨0, _⟩ => ⟨S1024x512, .bf16⟩
  | .local _ .vmem, ⟨1, _⟩ => ⟨S1024x512, .bf16⟩
  | .local _ .vmem, ⟨2, _⟩ => ⟨S512x2176, .f32⟩
  | .local _ .vmem, ⟨3, _⟩ => ⟨S512x2176, .f32⟩
  | .local _ .vmem, ⟨4, _⟩ => ⟨S1024x2176, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2176 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2176 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DwRwkvRefIdeal.lean ====
abbrev S2048x1024 : Shape := ⟨2, ![2048, 1024]⟩
abbrev S2048x2176 : Shape := ⟨2, ![2048, 2176]⟩
abbrev S_ : Shape := ⟨0, ![]⟩
abbrev S1024x2176 : Shape := ⟨2, ![1024, 2176]⟩
abbrev S2176x1024 : Shape := ⟨2, ![2176, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2176, .f32⟩
  | .hbm, ⟨2, _⟩ => ⟨S_, .f32⟩
  | .hbm, ⟨3, _⟩ => ⟨S1024x2176, .f32⟩
  | .hbm, ⟨4, _⟩ => ⟨S2048x1024, .f32⟩
  | .hbm, ⟨5, _⟩ => ⟨S2048x2176, .f32⟩
  | .hbm, ⟨6, _⟩ => ⟨S2176x1024, .f32⟩
  | .hbm, ⟨7, _⟩ => ⟨S1024x2176, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjRwkv.lean ====
abbrev S2048x1024 : Shape := ⟨2, ![2048, 1024]⟩
abbrev S1024x6280 : Shape := ⟨2, ![1024, 6280]⟩
abbrev S1024x2176 : Shape := ⟨2, ![1024, 2176]⟩
abbrev S2048x2176 : Shape := ⟨2, ![2048, 2176]⟩
abbrev S512x1024 : Shape := ⟨2, ![512, 1024]⟩
abbrev S512x2176 : Shape := ⟨2, ![512, 2176]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x6280, .bf16⟩
  | .hbm, ⟨2, _⟩ => ⟨S1024x2176, .bf16⟩
  | .hbm, ⟨3, _⟩ => ⟨S2048x2176, .f32⟩
  | .local _ .vmem, ⟨0, _⟩ => ⟨S512x1024, .bf16⟩
  | .local _ .vmem, ⟨1, _⟩ => ⟨S512x1024, .bf16⟩
  | .local _ .vmem, ⟨2, _⟩ => ⟨S1024x2176, .bf16⟩
  | .local _ .vmem, ⟨3, _⟩ => ⟨S512x2176, .f32⟩
  | .local _ .vmem, ⟨4, _⟩ => ⟨S512x2176, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProjRwkvRefIdeal.lean ====
abbrev S2048x1024 : Shape := ⟨2, ![2048, 1024]⟩
abbrev S1024x6280 : Shape := ⟨2, ![1024, 6280]⟩
abbrev S1024x2176 : Shape := ⟨2, ![1024, 2176]⟩
abbrev S2048x2176 : Shape := ⟨2, ![2048, 2176]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x6280, .bf16⟩
  | .hbm, ⟨2, _⟩ => ⟨S2048x1024, .f32⟩
  | .hbm, ⟨3, _⟩ => ⟨S1024x6280, .f32⟩
  | .hbm, ⟨4, _⟩ => ⟨S1024x2176, .f32⟩
  | .hbm, ⟨5, _⟩ => ⟨S2048x2176, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjGate.lean ====
abbrev S2048x1024 : Shape := ⟨2, ![2048, 1024]⟩
abbrev S1024x6280 : Shape := ⟨2, ![1024, 6280]⟩
abbrev S1024x2048 : Shape := ⟨2, ![1024, 2048]⟩
abbrev S2048x2048 : Shape := ⟨2, ![2048, 2048]⟩
abbrev S512x1024 : Shape := ⟨2, ![512, 1024]⟩
abbrev S512x2048 : Shape := ⟨2, ![512, 2048]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x6280, .bf16⟩
  | .hbm, ⟨2, _⟩ => ⟨S1024x2048, .bf16⟩
  | .hbm, ⟨3, _⟩ => ⟨S2048x2048, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S512x2048, .f32⟩
  | .local _ .vmem, ⟨4, _⟩ => ⟨S512x2048, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProjGateRefIdeal.lean ====
abbrev S2048x1024 : Shape := ⟨2, ![2048, 1024]⟩
abbrev S1024x6280 : Shape := ⟨2, ![1024, 6280]⟩
abbrev S1024x2048 : Shape := ⟨2, ![1024, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x6280, .bf16⟩
  | .hbm, ⟨2, _⟩ => ⟨S2048x1024, .f32⟩
  | .hbm, ⟨3, _⟩ => ⟨S1024x6280, .f32⟩
  | .hbm, ⟨4, _⟩ => ⟨S1024x2048, .f32⟩
  | .hbm, ⟨5, _⟩ => ⟨S2048x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AdamwIn.lean ====
abbrev S1024x1570 : Shape := ⟨2, ![1024, 1570]⟩
abbrev S1 : Shape := ⟨1, ![1]⟩
abbrev S256x1570 : Shape := ⟨2, ![256, 1570]⟩

abbrev nBuf : Space → Nat
  | .hbm => 10
  | .vmem => 18
  | .smem => 1
  | _ => 0

abbrev bufTy : (tb : Table) → Fin (tcTables nBuf tb) → BufTy
  | .hbm, ⟨0, _⟩ => ⟨S1024x1570, .f32⟩
  | .hbm, ⟨1, _⟩ => ⟨S1024x1570, .f32⟩
  | .hbm, ⟨2, _⟩ => ⟨S1024x1570, .f32⟩
  | .hbm, ⟨3, _⟩ => ⟨S1024x1570, .f32⟩
  | .hbm, ⟨4, _⟩ => ⟨S1024x1570, .f32⟩
  | .hbm, ⟨5, _⟩ => ⟨S1024x1570, .f32⟩
  | .hbm, ⟨6, _⟩ => ⟨S1024x1570, .f32⟩
  | .hbm, ⟨7, _⟩ => ⟨S1024x1570, .f32⟩
  | .hbm, ⟨8, _⟩ => ⟨S1024x1570, .f32⟩
  | .hbm, ⟨9, _⟩ => ⟨S1, .i32⟩
  | .local _ .vmem, ⟨0, _⟩ => ⟨S256x1570, .f32⟩
  | .local _ .vmem, ⟨1, _⟩ => ⟨S256x1570, .f32⟩
  | .local _ .vmem, ⟨2, _⟩ => ⟨S256x1570, .f32⟩
  | .local _ .vmem, ⟨3, _⟩ => ⟨S256x1570, .f32⟩
  | .local _ .vmem, ⟨4, _⟩ => ⟨S256x1570, .f32⟩
  | .local _ .vmem, ⟨5, _⟩ => ⟨S256x1570, .f32⟩
  | .local _ .vmem, ⟨6, _⟩ => ⟨S256x1570, .f32⟩
  | .local _ .vmem, ⟨7, _⟩ => ⟨S256x1570, .f32⟩
  | .local _ .vmem, ⟨8, _⟩ => ⟨S256x1570, .f32⟩
  | .local _ .vmem, ⟨9, _⟩ => ⟨S256x1570, .f32⟩
  | .local _ .vmem, ⟨10, _⟩ => ⟨S256x1570, .f32⟩
  | .local _ .vmem, ⟨11, _⟩ => ⟨S256x1570, .f32⟩
  | .local _ .vmem, ⟨12, _⟩ => ⟨S256x1570, .f32⟩
  | .local _ .vmem, ⟨13, _⟩ => ⟨S256x1570, .f32⟩
  | .local _ .vmem, ⟨14, _⟩ => ⟨S256x1570, .f32⟩
  | .local _ .vmem, ⟨15, _⟩ => ⟨S256x1570, .f32⟩
  | .local _ .vmem, ⟨16, _⟩ => ⟨S256x1570, .f32⟩
  | .local _ .vmem, ⟨17, _⟩ => ⟨S256x1570, .f32⟩
  | .local _ .smem, ⟨0, _⟩ => ⟨S1, .i32⟩
  | _, _ => ⟨S1024x1570, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S256x1570 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1570 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1570 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1570 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1570 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1570 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1570 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1570 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1570 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .smem S1 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== AdamwInIdeal.lean ====
abbrev S1024x1570 : Shape := ⟨2, ![1024, 1570]⟩
abbrev S1 : Shape := ⟨1, ![1]⟩
abbrev S256x1570 : Shape := ⟨2, ![256, 1570]⟩

abbrev nBuf : Space → Nat
  | .hbm => 10
  | .vmem => 18
  | .smem => 1
  | _ => 0

abbrev bufTy : (tb : Table) → Fin (tcTables nBuf tb) → BufTy
  | .hbm, ⟨0, _⟩ => ⟨S1024x1570, .f32⟩
  | .hbm, ⟨1, _⟩ => ⟨S1024x1570, .f32⟩
  | .hbm, ⟨2, _⟩ => ⟨S1024x1570, .f32⟩
  | .hbm, ⟨3, _⟩ => ⟨S1024x1570, .f32⟩
  | .hbm, ⟨4, _⟩ => ⟨S1024x1570, .f32⟩
  | .hbm, ⟨5, _⟩ => ⟨S1024x1570, .f32⟩
  | .hbm, ⟨6, _⟩ => ⟨S1024x1570, .f32⟩
  | .hbm, ⟨7, _⟩ => ⟨S1024x1570, .f32⟩
  | .hbm, ⟨8, _⟩ => ⟨S1024x1570, .f32⟩
  | .hbm, ⟨9, _⟩ => ⟨S1, .i32⟩
  | .local _ .vmem, ⟨0, _⟩ => ⟨S256x1570, .f32⟩
  | .local _ .vmem, ⟨1, _⟩ => ⟨S256x1570, .f32⟩
  | .local _ .vmem, ⟨2, _⟩ => ⟨S256x1570, .f32⟩
  | .local _ .vmem, ⟨3, _⟩ => ⟨S256x1570, .f32⟩
  | .local _ .vmem, ⟨4, _⟩ => ⟨S256x1570, .f32⟩
  | .local _ .vmem, ⟨5, _⟩ => ⟨S256x1570, .f32⟩
  | .local _ .vmem, ⟨6, _⟩ => ⟨S256x1570, .f32⟩
  | .local _ .vmem, ⟨7, _⟩ => ⟨S256x1570, .f32⟩
  | .local _ .vmem, ⟨8, _⟩ => ⟨S256x1570, .f32⟩
  | .local _ .vmem, ⟨9, _⟩ => ⟨S256x1570, .f32⟩
  | .local _ .vmem, ⟨10, _⟩ => ⟨S256x1570, .f32⟩
  | .local _ .vmem, ⟨11, _⟩ => ⟨S256x1570, .f32⟩
  | .local _ .vmem, ⟨12, _⟩ => ⟨S256x1570, .f32⟩
  | .local _ .vmem, ⟨13, _⟩ => ⟨S256x1570, .f32⟩
  | .local _ .vmem, ⟨14, _⟩ => ⟨S256x1570, .f32⟩
  | .local _ .vmem, ⟨15, _⟩ => ⟨S256x1570, .f32⟩
  | .local _ .vmem, ⟨16, _⟩ => ⟨S256x1570, .f32⟩
  | .local _ .vmem, ⟨17, _⟩ => ⟨S256x1570, .f32⟩
  | .local _ .smem, ⟨0, _⟩ => ⟨S1, .i32⟩
  | _, _ => ⟨S1024x1570, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S256x1570 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1570 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1570 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1570 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1570 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1570 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1570 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1570 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1570 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .smem S1 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== AdamwInRefIdeal.lean ====
abbrev S1024x1570 : Shape := ⟨2, ![1024, 1570]⟩
abbrev S_ : Shape := ⟨0, ![]⟩
abbrev S1 : Shape := ⟨1, ![1]⟩

abbrev nBuf : Space → Nat
  | .hbm => 41
  | .vmem => 0
  | .smem => 0
  | _ => 0

abbrev bufTy : (tb : Table) → Fin (tcTables nBuf tb) → BufTy
  | .hbm, ⟨0, _⟩ => ⟨S1024x1570, .f32⟩
  | .hbm, ⟨1, _⟩ => ⟨S1024x1570, .f32⟩
  | .hbm, ⟨2, _⟩ => ⟨S1024x1570, .f32⟩
  | .hbm, ⟨3, _⟩ => ⟨S1024x1570, .f32⟩
  | .hbm, ⟨4, _⟩ => ⟨S1024x1570, .f32⟩
  | .hbm, ⟨5, _⟩ => ⟨S1024x1570, .f32⟩
  | .hbm, ⟨6, _⟩ => ⟨S_, .f32⟩
  | .hbm, ⟨7, _⟩ => ⟨S1024x1570, .f32⟩
  | .hbm, ⟨8, _⟩ => ⟨S1024x1570, .f32⟩
  | .hbm, ⟨9, _⟩ => ⟨S_, .f32⟩
  | .hbm, ⟨10, _⟩ => ⟨S1024x1570, .f32⟩
  | .hbm, ⟨11, _⟩ => ⟨S1024x1570, .f32⟩
  | .hbm, ⟨12, _⟩ => ⟨S1024x1570, .f32⟩
  | .hbm, ⟨13, _⟩ => ⟨S_, .f32⟩
  | .hbm, ⟨14, _⟩ => ⟨S1024x1570, .f32⟩
  | .hbm, ⟨15, _⟩ => ⟨S1024x1570, .f32⟩
  | .hbm, ⟨16, _⟩ => ⟨S1024x1570, .f32⟩
  | .hbm, ⟨17, _⟩ => ⟨S_, .f32⟩
  | .hbm, ⟨18, _⟩ => ⟨S1024x1570, .f32⟩
  | .hbm, ⟨19, _⟩ => ⟨S1024x1570, .f32⟩
  | .hbm, ⟨20, _⟩ => ⟨S1024x1570, .f32⟩
  | .hbm, ⟨21, _⟩ => ⟨S_, .f32⟩
  | .hbm, ⟨22, _⟩ => ⟨S1024x1570, .f32⟩
  | .hbm, ⟨23, _⟩ => ⟨S1024x1570, .f32⟩
  | .hbm, ⟨24, _⟩ => ⟨S_, .f32⟩
  | .hbm, ⟨25, _⟩ => ⟨S1024x1570, .f32⟩
  | .hbm, ⟨26, _⟩ => ⟨S1024x1570, .f32⟩
  | .hbm, ⟨27, _⟩ => ⟨S1024x1570, .f32⟩
  | .hbm, ⟨28, _⟩ => ⟨S_, .f32⟩
  | .hbm, ⟨29, _⟩ => ⟨S1024x1570, .f32⟩
  | .hbm, ⟨30, _⟩ => ⟨S1024x1570, .f32⟩
  | .hbm, ⟨31, _⟩ => ⟨S1024x1570, .f32⟩
  | .hbm, ⟨32, _⟩ => ⟨S_, .f32⟩
  | .hbm, ⟨33, _⟩ => ⟨S1024x1570, .f32⟩
  | .hbm, ⟨34, _⟩ => ⟨S1024x1570, .f32⟩
  | .hbm, ⟨35, _⟩ => ⟨S1024x1570, .f32⟩
  | .hbm, ⟨36, _⟩ => ⟨S_, .f32⟩
  | .hbm, ⟨37, _⟩ => ⟨S1024x1570, .f32⟩
  | .hbm, ⟨38, _⟩ => ⟨S1024x1570, .f32⟩
  | .hbm, ⟨39, _⟩ => ⟨S_, .i32⟩
  | .hbm, ⟨40, _⟩ => ⟨S1, .i32⟩
  | _, _ => ⟨S1024x1570, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_c : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== AdamwLora.lean ====
abbrev S64x128 : Shape := ⟨2, ![64, 128]⟩
abbrev S1 : Shape := ⟨1, ![1]⟩

abbrev nBuf : Space → Nat
  | .hbm => 10
  | .vmem => 9
  | .smem => 1
  | _ => 0

abbrev bufTy : (tb : Table) → Fin (tcTables nBuf tb) → BufTy
  | .hbm, ⟨0, _⟩ => ⟨S64x128, .f32⟩
  | .hbm, ⟨1, _⟩ => ⟨S64x128, .f32⟩
  | .hbm, ⟨2, _⟩ => ⟨S64x128, .f32⟩
  | .hbm, ⟨3, _⟩ => ⟨S64x128, .f32⟩
  | .hbm, ⟨4, _⟩ => ⟨S64x128, .f32⟩
  | .hbm, ⟨5, _⟩ => ⟨S64x128, .f32⟩
  | .hbm, ⟨6, _⟩ => ⟨S64x128, .f32⟩
  | .hbm, ⟨7, _⟩ => ⟨S64x128, .f32⟩
  | .hbm, ⟨8, _⟩ => ⟨S64x128, .f32⟩
  | .hbm, ⟨9, _⟩ => ⟨S1, .i32⟩
  | .local _ .vmem, ⟨0, _⟩ => ⟨S64x128, .f32⟩
  | .local _ .vmem, ⟨1, _⟩ => ⟨S64x128, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S64x128, .f32⟩
  | .local _ .vmem, ⟨7, _⟩ => ⟨S64x128, .f32⟩
  | .local _ .vmem, ⟨8, _⟩ => ⟨S64x128, .f32⟩
  | .local _ .smem, ⟨0, _⟩ => ⟨S1, .i32⟩
  | _, _ => ⟨S64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .smem S1 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== AdamwLoraIdeal.lean ====
abbrev S64x128 : Shape := ⟨2, ![64, 128]⟩
abbrev S1 : Shape := ⟨1, ![1]⟩

abbrev nBuf : Space → Nat
  | .hbm => 10
  | .vmem => 9
  | .smem => 1
  | _ => 0

abbrev bufTy : (tb : Table) → Fin (tcTables nBuf tb) → BufTy
  | .hbm, ⟨0, _⟩ => ⟨S64x128, .f32⟩
  | .hbm, ⟨1, _⟩ => ⟨S64x128, .f32⟩
  | .hbm, ⟨2, _⟩ => ⟨S64x128, .f32⟩
  | .hbm, ⟨3, _⟩ => ⟨S64x128, .f32⟩
  | .hbm, ⟨4, _⟩ => ⟨S64x128, .f32⟩
  | .hbm, ⟨5, _⟩ => ⟨S64x128, .f32⟩
  | .hbm, ⟨6, _⟩ => ⟨S64x128, .f32⟩
  | .hbm, ⟨7, _⟩ => ⟨S64x128, .f32⟩
  | .hbm, ⟨8, _⟩ => ⟨S64x128, .f32⟩
  | .hbm, ⟨9, _⟩ => ⟨S1, .i32⟩
  | .local _ .vmem, ⟨0, _⟩ => ⟨S64x128, .f32⟩
  | .local _ .vmem, ⟨1, _⟩ => ⟨S64x128, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S64x128, .f32⟩
  | .local _ .vmem, ⟨7, _⟩ => ⟨S64x128, .f32⟩
  | .local _ .vmem, ⟨8, _⟩ => ⟨S64x128, .f32⟩
  | .local _ .smem, ⟨0, _⟩ => ⟨S1, .i32⟩
  | _, _ => ⟨S64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .smem S1 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== AdamwLoraRefIdeal.lean ====
abbrev S64x128 : Shape := ⟨2, ![64, 128]⟩
abbrev S_ : Shape := ⟨0, ![]⟩
abbrev S1 : Shape := ⟨1, ![1]⟩

abbrev nBuf : Space → Nat
  | .hbm => 41
  | .vmem => 0
  | .smem => 0
  | _ => 0

abbrev bufTy : (tb : Table) → Fin (tcTables nBuf tb) → BufTy
  | .hbm, ⟨0, _⟩ => ⟨S64x128, .f32⟩
  | .hbm, ⟨1, _⟩ => ⟨S64x128, .f32⟩
  | .hbm, ⟨2, _⟩ => ⟨S64x128, .f32⟩
  | .hbm, ⟨3, _⟩ => ⟨S64x128, .f32⟩
  | .hbm, ⟨4, _⟩ => ⟨S64x128, .f32⟩
  | .hbm, ⟨5, _⟩ => ⟨S64x128, .f32⟩
  | .hbm, ⟨6, _⟩ => ⟨S_, .f32⟩
  | .hbm, ⟨7, _⟩ => ⟨S64x128, .f32⟩
  | .hbm, ⟨8, _⟩ => ⟨S64x128, .f32⟩
  | .hbm, ⟨9, _⟩ => ⟨S_, .f32⟩
  | .hbm, ⟨10, _⟩ => ⟨S64x128, .f32⟩
  | .hbm, ⟨11, _⟩ => ⟨S64x128, .f32⟩
  | .hbm, ⟨12, _⟩ => ⟨S64x128, .f32⟩
  | .hbm, ⟨13, _⟩ => ⟨S_, .f32⟩
  | .hbm, ⟨14, _⟩ => ⟨S64x128, .f32⟩
  | .hbm, ⟨15, _⟩ => ⟨S64x128, .f32⟩
  | .hbm, ⟨16, _⟩ => ⟨S64x128, .f32⟩
  | .hbm, ⟨17, _⟩ => ⟨S_, .f32⟩
  | .hbm, ⟨18, _⟩ => ⟨S64x128, .f32⟩
  | .hbm, ⟨19, _⟩ => ⟨S64x128, .f32⟩
  | .hbm, ⟨20, _⟩ => ⟨S64x128, .f32⟩
  | .hbm, ⟨21, _⟩ => ⟨S_, .f32⟩
  | .hbm, ⟨22, _⟩ => ⟨S64x128, .f32⟩
  | .hbm, ⟨23, _⟩ => ⟨S64x128, .f32⟩
  | .hbm, ⟨24, _⟩ => ⟨S_, .f32⟩
  | .hbm, ⟨25, _⟩ => ⟨S64x128, .f32⟩
  | .hbm, ⟨26, _⟩ => ⟨S64x128, .f32⟩
  | .hbm, ⟨27, _⟩ => ⟨S64x128, .f32⟩
  | .hbm, ⟨28, _⟩ => ⟨S_, .f32⟩
  | .hbm, ⟨29, _⟩ => ⟨S64x128, .f32⟩
  | .hbm, ⟨30, _⟩ => ⟨S64x128, .f32⟩
  | .hbm, ⟨31, _⟩ => ⟨S64x128, .f32⟩
  | .hbm, ⟨32, _⟩ => ⟨S_, .f32⟩
  | .hbm, ⟨33, _⟩ => ⟨S64x128, .f32⟩
  | .hbm, ⟨34, _⟩ => ⟨S64x128, .f32⟩
  | .hbm, ⟨35, _⟩ => ⟨S64x128, .f32⟩
  | .hbm, ⟨36, _⟩ => ⟨S_, .f32⟩
  | .hbm, ⟨37, _⟩ => ⟨S64x128, .f32⟩
  | .hbm, ⟨38, _⟩ => ⟨S64x128, .f32⟩
  | .hbm, ⟨39, _⟩ => ⟨S_, .i32⟩
  | .hbm, ⟨40, _⟩ => ⟨S1, .i32⟩
  | _, _ => ⟨S64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_c : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== AdamwOutA.lean ====
abbrev S512x256 : Shape := ⟨2, ![512, 256]⟩
abbrev S1 : Shape := ⟨1, ![1]⟩
abbrev S256x256 : Shape := ⟨2, ![256, 256]⟩

abbrev nBuf : Space → Nat
  | .hbm => 10
  | .vmem => 18
  | .smem => 1
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S1, .i32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .smem, ⟨0, _⟩ => ⟨S1, .i32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .smem S1 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== AdamwOutAIdeal.lean ====
abbrev S512x256 : Shape := ⟨2, ![512, 256]⟩
abbrev S1 : Shape := ⟨1, ![1]⟩
abbrev S256x256 : Shape := ⟨2, ![256, 256]⟩

abbrev nBuf : Space → Nat
  | .hbm => 10
  | .vmem => 18
  | .smem => 1
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S1, .i32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .smem, ⟨0, _⟩ => ⟨S1, .i32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .smem S1 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== AdamwOutARefIdeal.lean ====
abbrev S512x256 : Shape := ⟨2, ![512, 256]⟩
abbrev S_ : Shape := ⟨0, ![]⟩
abbrev S1 : Shape := ⟨1, ![1]⟩

abbrev nBuf : Space → Nat
  | .hbm => 41
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S_, .f32⟩
  | .hbm, ⟨7, _⟩ => ⟨S512x256, .f32⟩
  | .hbm, ⟨8, _⟩ => ⟨S512x256, .f32⟩
  | .hbm, ⟨9, _⟩ => ⟨S_, .f32⟩
  | .hbm, ⟨10, _⟩ => ⟨S512x256, .f32⟩
  | .hbm, ⟨11, _⟩ => ⟨S512x256, .f32⟩
  | .hbm, ⟨12, _⟩ => ⟨S512x256, .f32⟩
  | .hbm, ⟨13, _⟩ => ⟨S_, .f32⟩
  | .hbm, ⟨14, _⟩ => ⟨S512x256, .f32⟩
  | .hbm, ⟨15, _⟩ => ⟨S512x256, .f32⟩
  | .hbm, ⟨16, _⟩ => ⟨S512x256, .f32⟩
  | .hbm, ⟨17, _⟩ => ⟨S_, .f32⟩
  | .hbm, ⟨18, _⟩ => ⟨S512x256, .f32⟩
  | .hbm, ⟨19, _⟩ => ⟨S512x256, .f32⟩
  | .hbm, ⟨20, _⟩ => ⟨S512x256, .f32⟩
  | .hbm, ⟨21, _⟩ => ⟨S_, .f32⟩
  | .hbm, ⟨22, _⟩ => ⟨S512x256, .f32⟩
  | .hbm, ⟨23, _⟩ => ⟨S512x256, .f32⟩
  | .hbm, ⟨24, _⟩ => ⟨S_, .f32⟩
  | .hbm, ⟨25, _⟩ => ⟨S512x256, .f32⟩
  | .hbm, ⟨26, _⟩ => ⟨S512x256, .f32⟩
  | .hbm, ⟨27, _⟩ => ⟨S512x256, .f32⟩
  | .hbm, ⟨28, _⟩ => ⟨S_, .f32⟩
  | .hbm, ⟨29, _⟩ => ⟨S512x256, .f32⟩
  | .hbm, ⟨30, _⟩ => ⟨S512x256, .f32⟩
  | .hbm, ⟨31, _⟩ => ⟨S512x256, .f32⟩
  | .hbm, ⟨32, _⟩ => ⟨S_, .f32⟩
  | .hbm, ⟨33, _⟩ => ⟨S512x256, .f32⟩
  | .hbm, ⟨34, _⟩ => ⟨S512x256, .f32⟩
  | .hbm, ⟨35, _⟩ => ⟨S512x256, .f32⟩
  | .hbm, ⟨36, _⟩ => ⟨S_, .f32⟩
  | .hbm, ⟨37, _⟩ => ⟨S512x256, .f32⟩
  | .hbm, ⟨38, _⟩ => ⟨S512x256, .f32⟩
  | .hbm, ⟨39, _⟩ => ⟨S_, .i32⟩
  | .hbm, ⟨40, _⟩ => ⟨S1, .i32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_c : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== AdamwOut.lean ====
abbrev S256x1024 : Shape := ⟨2, ![256, 1024]⟩
abbrev S1 : Shape := ⟨1, ![1]⟩

abbrev nBuf : Space → Nat
  | .hbm => 10
  | .vmem => 9
  | .smem => 1
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S1, .i32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .smem, ⟨0, _⟩ => ⟨S1, .i32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .smem S1 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== AdamwOutRefIdeal.lean ====
abbrev S256x1024 : Shape := ⟨2, ![256, 1024]⟩
abbrev S_ : Shape := ⟨0, ![]⟩
abbrev S1 : Shape := ⟨1, ![1]⟩

abbrev nBuf : Space → Nat
  | .hbm => 41
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S_, .f32⟩
  | .hbm, ⟨7, _⟩ => ⟨S256x1024, .f32⟩
  | .hbm, ⟨8, _⟩ => ⟨S256x1024, .f32⟩
  | .hbm, ⟨9, _⟩ => ⟨S_, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S_, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S_, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S_, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S_, .f32⟩
  | .hbm, ⟨37, _⟩ => ⟨S256x1024, .f32⟩
  | .hbm, ⟨38, _⟩ => ⟨S256x1024, .f32⟩
  | .hbm, ⟨39, _⟩ => ⟨S_, .i32⟩
  | .hbm, ⟨40, _⟩ => ⟨S1, .i32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_c : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== AdamwSmall.lean ====
abbrev S16x2176 : Shape := ⟨2, ![16, 2176]⟩

abbrev nBuf : Space → Nat
  | .hbm => 8
  | .vmem => 8
  | .smem => 0
  | _ => 0

abbrev bufTy : (tb : Table) → Fin (tcTables nBuf tb) → BufTy
  | .hbm, ⟨0, _⟩ => ⟨S16x2176, .f32⟩
  | .hbm, ⟨1, _⟩ => ⟨S16x2176, .f32⟩
  | .hbm, ⟨2, _⟩ => ⟨S16x2176, .f32⟩
  | .hbm, ⟨3, _⟩ => ⟨S16x2176, .f32⟩
  | .hbm, ⟨4, _⟩ => ⟨S16x2176, .f32⟩
  | .hbm, ⟨5, _⟩ => ⟨S16x2176, .f32⟩
  | .hbm, ⟨6, _⟩ => ⟨S16x2176, .f32⟩
  | .hbm, ⟨7, _⟩ => ⟨S16x2176, .f32⟩
  | .local _ .vmem, ⟨0, _⟩ => ⟨S16x2176, .f32⟩
  | .local _ .vmem, ⟨1, _⟩ => ⟨S16x2176, .f32⟩
  | .local _ .vmem, ⟨2, _⟩ => ⟨S16x2176, .f32⟩
  | .local _ .vmem, ⟨3, _⟩ => ⟨S16x2176, .f32⟩
  | .local _ .vmem, ⟨4, _⟩ => ⟨S16x2176, .f32⟩
  | .local _ .vmem, ⟨5, _⟩ => ⟨S16x2176, .f32⟩
  | .local _ .vmem, ⟨6, _⟩ => ⟨S16x2176, .f32⟩
  | .local _ .vmem, ⟨7, _⟩ => ⟨S16x2176, .f32⟩
  | _, _ => ⟨S16x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x2176 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x2176 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x2176 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x2176 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x2176 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x2176 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x2176 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x2176 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwSmallRefIdeal.lean ====
abbrev S16x2176 : Shape := ⟨2, ![16, 2176]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x2176, .f32⟩
  | .hbm, ⟨1, _⟩ => ⟨S16x2176, .f32⟩
  | .hbm, ⟨2, _⟩ => ⟨S16x2176, .f32⟩
  | .hbm, ⟨3, _⟩ => ⟨S16x2176, .f32⟩
  | .hbm, ⟨4, _⟩ => ⟨S_, .f32⟩
  | .hbm, ⟨5, _⟩ => ⟨S16x2176, .f32⟩
  | .hbm, ⟨6, _⟩ => ⟨S16x2176, .f32⟩
  | .hbm, ⟨7, _⟩ => ⟨S_, .f32⟩
  | .hbm, ⟨8, _⟩ => ⟨S16x2176, .f32⟩
  | .hbm, ⟨9, _⟩ => ⟨S16x2176, .f32⟩
  | .hbm, ⟨10, _⟩ => ⟨S16x2176, .f32⟩
  | .hbm, ⟨11, _⟩ => ⟨S_, .f32⟩
  | .hbm, ⟨12, _⟩ => ⟨S16x2176, .f32⟩
  | .hbm, ⟨13, _⟩ => ⟨S16x2176, .f32⟩
  | .hbm, ⟨14, _⟩ => ⟨S16x2176, .f32⟩
  | .hbm, ⟨15, _⟩ => ⟨S_, .f32⟩
  | .hbm, ⟨16, _⟩ => ⟨S16x2176, .f32⟩
  | .hbm, ⟨17, _⟩ => ⟨S16x2176, .f32⟩
  | .hbm, ⟨18, _⟩ => ⟨S16x2176, .f32⟩
  | .hbm, ⟨19, _⟩ => ⟨S_, .f32⟩
  | .hbm, ⟨20, _⟩ => ⟨S16x2176, .f32⟩
  | .hbm, ⟨21, _⟩ => ⟨S16x2176, .f32⟩
  | .hbm, ⟨22, _⟩ => ⟨S_, .f32⟩
  | .hbm, ⟨23, _⟩ => ⟨S16x2176, .f32⟩
  | .hbm, ⟨24, _⟩ => ⟨S16x2176, .f32⟩
  | .hbm, ⟨25, _⟩ => ⟨S16x2176, .f32⟩
  | .hbm, ⟨26, _⟩ => ⟨S_, .f32⟩
  | .hbm, ⟨27, _⟩ => ⟨S16x2176, .f32⟩
  | .hbm, ⟨28, _⟩ => ⟨S16x2176, .f32⟩
  | .hbm, ⟨29, _⟩ => ⟨S16x2176, .f32⟩
  | .hbm, ⟨30, _⟩ => ⟨S_, .f32⟩
  | .hbm, ⟨31, _⟩ => ⟨S16x2176, .f32⟩
  | .hbm, ⟨32, _⟩ => ⟨S16x2176, .f32⟩
  | .hbm, ⟨33, _⟩ => ⟨S16x2176, .f32⟩
  | .hbm, ⟨34, _⟩ => ⟨S_, .f32⟩
  | .hbm, ⟨35, _⟩ => ⟨S16x2176, .f32⟩
  | .hbm, ⟨36, _⟩ => ⟨S16x2176, .f32⟩
  | _, _ => ⟨S16x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Common.lean ====
/- Facts about extended reals that the value claims share: sums of real numbers, the constants of the programs, an exact
   product split into three pieces, the sum over one head, the gradient of the RMS norm, the gradient of log sigmoid,
   and the arrays that a `finite` precondition makes real. -/
module

public import Idealize.ShloMosaic.Lib.Pipeline.ValueKit
public import Idealize.ShloMosaic.Lib.Pointwise
public import Idealize.ShloMosaic.Lib.ReduceAll

@[expose] public section

set_option maxRecDepth 16384

noncomputable section

namespace Cert.Proof

open Idealize.ShloMosaic Idealize.ShloMosaic.TcCoe Idealize.SL.Sem

/-- The extended real `x` is a real number. -/
def IsReal (x : EReal) : Prop := ∃ r : ℝ, x = r

/-- An array of real numbers is the image of one. -/
theorem exists_real {ι : Type} {x : ι → EReal} (h : ∀ i, IsReal (x i)) : ∃ X : ι → ℝ, x = fun i => (X i : EReal) :=
  ⟨fun i => (h i).choose, funext fun i => (h i).choose_spec⟩

/-- The image of a finite sum of real numbers. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem c_one : Ideal.ofBits .f32 0x3F800000#32 = ((1 : ℝ) : EReal) := by
  simp [Ideal.ofBits, Ideal.ieee, -EReal.coe_mul]; norm_num
theorem c_64 : Ideal.ofBits .f32 0x42800000#32 = ((64 : ℝ) : EReal) := by
  simp [Ideal.ofBits, Ideal.ieee, -EReal.coe_mul]; norm_num
theorem c_inv64 : Ideal.ofBits .f32 0x3C800000#32 = ((1 / 64 : ℝ) : EReal) := by
  simp [Ideal.ofBits, Ideal.ieee, -EReal.coe_mul]; norm_num
theorem c_neg_half : Ideal.ofBits .f32 0xBF000000#32 = ((-1 / 2 : ℝ) : EReal) := by
  simp [Ideal.ofBits, Ideal.ieee, -EReal.coe_mul]; norm_num
theorem c_top : Ideal.ofBits .f32 0x7F800000#32 = ⊤ := by simp [Ideal.ofBits, Ideal.ieee]
/-- The constant added under the root of an RMS norm is a positive real number. -/
theorem c_eps : ∃ e : ℝ, 0 < e ∧ Ideal.ofBits .f32 0x358637BD#32 = (e : EReal) := by
  refine ⟨_, ?_, by simp only [Ideal.ofBits, Ideal.ieee]; simp [-EReal.coe_mul]; rfl⟩
  norm_num

/-- Three products of the pieces `f`, `f - f`, … of a split operand: of real numbers the first is the whole. -/
theorem split_dot {ι : Type} [Fintype ι] (f : ι → ℝ) (b : ι → EReal) :
    ((∑ k, (f k : EReal) * b k) + ∑ k, ((f k : EReal) - f k) * b k) + ∑ k, (((f k : EReal) - f k) - ((f k : EReal) - f k)) * b k
      = ∑ k, (f k : EReal) * b k := by
  have h : ∀ k, (f k : EReal) - f k = 0 := fun k => by rw [← EReal.coe_sub, sub_self]; rfl
  simp [h]

/-- The same with the split operand on the right. -/
theorem split_dot' {ι : Type} [Fintype ι] (f : ι → ℝ) (b : ι → EReal) :
    ((∑ k, b k * (f k : EReal)) + ∑ k, b k * ((f k : EReal) - f k)) + ∑ k, b k * (((f k : EReal) - f k) - ((f k : EReal) - f k))
      = ∑ k, b k * (f k : EReal) := by
  have h : ∀ k, (f k : EReal) - f k = 0 := fun k => by rw [← EReal.coe_sub, sub_self]; rfl
  simp [h]

/-- An entry of the matrix that sums over the heads of a 128-wide slice. -/
def headOne (a b : ℕ) : EReal := if a / 64 = b / 64 then 1 else 0

theorem shr6 : ∀ n : Fin 128, IntOp.shrsi ArithUnit.vector (BitVec.ofNat 32 n.val) 6#32 = BitVec.ofNat 32 (n.val / 64) := by
  decide +kernel

/-- The printed entry of the head matrix. -/
theorem headOne_eq (a b : Fin 128) :
    FloatOps.sitofp (F := Ideal) FTy.f32 (BitVec.setWidth 32 (IntOp.cmpi CmpIPredicate.eq
      (IntOp.shrsi ArithUnit.vector (BitVec.ofNat 32 a.val) 6#32) (IntOp.shrsi ArithUnit.vector (BitVec.ofNat 32 b.val) 6#32)))
      = headOne a.val b.val := by
  rw [shr6, shr6]
  have ha : a.val / 64 = 0 ∨ a.val / 64 = 1 := by omega
  have hb : b.val / 64 = 0 ∨ b.val / 64 = 1 := by omega
  unfold headOne
  rcases ha with ha | ha <;> rcases hb with hb | hb <;> rw [ha, hb] <;>
    simp [IntOp.cmpi, FloatOps.sitofp]

/-- The head matrix times a row of 128 numbers is the sum over the 64 lanes of the head. -/
theorem sum_headOne (f : Fin 128 → EReal) (b : Fin 128) :
    ∑ k : Fin 128, f k * headOne k.val b.val = ∑ d : Fin 64, f ⟨b.val / 64 * 64 + d.val, by omega⟩ := by
  rw [← Fin.sum_mul_add_fin 2 64 (fun k : Fin 128 => f k * headOne k.val b.val) rfl,
    Finset.sum_eq_single (⟨b.val / 64, by omega⟩ : Fin 2)]
  · refine Finset.sum_congr rfl fun d _ => ?_
    unfold headOne
    rw [if_pos (by have := d.isLt; show (b.val / 64 * 64 + d.val) / 64 = b.val / 64; omega), mul_one]
  · intro q _ hq
    refine Finset.sum_eq_zero fun d _ => ?_
    unfold headOne
    have hne : q.val ≠ b.val / 64 := fun h => hq (Fin.ext h)
    rw [if_neg (by have := d.isLt; show ¬(q.val * 64 + d.val) / 64 = b.val / 64; omega), mul_zero]
  · intro h; exact absurd (Finset.mem_univ _) h

theorem toInt_256 : ∀ n : Fin 256, (BitVec.ofNat 32 n.val).toInt = (n.val : ℤ) := by decide +kernel

/-- The printed entry of the triangular matrix that sums the rows at and after one. -/
theorem triOne_eq (a b : Fin 256) :
    FloatOps.sitofp (F := Ideal) FTy.f32 (BitVec.setWidth 32 (IntOp.cmpi CmpIPredicate.sle (BitVec.ofNat 32 a.val) (BitVec.ofNat 32 b.val)))
      = if a.val ≤ b.val then (1 : EReal) else 0 := by
  by_cases h : a.val ≤ b.val
  · rw [if_pos h, show IntOp.cmpi CmpIPredicate.sle (BitVec.ofNat 32 a.val) (BitVec.ofNat 32 b.val) = 1#1 from by
      simp only [IntOp.cmpi, BitVec.sle, toInt_256]; simp [h]]
    simp [FloatOps.sitofp]
  · rw [if_neg h, show IntOp.cmpi CmpIPredicate.sle (BitVec.ofNat 32 a.val) (BitVec.ofNat 32 b.val) = 0#1 from by
      simp only [IntOp.cmpi, BitVec.sle, toInt_256]; simp [h]]
    simp [FloatOps.sitofp]

/-- Lane `d` of the head that column `b` of 512 lies in. -/
def lane (b : Fin 512) (d : Fin 64) : Fin 512 := ⟨b.val / 64 * 64 + d.val, by omega⟩

theorem lane_self (b : Fin 512) : lane b ⟨b.val % 64, by omega⟩ = b := Fin.ext (by show b.val / 64 * 64 + b.val % 64 = b.val; omega)

theorem lane_lane (b : Fin 512) (d e : Fin 64) : lane (lane b d) e = lane b e :=
  Fin.ext (by show (b.val / 64 * 64 + d.val) / 64 * 64 + e.val = b.val / 64 * 64 + e.val; omega)

/-- The exact product of a 128-wide slice of a row with the head matrix is the sum over the head. -/
theorem chunk (y : Fin 512 → ℝ) (b : Fin 512) (o k : ℕ) (ho : o % 64 = 0) (hk : b.val = o + k) (hk' : k < 128) (ix : Fin 128 → Fin 512)
    (hix : ∀ x, (ix x).val = o + x.val) :
    ((∑ x : Fin 128, (y (ix x) : EReal) * headOne x.val k) + ∑ x : Fin 128, ((y (ix x) : EReal) - y (ix x)) * headOne x.val k)
      + ∑ x : Fin 128, (((y (ix x) : EReal) - y (ix x)) - ((y (ix x) : EReal) - y (ix x))) * headOne x.val k
      = ((∑ d : Fin 64, y (lane b d) : ℝ) : EReal) := by
  rw [split_dot (fun x : Fin 128 => y (ix x)), sum_headOne (fun x : Fin 128 => (y (ix x) : EReal)) ⟨k, hk'⟩, coe_sum]
  refine Finset.sum_congr rfl fun d _ => congrArg (fun i => (y i : EReal)) (Fin.ext ?_)
  rw [hix]
  show o + (k / 64 * 64 + d.val) = b.val / 64 * 64 + d.val
  omega

/-- One minus the logistic function is the derivative of log sigmoid as the reference writes it, at the infinities too. -/
theorem sigmoid_factor (x : EReal) :
    (1 : EReal) - Ideal.div 1 (1 + Ideal.exp (-x))
      = Ideal.exp ((if -x = ⊤ then 0 else -x)
          - if max (-x) 0 + Ideal.log1p (Ideal.exp (-(FloatOps.absf (F := Ideal) (φ := .f32) (-x)))) = ⊤ then 0
            else max (-x) 0 + Ideal.log1p (Ideal.exp (-(FloatOps.absf (F := Ideal) (φ := .f32) (-x))))) := by
  have hs : ∀ y : EReal, FloatOps.absf (F := Ideal) (φ := .f32) y = max y (-y) := fun _ => rfl
  rw [hs]
  induction x using EReal.rec with
  | bot =>
    have h1 : (1 : EReal) + ⊤ = ⊤ := rfl
    have h2 : Ideal.log 1 = 0 := by rw [show (1 : EReal) = ((1 : ℝ) : EReal) from rfl, Ideal.log_coe]; simp
    have h3 : Ideal.exp 0 = 1 := by rw [show (0 : EReal) = ((0 : ℝ) : EReal) from rfl, Ideal.exp_coe, Real.exp_zero]; rfl
    simp [Ideal.div, Ideal.log1p, h1, h2, h3]
  | top =>
    have h1 : (1 : EReal) - 1 = 0 := by rw [show (1 : EReal) = ((1 : ℝ) : EReal) from rfl, ← EReal.coe_sub]; simp
    simp [Ideal.div, Ideal.log1p, h1]
  | coe x =>
    have e : ∀ y : ℝ, (1 : EReal) + (y : EReal) = ((1 + y : ℝ) : EReal) := fun y => by rw [EReal.coe_add]; rfl
    have hm : max (-(x : EReal)) (- -(x : EReal)) = ((|x| : ℝ) : EReal) := by
      rw [neg_neg, max_comm, ← EReal.coe_neg]; exact (EReal.coe_strictMono.monotone.map_max (a := x) (b := -x)).symm
    have h0 : max (-(x : EReal)) 0 = ((max (-x) 0 : ℝ) : EReal) := (EReal.coe_strictMono.monotone.map_max (a := -x) (b := 0)).symm
    have hp : 0 < 1 + Real.exp (-x) := by positivity
    have hq : 0 < 1 + Real.exp (-|x|) := by positivity
    have hl : max (-x) 0 + Real.log (1 + Real.exp (-|x|)) = Real.log (1 + Real.exp (-x)) := by
      rcases le_total 0 x with h | h
      · rw [abs_of_nonneg h, max_eq_right (by linarith), zero_add]
      · rw [abs_of_nonpos h, max_eq_left (by linarith), neg_neg]
        have : 1 + Real.exp (-x) = Real.exp (-x) * (1 + Real.exp x) := by
          rw [mul_add, mul_one, ← Real.exp_add]; simp [add_comm]
        rw [this, Real.log_mul (Real.exp_ne_zero _) (by positivity), Real.log_exp]
    rw [hm, h0, ← EReal.coe_neg, ← EReal.coe_neg, Ideal.exp_coe, Ideal.exp_coe, Ideal.log1p, e, e, Ideal.log_coe, if_neg (not_le.2 hq),
      ← EReal.coe_add, hl, if_neg (EReal.coe_ne_top _), if_neg (EReal.coe_ne_top _), ← EReal.coe_sub, Ideal.exp_coe,
      Ideal.div_coe hp.ne', one_mul, Real.exp_sub, Real.exp_log hp]
    rw [show (1 : EReal) = ((1 : ℝ) : EReal) from rfl, ← EReal.coe_sub]
    congr 1
    field_simp
    ring

/-- The gradient of the RMS norm of a row of 64 numbers, as the kernel writes it: `x` the row, `d` the incoming gradient
    times the gain. -/
def rmsKer (x d : Fin 64 → EReal) (c : Fin 64) : EReal :=
  Ideal.rsqrt ((∑ k, x k * x k) * Ideal.ofBits .f32 0x3C800000#32 + Ideal.ofBits .f32 0x358637BD#32) *
    (d c - x c * Ideal.rsqrt ((∑ k, x k * x k) * Ideal.ofBits .f32 0x3C800000#32 + Ideal.ofBits .f32 0x358637BD#32) *
      ((∑ k, d k * (x k * Ideal.rsqrt ((∑ k, x k * x k) * Ideal.ofBits .f32 0x3C800000#32 + Ideal.ofBits .f32 0x358637BD#32))) *
        Ideal.ofBits .f32 0x3C800000#32))

/-- The mean square of a row under its root, as the reference writes it. -/
def rmsRoot (x : Fin 64 → EReal) : EReal :=
  Ideal.div (0 + ∑ k, x k * x k) (Ideal.ofBits .f32 0x42800000#32) + Ideal.ofBits .f32 0x358637BD#32

/-- The gradient through the mean square, as the reference writes it. -/
def rmsMean (x d : Fin 64 → EReal) : EReal :=
  0 + ∑ _u : Fin 1, Ideal.div ((0 + ∑ k, x k * d k) * (Ideal.ofBits .f32 0xBF000000#32 * Ideal.div (Ideal.rsqrt (rmsRoot x)) (rmsRoot x)))
    (Ideal.ofBits .f32 0x42800000#32)

/-- The same gradient as the reference writes it. -/
def rmsRef (x d : Fin 64 → EReal) (c : Fin 64) : EReal :=
  d c * Ideal.rsqrt (rmsRoot x) + x c * rmsMean x d + rmsMean x d * x c

/-- The kernel's scale of a row and the reference's are one. -/
theorem rmsRoot_eq (X : Fin 64 → ℝ) : ∃ M : ℝ, 0 < M ∧ rmsRoot (fun k => (X k : EReal)) = (M : EReal) ∧
    (∑ k, (X k : EReal) * X k) * Ideal.ofBits .f32 0x3C800000#32 + Ideal.ofBits .f32 0x358637BD#32 = (M : EReal) := by
  obtain ⟨e, he, hE⟩ := c_eps
  refine ⟨(∑ k, X k * X k) * (1 / 64) + e, by have : 0 ≤ ∑ k, X k * X k := Finset.sum_nonneg fun k _ => mul_self_nonneg _; positivity, ?_, ?_⟩
  · simp only [rmsRoot, hE, c_64, zero_add, ← EReal.coe_mul, ← coe_sum]
    rw [Ideal.div_coe (by norm_num), ← EReal.coe_mul, ← EReal.coe_add]
  · simp only [hE, c_inv64, ← EReal.coe_mul, ← coe_sum, ← EReal.coe_add]

/-- Of real numbers the two are equal. -/
theorem rms_grad (X D : Fin 64 → ℝ) (c : Fin 64) :
    rmsKer (fun k => (X k : EReal)) (fun k => (D k : EReal)) c = rmsRef (fun k => (X k : EReal)) (fun k => (D k : EReal)) c := by
  obtain ⟨M, hM, h1, h2⟩ := rmsRoot_eq X
  simp only [rmsKer, rmsRef, rmsMean, h1, h2]
  simp only [c_64, c_inv64, c_neg_half, Ideal.rsqrt_coe, if_neg (not_lt.2 hM.le), if_neg hM.ne', zero_add,
    Finset.univ_unique, Finset.sum_const, Finset.card_singleton, one_smul]
  rw [Ideal.div_coe hM.ne', Ideal.div_coe (by norm_num)]
  simp only [← EReal.coe_mul, ← coe_sum, ← EReal.coe_sub, ← EReal.coe_add]
  congr 1
  have hr : (√M)⁻¹ * (√M)⁻¹ = 1 / M := by rw [← mul_inv, Real.mul_self_sqrt hM.le, one_div]
  have e1 : ∑ k, D k * (X k * (√M)⁻¹) = (∑ k, X k * D k) * (√M)⁻¹ := by
    rw [Finset.sum_mul]; exact Finset.sum_congr rfl fun k _ => by ring
  rw [e1, ← hr]
  ring

/-- Re-indexing a reverse running sum. -/
theorem sum_shift (N n : ℕ) (y : ℕ → EReal) :
    (∑ k : Fin N, if n + k.val < N then y (n + k.val) else 0) = ∑ k : Fin N, if n ≤ k.val then y k.val else 0 := by
  rw [Fin.sum_univ_eq_sum_range (fun k => if n + k < N then y (n + k) else 0) N,
    Fin.sum_univ_eq_sum_range (fun k => if n ≤ k then y k else 0) N, ← Finset.sum_filter, ← Finset.sum_filter]
  refine Finset.sum_nbij' (fun k => n + k) (fun k => k - n) ?_ ?_ ?_ ?_ ?_
  all_goals intro k hk; simp only [Finset.mem_filter, Finset.mem_range] at hk ⊢
  all_goals first | omega | rfl

theorem foldl_add {ι : Type} (g : ι → EReal) : ∀ (l : List ι) (v : EReal), l.foldl (fun r n => r + g n) v = v + (l.map g).sum
  | [], v => by simp
  | a :: l, v => by rw [List.foldl_cons, foldl_add g l, List.map_cons, List.sum_cons, add_assoc]

/-- A real number has a finite absolute value. -/
theorem isReal_of_all {s u t : Shape} {axes} [Subsingleton t.Idx] (x : FVec Ideal s .f32) (c : FVec Ideal u .f32) (hc : ∀ i, c i = ⊤)
    (dims) (hb : u.BroadcastsInDim s dims) (init : u.Idx → BitVec 1) (hr : s.ReducesTo axes t) (hp : 0 < u.numel) (j : t.Idx)
    (h : Host.reduce IntOp.andi (cmpf .olt (Host.absf x) (broadcastInDim s dims hb c)) init hr hp j = 1#1) (i : s.Idx) :
    IsReal (x i) := by
  have h1 := Host.reduce_andi_all _ _ _ _ _ h i
  have h2 : max (x i) (-(x i)) < ⊤ := by
    have e : broadcastInDim s dims hb c i = ⊤ := hc _
    have h3 : Ideal.cmp .olt (max (x i) (-(x i))) (broadcastInDim s dims hb c i) = 1#1 := h1
    rw [e] at h3
    by_contra hn
    simp [Ideal.cmp, hn] at h3
  rw [max_lt_iff] at h2
  induction hx : x i using EReal.rec with
  | bot => rw [hx] at h2; simp at h2
  | top => rw [hx] at h2; simp at h2
  | coe r => exact ⟨r, rfl⟩

/-- A sum over windows, padded with zero, is the sum over the window's positions. -/
theorem reduceWindow_sum {s t u : Shape} (window strides lo hi : Fin s.rank → ℕ) (x : FVec Ideal s .f32) (v : FVec Ideal u .f32)
    (h : s.ReduceWindows window strides lo hi t) (hu : 0 < u.numel) (hv : v (Shape.Idx.first hu) = 0) (j : t.Idx) :
    Host.reduceWindowAdd window strides lo hi x v h hu j
      = ∑ w : (⟨s.rank, window⟩ : Shape).Idx, (if hin : ∀ a, lo a ≤ (j (a.cast h.1.symm)).val * strides a + (w a).val
          ∧ (j (a.cast h.1.symm)).val * strides a + (w a).val - lo a < s.size a then
            x (fun a => ⟨(j (a.cast h.1.symm)).val * strides a + (w a).val - lo a, (hin a).2⟩) else 0 : EReal) := by
  show Ideal.hostReduceWindowAdd _ _ _ _ h x (v _) j = _
  rw [hv, sum_idx_eq_foldl]
  unfold Ideal.hostReduceWindowAdd Host.reduceWindow
  dsimp only
  congr 1
  funext r n
  congr 1
  split_ifs <;> rfl

/-- The reverse running sum of each column of a 2048 by 8 array: what lies at and after the row. -/
theorem reduceWindow_rev {u : Shape} (x : FVec Ideal ⟨2, ![2048, 8]⟩ .f32) (v : FVec Ideal u .f32)
    (h : (⟨2, ![2048, 8]⟩ : Shape).ReduceWindows ![2048, 1] ![1, 1] ![0, 0] ![2047, 0] ⟨2, ![2048, 8]⟩) (hu : 0 < u.numel)
    (hv : v (Shape.Idx.first hu) = 0) (n : Fin 2048) (c : Fin 8) :
    Host.reduceWindowAdd ![2048, 1] ![1, 1] ![0, 0] ![2047, 0] x v h hu (ix2 n c)
      = ∑ k : Fin 2048, if n.val ≤ k.val then x (ix2 k c) else 0 := by
  rw [reduceWindow_sum _ _ _ _ x v h hu hv]
  have key := sum_shift 2048 n.val (fun k => if hk : k < 2048 then x (ix2 ⟨k, hk⟩ c) else 0)
  simp only [Fin.is_lt, dif_pos] at key
  rw [← key, show (∑ w : (⟨(⟨2, ![2048, 8]⟩ : Shape).rank, ![2048, 1]⟩ : Shape).Idx, _)
    = ∑ a : Fin 2048, ∑ b : Fin 1, _ from sum_idx2 (n0 := 2048) (n1 := 1) _]
  refine Finset.sum_congr rfl fun k _ => ?_
  rw [Fin.sum_univ_one]
  by_cases hk : n.val + k.val < 2048
  · rw [dif_pos (by
      intro a; match a with
      | ⟨0, _⟩ => exact ⟨Nat.zero_le _, by show n.val * 1 + k.val - 0 < 2048; omega⟩
      | ⟨1, _⟩ => exact ⟨Nat.zero_le _, by show c.val * 1 + 0 - 0 < 8; omega⟩), if_pos hk, dif_pos hk]
    refine congrArg x (funext fun a => ?_)
    match a with
    | ⟨0, _⟩ => exact Fin.ext (by show n.val * 1 + k.val - 0 = n.val + k.val; omega)
    | ⟨1, _⟩ => exact Fin.ext (by show c.val * 1 + 0 - 0 = c.val; omega)
  · rw [dif_neg (by intro hin; have := (hin 0).2; have h2 : n.val * 1 + k.val - 0 < 2048 := this; omega), if_neg hk]

/-- The fill of a padding, the integer zero made a float. -/
theorem fill : FloatOps.sitofp (F := Ideal) (w := 32) FTy.f32 0#32 = 0 := by
  show (((0#32 : BitVec 32).toInt : ℝ) : EReal) = 0
  simp

end Cert.Proof
-- ==== Proof.FoxSpec.lean ====
/- What `fox_prep_bwd` computes, as formulas over the program's arguments: the arguments the precondition makes finite are
   arrays of real numbers, the others of extended reals. -/
module

public import proofs.«01_k».proof.Defs
public import proofs.«01_k».proof.Proof.Common

@[expose] public section

set_option maxRecDepth 16384

noncomputable section

namespace Cert.Proof.Fox

open Idealize.ShloMosaic Idealize.ShloMosaic.TcCoe Idealize.SL.Sem

/-- The arguments: hidden states, weights, forget bias, query and key gains, and the incoming gradients. -/
structure Args where
  h : (⟨2, ![2048, 1024]⟩ : Shape).Idx → ℝ
  w : (⟨2, ![1024, 2056]⟩ : Shape).Idx → ℝ
  fb : (⟨2, ![1, 8]⟩ : Shape).Idx → EReal
  qg : (⟨2, ![1, 64]⟩ : Shape).Idx → ℝ
  kg : (⟨2, ![1, 64]⟩ : Shape).Idx → ℝ
  dq : (⟨2, ![2048, 512]⟩ : Shape).Idx → ℝ
  dk : (⟨2, ![2048, 512]⟩ : Shape).Idx → ℝ
  dv : (⟨2, ![2048, 512]⟩ : Shape).Idx → EReal
  dg : (⟨2, ![2048, 512]⟩ : Shape).Idx → EReal
  dc : (⟨2, ![8, 2048]⟩ : Shape).Idx → ℝ

variable (A : Args)

/-- An entry of the projection. -/
def U (n : Fin 2048) (b : Fin 2056) : ℝ := ∑ k : Fin 1024, A.h (ix2 n k) * A.w (ix2 k b)

/-- The lanes of one head of the projection, in the 512 columns after column `o`. -/
def head (o : ℕ) (ho : o + 512 ≤ 2056) (n : Fin 2048) (b : Fin 512) (k : Fin 64) : ℝ := U A n ⟨o + (lane b k).val, by omega⟩

/-- The gradient through the norm. -/
def normGrad (o : ℕ) (ho : o + 512 ≤ 2056) (d : (⟨2, ![2048, 512]⟩ : Shape).Idx → ℝ) (g : (⟨2, ![1, 64]⟩ : Shape).Idx → ℝ)
    (n : Fin 2048) (b : Fin 512) : EReal :=
  rmsRef (fun k => (head A o ho n b k : EReal)) (fun k => (d (ix2 n (lane b k)) * g (ix2 0 k) : ℝ)) ⟨b.val % 64, by omega⟩

/-- The gradient of the gain, per head. -/
def gainGrad (o : ℕ) (ho : o + 512 ≤ 2056) (d : (⟨2, ![2048, 512]⟩ : Shape).Idx → ℝ) (b : Fin 512) : EReal :=
  ∑ n : Fin 2048, (d (ix2 n b) : EReal) * ((U A n ⟨o + b.val, by omega⟩ : EReal) * Ideal.rsqrt (rmsRoot fun k => (head A o ho n b k : EReal)))

/-- The gradient of the forget logits. -/
def gate (n : Fin 2048) (l : Fin 8) : EReal :=
  (∑ k : Fin 2048, if n.val ≤ k.val then (A.dc (ix2 l k) : EReal) else 0)
    * (1 - Ideal.div 1 (1 + Ideal.exp (-((U A n ⟨2048 + l.val, by omega⟩ : EReal) + A.fb (ix2 0 l)))))

/-- The gradient of the projection, padded to 2176 columns. -/
def DU (n : Fin 2048) (b : Fin 2176) : EReal :=
  if h1 : b.val < 512 then normGrad A 0 (by decide) A.dq A.qg n ⟨b.val, h1⟩
  else if h2 : b.val < 1024 then normGrad A 512 (by decide) A.dk A.kg n ⟨b.val - 512, by omega⟩
  else if h3 : b.val < 1536 then A.dv (ix2 n ⟨b.val - 1024, by omega⟩)
  else if h4 : b.val < 2048 then A.dg (ix2 n ⟨b.val - 1536, by omega⟩)
  else if h5 : b.val < 2056 then gate A n ⟨b.val - 2048, by omega⟩
  else 0

end Cert.Proof.Fox
-- ==== Proof.FoxKer.lean ====
/- What the stores of `fox_prep_bwd` hold, index by index, when the loaded blocks are arrays of real numbers. -/
module

public import proofs.«01_k».proof.Defs
public import proofs.«01_k».proof.Proof.Common
public import proofs.«01_k».proof.Proof.Gen.FoxIdeal.Skeleton

@[expose] public section

set_option maxRecDepth 16384

noncomputable section

namespace Cert.Proof.Fox

open Idealize.ShloMosaic Idealize.ShloMosaic.TcCoe Idealize.SL.Sem
open Cert.FoxIdeal Cert.FoxIdeal.Gen

theorem pay7_eq : k0_pay7 (F := Ideal) = fun j => headOne (j 0).val (j 1).val := by
  funext j
  idx_vars j
  pointwise [k0_pay7]
  exact headOne_eq j0 j1

/-- The sum of squares over the head of column `b`. -/
def sumSq (U : S256x512.Idx → ℝ) (a : Fin 256) (b : Fin 512) : ℝ := ∑ d, U (ix2 a (lane b d)) * U (ix2 a (lane b d))

/-- The query half's scale of each entry. -/
def qRoot (u : Vec Ideal S256x512 .f32) : FVec Ideal S256x512 .f32 :=
  k0_pay13 k0_pay7 (k0_pay9 u) (k0_pay10 u) (k0_pay11 u) (k0_pay12 u)

/-- The key half's scale of each entry. -/
def kRoot (u : Vec Ideal S256x512 .f32) : FVec Ideal S256x512 .f32 :=
  k0_pay38 k0_pay7 (k0_pay30 u) (k0_pay31 k0_pay7 u) (k0_pay32 k0_pay7 u) (k0_pay34 u) (k0_pay35 u) (k0_pay36 u) (k0_pay37 u)

theorem pay9_eq (U : S256x512.Idx → ℝ) : k0_pay9 (F := Ideal) (fun i => (U i : EReal)) = fun i => ((U i * U i : ℝ) : EReal) := by
  funext j
  pointwise [k0_pay9, k0_pay8]
  exact (EReal.coe_mul _ _).symm

theorem pay30_eq (U : S256x512.Idx → ℝ) : k0_pay30 (F := Ideal) (fun i => (U i : EReal)) = fun i => ((U i * U i : ℝ) : EReal) := by
  funext j
  pointwise [k0_pay30, k0_pay29]
  exact (EReal.coe_mul _ _).symm

/-- The scale from the sum of squares. -/
def scale (s : ℝ) : EReal := Ideal.rsqrt ((s : EReal) * Ideal.ofBits .f32 0x3C800000#32 + Ideal.ofBits .f32 0x358637BD#32)

theorem qRoot_val (U : S256x512.Idx → ℝ) (a : Fin 256) (b : Fin 512) : qRoot (fun i => (U i : EReal)) (ix2 a b) = scale (sumSq U a b) := by
  unfold qRoot k0_pay10 k0_pay11 k0_pay12
  rw [pay9_eq, pay7_eq]
  pointwise [k0_pay13]
  refine congrArg Ideal.rsqrt (congrArg (· + _) (congrArg (· * _) ?_))
  have hb := b.isLt
  split_ifs with h0 h1 h2
  · exact chunk (fun i => U (ix2 a i) * U (ix2 a i)) b 0 _ rfl (by omega) (by omega) (fun x => ⟨x.val, by omega⟩) (fun x => (Nat.zero_add _).symm)
  · exact chunk (fun i => U (ix2 a i) * U (ix2 a i)) b 128 _ rfl (by omega) (by omega) (fun x => ⟨128 + x.val, by omega⟩) (fun x => rfl)
  · exact chunk (fun i => U (ix2 a i) * U (ix2 a i)) b 256 _ rfl (by omega) (by omega) (fun x => ⟨256 + x.val, by omega⟩) (fun x => rfl)
  · exact chunk (fun i => U (ix2 a i) * U (ix2 a i)) b 384 _ rfl (by omega) (by omega) (fun x => ⟨384 + x.val, by omega⟩) (fun x => rfl)

theorem kRoot_val (U : S256x512.Idx → ℝ) (a : Fin 256) (b : Fin 512) : kRoot (fun i => (U i : EReal)) (ix2 a b) = scale (sumSq U a b) := by
  unfold kRoot k0_pay31 k0_pay32 k0_pay37 k0_pay36 k0_pay35 k0_pay34 k0_pay33
  rw [pay30_eq, pay7_eq]
  pointwise [k0_pay38]
  refine congrArg Ideal.rsqrt (congrArg (· + _) (congrArg (· * _) ?_))
  have hb := b.isLt
  split_ifs with h0 h1 h2
  · exact chunk (fun i => U (ix2 a i) * U (ix2 a i)) b 0 _ rfl (by omega) (by omega) (fun x => ⟨x.val, by omega⟩) (fun x => (Nat.zero_add _).symm)
  · exact chunk (fun i => U (ix2 a i) * U (ix2 a i)) b 128 _ rfl (by omega) (by omega) (fun x => ⟨128 + x.val, by omega⟩) (fun x => rfl)
  · exact chunk (fun i => U (ix2 a i) * U (ix2 a i)) b 256 _ rfl (by omega) (by omega) (fun x => ⟨256 + x.val, by omega⟩) (fun x => rfl)
  · exact chunk (fun i => U (ix2 a i) * U (ix2 a i)) b 384 _ rfl (by omega) (by omega) (fun x => ⟨384 + x.val, by omega⟩) (fun x => rfl)

/-- The scale is a real number. -/
theorem scale_real (s : ℝ) (hs : 0 ≤ s) : ∃ r : ℝ, scale s = r := by
  obtain ⟨e, he, hE⟩ := c_eps
  have h : 0 < s * (1 / 64) + e := by positivity
  refine ⟨(√(s * (1 / 64) + e))⁻¹, ?_⟩
  rw [scale, hE, c_inv64, ← EReal.coe_mul, ← EReal.coe_add, Ideal.rsqrt_coe, if_neg (not_lt.2 h.le), if_neg h.ne']

theorem sumSq_nonneg (U : S256x512.Idx → ℝ) (a : Fin 256) (b : Fin 512) : 0 ≤ sumSq U a b := Finset.sum_nonneg fun _ _ => mul_self_nonneg _

/-- The scale of each entry, as a real number. -/
def root (U : S256x512.Idx → ℝ) (i : S256x512.Idx) : ℝ := (scale_real _ (sumSq_nonneg U (i 0) (i 1))).choose

theorem root_val (U : S256x512.Idx → ℝ) (i : S256x512.Idx) : (root U i : EReal) = scale (sumSq U (i 0) (i 1)) :=
  (scale_real _ (sumSq_nonneg U (i 0) (i 1))).choose_spec.symm

theorem root_lane (U : S256x512.Idx → ℝ) (a : Fin 256) (b : Fin 512) (d : Fin 64) : root U (ix2 a (lane b d)) = root U (ix2 a b) := by
  have h : ((root U (ix2 a (lane b d)) : ℝ) : EReal) = root U (ix2 a b) := by
    rw [root_val, root_val]
    exact congrArg scale (Finset.sum_congr rfl fun e _ => by
      show U (ix2 a (lane (lane b d) e)) * U (ix2 a (lane (lane b d) e)) = _; rw [lane_lane]; rfl)
  exact_mod_cast h

theorem qRoot_eq (U : S256x512.Idx → ℝ) : qRoot (fun i => (U i : EReal)) = fun i => (root U i : EReal) := by
  funext j
  idx_vars j
  rw [qRoot_val, root_val]
  rfl

theorem kRoot_eq (U : S256x512.Idx → ℝ) : kRoot (fun i => (U i : EReal)) = fun i => (root U i : EReal) := by
  funext j
  idx_vars j
  rw [kRoot_val, root_val]
  rfl

/-- The normalised query entries times the incoming gradient and the gain. -/
def qProd (u : Vec Ideal S256x512 .f32) (g : Vec Ideal S1x512 .f32) (d : Vec Ideal S256x512 .f32) : FVec Ideal S256x512 .f32 :=
  k0_pay17 k0_pay7 g (k0_pay8 u) (k0_pay9 u) (k0_pay10 u) (k0_pay11 u) (k0_pay12 u) d

/-- What the kernel stores for the query columns. -/
def qPart (u : Vec Ideal S256x512 .f32) (g : Vec Ideal S1x512 .f32) (d : Vec Ideal S256x512 .f32) : FVec Ideal S256x512 .f32 :=
  k0_pay28 k0_pay7 (qRoot u) (k0_pay14 k0_pay7 (k0_pay8 u) (k0_pay9 u) (k0_pay10 u) (k0_pay11 u) (k0_pay12 u)) (k0_pay16 g d)
    (k0_pay19 k0_pay7 (k0_pay18 k0_pay7 g (k0_pay8 u) (k0_pay9 u) (k0_pay10 u) (k0_pay11 u) (k0_pay12 u) d))
    (k0_pay20 k0_pay7 (qProd u g d)) (k0_pay21 k0_pay7 (qProd u g d)) (k0_pay26 (qProd u g d)) (k0_pay27 k0_pay7 (qProd u g d))

/-- The normalised key entries times the incoming gradient and the gain. -/
def kProd (u : Vec Ideal S256x512 .f32) (g : Vec Ideal S1x512 .f32) (d : Vec Ideal S256x512 .f32) : FVec Ideal S256x512 .f32 :=
  k0_pay42 k0_pay7 g (k0_pay29 u) (k0_pay30 u) (k0_pay31 k0_pay7 u) (k0_pay32 k0_pay7 u) (k0_pay34 u) (k0_pay35 u) (k0_pay36 u) (k0_pay37 u) d

/-- What the kernel stores for the key columns. -/
def kPart (u : Vec Ideal S256x512 .f32) (g : Vec Ideal S1x512 .f32) (d : Vec Ideal S256x512 .f32) : FVec Ideal S256x512 .f32 :=
  k0_pay49 (kRoot u)
    (k0_pay39 k0_pay7 (k0_pay29 u) (k0_pay30 u) (k0_pay31 k0_pay7 u) (k0_pay32 k0_pay7 u) (k0_pay34 u) (k0_pay35 u) (k0_pay36 u) (k0_pay37 u))
    (k0_pay41 g d)
    (k0_pay48 k0_pay7 (kProd u g d)
      (k0_pay44 k0_pay7 g (k0_pay29 u) (k0_pay30 u) (k0_pay31 k0_pay7 u) (k0_pay32 k0_pay7 u) (k0_pay34 u) (k0_pay35 u) (k0_pay36 u) (k0_pay37 u) d)
      (k0_pay45 k0_pay7 g (k0_pay29 u) (k0_pay30 u) (k0_pay31 k0_pay7 u) (k0_pay32 k0_pay7 u) (k0_pay34 u) (k0_pay35 u) (k0_pay36 u) (k0_pay37 u) d)
      (k0_pay46 k0_pay7 g (k0_pay29 u) (k0_pay30 u) (k0_pay31 k0_pay7 u) (k0_pay32 k0_pay7 u) (k0_pay34 u) (k0_pay35 u) (k0_pay36 u) (k0_pay37 u) d)
      (k0_pay47 k0_pay7 g (k0_pay29 u) (k0_pay30 u) (k0_pay31 k0_pay7 u) (k0_pay32 k0_pay7 u) (k0_pay34 u) (k0_pay35 u) (k0_pay36 u) (k0_pay37 u) d))
    (FloatOps.ofBits FTy.f32 1015021568#32)

theorem qNorm_eq (U : S256x512.Idx → ℝ) : k0_pay14 (F := Ideal) k0_pay7 (k0_pay8 fun i => (U i : EReal)) (k0_pay9 fun i => (U i : EReal))
    (k0_pay10 fun i => (U i : EReal)) (k0_pay11 fun i => (U i : EReal)) (k0_pay12 fun i => (U i : EReal))
    = fun i => ((U i * root U i : ℝ) : EReal) := by
  have h := qRoot_eq U
  unfold qRoot at h
  unfold k0_pay14
  rw [h]
  funext j
  pointwise [k0_pay8]
  exact (EReal.coe_mul _ _).symm

theorem kNorm_eq (U : S256x512.Idx → ℝ) : k0_pay39 (F := Ideal) k0_pay7 (k0_pay29 fun i => (U i : EReal)) (k0_pay30 fun i => (U i : EReal))
    (k0_pay31 k0_pay7 fun i => (U i : EReal)) (k0_pay32 k0_pay7 fun i => (U i : EReal)) (k0_pay34 fun i => (U i : EReal))
    (k0_pay35 fun i => (U i : EReal)) (k0_pay36 fun i => (U i : EReal)) (k0_pay37 fun i => (U i : EReal))
    = fun i => ((U i * root U i : ℝ) : EReal) := by
  have h := kRoot_eq U
  unfold kRoot at h
  unfold k0_pay39
  rw [h]
  funext j
  pointwise [k0_pay29]
  exact (EReal.coe_mul _ _).symm

/-- Incoming gradient times gain times normalised entry. -/
def prod (U D : S256x512.Idx → ℝ) (G : S1x512.Idx → ℝ) (i : S256x512.Idx) : ℝ := D i * G (ix2 0 (i 1)) * (U i * root U i)

theorem qProd_eq (U D : S256x512.Idx → ℝ) (G : S1x512.Idx → ℝ) :
    qProd (fun i => (U i : EReal)) (fun i => (G i : EReal)) (fun i => (D i : EReal)) = fun i => (prod U D G i : EReal) := by
  unfold qProd k0_pay17
  rw [qNorm_eq]
  funext j
  idx_vars j
  pointwise [k0_pay16]
  simp only [prod, EReal.coe_mul]
  rfl

theorem kProd_eq (U D : S256x512.Idx → ℝ) (G : S1x512.Idx → ℝ) :
    kProd (fun i => (U i : EReal)) (fun i => (G i : EReal)) (fun i => (D i : EReal)) = fun i => (prod U D G i : EReal) := by
  unfold kProd k0_pay42
  rw [kNorm_eq]
  funext j
  idx_vars j
  pointwise [k0_pay41]
  simp only [prod, EReal.coe_mul]
  rfl

/-- The gradient of the norm written with the scale of the entry is the gradient of the norm of its row. -/
theorem part_eq (U D : S256x512.Idx → ℝ) (G : S1x512.Idx → ℝ) (a : Fin 256) (b : Fin 512) :
    (root U (ix2 a b) : EReal) * ((D (ix2 a b) : EReal) * G (ix2 0 b) - (U (ix2 a b) * root U (ix2 a b) : ℝ) *
        (((∑ d, prod U D G (ix2 a (lane b d)) : ℝ) : EReal) * Ideal.ofBits .f32 0x3C800000#32))
      = rmsKer (fun k => (U (ix2 a (lane b k)) : EReal)) (fun k => (D (ix2 a (lane b k)) * G (ix2 0 (lane b k)) : ℝ)) ⟨b.val % 64, by omega⟩ := by
  have hs : Ideal.rsqrt ((∑ k, (U (ix2 a (lane b k)) : EReal) * U (ix2 a (lane b k))) * Ideal.ofBits .f32 0x3C800000#32
      + Ideal.ofBits .f32 0x358637BD#32) = (root U (ix2 a b) : EReal) := by
    rw [root_val, scale]
    simp only [sumSq, coe_sum, EReal.coe_mul]
    rfl
  unfold rmsKer
  rw [hs]
  simp only [lane_self, coe_sum, prod, EReal.coe_mul, root_lane]
  rfl

theorem qPart_val (U D : S256x512.Idx → ℝ) (G : S1x512.Idx → ℝ) (a : Fin 256) (b : Fin 512) :
    qPart (fun i => (U i : EReal)) (fun i => (G i : EReal)) (fun i => (D i : EReal)) (ix2 a b)
      = rmsKer (fun k => (U (ix2 a (lane b k)) : EReal)) (fun k => (D (ix2 a (lane b k)) * G (ix2 0 (lane b k)) : ℝ)) ⟨b.val % 64, by omega⟩ := by
  rw [← part_eq]
  have h17 := qProd_eq U D G
  unfold qProd at h17
  unfold qPart qProd k0_pay18
  rw [h17, qNorm_eq, qRoot_eq, pay7_eq]
  pointwise [k0_pay28, k0_pay16, k0_pay19, k0_pay20, k0_pay21, k0_pay22, k0_pay23, k0_pay24, k0_pay25, k0_pay26, k0_pay27]
  refine congrArg (_ * ·) (congrArg (_ - ·) (congrArg (_ * ·) (congrArg (· * _) ?_)))
  have hb := b.isLt
  split_ifs with h0 h1 h2
  · exact chunk (fun i => prod U D G (ix2 a i)) b 0 _ rfl (by omega) (by omega) (fun x => ⟨x.val, by omega⟩) (fun x => (Nat.zero_add _).symm)
  · exact chunk (fun i => prod U D G (ix2 a i)) b 128 _ rfl (by omega) (by omega) (fun x => ⟨128 + x.val, by omega⟩) (fun x => rfl)
  · exact chunk (fun i => prod U D G (ix2 a i)) b 256 _ rfl (by omega) (by omega) (fun x => ⟨256 + x.val, by omega⟩) (fun x => rfl)
  · exact chunk (fun i => prod U D G (ix2 a i)) b 384 _ rfl (by omega) (by omega) (fun x => ⟨384 + x.val, by omega⟩) (fun x => rfl)

theorem kPart_val (U D : S256x512.Idx → ℝ) (G : S1x512.Idx → ℝ) (a : Fin 256) (b : Fin 512) :
    kPart (fun i => (U i : EReal)) (fun i => (G i : EReal)) (fun i => (D i : EReal)) (ix2 a b)
      = rmsKer (fun k => (U (ix2 a (lane b k)) : EReal)) (fun k => (D (ix2 a (lane b k)) * G (ix2 0 (lane b k)) : ℝ)) ⟨b.val % 64, by omega⟩ := by
  rw [← part_eq]
  have h42 := kProd_eq U D G
  unfold kProd at h42
  unfold kPart kProd k0_pay47 k0_pay46 k0_pay45 k0_pay44 k0_pay43
  rw [h42, kNorm_eq, kRoot_eq, pay7_eq]
  pointwise [k0_pay49, k0_pay48, k0_pay41]
  refine congrArg (_ * ·) (congrArg (_ - ·) (congrArg (_ * ·) (congrArg (· * _) ?_)))
  have hb := b.isLt
  split_ifs with h0 h1 h2
  · exact chunk (fun i => prod U D G (ix2 a i)) b 0 _ rfl (by omega) (by omega) (fun x => ⟨x.val, by omega⟩) (fun x => (Nat.zero_add _).symm)
  · exact chunk (fun i => prod U D G (ix2 a i)) b 128 _ rfl (by omega) (by omega) (fun x => ⟨128 + x.val, by omega⟩) (fun x => rfl)
  · exact chunk (fun i => prod U D G (ix2 a i)) b 256 _ rfl (by omega) (by omega) (fun x => ⟨256 + x.val, by omega⟩) (fun x => rfl)
  · exact chunk (fun i => prod U D G (ix2 a i)) b 384 _ rfl (by omega) (by omega) (fun x => ⟨384 + x.val, by omega⟩) (fun x => rfl)

/-- The running sum from the row to the block's end, on top of what later blocks carried in. -/
theorem pay51_val (C : S256x128.Idx → ℝ) (cy : Vec Ideal S1x128 .f32) (a : Fin 256) (l : Fin 128) :
    k0_pay51 (F := Ideal) (fun i => (C i : EReal)) cy (ix2 a l)
      = (∑ x : Fin 256, if a.val ≤ x.val then (C (ix2 x l) : EReal) else 0) + cy (ix2 0 l) := by
  pointwise [k0_pay51, k0_pay50]
  refine congrArg (· + _) ((split_dot' (fun x : Fin 256 => C (ix2 x l)) _).trans (Finset.sum_congr rfl fun x _ => ?_))
  rw [triOne_eq]
  split_ifs
  · rw [one_mul]
  · rw [zero_mul]

theorem lane_lt : ∀ l : Fin 128, IntOp.cmpi CmpIPredicate.slt (BitVec.ofNat 32 l.val) 8#32 = if l.val < 8 then 1#1 else 0#1 := by decide +kernel

/-- The gradient of the forget logits: nothing past the eight heads. -/
theorem pay54_val (p : FVec Ideal S256x128 .f32) (u : Vec Ideal S256x128 .f32) (fb : Vec Ideal S1x128 .f32) (a : Fin 256) (l : Fin 128) :
    k0_pay54 (F := Ideal) (iota Kind.tc S1x128 32 [1] iota_S1x128_d1_w32) p u fb (ix2 a l)
      = if l.val < 8 then p (ix2 a l) * (1 - Ideal.div 1 (1 + Ideal.exp (-(u (ix2 a l) + fb (ix2 0 l))))) else 0 := by
  pointwise [k0_pay54]
  rw [lane_lt, zero_sub]
  by_cases h : l.val < 8
  · rw [if_pos h, if_pos h]; rfl
  · rw [if_neg h, if_neg h]; rfl

theorem pay15_val (U D : S256x512.Idx → ℝ) (v : Vec Ideal S1x512 .f32) (b : Fin 512) :
    k0_pay15 (F := Ideal) k0_pay7 (k0_pay8 fun i => (U i : EReal)) (k0_pay9 fun i => (U i : EReal))
      (k0_pay10 fun i => (U i : EReal)) (k0_pay11 fun i => (U i : EReal)) (k0_pay12 fun i => (U i : EReal)) (fun i => (D i : EReal)) v (ix2 0 b)
      = v (ix2 0 b) + ∑ x : Fin 256, (D (ix2 x b) : EReal) * (U (ix2 x b) * root U (ix2 x b) : ℝ) := by
  unfold k0_pay15
  rw [qNorm_eq]
  pointwise []

theorem pay40_val (U D : S256x512.Idx → ℝ) (v : Vec Ideal S1x512 .f32) (b : Fin 512) :
    k0_pay40 (F := Ideal) k0_pay7 (k0_pay29 fun i => (U i : EReal)) (k0_pay30 fun i => (U i : EReal))
      (k0_pay31 k0_pay7 fun i => (U i : EReal)) (k0_pay32 k0_pay7 fun i => (U i : EReal)) (k0_pay34 fun i => (U i : EReal))
      (k0_pay35 fun i => (U i : EReal)) (k0_pay36 fun i => (U i : EReal)) (k0_pay37 fun i => (U i : EReal)) (fun i => (D i : EReal)) v (ix2 0 b)
      = v (ix2 0 b) + ∑ x : Fin 256, (D (ix2 x b) : EReal) * (U (ix2 x b) * root U (ix2 x b) : ℝ) := by
  unfold k0_pay40
  rw [kNorm_eq]
  pointwise []

theorem pay55_val (p : FVec Ideal S256x128 .f32) (u : Vec Ideal S256x128 .f32) (fb v : Vec Ideal S1x128 .f32) (l : Fin 128) :
    k0_pay55 (F := Ideal) (iota Kind.tc S1x128 32 [1] iota_S1x128_d1_w32) p u fb v (ix2 0 l)
      = v (ix2 0 l) + ∑ x : Fin 256, k0_pay54 (iota Kind.tc S1x128 32 [1] iota_S1x128_d1_w32) p u fb (ix2 x l) := by
  pointwise [k0_pay55]

theorem pay1_val (w : FVec Ideal S1024x2176 .f32) (h : Vec Ideal S1024x256 .bf16) (d : Vec Ideal S256x2176 .f32) (i : Fin 1024) (j : Fin 2176) :
    k0_pay1 (F := Ideal) (k0_pay56 w) h d (ix2 i j) = w (ix2 i j) + ∑ x : Fin 256, h (ix2 i x) * d (ix2 x j) := by
  pointwise [k0_pay1, k0_pay56]

theorem pay53_val (v : Vec Ideal S1x128 .f32) (C : Vec Ideal S256x128 .f32) (l : Fin 128) :
    k0_pay53 (F := Ideal) v (k0_pay52 C) (ix2 0 l) = v (ix2 0 l) + ∑ x : Fin 256, C (ix2 x l) := by
  pointwise [k0_pay53, k0_pay52, k0_pay50]

/-- A normalised entry is the entry times the reference's scale of its row. -/
theorem root_rms (U : S256x512.Idx → ℝ) (a : Fin 256) (b : Fin 512) :
    (root U (ix2 a b) : EReal) = Ideal.rsqrt (rmsRoot fun k => (U (ix2 a (lane b k)) : EReal)) := by
  obtain ⟨M, _, h1, h2⟩ := rmsRoot_eq fun k => U (ix2 a (lane b k))
  rw [h1, ← h2, root_val, scale]
  simp only [sumSq, coe_sum, EReal.coe_mul]
  rfl

end Cert.Proof.Fox
-- ==== Proof.FoxIn.lean ====
/- The blocks `fox_prep_bwd` loads at a grid point, in the arguments. -/
module

public import proofs.«01_k».proof.Proof.FoxSpec
public import proofs.«01_k».proof.Proof.FoxKer
public import proofs.«01_k».proof.Proof.Gen.FoxIdeal.Value
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.Proof.Fox

open Idealize.ShloMosaic Idealize.ShloMosaic.TcCoe Idealize.SL.Sem
open Cert.FoxIdeal Cert.FoxIdeal.Gen

variable (A : Args) (m : (ℓ : Loc nD τ sig) → Buf (Elt Ideal) ℓ) (c : Dev nD) (t : Fin cfg0.N)

/-- The memory holds the arguments. -/
structure Holds : Prop where
  h : m ((c : Thread nD τ).loc main_arg0) = fun i => (A.h i : EReal)
  w : m ((c : Thread nD τ).loc main_arg1) = fun i => (A.w i : EReal)
  fb : m ((c : Thread nD τ).loc main_arg2) = A.fb
  qg : m ((c : Thread nD τ).loc main_arg3) = fun i => (A.qg i : EReal)
  kg : m ((c : Thread nD τ).loc main_arg4) = fun i => (A.kg i : EReal)
  dq : m ((c : Thread nD τ).loc main_arg5) = fun i => (A.dq i : EReal)
  dk : m ((c : Thread nD τ).loc main_arg6) = fun i => (A.dk i : EReal)
  dv : m ((c : Thread nD τ).loc main_arg7) = A.dv
  dg : m ((c : Thread nD τ).loc main_arg8) = A.dg
  dc : m ((c : Thread nD τ).loc main_arg9) = fun i => (A.dc i : EReal)

theorem idx : ∀ t : Fin cfg0.N, win0_0.index t = ![7 - t.val, 0] ∧ win0_1.index t = ![0, 7 - t.val] ∧ win0_2.index t = ![7 - t.val, 0]
    ∧ win0_3.index t = ![7 - t.val, 0] ∧ win0_4.index t = ![7 - t.val, 0] ∧ win0_5.index t = ![7 - t.val, 0] ∧ win0_6.index t = ![7 - t.val, 0]
    ∧ win0_7.index t = ![0, 0] ∧ win0_8.index t = ![0, 0] ∧ win0_9.index t = ![0, 0] ∧ win0_10.index t = ![7 - t.val, 0] ∧ t.val < 8 :=
  (by decide +kernel : ∀ t : Fin grid0.N, _)

/-- The row of the arrays a block's row is. -/
def row (t : Fin cfg0.N) (a : Fin 256) : Fin 2048 := ⟨(7 - t.val) * 256 + a.val, by omega⟩

/-- The projection with its padding columns. -/
def Upad (n : Fin 2048) (b : Fin 2176) : ℝ := if h : b.val < 2056 then U A n ⟨b.val, h⟩ else 0

/-- The incoming gradient of the running sums, transposed and padded. -/
def Cpad (n : Fin 2048) (l : Fin 128) : ℝ := if h : l.val < 8 then A.dc (ix2 ⟨l.val, h⟩ n) else 0

variable {A m c}

theorem arr_u (H : Holds A m c) : V m c main_v9 = fun i => (Upad A (i 0) (i 1) : EReal) := by
  simp only [V, List.flatten_cons, List.flatten_nil, List.append_nil, List.cons_append, List.nil_append]
  after_results
  funext j
  idx_vars j
  rw [H.h, H.w]
  pointwise []
  unfold Upad
  split_ifs
  · simp only [U, coe_sum, EReal.coe_mul]
  · simp only [mul_zero, Finset.sum_const_zero, EReal.coe_zero]

theorem arr_dc (H : Holds A m c) : V m c main_v11 = fun i => (Cpad A (i 0) (i 1) : EReal) := by
  simp only [V, List.flatten_cons, List.flatten_nil, List.append_nil, List.cons_append, List.nil_append]
  after_results
  show pad S2048x128 ![0, 0] ![0, 120] ![0, 0] (transpose S2048x8 [1, 0] (m ((c : Thread nD τ).loc main_arg9)) transposes_S8x2048_S2048x8_1_0)
    (sitofp (F := Ideal) FTy.f32 (constantI S_ 32 0#32)) pads_S2048x8_S2048x128_000_01200 h_S_ = _
  funext j
  idx_vars j
  rw [H.dc]
  pointwise []
  unfold Cpad
  split_ifs
  · rfl
  · exact fill.trans EReal.coe_zero.symm

theorem arr_ht (H : Holds A m c) : V m c main_v12 = fun i => (A.h (ix2 (i 1) (i 0)) : EReal) := by
  simp only [V, List.flatten_cons, List.flatten_nil, List.append_nil, List.cons_append, List.nil_append]
  after_results
  funext j
  idx_vars j
  rw [H.h]
  pointwise []

theorem pad_row (x : Vec Ideal S1x8 .f32) : pad S1x128 ![0, 0] ![0, 120] ![0, 0] x
    (sitofp (F := Ideal) FTy.f32 (constantI S_ 32 0#32)) pads_S1x8_S1x128_000_01200 h_S_ = fun i => if h : (i 1).val < 8 then x (ix2 0 ⟨(i 1).val, h⟩) else 0 := by
  funext j
  idx_vars j
  pointwise []
  rw [fill]

theorem arr_fb (H : Holds A m c) : V m c main_v2 = fun i => if h : (i 1).val < 8 then A.fb (ix2 0 ⟨(i 1).val, h⟩) else 0 := by
  simp only [V, List.flatten_cons, List.flatten_nil, List.append_nil, List.cons_append, List.nil_append]
  after_results
  rw [← H.fb]
  exact pad_row (m ((c : Thread nD τ).loc main_arg2))

theorem arr_qg (H : Holds A m c) : V m c main_v5 = fun i => (A.qg (ix2 0 ⟨(i 1).val % 64, Nat.mod_lt _ (by decide)⟩) : EReal) := by
  simp only [V, List.flatten_cons, List.flatten_nil, List.append_nil, List.cons_append, List.nil_append]
  after_results
  funext j
  idx_vars j
  rw [H.qg]
  pointwise []

theorem arr_kg (H : Holds A m c) : V m c main_v8 = fun i => (A.kg (ix2 0 ⟨(i 1).val % 64, Nat.mod_lt _ (by decide)⟩) : EReal) := by
  simp only [V, List.flatten_cons, List.flatten_nil, List.append_nil, List.cons_append, List.nil_append]
  after_results
  funext j
  idx_vars j
  rw [H.kg]
  pointwise []

theorem blk0 (H : Holds A m c) : iblk m c 0 t = fun i : S256x2176.Idx => (Upad A (row t (i 0)) (i 1) : EReal) := by
  funext j
  blk_simp [iblk]
  rw [arr_u H]
  refine congrArg _ (congrArg₂ _ (Fin.ext ?_) (Fin.ext ?_)) <;> blk_simp [idx t]
  rfl

theorem blk1 (H : Holds A m c) : iblk m c 1 t = fun i : S1024x256.Idx => (A.h (ix2 (row t (i 1)) (i 0)) : EReal) := by
  funext j
  blk_simp [iblk]
  rw [arr_ht H]
  refine congrArg _ (congrArg A.h ?_)
  blk_ext [iblk, V, idx t]
  rfl

theorem blk2 (H : Holds A m c) : iblk m c 2 t = fun i : S256x512.Idx => (A.dq (ix2 (row t (i 0)) (i 1)) : EReal) := by
  funext j
  blk_simp [iblk]
  refine (congrFun (V_main_arg5 m c) _).trans ((congrFun H.dq _).trans ?_)
  refine congrArg _ (congrArg A.dq ?_)
  blk_ext [iblk, V, idx t]
  rfl

theorem blk3 (H : Holds A m c) : iblk m c 3 t = fun i : S256x512.Idx => (A.dk (ix2 (row t (i 0)) (i 1)) : EReal) := by
  funext j
  blk_simp [iblk]
  refine (congrFun (V_main_arg6 m c) _).trans ((congrFun H.dk _).trans ?_)
  refine congrArg _ (congrArg A.dk ?_)
  blk_ext [iblk, V, idx t]
  rfl

theorem blk4 (H : Holds A m c) : iblk m c 4 t = fun i : S256x512.Idx => A.dv (ix2 (row t (i 0)) (i 1)) := by
  funext j
  blk_simp [iblk]
  refine (congrFun (V_main_arg7 m c) _).trans ((congrFun H.dv _).trans ?_)
  refine (congrArg A.dv ?_)
  blk_ext [iblk, V, idx t]
  rfl

theorem blk5 (H : Holds A m c) : iblk m c 5 t = fun i : S256x512.Idx => A.dg (ix2 (row t (i 0)) (i 1)) := by
  funext j
  blk_simp [iblk]
  refine (congrFun (V_main_arg8 m c) _).trans ((congrFun H.dg _).trans ?_)
  refine (congrArg A.dg ?_)
  blk_ext [iblk, V, idx t]
  rfl

theorem blk6 (H : Holds A m c) : iblk m c 6 t = fun i : S256x128.Idx => (Cpad A (row t (i 0)) (i 1) : EReal) := by
  funext j
  blk_simp [iblk]
  rw [arr_dc H]
  refine congrArg _ (congrArg₂ _ (Fin.ext ?_) (Fin.ext ?_)) <;> blk_simp [idx t]
  rfl

theorem blk7 (H : Holds A m c) : iblk m c 7 t = fun i : S1x128.Idx => if h : (i 1).val < 8 then A.fb (ix2 0 ⟨(i 1).val, h⟩) else 0 := by
  refine Eq.trans ?_ (arr_fb H)
  blk_ext! [iblk, idx t]

theorem blk8 (H : Holds A m c) : iblk m c 8 t = fun i : S1x512.Idx => (A.qg (ix2 0 ⟨(i 1).val % 64, Nat.mod_lt _ (by decide)⟩) : EReal) := by
  funext j
  blk_simp [iblk]
  rw [arr_qg H]
  refine congrArg _ (congrArg A.qg ?_)
  blk_ext [iblk, V, idx t]

theorem blk9 (H : Holds A m c) : iblk m c 9 t = fun i : S1x512.Idx => (A.kg (ix2 0 ⟨(i 1).val % 64, Nat.mod_lt _ (by decide)⟩) : EReal) := by
  funext j
  blk_simp [iblk]
  rw [arr_kg H]
  refine congrArg _ (congrArg A.kg ?_)
  blk_ext [iblk, V, idx t]

end Cert.Proof.Fox
-- ==== Proof.FoxVal.lean ====
/- What `fox_prep_bwd` leaves at each grid point and after the run. -/
module

public import proofs.«01_k».proof.Proof.FoxIn

@[expose] public section

set_option maxRecDepth 16384

noncomputable section

namespace Cert.Proof.Fox

open Idealize.ShloMosaic Idealize.ShloMosaic.TcCoe Idealize.SL.Sem
open Cert.FoxIdeal Cert.FoxIdeal.Gen

variable {A : Args} {m : (ℓ : Loc nD τ sig) → Buf (Elt Ideal) ℓ} {c : Dev nD} (t : Fin cfg0.N)

/-- A sum from a row on is the rest of the row's block and all that lies after the block. -/
theorem tail_sum (f : Fin 2048 → EReal) (a : ℕ) (ha : a ≤ 256) :
    (∑ k : Fin 2048, if (7 - t.val) * 256 + a ≤ k.val then f k else 0)
      = (∑ x : Fin 256, if a ≤ x.val then f (row t x) else 0) + ∑ k : Fin 2048, if (7 - t.val) * 256 + 256 ≤ k.val then f k else 0 := by
  have ht := (idx t).2.2.2.2.2.2.2.2.2.2.2
  have key : ∀ g : Fin 2048 → EReal, ∑ k, g k = ∑ s : Fin 8, ∑ x : Fin 256, g ⟨s.val * 256 + x.val, by omega⟩ :=
    fun g => (Fin.sum_mul_add_fin 8 256 g rfl).symm
  rw [key, key fun k => if (7 - t.val) * 256 + 256 ≤ k.val then f k else 0]
  have hs : (∑ x : Fin 256, if a ≤ x.val then f (row t x) else 0)
      = ∑ s : Fin 8, if s = (⟨7 - t.val, by omega⟩ : Fin 8) then (∑ x : Fin 256, if a ≤ x.val then f (row t x) else 0) else 0 := by
    rw [Finset.sum_ite_eq' Finset.univ]; simp
  rw [hs, ← Finset.sum_add_distrib]
  refine Finset.sum_congr rfl fun s _ => ?_
  by_cases h : s = (⟨7 - t.val, by omega⟩ : Fin 8)
  · rw [if_pos h]
    subst h
    rw [Finset.sum_eq_zero (f := fun x : Fin 256 => if (7 - t.val) * 256 + 256 ≤ (7 - t.val) * 256 + x.val then _ else (0 : EReal))
      fun x _ => if_neg (by omega), add_zero]
    refine Finset.sum_congr rfl fun x _ => ?_
    by_cases hx : a ≤ x.val
    · rw [if_pos (by show _ ≤ (7 - t.val) * 256 + x.val; omega), if_pos hx]; rfl
    · rw [if_neg (by show ¬ _ ≤ (7 - t.val) * 256 + x.val; omega), if_neg hx]
  · rw [if_neg h, zero_add]
    have hne : s.val ≠ 7 - t.val := fun e => h (Fin.ext e)
    refine Finset.sum_congr rfl fun x _ => ?_
    refine if_congr ⟨fun h => ?_, fun h => ?_⟩ rfl rfl <;> dsimp only at h ⊢ <;> omega

/-- The 512 columns of the loaded block from column `o` on. -/
def seg (A : Args) (t : Fin cfg0.N) (o : ℕ) (ho : o + 512 ≤ 2056) (i : S256x512.Idx) : ℝ :=
  U A (row t (i 0)) ⟨o + (i 1).val, by have h : (i 1).val < 512 := (i 1).isLt; omega⟩

theorem ld_seg (o : ℕ) (ho : o + 512 ≤ 2056) (inb : ∀ a, ![0, o] a + ![256, 512] a ≤ S256x2176.size a) :
    View.ld (Val := Elt Ideal) (e' := .f32) (S := S256x2176) (fun i => (Upad A (row t (i 0)) (i 1) : EReal)) (Rect.unit ![0, o] ![256, 512] inb)
      = fun i => (seg A t o ho i : EReal) := by
  funext j
  have hj : (j 1).val < 512 := (j 1).isLt
  rw [View.ld_unit_apply_of _ _ _ _ j (ix2 (j 0) ⟨o + (j 1).val, by omega⟩)
    (by intro a; fin_cases a <;> simp [ix2])]
  show ((Upad A (row t (j 0)) ⟨o + (j 1).val, by omega⟩ : ℝ) : EReal) = _
  unfold Upad seg
  rw [dif_pos (show o + (j 1).val < 2056 by omega)]

theorem ld_tail (inb : ∀ a, ![0, 2048] a + ![256, 128] a ≤ S256x2176.size a) :
    View.ld (Val := Elt Ideal) (e' := .f32) (S := S256x2176) (fun i => (Upad A (row t (i 0)) (i 1) : EReal)) (Rect.unit ![0, 2048] ![256, 128] inb)
      = fun i : S256x128.Idx => (Upad A (row t (i 0)) ⟨2048 + (i 1).val, by have h : (i 1).val < 128 := (i 1).isLt; omega⟩ : EReal) := by
  funext j
  have hj : (j 1).val < 128 := (j 1).isLt
  rw [View.ld_unit_apply_of _ _ _ _ j (ix2 (j 0) ⟨2048 + (j 1).val, by omega⟩)
    (by intro a; fin_cases a <;> simp [ix2])]
  rfl

/-- The carried sum after a point. -/
theorem carry_A (H : Holds A m c) (h : t.val % 8 = 0) (l : Fin 128) :
    (outsAt0 m c t.val t.isLt).2.2.2.2.2 (ix2 0 l) = 0 + ∑ x : Fin 256, (Cpad A (row t x) l : EReal) := by
  rw [outsAt0_A m c t h]
  frame_out
  rw [pay53_val, blk6 t H]
  pointwise [k0_pay2]

theorem carry_B (H : Holds A m c) (h : ¬ t.val % 8 = 0) (l : Fin 128) :
    (outsAt0 m c t.val t.isLt).2.2.2.2.2 (ix2 0 l)
      = (outsAt0 m c (t.val - 1) (Nat.lt_of_le_of_lt (Nat.sub_le _ _) t.isLt)).2.2.2.2.2 (ix2 0 l) + ∑ x : Fin 256, (Cpad A (row t x) l : EReal) := by
  rw [outsAt0_B m c t h]
  frame_out
  rw [pay53_val, blk6 t H, read_unread_whole]
  rfl

/-- It is the sum over all rows from the point's block on. -/
theorem carry (H : Holds A m c) (n : ℕ) (hn : n < cfg0.N) (l : Fin 128) :
    (outsAt0 m c n hn).2.2.2.2.2 (ix2 0 l) = ∑ k : Fin 2048, if (7 - n) * 256 ≤ k.val then (Cpad A k l : EReal) else 0 := by
  have h8 : n < 8 := (idx ⟨n, hn⟩).2.2.2.2.2.2.2.2.2.2.2
  have ts := tail_sum ⟨n, hn⟩ (fun k => (Cpad A k l : EReal)) 0 (by decide)
  simp only [Nat.zero_le, if_true, Nat.add_zero] at ts
  rw [ts]
  induction n with
  | zero =>
    rw [carry_A ⟨0, hn⟩ H rfl l, zero_add, Finset.sum_eq_zero fun (k : Fin 2048) _ => if_neg (show ¬ (7 - 0) * 256 + 256 ≤ k.val by omega), add_zero]
  | succ n ih =>
    have ts' := tail_sum ⟨n, by omega⟩ (fun k => (Cpad A k l : EReal)) 0 (by decide)
    simp only [Nat.zero_le, if_true, Nat.add_zero] at ts'
    rw [carry_B ⟨n + 1, hn⟩ H (by show ¬ (n + 1) % 8 = 0; omega) l, add_comm]
    refine congrArg (_ + ·) ((ih (by omega) (by omega) ts').trans (ts'.symm.trans (Finset.sum_congr rfl fun k _ => if_congr ?_ rfl rfl)))
    omega

theorem gainq_A (H : Holds A m c) (h : t.val % 8 = 0) (b : Fin 512) :
    (outsAt0 m c t.val t.isLt).2.2.1 (ix2 0 b) = 0 + ∑ x : Fin 256, (A.dq (ix2 (row t x) b) : EReal) * (seg A t 0 (by decide) (ix2 x b) * root (seg A t 0 (by decide)) (ix2 x b) : ℝ) := by
  rw [outsAt0_A m c t h]
  frame_out
  rw [blk2 t H, blk0 t H, ld_seg t 0 (by decide), pay15_val]
  pointwise [k0_pay4]

theorem gainq_B (H : Holds A m c) (h : ¬ t.val % 8 = 0) (b : Fin 512) :
    (outsAt0 m c t.val t.isLt).2.2.1 (ix2 0 b) = (outsAt0 m c (t.val - 1) (Nat.lt_of_le_of_lt (Nat.sub_le _ _) t.isLt)).2.2.1 (ix2 0 b)
      + ∑ x : Fin 256, (A.dq (ix2 (row t x) b) : EReal) * (seg A t 0 (by decide) (ix2 x b) * root (seg A t 0 (by decide)) (ix2 x b) : ℝ) := by
  rw [outsAt0_B m c t h]
  frame_out
  rw [blk2 t H, blk0 t H, ld_seg t 0 (by decide), pay15_val]
  rfl

theorem gaink_A (H : Holds A m c) (h : t.val % 8 = 0) (b : Fin 512) :
    (outsAt0 m c t.val t.isLt).2.2.2.1 (ix2 0 b) = 0 + ∑ x : Fin 256, (A.dk (ix2 (row t x) b) : EReal) * (seg A t 512 (by decide) (ix2 x b) * root (seg A t 512 (by decide)) (ix2 x b) : ℝ) := by
  rw [outsAt0_A m c t h]
  frame_out
  rw [blk3 t H, blk0 t H, ld_seg t 512 (by decide), pay40_val]
  pointwise [k0_pay5]

theorem gaink_B (H : Holds A m c) (h : ¬ t.val % 8 = 0) (b : Fin 512) :
    (outsAt0 m c t.val t.isLt).2.2.2.1 (ix2 0 b) = (outsAt0 m c (t.val - 1) (Nat.lt_of_le_of_lt (Nat.sub_le _ _) t.isLt)).2.2.2.1 (ix2 0 b)
      + ∑ x : Fin 256, (A.dk (ix2 (row t x) b) : EReal) * (seg A t 512 (by decide) (ix2 x b) * root (seg A t 512 (by decide)) (ix2 x b) : ℝ) := by
  rw [outsAt0_B m c t h]
  frame_out
  rw [blk3 t H, blk0 t H, ld_seg t 512 (by decide), pay40_val]
  rfl

theorem ix2_ext {p q : ℕ} {x : (⟨2, ![p, q]⟩ : Shape).Idx} {a : Fin p} {b : Fin q} (h0 : (x 0).val = a.val) (h1 : (x 1).val = b.val) : x = ix2 a b := by
  funext d
  match d with
  | ⟨0, _⟩ => exact Fin.ext h0
  | ⟨1, _⟩ => exact Fin.ext h1

/-- The five stores of a block, the last first. -/
abbrev stores (T : S256x128.Idx → EReal) (G V K Q : S256x512.Idx → EReal) : List (View.Piece (Elt Ideal) S256x2176 .f32) :=
  [⟨Rect.unit ![0, 2048] ![256, 128] inb_S256x2176_S256x128_0_2048, T⟩, ⟨Rect.unit ![0, 1536] ![256, 512] inb_S256x2176_S256x512_0_1536, G⟩,
   ⟨Rect.unit ![0, 1024] ![256, 512] inb_S256x2176_S256x512_0_1024, V⟩, ⟨Rect.unit ![0, 512] ![256, 512] inb_S256x2176_S256x512_0_512, K⟩,
   ⟨Rect.unit ![0, 0] ![256, 512] inb_S256x2176_S256x512_0_0, Q⟩]

theorem stores_cover (T : S256x128.Idx → EReal) (G V K Q : S256x512.Idx → EReal) : ∀ y : S256x2176.Idx, ∃ p ∈ stores T G V K Q, y ∈ p.1.set :=
  View.cover_of_tiledBy _ ![256, 128] (by sl_kernel_rfl)

/-- They, read at an index. -/
theorem canon_du (T : S256x128.Idx → EReal) (G V K Q : S256x512.Idx → EReal) (a : Fin 256) (b : Fin 2176) :
    View.canon (stores T G V K Q) (ix2 a b)
      = if h1 : b.val < 512 then Q (ix2 a ⟨b.val, h1⟩) else if h2 : b.val < 1024 then K (ix2 a ⟨b.val - 512, by omega⟩)
        else if h3 : b.val < 1536 then V (ix2 a ⟨b.val - 1024, by omega⟩) else if h4 : b.val < 2048 then G (ix2 a ⟨b.val - 1536, by omega⟩)
        else T (ix2 a ⟨b.val - 2048, by omega⟩) := by
  generalize hy : (ix2 a b : S256x2176.Idx) = y
  have hy0 : (y 0).val = a.val := by rw [← hy]; rfl
  have hy1 : (y 1).val = b.val := by rw [← hy]; rfl
  unfold stores
  canon_tiles x h using stores_cover T G V K Q y
  case piece0 =>
    rw [dif_neg (by omega), dif_neg (by omega), dif_neg (by omega), dif_neg (by omega)]
    exact congrArg T (ix2_ext (by omega) (show _ = b.val - 2048 by omega))
  case piece1 =>
    rw [dif_neg (by omega), dif_neg (by omega), dif_neg (by omega), dif_pos (by omega)]
    exact congrArg G (ix2_ext (by omega) (show _ = b.val - 1536 by omega))
  case piece2 =>
    rw [dif_neg (by omega), dif_neg (by omega), dif_pos (by omega)]
    exact congrArg V (ix2_ext (by omega) (show _ = b.val - 1024 by omega))
  case piece3 =>
    rw [dif_neg (by omega), dif_pos (by omega)]
    exact congrArg K (ix2_ext (by omega) (show _ = b.val - 512 by omega))
  case piece4 =>
    rw [dif_pos (by omega)]
    exact congrArg Q (ix2_ext (by omega) (show _ = b.val by omega))

/-- What the point stores in the columns of the forget logits. -/
def tailPart (A : Args) (t : Fin cfg0.N) (cy : Vec Ideal S1x128 .f32) : FVec Ideal S256x128 .f32 :=
  k0_pay54 (iota Kind.tc S1x128 32 [1] iota_S1x128_d1_w32) (k0_pay51 (fun i => (Cpad A (row t (i 0)) (i 1) : EReal)) cy)
    (fun i => (Upad A (row t (i 0)) ⟨2048 + (i 1).val, by have h : (i 1).val < 128 := (i 1).isLt; omega⟩ : EReal))
    (fun i => if h : (i 1).val < 8 then A.fb (ix2 0 ⟨(i 1).val, h⟩) else 0)

theorem tailPart_val (cy : Vec Ideal S1x128 .f32)
    (hc : ∀ l : Fin 128, cy (ix2 0 l) = ∑ k : Fin 2048, if (7 - t.val) * 256 + 256 ≤ k.val then (Cpad A k l : EReal) else 0) (a : Fin 256) (l : Fin 128) :
    tailPart A t cy (ix2 a l) = if h : l.val < 8 then gate A (row t a) ⟨l.val, h⟩ else 0 := by
  unfold tailPart
  rw [pay54_val]
  by_cases h : l.val < 8
  · rw [if_pos h, dif_pos h, pay51_val, hc]
    refine (congrArg (· * _) (tail_sum t (fun k => (Cpad A k l : EReal)) a.val (by omega)).symm).trans ?_
    unfold gate
    refine congrArg₂ (· * ·) (Finset.sum_congr rfl fun k _ => ?_) ?_
    · simp only [Cpad, dif_pos h]; rfl
    · exact congrArg (fun s : EReal => 1 - Ideal.div 1 (1 + Ideal.exp (-s)))
        (congrArg₂ (· + ·) (congrArg (fun r : ℝ => (r : EReal)) (dif_pos (show 2048 + l.val < 2056 by omega))) (dif_pos h))
  · rw [if_neg h, dif_neg h]

/-- The stores of a point, given what it carried in. -/
abbrev pointStores (A : Args) (t : Fin cfg0.N) (cy : Vec Ideal S1x128 .f32) : List (View.Piece (Elt Ideal) S256x2176 .f32) :=
  stores (tailPart A t cy) (fun i => A.dg (ix2 (row t (i 0)) (i 1))) (fun i => A.dv (ix2 (row t (i 0)) (i 1)))
    (kPart (fun i => (seg A t 512 (by decide) i : EReal)) (fun i => (A.kg (ix2 0 ⟨(i 1).val % 64, Nat.mod_lt _ (by decide)⟩) : EReal))
      (fun i => (A.dk (ix2 (row t (i 0)) (i 1)) : EReal)))
    (qPart (fun i => (seg A t 0 (by decide) i : EReal)) (fun i => (A.qg (ix2 0 ⟨(i 1).val % 64, Nat.mod_lt _ (by decide)⟩) : EReal))
      (fun i => (A.dq (ix2 (row t (i 0)) (i 1)) : EReal)))

theorem norm_val (o : ℕ) (ho : o + 512 ≤ 2056) (d : (⟨2, ![2048, 512]⟩ : Shape).Idx → ℝ) (g : (⟨2, ![1, 64]⟩ : Shape).Idx → ℝ) (a : Fin 256) (b : Fin 512) :
    rmsKer (fun k => (seg A t o ho (ix2 a (lane b k)) : EReal))
      (fun k => (d (ix2 (row t a) (lane b k)) * g (ix2 0 ⟨(lane b k).val % 64, Nat.mod_lt _ (by decide)⟩) : ℝ)) ⟨b.val % 64, by omega⟩
      = normGrad A o ho d g (row t a) b := by
  rw [rms_grad]
  unfold normGrad
  have hl : ∀ k : Fin 64, (⟨(lane b k).val % 64, Nat.mod_lt _ (by decide)⟩ : Fin 64) = k := fun k => Fin.ext (by
    show (b.val / 64 * 64 + k.val) % 64 = k.val
    omega)
  simp only [hl]
  rfl

theorem point_val (cy : Vec Ideal S1x128 .f32)
    (hc : ∀ l : Fin 128, cy (ix2 0 l) = ∑ k : Fin 2048, if (7 - t.val) * 256 + 256 ≤ k.val then (Cpad A k l : EReal) else 0) (a : Fin 256) (b : Fin 2176) :
    View.canon (pointStores A t cy) (ix2 a b) = DU A (row t a) b := by
  unfold pointStores
  rw [canon_du]
  unfold DU
  by_cases h1 : b.val < 512
  · rw [dif_pos h1, dif_pos h1]
    exact (qPart_val (seg A t 0 (by decide)) (fun i => A.dq (ix2 (row t (i 0)) (i 1))) (fun i => A.qg (ix2 0 ⟨(i 1).val % 64, Nat.mod_lt _ (by decide)⟩)) a ⟨b.val, h1⟩).trans
      (norm_val t 0 (by decide) A.dq A.qg a ⟨b.val, h1⟩)
  rw [dif_neg h1, dif_neg h1]
  by_cases h2 : b.val < 1024
  · rw [dif_pos h2, dif_pos h2]
    exact (kPart_val (seg A t 512 (by decide)) (fun i => A.dk (ix2 (row t (i 0)) (i 1))) (fun i => A.kg (ix2 0 ⟨(i 1).val % 64, Nat.mod_lt _ (by decide)⟩)) a ⟨b.val - 512, by omega⟩).trans
      (norm_val t 512 (by decide) A.dk A.kg a ⟨b.val - 512, by omega⟩)
  rw [dif_neg h2, dif_neg h2]
  by_cases h3 : b.val < 1536
  · rw [dif_pos h3, dif_pos h3]; rfl
  rw [dif_neg h3, dif_neg h3]
  by_cases h4 : b.val < 2048
  · rw [dif_pos h4, dif_pos h4]; rfl
  rw [dif_neg h4, dif_neg h4, tailPart_val t cy hc]
  refine dite_congr (propext ⟨fun h => ?_, fun h => ?_⟩) (fun _ => rfl) (fun _ => rfl) <;> (dsimp only at h ⊢; omega)

/-- What the point before carried, or the zeros the first point starts from. -/
theorem zero_carry (h : t.val % 8 = 0) (l : Fin 128) :
    k0_pay2 (F := Ideal) (ix2 0 l) = ∑ k : Fin 2048, if (7 - t.val) * 256 + 256 ≤ k.val then (Cpad A k l : EReal) else 0 := by
  have ht := (idx t).2.2.2.2.2.2.2.2.2.2.2
  rw [Finset.sum_eq_zero fun (k : Fin 2048) _ => if_neg (by omega)]
  pointwise [k0_pay2]

theorem prev_carry (H : Holds A m c) (h : ¬ t.val % 8 = 0) (l : Fin 128) :
    (outsAt0 m c (t.val - 1) (Nat.lt_of_le_of_lt (Nat.sub_le _ _) t.isLt)).2.2.2.2.2 (ix2 0 l)
      = ∑ k : Fin 2048, if (7 - t.val) * 256 + 256 ≤ k.val then (Cpad A k l : EReal) else 0 := by
  rw [carry H]
  refine Finset.sum_congr rfl fun k _ => if_congr ?_ rfl rfl
  have := (idx t).2.2.2.2.2.2.2.2.2.2.2
  omega

theorem du_A (H : Holds A m c) (h : t.val % 8 = 0) (a : Fin 256) (b : Fin 2176) : (outsAt0 m c t.val t.isLt).1 (ix2 a b) = DU A (row t a) b := by
  rw [outsAt0_A m c t h]
  frame_out
  rw [blk0 t H, blk2 t H, blk3 t H, blk4 t H, blk5 t H, blk6 t H, blk7 t H, blk8 t H, blk9 t H, ld_seg t 0 (by decide), ld_seg t 512 (by decide), ld_tail]
  exact point_val t _ (zero_carry t h) a b

theorem du_B (H : Holds A m c) (h : ¬ t.val % 8 = 0) (a : Fin 256) (b : Fin 2176) : (outsAt0 m c t.val t.isLt).1 (ix2 a b) = DU A (row t a) b := by
  rw [outsAt0_B m c t h]
  frame_out
  rw [read_unread_whole, blk0 t H, blk2 t H, blk3 t H, blk4 t H, blk5 t H, blk6 t H, blk7 t H, blk8 t H, blk9 t H, ld_seg t 0 (by decide), ld_seg t 512 (by decide), ld_tail]
  exact point_val t _ (prev_carry t H h) a b

theorem whole_idx (x : Fin 256) (b : Fin 2176) : (Rect.unit ![0, 0] ![256, 2176] inb_S256x2176_S256x2176_0_0).idx (ix2 x b) = (ix2 x b : S256x2176.Idx) :=
  ix2_ext (by simp [ix2]) (by simp [ix2])

theorem dwb_A (H : Holds A m c) (h : t.val % 8 = 0) (i : Fin 1024) (b : Fin 2176) :
    (outsAt0 m c t.val t.isLt).2.1 (ix2 i b) = 0 + ∑ x : Fin 256, (A.h (ix2 (row t x) i) : EReal) * DU A (row t x) b := by
  rw [outsAt0_A m c t h]
  frame_out
  simp only [View.readCov_eq_canon']
  rw [blk0 t H, blk1 t H, blk2 t H, blk3 t H, blk4 t H, blk5 t H, blk6 t H, blk7 t H, blk8 t H, blk9 t H, ld_seg t 0 (by decide), ld_seg t 512 (by decide), ld_tail]
  refine (pay1_val _ _ _ i b).trans ?_
  refine congrArg₂ (· + ·) ?_ (Finset.sum_congr rfl fun x _ => ?_)
  · pointwise [k0_pay3]
  · exact congrArg _ ((congrArg (View.canon _) (whole_idx x b)).trans (point_val t _ (zero_carry t h) x b))

theorem dwb_B (H : Holds A m c) (h : ¬ t.val % 8 = 0) (i : Fin 1024) (b : Fin 2176) :
    (outsAt0 m c t.val t.isLt).2.1 (ix2 i b) = (outsAt0 m c (t.val - 1) (Nat.lt_of_le_of_lt (Nat.sub_le _ _) t.isLt)).2.1 (ix2 i b)
      + ∑ x : Fin 256, (A.h (ix2 (row t x) i) : EReal) * DU A (row t x) b := by
  rw [outsAt0_B m c t h]
  frame_out
  simp only [View.readCov_eq_canon']
  rw [read_unread_whole, blk0 t H, blk1 t H, blk2 t H, blk3 t H, blk4 t H, blk5 t H, blk6 t H, blk7 t H, blk8 t H, blk9 t H, ld_seg t 0 (by decide), ld_seg t 512 (by decide), ld_tail]
  refine (pay1_val _ _ _ i b).trans ?_
  exact congrArg (_ + ·) (Finset.sum_congr rfl fun x _ =>
    congrArg _ ((congrArg (View.canon _) (whole_idx x b)).trans (point_val t _ (prev_carry t H h) x b)))

theorem dfb_A (H : Holds A m c) (h : t.val % 8 = 0) (l : Fin 128) :
    (outsAt0 m c t.val t.isLt).2.2.2.2.1 (ix2 0 l) = 0 + ∑ x : Fin 256, if h : l.val < 8 then gate A (row t x) ⟨l.val, h⟩ else 0 := by
  rw [outsAt0_A m c t h]
  frame_out
  rw [blk0 t H, blk6 t H, blk7 t H, ld_tail, pay55_val]
  refine congrArg₂ (· + ·) ?_ (Finset.sum_congr rfl fun x _ => tailPart_val t _ (zero_carry t h) x l)
  pointwise [k0_pay6]

theorem dfb_B (H : Holds A m c) (h : ¬ t.val % 8 = 0) (l : Fin 128) :
    (outsAt0 m c t.val t.isLt).2.2.2.2.1 (ix2 0 l) = (outsAt0 m c (t.val - 1) (Nat.lt_of_le_of_lt (Nat.sub_le _ _) t.isLt)).2.2.2.2.1 (ix2 0 l)
      + ∑ x : Fin 256, if h : l.val < 8 then gate A (row t x) ⟨l.val, h⟩ else 0 := by
  rw [outsAt0_B m c t h]
  frame_out
  rw [read_unread_whole, blk0 t H, blk6 t H, blk7 t H, ld_tail, pay55_val]
  exact congrArg (_ + ·) (Finset.sum_congr rfl fun x _ => tailPart_val t _ (prev_carry t H h) x l)

end Cert.Proof.Fox
-- ==== Proof.FoxArr.lean ====
/- The arrays `fox_prep_bwd` leaves after the run. -/
module

public import proofs.«01_k».proof.Proof.FoxVal

@[expose] public section

set_option maxRecDepth 16384

noncomputable section

namespace Cert.Proof.Fox

open Idealize.ShloMosaic Idealize.ShloMosaic.TcCoe Idealize.SL.Sem
open Cert.FoxIdeal Cert.FoxIdeal.Gen

variable {A : Args} {m : (ℓ : Loc nD τ sig) → Buf (Elt Ideal) ℓ} {c : Dev nD} (t : Fin cfg0.N)

/-- The points' blocks, last block first, are all the rows. -/
theorem sum_rows (f : Fin 2048 → EReal) : ∑ t : Fin cfg0.N, ∑ x : Fin 256, f (row t x) = ∑ n : Fin 2048, f n := by
  rw [← Fin.sum_mul_add_fin 8 256 f rfl, ← Equiv.sum_comp Fin.revPerm]
  refine Finset.sum_congr rfl fun t _ => Finset.sum_congr rfl fun x _ => congrArg f (Fin.ext ?_)
  show (7 - (Fin.rev t).val) * 256 + x.val = t.val * 256 + x.val
  rw [Fin.val_rev]
  have h := t.isLt
  have h8 : cfg0.N = 8 := N_0
  omega

theorem arr_du (H : Holds A m c) : (dats m 0 c).arrAt 10 cfg0.N = fun i => DU A (i 0) (i 1) := by
  refine (dats m 0 c).arrAt_eq_of_covers 10 _ (by decide +kernel) fun t hf y => ?_
  have e : ∀ j : S256x2176.Idx, (outsAt0 m c t.val t.isLt).1 j = DU A (row t (j 0)) (j 1) := fun j => by
    idx_vars j
    by_cases h : t.val % 8 = 0
    · exact du_A t H h _ _
    · exact du_B t H h _ _
  blk_simp
  rw [after0_10, e]
  refine congrArg₂ (DU A) (Fin.ext ?_) (Fin.ext ?_) <;> blk_simp [idx t]
  all_goals rfl

theorem arr_dwb (H : Holds A m c) : (dats m 0 c).arrAt 11 cfg0.N = fun i => ∑ n : Fin 2048, (A.h (ix2 n (i 0)) : EReal) * DU A n (i 1) := by
  refine (dats m 0 c).arrAt_eq_of_after_last 11 t0_7 (by decide +kernel) _ fun j => ?_
  idx_vars j
  blk_simp
  rw [after0_11, Pipeline.eq_sum_fin_of_reset_step_apply_last (fun n h => (outsAt0 m c n h).2.1) 8 (fun _ => 0)
    (fun t j => ∑ x : Fin 256, (A.h (ix2 (row t x) (j 0)) : EReal) * DU A (row t x) (j 1))
    (fun t h j => by idx_vars j; exact dwb_A t H h _ _) (fun t h j => by idx_vars j; exact dwb_B t H h _ _) (le_of_eq N_0) t0_7 rfl]
  rw [zero_add]
  exact sum_rows fun n => (A.h (ix2 n _) : EReal) * DU A n _

/-- What a row adds to a gain's gradient. -/
def gainRow (A : Args) (o : ℕ) (ho : o + 512 ≤ 2056) (d : (⟨2, ![2048, 512]⟩ : Shape).Idx → ℝ) (b : Fin 512) (n : Fin 2048) : EReal :=
  (d (ix2 n b) : EReal) * ((U A n ⟨o + b.val, by omega⟩ : EReal) * Ideal.rsqrt (rmsRoot fun k => (head A o ho n b k : EReal)))

theorem gain_row (o : ℕ) (ho : o + 512 ≤ 2056) (d : (⟨2, ![2048, 512]⟩ : Shape).Idx → ℝ) (b : Fin 512) :
    (∑ x : Fin 256, (d (ix2 (row t x) b) : EReal) * (seg A t o ho (ix2 x b) * root (seg A t o ho) (ix2 x b) : ℝ)) = ∑ x : Fin 256, gainRow A o ho d b (row t x) :=
  Finset.sum_congr rfl fun x _ => by
    rw [EReal.coe_mul, root_rms]
    rfl

theorem arr_dqg (H : Holds A m c) : (dats m 0 c).arrAt 12 cfg0.N = fun i => gainGrad A 0 (by decide) A.dq (i 1) := by
  refine (dats m 0 c).arrAt_eq_of_after_last 12 t0_7 (by decide +kernel) _ fun j => ?_
  idx_vars j
  obtain rfl := Subsingleton.elim j0 0
  blk_simp
  rw [after0_12, Pipeline.eq_sum_fin_of_reset_step_apply_last (fun n h => (outsAt0 m c n h).2.2.1) 8 (fun _ => 0)
    (fun t j => ∑ x : Fin 256, gainRow A 0 (by decide) A.dq (j 1) (row t x))
    (fun t h j => by
      idx_vars j
      obtain rfl := Subsingleton.elim j0 0
      exact (gainq_A t H h j1).trans (congrArg (0 + ·) (gain_row t 0 (by decide) A.dq j1)))
    (fun t h j => by
      idx_vars j
      obtain rfl := Subsingleton.elim j0 0
      exact (gainq_B t H h j1).trans (congrArg (_ + ·) (gain_row t 0 (by decide) A.dq j1))) (le_of_eq N_0) t0_7 rfl]
  rw [zero_add]
  exact sum_rows (gainRow A 0 (by decide) A.dq j1)

theorem arr_dkg (H : Holds A m c) : (dats m 0 c).arrAt 13 cfg0.N = fun i => gainGrad A 512 (by decide) A.dk (i 1) := by
  refine (dats m 0 c).arrAt_eq_of_after_last 13 t0_7 (by decide +kernel) _ fun j => ?_
  idx_vars j
  obtain rfl := Subsingleton.elim j0 0
  blk_simp
  rw [after0_13, Pipeline.eq_sum_fin_of_reset_step_apply_last (fun n h => (outsAt0 m c n h).2.2.2.1) 8 (fun _ => 0)
    (fun t j => ∑ x : Fin 256, gainRow A 512 (by decide) A.dk (j 1) (row t x))
    (fun t h j => by
      idx_vars j
      obtain rfl := Subsingleton.elim j0 0
      exact (gaink_A t H h j1).trans (congrArg (0 + ·) (gain_row t 512 (by decide) A.dk j1)))
    (fun t h j => by
      idx_vars j
      obtain rfl := Subsingleton.elim j0 0
      exact (gaink_B t H h j1).trans (congrArg (_ + ·) (gain_row t 512 (by decide) A.dk j1))) (le_of_eq N_0) t0_7 rfl]
  rw [zero_add]
  exact sum_rows (gainRow A 512 (by decide) A.dk j1)

/-- What a row adds to the forget bias's gradient. -/
def gateRow (A : Args) (l : Fin 128) (n : Fin 2048) : EReal := if h : l.val < 8 then gate A n ⟨l.val, h⟩ else 0

/-- The forget bias's gradient, padded to 128 lanes. -/
def biasGrad (A : Args) (l : Fin 128) : EReal := if h : l.val < 8 then ∑ n : Fin 2048, gate A n ⟨l.val, h⟩ else 0

theorem sum_gateRow (A : Args) (l : Fin 128) : ∑ n : Fin 2048, gateRow A l n = biasGrad A l := by
  unfold gateRow biasGrad
  by_cases h : l.val < 8
  · simp only [dif_pos h]
  · simp only [dif_neg h, Finset.sum_const_zero]

theorem arr_dfb (H : Holds A m c) : (dats m 0 c).arrAt 14 cfg0.N = fun i => biasGrad A (i 1) := by
  refine (dats m 0 c).arrAt_eq_of_after_last 14 t0_7 (by decide +kernel) _ fun j => ?_
  idx_vars j
  obtain rfl := Subsingleton.elim j0 0
  blk_simp
  rw [after0_14, Pipeline.eq_sum_fin_of_reset_step_apply_last (fun n h => (outsAt0 m c n h).2.2.2.2.1) 8 (fun _ => 0)
    (fun t j => ∑ x : Fin 256, gateRow A (j 1) (row t x))
    (fun t h j => by
      idx_vars j
      obtain rfl := Subsingleton.elim j0 0
      exact dfb_A t H h j1)
    (fun t h j => by
      idx_vars j
      obtain rfl := Subsingleton.elim j0 0
      exact dfb_B t H h j1) (le_of_eq N_0) t0_7 rfl]
  rw [zero_add]
  exact (sum_rows (gateRow A j1)).trans (sum_gateRow A j1)

end Cert.Proof.Fox
-- ==== Proof.FoxRef.lean ====
/- The reference's results, index by index. -/
module

public import proofs.«01_k».proof.Defs
public import proofs.«01_k».proof.Proof.FoxSpec
public import proofs.«01_k».proof.Proof.Gen.FoxRefIdeal.Run
public import proofs.«01_k».proof.Proof.Gen.FoxRefIdeal.Read

@[expose] public section

set_option maxRecDepth 16384

noncomputable section

namespace Cert.Proof.Fox

open Idealize.ShloMosaic Idealize.ShloMosaic.TcCoe Idealize.SL.Sem
open Cert.FoxRefIdeal Cert.FoxRefIdeal.Gen Cert.FoxRefIdeal.Value Cert.FoxRefIdeal.Read

variable (A : Args)

theorem v6_eq : val_main_v6 (F := Ideal) (fun i => (A.h i : EReal)) (fun i => (A.w i : EReal)) = fun i => (U A (i 0) (i 1) : EReal) := by
  funext j
  idx_vars j
  pointwise [val_main_v6, val_main_v2, val_main_cst, val_main_v5, val_main_v4, val_main_v3]
  simp only [U, coe_sum, EReal.coe_mul]

theorem v101_val (n : Fin 2048) (b : Fin 512) : val_main_v101 (F := Ideal) (fun i => (A.h i : EReal)) (fun i => (A.w i : EReal)) (fun i => (A.qg i : EReal))
    (fun i => (A.dq i : EReal)) (ix2 n b) = normGrad A 0 (by decide) A.dq A.qg n b := by
  pointwise [val_main_v101, val_main_v100, val_main_v98, val_main_v91, val_main_v85, val_main_v54, val_main_v84, val_main_v26, val_main_v0, val_main_v90, val_main_v20, val_main_v19, val_main_v17, val_main_v15, val_main_v14, val_main_v13, val_main_v12, val_main_v7, val_main_cst_0, val_main_v16, val_main_cst_1, val_main_v18, val_main_cst_2, val_main_v97, val_main_v96, val_main_v95, val_main_v94, val_main_v92, val_main_v89, val_main_v88, val_main_v87, val_main_cst_16, val_main_v23, val_main_v22, val_main_cst_3, val_main_v21, val_main_v93, val_main_cst_17, val_main_cst_18, val_main_v99]
  rw [v6_eq]
  simp only [normGrad, rmsRef, rmsMean, rmsRoot, zero_add, head, EReal.coe_mul, lane_self]
  rfl

theorem v80_val (n : Fin 2048) (b : Fin 512) : val_main_v80 (F := Ideal) (fun i => (A.h i : EReal)) (fun i => (A.w i : EReal)) (fun i => (A.kg i : EReal))
    (fun i => (A.dk i : EReal)) (ix2 n b) = normGrad A 512 (by decide) A.dk A.kg n b := by
  pointwise [val_main_v80, val_main_v79, val_main_v77, val_main_v70, val_main_v64, val_main_v53, val_main_v63, val_main_v43, val_main_v1, val_main_v69, val_main_v37, val_main_v36, val_main_v34, val_main_v32, val_main_v31, val_main_v30, val_main_v29, val_main_v8, val_main_cst_4, val_main_v33, val_main_cst_5, val_main_v35, val_main_cst_6, val_main_v76, val_main_v75, val_main_v74, val_main_v73, val_main_v71, val_main_v68, val_main_v67, val_main_v66, val_main_cst_11, val_main_v40, val_main_v39, val_main_cst_7, val_main_v38, val_main_v72, val_main_cst_12, val_main_cst_13, val_main_v78]
  rw [v6_eq]
  simp only [normGrad, rmsRef, rmsMean, rmsRoot, zero_add, head, EReal.coe_mul, lane_self]
  rfl

theorem v56_val (n : Fin 2048) (l : Fin 8) : val_main_v56 (F := Ideal) (fun i => (A.dc i : EReal)) (ix2 n l)
    = ∑ k : Fin 2048, if n.val ≤ k.val then (A.dc (ix2 l k) : EReal) else 0 := by
  unfold val_main_v56
  rw [reduceWindow_rev _ _ _ _ (by pointwise [val_main_call2_call0_v0, val_main_call2_call0_cst])]
  refine Finset.sum_congr rfl fun k _ => ?_
  pointwise [val_main_v55]

theorem v57_val (n : Fin 2048) (b : Fin 8) : val_main_v57 (F := Ideal) (fun i => (A.h i : EReal)) (fun i => (A.w i : EReal)) A.fb
    (fun i => (A.dc i : EReal)) (ix2 n b) = gate A n b := by
  pointwise [val_main_v57, val_main_call3_v1, val_main_call3_v0, val_main_v48_1, val_main_call0_call0_v21, val_main_call0_call0_v16, val_main_call0_call0_v14, val_main_call0_v0, val_main_v47, val_main_v11, val_main_v46, val_main_call0_call0_v13, val_main_call0_call0_cst_0, val_main_call0_call0_v15, val_main_call0_call0_cst_1, val_main_call0_call0_v20, val_main_call0_call0_v18, val_main_call0_v1_0, val_main_call0_call0_v4, val_main_call0_call0_v3, val_main_call0_call0_v2, val_main_call0_call0_cst, val_main_call0_call0_v6, val_main_call0_call0_v5, val_main_call0_call0_v11, val_main_call0_call0_v1, val_main_call0_call0_v0, val_main_call0_call0_v10, val_main_call0_call0_v9, val_main_call0_call0_v8, val_main_call0_call0_v7, val_main_call0_call0_v17, val_main_call0_call0_cst_2, val_main_call0_call0_v19, val_main_call0_call0_cst_3]
  rw [v6_eq, v56_val]
  simp only [ne_eq, not_true, if_false, c_top, ← sigmoid_factor, EReal.neg_mul, neg_neg]
  rfl

theorem v102_val (n : Fin 2048) (b : Fin 2056) : val_main_v102 (F := Ideal) (fun i => (A.h i : EReal)) (fun i => (A.w i : EReal)) A.fb (fun i => (A.qg i : EReal)) (fun i => (A.kg i : EReal))
    (fun i => (A.dq i : EReal)) (fun i => (A.dk i : EReal)) A.dv A.dg (fun i => (A.dc i : EReal)) (ix2 n b) = DU A n ⟨b.val, by omega⟩ := by
  pointwise [val_main_v102]
  simp only [v101_val, v80_val, v57_val]
  unfold DU
  by_cases h1 : b.val < 512
  · rw [dif_pos h1, dif_pos h1]
  rw [dif_neg h1, dif_neg h1]
  by_cases h2 : b.val < 1024
  · rw [dif_pos (show b.val - 512 < 512 by omega), dif_pos h2]
  rw [dif_neg (show ¬ b.val - 512 < 512 by omega), dif_neg h2]
  by_cases h3 : b.val < 1536
  · rw [dif_pos (show b.val - 512 - 512 < 512 by omega), dif_pos h3]; rfl
  rw [dif_neg (show ¬ b.val - 512 - 512 < 512 by omega), dif_neg h3]
  by_cases h4 : b.val < 2048
  · rw [dif_pos (show b.val - 512 - 512 - 512 < 512 by omega), dif_pos h4]; rfl
  rw [dif_neg (show ¬ b.val - 512 - 512 - 512 < 512 by omega), dif_neg h4, dif_pos b.isLt]
  rfl

theorem pad_zero (n : Fin 2048) (b : Fin 2176) (h : ¬ b.val < 2056) : DU A n b = 0 := by
  simp only [DU, h, show ¬ b.val < 512 by omega, show ¬ b.val < 1024 by omega, show ¬ b.val < 1536 by omega, show ¬ b.val < 2048 by omega,
    dif_neg, not_false_iff]

theorem v105_val (n : Fin 2048) (b : Fin 2176) : val_main_v105 (F := Ideal) (fun i => (A.h i : EReal)) (fun i => (A.w i : EReal)) A.fb (fun i => (A.qg i : EReal)) (fun i => (A.kg i : EReal))
    (fun i => (A.dq i : EReal)) (fun i => (A.dk i : EReal)) A.dv A.dg (fun i => (A.dc i : EReal)) (ix2 n b) = DU A n b := by
  pointwise [val_main_v105, val_main_call4_v0, val_main_c]
  split_ifs with h
  · exact v102_val A n ⟨b.val, h⟩
  · exact fill.trans (pad_zero A n b h).symm

theorem v106_val (i : Fin 1024) (b : Fin 2176) : val_main_v106 (F := Ideal) (fun i => (A.h i : EReal)) (fun i => (A.w i : EReal)) A.fb (fun i => (A.qg i : EReal)) (fun i => (A.kg i : EReal))
    (fun i => (A.dq i : EReal)) (fun i => (A.dk i : EReal)) A.dv A.dg (fun i => (A.dc i : EReal)) (ix2 i b) = ∑ n : Fin 2048, (A.h (ix2 n i) : EReal) * DU A n b := by
  pointwise [val_main_v106, val_main_v104, val_main_v103, val_main_v4, val_main_call5_v0, val_main_c_19]
  simp only [v102_val]
  split_ifs with h
  · exact Finset.sum_congr rfl fun n _ => mul_comm _ _
  · rw [fill, Finset.sum_eq_zero fun n _ => by rw [pad_zero A n b h, mul_zero]]

theorem v107_val (b : Fin 512) : val_main_v107 (F := Ideal) (fun i => (A.h i : EReal)) (fun i => (A.w i : EReal)) (fun i => (A.dq i : EReal)) (ix2 0 b) = gainGrad A 0 (by decide) A.dq b := by
  pointwise [val_main_v107, val_main_v86, val_main_v83, val_main_v82, val_main_v81, val_main_v25, val_main_v12, val_main_v7, val_main_v24, val_main_v20, val_main_v19, val_main_v17, val_main_v15, val_main_v14, val_main_v13, val_main_cst_0, val_main_v16, val_main_cst_1, val_main_v18, val_main_cst_2, val_main_v54, val_main_cst_14, val_main_cst_15]
  rw [v6_eq]
  unfold gainGrad
  rw [Finset.univ_unique, Finset.sum_singleton]
  refine Finset.sum_congr rfl fun n _ => ?_
  simp only [rmsRoot, head, zero_add]
  exact mul_comm _ _

theorem v108_val (b : Fin 512) : val_main_v108 (F := Ideal) (fun i => (A.h i : EReal)) (fun i => (A.w i : EReal)) (fun i => (A.dk i : EReal)) (ix2 0 b) = gainGrad A 512 (by decide) A.dk b := by
  pointwise [val_main_v108, val_main_v65, val_main_v62, val_main_v61, val_main_v60, val_main_v42, val_main_v29, val_main_v8, val_main_v41, val_main_v37, val_main_v36, val_main_v34, val_main_v32, val_main_v31, val_main_v30, val_main_cst_4, val_main_v33, val_main_cst_5, val_main_v35, val_main_cst_6, val_main_v53, val_main_cst_9, val_main_cst_10]
  rw [v6_eq]
  unfold gainGrad
  rw [Finset.univ_unique, Finset.sum_singleton]
  refine Finset.sum_congr rfl fun n _ => ?_
  simp only [rmsRoot, head, zero_add]
  exact mul_comm _ _

theorem v109_val (l : Fin 128) : val_main_v109 (F := Ideal) (fun i => (A.h i : EReal)) (fun i => (A.w i : EReal)) A.fb (fun i => (A.dc i : EReal)) (ix2 0 l)
    = if h : l.val < 8 then ∑ n : Fin 2048, gate A n ⟨l.val, h⟩ else 0 := by
  pointwise [val_main_v109, val_main_v59, val_main_v58, val_main_cst_8, val_main_call6_v0, val_main_c_20]
  simp only [v57_val, fill]

end Cert.Proof.Fox
-- ==== Proof.FoxEnd.lean ====
/- `fox_prep_bwd` leaves what the reference leaves. -/
module

public import proofs.«01_k».proof.Defs
public import proofs.«01_k».proof.Proof.FoxArr
public import proofs.«01_k».proof.Proof.FoxRef
public import proofs.«01_k».proof.Proof.Gen.Fox
public import proofs.«01_k».proof.Proof.Gen.Pre_finite

@[expose] public section

set_option maxRecDepth 16384

noncomputable section

namespace Cert.Proof.Fox

open Idealize.ShloMosaic Idealize.ShloMosaic.TcCoe Idealize.SL.Sem
open Cert.FoxIdeal

/-- Finite arguments are real arguments. -/
theorem holds_of_pre (m : (ℓ : Loc nD τ sig) → Buf (Elt Ideal) ℓ) (c : Dev nD) (hpre : Cert.Pre_FoxIdeal_finite m) : ∃ A : Args, Holds A m c := by
  have h := congrFun (hpre c) (fun d => d.elim0)
  simp only [Cert.Pre_finite.fn, Cert.Pre_finite.fn_part1, Cert.Pre_finite.fn_part2, andi, IntOp.andi_eq_one] at h
  obtain ⟨⟨⟨⟨⟨⟨h0, h1⟩, h3⟩, h4⟩, h5⟩, h6⟩, h9⟩ := h
  obtain ⟨a0, e0⟩ := exists_real (isReal_of_all _ _ (fun _ => c_top) _ _ _ _ _ _ h0)
  obtain ⟨a1, e1⟩ := exists_real (isReal_of_all _ _ (fun _ => c_top) _ _ _ _ _ _ h1)
  obtain ⟨a3, e3⟩ := exists_real (isReal_of_all _ _ (fun _ => c_top) _ _ _ _ _ _ h3)
  obtain ⟨a4, e4⟩ := exists_real (isReal_of_all _ _ (fun _ => c_top) _ _ _ _ _ _ h4)
  obtain ⟨a5, e5⟩ := exists_real (isReal_of_all _ _ (fun _ => c_top) _ _ _ _ _ _ h5)
  obtain ⟨a6, e6⟩ := exists_real (isReal_of_all _ _ (fun _ => c_top) _ _ _ _ _ _ h6)
  obtain ⟨a9, e9⟩ := exists_real (isReal_of_all _ _ (fun _ => c_top) _ _ _ _ _ _ h9)
  exact ⟨⟨a0, a1, m ((c : Thread nD τ).loc main_arg2), a3, a4, a5, a6, m ((c : Thread nD τ).loc main_arg7), m ((c : Thread nD τ).loc main_arg8), a9⟩,
    ⟨e0, e1, rfl, e3, e4, e5, e6, rfl, rfl, e9⟩⟩

variable (A : Args) {x0 : FVec Ideal ⟨2, ![2048, 1024]⟩ .bf16} {x1 : FVec Ideal ⟨2, ![1024, 2056]⟩ .bf16} {x2 : FVec Ideal ⟨2, ![1, 8]⟩ .f32} {x3 : FVec Ideal ⟨2, ![1, 64]⟩ .f32} {x4 : FVec Ideal ⟨2, ![1, 64]⟩ .f32} {x5 : FVec Ideal ⟨2, ![2048, 512]⟩ .f32} {x6 : FVec Ideal ⟨2, ![2048, 512]⟩ .f32} {x7 : FVec Ideal ⟨2, ![2048, 512]⟩ .f32} {x8 : FVec Ideal ⟨2, ![2048, 512]⟩ .f32} {x9 : FVec Ideal ⟨2, ![8, 2048]⟩ .f32}
  (e0 : x0 = fun i => (A.h i : EReal)) (e1 : x1 = fun i => (A.w i : EReal)) (e2 : x2 = A.fb) (e3 : x3 = fun i => (A.qg i : EReal)) (e4 : x4 = fun i => (A.kg i : EReal)) (e5 : x5 = fun i => (A.dq i : EReal)) (e6 : x6 = fun i => (A.dk i : EReal)) (e7 : x7 = A.dv) (e8 : x8 = A.dg) (e9 : x9 = fun i => (A.dc i : EReal))

include e0 e1 e2 e3 e4 e5 e6 e7 e8 e9 in
theorem ref_du : Cert.FoxRefIdeal.Read.val_main_v105 (F := Ideal) x0 x1 x2 x3 x4 x5 x6 x7 x8 x9 = fun i => DU A (i 0) (i 1) := by
  subst e0 e1 e2 e3 e4 e5 e6 e7 e8 e9
  funext j
  idx_vars j
  exact v105_val A j0 j1

include e0 e1 e2 e3 e4 e5 e6 e7 e8 e9 in
theorem ref_dwb : Cert.FoxRefIdeal.Read.val_main_v106 (F := Ideal) x0 x1 x2 x3 x4 x5 x6 x7 x8 x9 = (fun i => ∑ n : Fin 2048, (A.h (ix2 n (i 0)) : EReal) * DU A n (i 1) : S1024x2176.Idx → EReal) := by
  subst e0 e1 e2 e3 e4 e5 e6 e7 e8 e9
  funext j
  idx_vars j
  exact v106_val A j0 j1

include e0 e1 e5 in
theorem ref_dqg : Cert.FoxRefIdeal.Read.val_main_v107 (F := Ideal) x0 x1 x5 = fun i => gainGrad A 0 (by decide) A.dq (i 1) := by
  subst e0 e1 e5
  funext j
  idx_vars j
  obtain rfl := Subsingleton.elim j0 0
  exact v107_val A j1

include e0 e1 e6 in
theorem ref_dkg : Cert.FoxRefIdeal.Read.val_main_v108 (F := Ideal) x0 x1 x6 = fun i => gainGrad A 512 (by decide) A.dk (i 1) := by
  subst e0 e1 e6
  funext j
  idx_vars j
  obtain rfl := Subsingleton.elim j0 0
  exact v108_val A j1

include e0 e1 e2 e9 in
theorem ref_dfb : Cert.FoxRefIdeal.Read.val_main_v109 (F := Ideal) x0 x1 x2 x9 = fun i => biasGrad A (i 1) := by
  subst e0 e1 e2 e9
  funext j
  idx_vars j
  obtain rfl := Subsingleton.elim j0 0
  exact v109_val A j1

theorem algebraic : Cert.algebraic_FoxIdeal_FoxRefIdeal_pre_finite := by
  intro m g m' g' hpre hargs
  choose A H using fun c => holds_of_pre m c hpre
  refine ⟨fun c i => DU (A c) (i 0) (i 1), fun c => (fun i => ∑ n : Fin 2048, ((A c).h (ix2 n (i 0)) : EReal) * DU (A c) n (i 1) : S1024x2176.Idx → EReal),
    fun c i => gainGrad (A c) 0 (by decide) (A c).dq (i 1), fun c i => gainGrad (A c) 512 (by decide) (A c).dk (i 1), fun c i => biasGrad (A c) (i 1), ?_, ?_⟩
  · refine θ_run_mono (Cert.FoxIdeal.Value.run_blocks m g) fun r hr c => ?_
    obtain ⟨r0, r1, r2, r3, r4, rs⟩ := hr c
    exact ⟨r0.trans (arr_du (H c)), r1.trans (arr_dwb (H c)), r2.trans (arr_dqg (H c)), r3.trans (arr_dkg (H c)), r4.trans (arr_dfb (H c)), rs⟩
  · refine θ_run_mono (Cert.FoxRefIdeal.Value.run m' g') fun r hr c => ?_
    obtain ⟨r0, r1, r2, r3, r4, rs⟩ := hr c
    obtain ⟨a0, a1, a2, a3, a4, a5, a6, a7, a8, a9⟩ := hargs c
    have e0 := a0.trans (H c).h
    have e1 := a1.trans (H c).w
    have e2 := a2.trans (H c).fb
    have e3 := a3.trans (H c).qg
    have e4 := a4.trans (H c).kg
    have e5 := a5.trans (H c).dq
    have e6 := a6.trans (H c).dk
    have e7 := a7.trans (H c).dv
    have e8 := a8.trans (H c).dg
    have e9 := a9.trans (H c).dc
    exact ⟨(r0.trans (Cert.FoxRefIdeal.Read.val_main_v105_eq _)).trans (ref_du (A c) e0 e1 e2 e3 e4 e5 e6 e7 e8 e9),
      (r1.trans (Cert.FoxRefIdeal.Read.val_main_v106_eq _)).trans (ref_dwb (A c) e0 e1 e2 e3 e4 e5 e6 e7 e8 e9),
      (r2.trans (Cert.FoxRefIdeal.Read.val_main_v107_eq _)).trans (ref_dqg (A c) e0 e1 e5),
      (r3.trans (Cert.FoxRefIdeal.Read.val_main_v108_eq _)).trans (ref_dkg (A c) e0 e1 e6),
      (r4.trans (Cert.FoxRefIdeal.Read.val_main_v109_eq _)).trans (ref_dfb (A c) e0 e1 e2 e9), rs⟩

end Cert.Proof.Fox
-- ==== Proof.RowNorm.lean ====
/- The RMS norm over a row of 1024 entries and its gradient, over extended real numbers: the reciprocal root is a
   nonnegative real number whatever the row holds, so no entry needs to be finite. -/
module

public import proofs.«01_k».proof.Proof.Common

@[expose] public section

set_option maxRecDepth 16384

noncomputable section

namespace Cert.Proof

open Idealize.ShloMosaic

theorem c_1024 : Ideal.ofBits .f32 0x44800000#32 = ((1024 : ℝ) : EReal) := by
  simp [Ideal.ofBits, Ideal.ieee, -EReal.coe_mul]; norm_num

/-- A nonnegative real factor comes out of a finite sum of extended reals. -/
theorem mul_sum_of_nonneg {ι : Type} (s : Finset ι) {ρ : ℝ} (h : 0 ≤ ρ) (f : ι → EReal) :
    ∑ i ∈ s, (ρ : EReal) * f i = (ρ : EReal) * ∑ i ∈ s, f i := by
  classical
  induction s using Finset.induction_on with
  | empty => simp
  | insert a s ha ih =>
    rw [Finset.sum_insert ha, Finset.sum_insert ha, ih,
      EReal.left_distrib_of_nonneg_of_ne_top (EReal.coe_nonneg.2 h) (EReal.coe_ne_top _)]

theorem sq_nonneg' (x : EReal) : 0 ≤ x * x := by
  induction x with
  | bot => simp
  | top => simp
  | coe r => exact_mod_cast mul_self_nonneg r

/-- The mean square of a row plus the constant under the root. -/
def rowMean (x : Fin 1024 → EReal) : EReal :=
  Ideal.div (∑ k, x k * x k) (Ideal.ofBits .f32 0x44800000#32) + Ideal.ofBits .f32 0x358637BD#32

/-- The reciprocal root of a row. -/
def rowRoot (x : Fin 1024 → EReal) : EReal := Ideal.rsqrt (rowMean x)

theorem rowRoot_real (x : Fin 1024 → EReal) : ∃ ρ : ℝ, 0 ≤ ρ ∧ rowRoot x = (ρ : EReal) ∧
    Ideal.div (rowRoot x) (rowMean x) = ((ρ * ρ * ρ : ℝ) : EReal) := by
  obtain ⟨e, he, hE⟩ := c_eps
  have h0 : 0 ≤ ∑ k, x k * x k := Finset.sum_nonneg fun k _ => sq_nonneg' _
  unfold rowRoot rowMean
  rw [hE, c_1024, Ideal.div_coe (by norm_num)]
  generalize ∑ k, x k * x k = s at h0 ⊢
  induction s with
  | bot => exact absurd h0 (by simp)
  | top =>
    refine ⟨0, le_rfl, ?_, ?_⟩ <;>
      rw [EReal.top_mul_of_pos (by exact_mod_cast (by norm_num : (0 : ℝ) < 1 / 1024)), EReal.top_add_coe, Ideal.rsqrt_top]
    · rfl
    · simp [Ideal.div]
  | coe s =>
    have hs : 0 ≤ s := by exact_mod_cast h0
    have hM : 0 < s * (1 / 1024) + e := by positivity
    rw [← EReal.coe_mul, ← EReal.coe_add]
    generalize s * (1 / 1024) + e = M at hM ⊢
    simp only [Ideal.rsqrt_coe, if_neg (not_lt.2 hM.le), if_neg hM.ne']
    refine ⟨(√M)⁻¹, by positivity, rfl, ?_⟩
    rw [Ideal.div_coe hM.ne', ← EReal.coe_mul]
    congr 1
    have hr : (√M)⁻¹ * (√M)⁻¹ = 1 / M := by rw [← mul_inv, Real.mul_self_sqrt hM.le, one_div]
    rw [← hr]
    ring

/-- Two halves of an extended real are the whole. -/
theorem half_add_half (z : EReal) : ((-1 / 2 : ℝ) : EReal) * z + ((-1 / 2 : ℝ) : EReal) * z = -z := by
  induction z with
  | bot => rw [EReal.coe_mul_bot_of_neg (by norm_num)]; rfl
  | top => rw [EReal.coe_mul_top_of_neg (by norm_num)]; rfl
  | coe r => rw [← EReal.coe_mul, ← EReal.coe_add, ← EReal.coe_neg]; congr 1; ring

/-- The gradient through a row's norm, as the kernel writes it. -/
def rowKer (x D : Fin 1024 → EReal) (j : Fin 1024) : EReal :=
  rowRoot x * (D j - x j * rowRoot x * Ideal.div (∑ k, D k * (x k * rowRoot x)) (Ideal.ofBits .f32 0x44800000#32))

/-- The gradient through the mean square, as the reference writes it. -/
def rowCoef (x D : Fin 1024 → EReal) : EReal :=
  Ideal.div ((∑ k, x k * D k) * (Ideal.ofBits .f32 0xBF000000#32 * Ideal.div (rowRoot x) (rowMean x))) (Ideal.ofBits .f32 0x44800000#32)

theorem row_grad (x D : Fin 1024 → EReal) (j : Fin 1024) (a : EReal) :
    a + rowKer x D j = a + D j * rowRoot x + x j * rowCoef x D + rowCoef x D * x j := by
  obtain ⟨ρ, hρ, h1, h2⟩ := rowRoot_real x
  unfold rowKer rowCoef
  rw [h2, h1, c_1024, c_neg_half, Ideal.div_coe (by norm_num), Ideal.div_coe (by norm_num)]
  have e1 : ∑ k, D k * (x k * (ρ : EReal)) = (ρ : EReal) * ∑ k, x k * D k := by
    rw [← mul_sum_of_nonneg _ hρ]
    exact Finset.sum_congr rfl fun k _ => by rw [mul_comm, mul_comm (x k), mul_assoc]
  rw [e1]
  generalize ∑ k, x k * D k = s
  have e2 : (ρ : EReal) * (D j - x j * ρ * (ρ * s * ((1 / 1024 : ℝ) : EReal)))
      = D j * ρ + -(x j * s * ((ρ * ρ * ρ * (1 / 1024) : ℝ) : EReal)) := by
    rw [sub_eq_add_neg, EReal.left_distrib_of_nonneg_of_ne_top (EReal.coe_nonneg.2 hρ) (EReal.coe_ne_top _), mul_neg, mul_comm _ (D j)]
    congr 2
    simp only [EReal.coe_mul]
    ac_rfl
  have e3 : x j * (s * (((-1 / 2 : ℝ) : EReal) * ((ρ * ρ * ρ : ℝ) : EReal)) * ((1 / 1024 : ℝ) : EReal))
      = ((-1 / 2 : ℝ) : EReal) * (x j * s * ((ρ * ρ * ρ * (1 / 1024) : ℝ) : EReal)) := by
    simp only [EReal.coe_mul]
    ac_rfl
  rw [e2, mul_comm _ (x j), e3, add_assoc (a + _), half_add_half, add_assoc]

end Cert.Proof

end
-- ==== Proof.InprojSpec.lean ====
/- What `inproj_bwd` computes, as formulas over the program's arguments, and the reference read as them. -/
module

public import proofs.«01_k».proof.Defs
public import proofs.«01_k».proof.Proof.RowNorm
public import proofs.«01_k».proof.Proof.Gen.InprojRefIdeal.Read
public import Idealize.ShloMosaic.Lib.Pipeline.ValueKit
public import Idealize.ShloMosaic.Lib.Pointwise

@[expose] public section

set_option maxRecDepth 16384

noncomputable section

namespace Cert.Proof.Inproj

open Idealize.ShloMosaic Idealize.ShloMosaic.TcCoe Idealize.SL.Sem

/-- The arguments: the gradients of the three groups of projected columns, the projection's weight, the inputs, the
    gradient that skips the norm, and the norm's gain. -/
structure Args where
  ua : (⟨2, ![2048, 2176]⟩ : Shape).Idx → EReal
  ub : (⟨2, ![2048, 2176]⟩ : Shape).Idx → EReal
  ug : (⟨2, ![2048, 2048]⟩ : Shape).Idx → EReal
  w : (⟨2, ![1024, 6280]⟩ : Shape).Idx → EReal
  x : (⟨2, ![2048, 1024]⟩ : Shape).Idx → EReal
  dx : (⟨2, ![2048, 1024]⟩ : Shape).Idx → EReal
  g : (⟨2, ![1, 1024]⟩ : Shape).Idx → EReal

variable (A : Args)

/-- The gradient of the normed inputs. -/
def DH (n : Fin 2048) (k : Fin 1024) : EReal :=
  ((∑ b : Fin 2176, A.ua (ix2 n b) * A.w (ix2 k ⟨b.val, by omega⟩))
    + ∑ b : Fin 2056, A.ub (ix2 n ⟨b.val, by omega⟩) * A.w (ix2 k ⟨2176 + b.val, by omega⟩))
    + ∑ b : Fin 2048, A.ug (ix2 n b) * A.w (ix2 k ⟨4232 + b.val, by omega⟩)

/-- A row of the inputs. -/
def xrow (n : Fin 2048) (k : Fin 1024) : EReal := A.x (ix2 n k)

/-- The gradient of a row before the gain. -/
def drow (n : Fin 2048) (k : Fin 1024) : EReal := DH A n k * A.g (ix2 0 k)

/-- An entry of the inputs' gradient. -/
def gradX (n : Fin 2048) (j : Fin 1024) : EReal := A.dx (ix2 n j) + rowKer (xrow A n) (drow A n) j

/-- What a row adds to the gain's gradient. -/
def gainRow (j : Fin 1024) (n : Fin 2048) : EReal := DH A n j * (A.x (ix2 n j) * rowRoot (xrow A n))

/-- An entry of the gain's gradient. -/
def gradG (j : Fin 1024) : EReal := ∑ n : Fin 2048, gainRow A j n

open Cert.InprojRefIdeal Cert.InprojRefIdeal.Read

theorem cat_val (n : Fin 2048) (b : Fin 6280) : val_main_v21 (F := Ideal) A.ua A.ub A.ug (ix2 n b)
    = if h : b.val < 2176 then A.ua (ix2 n ⟨b.val, h⟩) else if h' : b.val < 4232 then A.ub (ix2 n ⟨b.val - 2176, by omega⟩)
      else A.ug (ix2 n ⟨b.val - 4232, by omega⟩) := by
  pointwise [val_main_v21, val_main_v20]
  by_cases h1 : b.val < 2176
  · rw [dif_pos h1, dif_pos h1]
  rw [dif_neg h1, dif_neg h1]
  by_cases h2 : b.val < 4232
  · rw [dif_pos h2, dif_pos (show b.val - 2176 < 2056 by omega)]
  rw [dif_neg h2, dif_neg (show ¬ b.val - 2176 < 2056 by omega)]
  exact congrArg A.ug (congrArg (ix2 n) (Fin.ext (by show b.val - 2176 - 2056 = b.val - 4232; omega)))

theorem dh_val (n : Fin 2048) (k : Fin 1024) : val_main_v22 (F := Ideal) A.ua A.ub A.ug A.w (ix2 n k) = DH A n k := by
  have h : val_main_v22 (F := Ideal) A.ua A.ub A.ug A.w (ix2 n k)
      = ∑ b : Fin 6280, val_main_v21 (F := Ideal) A.ua A.ub A.ug (ix2 n b) * A.w (ix2 k b) := by
    unfold val_main_v22
    generalize val_main_v21 (F := Ideal) A.ua A.ub A.ug = u
    pointwise [val_main_v15]
  rw [h]
  simp only [cat_val]
  rw [Fin.sum_univ_add (a := 2176) (b := 4104), Fin.sum_univ_add (a := 2056) (b := 2048), ← add_assoc]
  unfold DH
  refine congrArg₂ (· + ·) (congrArg₂ (· + ·) (Finset.sum_congr rfl fun b _ => ?_) (Finset.sum_congr rfl fun b _ => ?_)) (Finset.sum_congr rfl fun b _ => ?_)
  · exact congrArg₂ (· * ·) (dif_pos b.isLt) rfl
  · exact congrArg₂ (· * ·) ((dif_neg (show ¬ 2176 + b.val < 2176 by omega)).trans ((dif_pos (show 2176 + b.val < 4232 by omega)).trans
      (congrArg A.ub (congrArg (ix2 n) (Fin.ext (show 2176 + b.val - 2176 = b.val by omega)))))) rfl
  · exact congrArg₂ (· * ·) ((dif_neg (show ¬ 2176 + (2056 + b.val) < 2176 by omega)).trans ((dif_neg (show ¬ 2176 + (2056 + b.val) < 4232 by omega)).trans
      (congrArg A.ug (congrArg (ix2 n) (Fin.ext (show 2176 + (2056 + b.val) - 4232 = b.val by omega))))))
      (congrArg A.w (congrArg (ix2 k) (Fin.ext (show 2176 + (2056 + b.val) = 4232 + b.val by omega))))

theorem root_val (n : Fin 2048) : val_main_v7 (F := Ideal) A.x (ix2 n 0) = rowRoot (xrow A n) := by
  pointwise [val_main_v7, val_main_v6, val_main_v5, val_main_v4, val_main_v3, val_main_v2, val_main_v1, val_main_v0, val_main_cst, val_main_cst_0, val_main_cst_1]
  rfl

theorem mean_val (n : Fin 2048) : val_main_v6 (F := Ideal) A.x (ix2 n 0) = rowMean (xrow A n) := by
  pointwise [val_main_v6, val_main_v5, val_main_v4, val_main_v3, val_main_v2, val_main_v1, val_main_v0, val_main_cst, val_main_cst_0, val_main_cst_1]
  rfl

theorem ref_gain (j : Fin 1024) : val_main_v25 (F := Ideal) A.ua A.ub A.ug A.w A.x (ix2 0 j) = gradG A j := by
  pointwise [val_main_v25, val_main_v24, val_main_v23, val_main_v12, val_main_v11]
  simp only [root_val, dh_val]
  refine (congrArg (· + _) ?_).trans ((zero_add _).trans (Finset.sum_congr rfl fun n _ => ?_))
  · pointwise [val_main_cst_3]
  · exact mul_comm _ _

theorem drow_val (n : Fin 2048) (k : Fin 1024) : val_main_v27 (F := Ideal) A.ua A.ub A.ug A.w A.g (ix2 n k) = drow A n k := by
  pointwise [val_main_v27, val_main_v26]
  rw [dh_val]
  rfl

theorem coef_val (n : Fin 2048) : val_main_v37 (F := Ideal) A.ua A.ub A.ug A.w A.x A.g (ix1 n) = rowCoef (xrow A n) (drow A n) := by
  pointwise [val_main_v37, val_main_v36, val_main_v35, val_main_v34, val_main_v30, val_main_v29, val_main_v28, val_main_v10, val_main_v9, val_main_v8]
  have h3 : val_main_cst_4 (F := Ideal) (Shape.Idx.first Gen.h_S_) = 0 := by pointwise [val_main_cst_4]
  have h6 : val_main_cst_6 (F := Ideal) (Shape.Idx.first Gen.h_S_) = 0 := by pointwise [val_main_cst_6]
  rw [h3, h6, zero_add, Fin.sum_univ_one, zero_add, root_val, mean_val]
  simp only [drow_val]
  rfl

theorem ref_grad (n : Fin 2048) (j : Fin 1024) : val_main_v42 (F := Ideal) A.ua A.ub A.ug A.w A.x A.dx A.g (ix2 n j) = gradX A n j := by
  unfold gradX
  rw [row_grad]
  pointwise [val_main_v42, val_main_v41, val_main_v40, val_main_v39, val_main_v38, val_main_v33, val_main_v32, val_main_v31]
  rw [drow_val, root_val, coef_val]
  rfl

end Cert.Proof.Inproj

end
-- ==== Proof.Inproj.lean ====
/- `inproj_bwd`: what a grid point stores, the final arrays, and the claims. -/
module

public import proofs.«01_k».proof.Proof.InprojSpec
public import proofs.«01_k».proof.Proof.Gen.InprojIdeal.Value
public import proofs.«01_k».proof.Proof.Gen.InprojRefIdeal.Run
public import Idealize.ShloMosaic.Lib.Claim
public import Idealize.ShloMosaic.Lib.Pipeline.ReadBack

@[expose] public section

set_option maxRecDepth 16384

noncomputable section

namespace Cert.Proof.Inproj

open Idealize.ShloMosaic Idealize.ShloMosaic.TcCoe Idealize.SL.Sem
open Cert.InprojIdeal Cert.InprojIdeal.Gen

/-- The arguments in memory. -/
def args (m : (ℓ : Loc nD τ sig) → Buf (Elt Ideal) ℓ) (c : Dev nD) : Args where
  ua := m ((c : Thread nD τ).loc main_arg0)
  ub := m ((c : Thread nD τ).loc main_arg1)
  ug := m ((c : Thread nD τ).loc main_arg2)
  w := m ((c : Thread nD τ).loc main_arg3)
  x := m ((c : Thread nD τ).loc main_arg4)
  dx := m ((c : Thread nD τ).loc main_arg5)
  g := m ((c : Thread nD τ).loc main_arg6)

variable {m : (ℓ : Loc nD τ sig) → Buf (Elt Ideal) ℓ} {c : Dev nD} (t : Fin cfg0.N)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0]
    ∧ win0_7.index t = ![t.val, 0] ∧ win0_8.index t = ![0, 0] ∧ win0_9.index t = ![t.val, 0] ∧ win0_10.index t = ![0, 0] ∧ t.val < 8 :=
  (by decide +kernel : ∀ t : Fin grid0.N, _)

/-- The row of the arrays a block's row is. -/
def row (t : Fin cfg0.N) (a : Fin 256) : Fin 2048 := ⟨t.val * 256 + a.val, by have := (idx t).2.2.2.2.2.2.2.2.2.2.2; omega⟩

/-- The weights of the first group of columns. -/
def wA (A : Args) (k : Fin 1024) (b : Fin 2176) : EReal := A.w (ix2 k ⟨b.val, by omega⟩)

/-- The weights of the gate columns. -/
def wG (A : Args) (k : Fin 1024) (b : Fin 2048) : EReal := A.w (ix2 k ⟨4232 + b.val, by omega⟩)

theorem arr_wa : V m c main_v0 = fun i => wA (args m c) (i 0) (i 1) := by
  simp only [V, List.flatten_cons, List.flatten_nil, List.append_nil, List.cons_append, List.nil_append]
  after_results
  funext j
  idx_vars j
  pointwise []
  rfl

theorem arr_wb : V m c main_v3 = fun i => if h : (i 1).val < 2056 then (args m c).w (ix2 (i 0) ⟨2176 + (i 1).val, by omega⟩) else 0 := by
  simp only [V, List.flatten_cons, List.flatten_nil, List.append_nil, List.cons_append, List.nil_append]
  after_results
  funext j
  idx_vars j
  pointwise []
  rfl

theorem arr_wg : V m c main_v4 = fun i => wG (args m c) (i 0) (i 1) := by
  simp only [V, List.flatten_cons, List.flatten_nil, List.append_nil, List.cons_append, List.nil_append]
  after_results
  funext j
  idx_vars j
  pointwise []
  rfl

theorem blk0 : iblk m c 0 t = fun i : S256x2176.Idx => (args m c).ua (ix2 (row t (i 0)) (i 1)) := by
  funext j
  blk_simp [iblk]
  refine (congrFun (V_main_arg0 m c) _).trans (congrArg (m ((c : Thread nD τ).loc main_arg0)) ?_)
  blk_ext [iblk, V, idx t]
  rfl

theorem blk1 : iblk m c 1 t = fun i : S256x2176.Idx => (args m c).ub (ix2 (row t (i 0)) (i 1)) := by
  funext j
  blk_simp [iblk]
  refine (congrFun (V_main_arg1 m c) _).trans (congrArg (m ((c : Thread nD τ).loc main_arg1)) ?_)
  blk_ext [iblk, V, idx t]
  rfl

theorem blk2 : iblk m c 2 t = fun i : S256x2048.Idx => (args m c).ug (ix2 (row t (i 0)) (i 1)) := by
  funext j
  blk_simp [iblk]
  refine (congrFun (V_main_arg2 m c) _).trans (congrArg (m ((c : Thread nD τ).loc main_arg2)) ?_)
  blk_ext [iblk, V, idx t]
  rfl

theorem blk3 : iblk m c 3 t = V m c main_v0 := by
  funext j
  blk_simp [iblk]
  refine congrArg (V m c main_v0) ?_
  blk_ext [iblk, V, idx t]

theorem blk4 : iblk m c 4 t = V m c main_v3 := by
  funext j
  blk_simp [iblk]
  refine congrArg (V m c main_v3) ?_
  blk_ext [iblk, V, idx t]

theorem blk5 : iblk m c 5 t = V m c main_v4 := by
  funext j
  blk_simp [iblk]
  refine congrArg (V m c main_v4) ?_
  blk_ext [iblk, V, idx t]

theorem blk6 : iblk m c 6 t = fun i : S256x1024.Idx => (args m c).x (ix2 (row t (i 0)) (i 1)) := by
  funext j
  blk_simp [iblk]
  refine (congrFun (V_main_arg4 m c) _).trans (congrArg (m ((c : Thread nD τ).loc main_arg4)) ?_)
  blk_ext [iblk, V, idx t]
  rfl

theorem blk7 : iblk m c 7 t = fun i : S256x1024.Idx => (args m c).dx (ix2 (row t (i 0)) (i 1)) := by
  funext j
  blk_simp [iblk]
  refine (congrFun (V_main_arg5 m c) _).trans (congrArg (m ((c : Thread nD τ).loc main_arg5)) ?_)
  blk_ext [iblk, V, idx t]
  rfl

theorem blk8 : iblk m c 8 t = (args m c).g := by
  funext j
  blk_simp [iblk]
  refine (congrFun (V_main_arg6 m c) _).trans (congrArg (m ((c : Thread nD τ).loc main_arg6)) ?_)
  blk_ext [iblk, V, idx t]

theorem kdh_val (a : Fin 256) (k : Fin 1024) :
    k0_pay4 (iblk m c 0 t) (iblk m c 3 t) (iblk m c 1 t) (iblk m c 4 t) (iblk m c 2 t) (iblk m c 5 t) (ix2 a k) = DH (args m c) (row t a) k := by
  rw [blk0, blk1, blk2, blk3, blk4, blk5, arr_wa, arr_wb, arr_wg]
  pointwise [k0_pay4]
  unfold DH
  simp only [mul_zero, Finset.sum_const_zero, add_zero]
  rfl

theorem kroot_val (a : Fin 256) : k0_pay5 (iblk m c 6 t) (ix2 a 0) = rowRoot (xrow (args m c) (row t a)) := by
  rw [blk6]
  pointwise [k0_pay5]
  rfl

theorem normed_val (a : Fin 256) (k : Fin 1024) :
    k0_pay6 (iblk m c 6 t) (ix2 a k) = xrow (args m c) (row t a) k * rowRoot (xrow (args m c) (row t a)) := by
  rw [← kroot_val, blk6]
  pointwise [k0_pay6]
  rfl

theorem out_val (a : Fin 256) (k : Fin 1024) :
    k0_pay2 (k0_pay4 (iblk m c 0 t) (iblk m c 3 t) (iblk m c 1 t) (iblk m c 4 t) (iblk m c 2 t) (iblk m c 5 t)) (k0_pay5 (iblk m c 6 t)) (k0_pay6 (iblk m c 6 t))
      (iblk m c 8 t) (iblk m c 7 t) (ix2 a k) = gradX (args m c) (row t a) k := by
  have h1 := kdh_val (m := m) (c := c) t
  have h2 := kroot_val (m := m) (c := c) t
  have h3 := normed_val (m := m) (c := c) t
  generalize k0_pay4 (iblk m c 0 t) (iblk m c 3 t) (iblk m c 1 t) (iblk m c 4 t) (iblk m c 2 t) (iblk m c 5 t) = dh at h1 ⊢
  generalize k0_pay5 (iblk m c 6 t) = r at h2 ⊢
  generalize k0_pay6 (iblk m c 6 t) = xn at h3 ⊢
  rw [blk7, blk8]
  pointwise [k0_pay2]
  simp only [h1, h2, h3]
  rfl

theorem gain_val (acc : Vec Ideal S1x1024 .f32) (k : Fin 1024) :
    k0_pay1 acc (k0_pay8 (iblk m c 0 t) (iblk m c 3 t) (iblk m c 1 t) (iblk m c 4 t) (iblk m c 2 t) (iblk m c 5 t) (iblk m c 6 t)) (ix2 0 k)
      = acc (ix2 0 k) + ∑ x : Fin 256, gainRow (args m c) k (row t x) := by
  have h1 := kdh_val (m := m) (c := c) t
  have h3 := normed_val (m := m) (c := c) t
  unfold k0_pay8
  generalize k0_pay4 (iblk m c 0 t) (iblk m c 3 t) (iblk m c 1 t) (iblk m c 4 t) (iblk m c 2 t) (iblk m c 5 t) = dh at h1 ⊢
  generalize k0_pay6 (iblk m c 6 t) = xn at h3 ⊢
  pointwise [k0_pay1]
  simp only [h1, h3]
  rfl

theorem grad_A (h : t.val % 8 = 0) (a : Fin 256) (k : Fin 1024) : (outsAt0 m c t.val t.isLt).1 (ix2 a k) = gradX (args m c) (row t a) k := by
  rw [outsAt0_A m c t h]
  frame_out
  exact out_val t a k

theorem grad_B (h : ¬ t.val % 8 = 0) (a : Fin 256) (k : Fin 1024) : (outsAt0 m c t.val t.isLt).1 (ix2 a k) = gradX (args m c) (row t a) k := by
  rw [outsAt0_B m c t h]
  frame_out
  exact out_val t a k

theorem gain_A (h : t.val % 8 = 0) (k : Fin 1024) : (outsAt0 m c t.val t.isLt).2 (ix2 0 k) = 0 + ∑ x : Fin 256, gainRow (args m c) k (row t x) := by
  rw [outsAt0_A m c t h]
  frame_out
  refine (gain_val t _ k).trans (congrArg (· + _) ?_)
  pointwise [k0_pay7, k0_pay3]

theorem gain_B (h : ¬ t.val % 8 = 0) (k : Fin 1024) : (outsAt0 m c t.val t.isLt).2 (ix2 0 k)
    = (outsAt0 m c (t.val - 1) (Nat.lt_of_le_of_lt (Nat.sub_le _ _) t.isLt)).2 (ix2 0 k) + ∑ x : Fin 256, gainRow (args m c) k (row t x) := by
  rw [outsAt0_B m c t h]
  frame_out
  refine (gain_val t _ k).trans (congrArg (· + _) ?_)
  pointwise [k0_pay7]

theorem sum_rows (f : Fin 2048 → EReal) : ∑ t : Fin cfg0.N, ∑ x : Fin 256, f (row t x) = ∑ n : Fin 2048, f n := by
  rw [← Fin.sum_mul_add_fin 8 256 f rfl]
  rfl

theorem arr_grad : (dats m 0 c).arrAt 9 cfg0.N = fun i => gradX (args m c) (i 0) (i 1) := by
  refine (dats m 0 c).arrAt_eq_of_covers 9 _ (by decide +kernel) fun t hf y => ?_
  have e : ∀ j, (outsAt0 m c t.val t.isLt).1 j = gradX (args m c) (row t (j 0)) (j 1) := fun j => by
    idx_vars j
    by_cases h : t.val % 8 = 0
    · exact grad_A t h _ _
    · exact grad_B t h _ _
  blk_simp
  rw [after0_9, e]
  refine congrArg₂ _ (Fin.ext ?_) (Fin.ext ?_) <;> blk_simp [idx t]
  all_goals rfl

theorem arr_gain : (dats m 0 c).arrAt 10 cfg0.N = fun i => gradG (args m c) (i 1) := by
  refine (dats m 0 c).arrAt_eq_of_after_last 10 t0_7 (by decide +kernel) _ fun j => ?_
  idx_vars j
  obtain rfl := Subsingleton.elim j0 0
  blk_simp
  rw [after0_10, Pipeline.eq_sum_fin_of_reset_step_apply_last (fun n h => (outsAt0 m c n h).2) 8 (fun _ => 0)
    (fun t j => ∑ x : Fin 256, gainRow (args m c) (j 1) (row t x))
    (fun t h j => by idx_vars j; obtain rfl := Subsingleton.elim j0 0; exact gain_A t h _)
    (fun t h j => by idx_vars j; obtain rfl := Subsingleton.elim j0 0; exact gain_B t h _) (le_of_eq N_0) t0_7 rfl]
  rw [zero_add]
  exact sum_rows (gainRow (args m c) _)

theorem frame_ref : Cert.quiescent_InprojRefIdeal (hInprojRefIdeal := Cert.InprojRefIdeal.Gen.facts) :=
  fun m g _ => θ_run_mono (Cert.InprojRefIdeal.Value.run m g) fun _ hr => ⟨fun c => (hr c).2.2, sem_eq_zero_of_no_sems rfl _⟩

theorem algebraic : Cert.algebraic_InprojIdeal_InprojRefIdeal (hInprojIdeal := Cert.InprojIdeal.Gen.facts) (hInprojRefIdeal := Cert.InprojRefIdeal.Gen.facts) := by
  intro m g m' g' _ hargs
  refine ⟨fun c => (fun i => gradX (args m c) (i 0) (i 1) : S2048x1024.Idx → EReal), fun c => (fun i => gradG (args m c) (i 1) : S1x1024.Idx → EReal), ?_, ?_⟩
  · refine θ_run_mono (Cert.InprojIdeal.Value.run_blocks m g) fun r hr c => ?_
    obtain ⟨r0, r1, rs⟩ := hr c
    exact ⟨r0.trans arr_grad, r1.trans arr_gain, rs⟩
  · refine θ_run_mono (Cert.InprojRefIdeal.Value.run m' g') fun r hr c => ?_
    obtain ⟨r0, r1, rs⟩ := hr c
    obtain ⟨a0, a1, a2, a3, a4, a5, a6⟩ := hargs c
    refine ⟨(r0.trans (Cert.InprojRefIdeal.Read.val_main_v42_eq ..)).trans ?_, (r1.trans (Cert.InprojRefIdeal.Read.val_main_v25_eq ..)).trans ?_, rs⟩
    · rw [a0, a1, a2, a3, a4, a5, a6]
      funext j
      idx_vars j
      exact ref_grad (args m c) j0 j1
    · rw [a0, a1, a2, a3, a4]
      funext j
      idx_vars j
      obtain rfl := Subsingleton.elim j0 0
      exact ref_gain (args m c) j1

end Cert.Proof.Inproj

end
-- ==== Proof.DwGate.lean ====
/- `dw_gate`: the accumulated product of the transposed hidden states with the gate columns' gradient is the product over
   all rows. -/
module

public import proofs.«01_k».proof.Defs
public import proofs.«01_k».proof.Proof.Common
public import proofs.«01_k».proof.Proof.Gen.DwGateIdeal.Value
public import proofs.«01_k».proof.Proof.Gen.DwGateRefIdeal.Run
public import proofs.«01_k».proof.Proof.Gen.DwGateRefIdeal.Read
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.Proof.DwGate

open Idealize.ShloMosaic Idealize.ShloMosaic.TcCoe Idealize.SL.Sem
open Cert.DwGateIdeal Cert.DwGateIdeal.Gen

/-- An entry of the weight gradient. -/
def dw (h : (⟨2, ![2048, 1024]⟩ : Shape).Idx → EReal) (g : (⟨2, ![2048, 2048]⟩ : Shape).Idx → EReal) (i : Fin 1024) (j : Fin 2048) : EReal :=
  ∑ n : Fin 2048, h (ix2 n i) * g (ix2 n j)

/-- An entry of the reference. -/
theorem ref_val (h : (⟨2, ![2048, 1024]⟩ : Shape).Idx → EReal) (g : (⟨2, ![2048, 2048]⟩ : Shape).Idx → EReal) :
    Cert.DwGateRefIdeal.Read.val_main_v4 (F := Ideal) h g = fun i => dw h g (i 0) (i 1) := by
  funext j
  idx_vars j
  pointwise [Cert.DwGateRefIdeal.Read.val_main_v4, Cert.DwGateRefIdeal.Read.val_main_v3, Cert.DwGateRefIdeal.Read.val_main_v1]
  exact Finset.sum_congr rfl fun n _ => mul_comm _ _

variable {m : (ℓ : Loc nD τ sig) → Buf (Elt Ideal) ℓ} {c : Dev nD} (t : Fin cfg0.N)

/-- The first argument in memory. -/
abbrev hid (m : (ℓ : Loc nD τ sig) → Buf (Elt Ideal) ℓ) (c : Dev nD) : (⟨2, ![2048, 1024]⟩ : Shape).Idx → EReal := m ((c : Thread nD τ).loc main_arg0)

/-- The second argument in memory. -/
abbrev grad (m : (ℓ : Loc nD τ sig) → Buf (Elt Ideal) ℓ) (c : Dev nD) : (⟨2, ![2048, 2048]⟩ : Shape).Idx → EReal := m ((c : Thread nD τ).loc main_arg1)

theorem idx : ∀ t : Fin cfg0.N, win0_0.index t = ![0, t.val] ∧ win0_1.index t = ![t.val, 0] ∧ win0_2.index t = ![0, 0] ∧ t.val < 4 :=
  (by decide +kernel : ∀ t : Fin grid0.N, _)

/-- The row of the arrays a block's row is. -/
def row (t : Fin cfg0.N) (a : Fin 512) : Fin 2048 := ⟨t.val * 512 + a.val, by have := (idx t).2.2.2; omega⟩

theorem arr_ht : V m c main_v0 = fun i => hid m c (ix2 (i 1) (i 0)) := by
  simp only [V, List.flatten_cons, List.flatten_nil, List.append_nil, List.cons_append, List.nil_append]
  after_results
  funext j
  idx_vars j
  pointwise []

theorem blk0 : iblk m c 0 t = fun i : S1024x512.Idx => hid m c (ix2 (row t (i 1)) (i 0)) := by
  funext j
  blk_simp [iblk]
  rw [arr_ht]
  refine congrArg _ (congrArg₂ _ (Fin.ext ?_) (Fin.ext ?_)) <;> blk_simp [idx t] <;> rfl

theorem blk1 : iblk m c 1 t = fun i : S512x2048.Idx => grad m c (ix2 (row t (i 0)) (i 1)) := by
  funext j
  blk_simp [iblk]
  refine (congrFun (V_main_arg1 m c) _).trans ?_
  refine congrArg (m ((c : Thread nD τ).loc main_arg1)) ?_
  blk_ext [iblk, V, idx t]
  rfl

theorem acc_val (acc : Vec Ideal S1024x2048 .f32) (x : Vec Ideal S1024x512 .bf16) (y : Vec Ideal S512x2048 .f32) (i : Fin 1024) (j : Fin 2048) :
    k0_pay2 acc x y (ix2 i j) = acc (ix2 i j) + ∑ k : Fin 512, x (ix2 i k) * y (ix2 k j) := by
  pointwise [k0_pay2]

theorem out_A (h : t.val % 4 = 0) (i : Fin 1024) (j : Fin 2048) :
    outsAt0 m c t.val t.isLt (ix2 i j) = 0 + ∑ k : Fin 512, hid m c (ix2 (row t k) i) * grad m c (ix2 (row t k) j) := by
  rw [outsAt0_A m c t h, Cert.DwGateIdeal.Value.out_A_2_eq, blk0, blk1, acc_val]
  refine congrArg₂ (· + ·) ?_ rfl
  pointwise [k0_pay1]

theorem out_B (h : ¬ t.val % 4 = 0) (i : Fin 1024) (j : Fin 2048) :
    outsAt0 m c t.val t.isLt (ix2 i j) = outsAt0 m c (t.val - 1) (Nat.lt_of_le_of_lt (Nat.sub_le _ _) t.isLt) (ix2 i j)
      + ∑ k : Fin 512, hid m c (ix2 (row t k) i) * grad m c (ix2 (row t k) j) := by
  rw [outsAt0_B m c t h, Cert.DwGateIdeal.Value.out_B_2_eq, blk0, blk1, acc_val]
  rfl

theorem sum_rows (f : Fin 2048 → EReal) : ∑ t : Fin cfg0.N, ∑ x : Fin 512, f (row t x) = ∑ n : Fin 2048, f n := by
  rw [← Fin.sum_mul_add_fin 4 512 f rfl]
  rfl

theorem arr_dw : (dats m 0 c).arrAt 2 cfg0.N = fun i => dw (hid m c) (grad m c) (i 0) (i 1) := by
  refine (dats m 0 c).arrAt_eq_of_after_last 2 t0_3 (by decide +kernel) _ fun j => ?_
  idx_vars j
  blk_simp
  rw [after0_2, Pipeline.eq_sum_fin_of_reset_step_apply_last (fun n h => outsAt0 m c n h) 4 (fun _ => 0)
    (fun t j => ∑ x : Fin 512, hid m c (ix2 (row t x) (j 0)) * grad m c (ix2 (row t x) (j 1)))
    (fun t h j => by idx_vars j; exact out_A t h _ _) (fun t h j => by idx_vars j; exact out_B t h _ _) (le_of_eq N_0) t0_3 rfl]
  rw [zero_add]
  exact sum_rows fun n => hid m c (ix2 n _) * grad m c (ix2 n _)

theorem frame_ref : Cert.quiescent_DwGateRefIdeal (hDwGateRefIdeal := Cert.DwGateRefIdeal.Gen.facts) :=
  fun m g _ => θ_run_mono (Cert.DwGateRefIdeal.Value.run m g) fun _ hr => ⟨fun c => (hr c).2, sem_eq_zero_of_no_sems rfl _⟩

theorem algebraic : Cert.algebraic_DwGateIdeal_DwGateRefIdeal (hDwGateIdeal := Cert.DwGateIdeal.Gen.facts) (hDwGateRefIdeal := Cert.DwGateRefIdeal.Gen.facts) := by
  intro m g m' g' _ hargs
  refine ⟨fun c => (fun i => dw (hid m c) (grad m c) (i 0) (i 1) : S1024x2048.Idx → EReal), ?_, ?_⟩
  · refine θ_run_mono (Cert.DwGateIdeal.Value.run_blocks m g) fun r hr c => ?_
    obtain ⟨r0, rs⟩ := hr c
    exact ⟨r0.trans arr_dw, rs⟩
  · refine θ_run_mono (Cert.DwGateRefIdeal.Value.run m' g') fun r hr c => ?_
    obtain ⟨r0, rs⟩ := hr c
    obtain ⟨a0, a1⟩ := hargs c
    refine ⟨(r0.trans (Cert.DwGateRefIdeal.Read.val_main_v4_eq _ _)).trans ?_, rs⟩
    rw [a0, a1]
    exact ref_val _ _

end Cert.Proof.DwGate

end
-- ==== Proof.MergeSpec.lean ====
/- Two streams merged under gates, projected, added to the residual, normalised and compared, and the gradient of it, on one row. Kernel and reference are both read as these. -/
module

public import proofs.«01_k».proof.Proof.RowNorm

@[expose] public section

set_option maxRecDepth 16384

noncomputable section

namespace Cert.Proof.Merge

open Idealize.ShloMosaic Idealize.ShloMosaic.TcCoe Idealize.SL.Sem Cert.Proof

/-- What a row of the sequence brings. -/
structure Row where
  ma : Fin 512 → EReal
  mb : Fin 512 → EReal
  ug : Fin 2048 → EReal
  x : Fin 1024 → EReal
  t : Fin 1024 → EReal

/-- The weights. -/
structure Wt where
  wa : Fin 512 → Fin 1024 → EReal
  wb : Fin 512 → Fin 1024 → EReal
  wo : Fin 1024 → Fin 1024 → EReal
  fg : Fin 1024 → EReal

/-- The logistic function. -/
def lgt (x : EReal) : EReal := Ideal.div 1 (1 + Ideal.exp (-x))

theorem zero_sub_val (x : EReal) : 0 - x = -x := (sub_eq_add_neg _ _).trans (zero_add _)

variable (W : Wt) (R : Row)

def ua (n : Fin 1024) : EReal := R.ug ⟨n.val, by omega⟩
def ub (n : Fin 1024) : EReal := R.ug ⟨1024 + n.val, by omega⟩
def sa (n : Fin 1024) : EReal := lgt (ua R n)
def sb (n : Fin 1024) : EReal := lgt (ub R n)
def ya (n : Fin 1024) : EReal := ∑ k, R.ma k * W.wa k n
def yb (n : Fin 1024) : EReal := ∑ k, R.mb k * W.wb k n
def mga (n : Fin 1024) : EReal := sa R n * ya W R n
def mgb (n : Fin 1024) : EReal := sb R n * yb W R n
def mg (n : Fin 1024) : EReal := mga W R n + mgb W R n
def x2 (n : Fin 1024) : EReal := R.x n + ∑ k, mg W R k * W.wo k n
def xh (n : Fin 1024) : EReal := x2 W R n * rowRoot (x2 W R)
def err (n : Fin 1024) : EReal := xh W R n * W.fg n - R.t n
def sq (n : Fin 1024) : EReal := err W R n * err W R n
def dyo (n : Fin 1024) : EReal := err W R n * Ideal.ofBits .f32 0x3A800000#32
def dfg (n : Fin 1024) : EReal := dyo W R n * xh W R n
def dxh (n : Fin 1024) : EReal := dyo W R n * W.fg n
def dxx (n : Fin 1024) : EReal := dxh W R n * xh W R n
def dx2 (n : Fin 1024) : EReal := rowKer (x2 W R) (dxh W R) n
def dmg (n : Fin 1024) : EReal := ∑ k, dx2 W R k * W.wo n k
def dya (n : Fin 1024) : EReal := dmg W R n * sa R n
def dyb (n : Fin 1024) : EReal := dmg W R n * sb R n
def dua (n : Fin 1024) : EReal := dya W R n * ya W R n * (1 - sa R n)
def dub (n : Fin 1024) : EReal := dyb W R n * yb W R n * (1 - sb R n)
def dma (b : Fin 512) : EReal := ∑ n, dya W R n * W.wa b n
def dmb (b : Fin 512) : EReal := ∑ n, dyb W R n * W.wb b n

/-- The gradient of the gates. -/
def dug (n : Fin 2048) : EReal :=
  if h : n.val < 1024 then dua W R ⟨n.val, h⟩ else dub W R ⟨n.val - 1024, by omega⟩

section
variable {ρ : Type}

/-- Rows of 512. -/
def E {p : ℕ} (f : ρ → Fin 512 → EReal) (R : Fin p → ρ) : (⟨2, ![p, 512]⟩ : Shape).Idx → EReal := fun i => f (R (i 0)) (i 1)
/-- Rows of 1024. -/
def E4 {p : ℕ} (f : ρ → Fin 1024 → EReal) (R : Fin p → ρ) : (⟨2, ![p, 1024]⟩ : Shape).Idx → EReal := fun i => f (R (i 0)) (i 1)
/-- Rows of one number. -/
def E1 {p : ℕ} (f : ρ → EReal) (R : Fin p → ρ) : (⟨2, ![p, 1]⟩ : Shape).Idx → EReal := fun i => f (R (i 0))
/-- Rows of 2048. -/
def U {p : ℕ} (f : ρ → Fin 2048 → EReal) (R : Fin p → ρ) : (⟨2, ![p, 2048]⟩ : Shape).Idx → EReal := fun i => f (R (i 0)) (i 1)
/-- A number for each row. -/
def H1 {p : ℕ} (f : ρ → EReal) (R : Fin p → ρ) : (⟨1, ![p]⟩ : Shape).Idx → EReal := fun i => f (R (i 0))
/-- A vector of 1024. -/
def V4 (w : Fin 1024 → EReal) : (⟨1, ![1024]⟩ : Shape).Idx → EReal := fun i => w (i 0)
/-- A single row. -/
def G4 (w : Fin 1024 → EReal) : (⟨2, ![1, 1024]⟩ : Shape).Idx → EReal := fun i => w (i 1)
/-- A weight of 512 rows. -/
def N5 (w : Fin 512 → Fin 1024 → EReal) : (⟨2, ![512, 1024]⟩ : Shape).Idx → EReal := fun i => w (i 0) (i 1)
/-- A weight of 1024 rows. -/
def N4 (w : Fin 1024 → Fin 1024 → EReal) : (⟨2, ![1024, 1024]⟩ : Shape).Idx → EReal := fun i => w (i 0) (i 1)

theorem E_at {p : ℕ} (f : ρ → Fin 512 → EReal) (R : Fin p → ρ) (a b) : E f R (ix2 a b) = f (R a) b := rfl
theorem E4_at {p : ℕ} (f : ρ → Fin 1024 → EReal) (R : Fin p → ρ) (a b) : E4 f R (ix2 a b) = f (R a) b := rfl
theorem E1_at {p : ℕ} (f : ρ → EReal) (R : Fin p → ρ) (a b) : E1 f R (ix2 a b) = f (R a) := rfl
theorem U_at {p : ℕ} (f : ρ → Fin 2048 → EReal) (R : Fin p → ρ) (a b) : U f R (ix2 a b) = f (R a) b := rfl
theorem H1_at {p : ℕ} (f : ρ → EReal) (R : Fin p → ρ) (a) : H1 f R (ix1 a) = f (R a) := rfl
theorem V4_at (w a) : V4 w (ix1 a) = w a := rfl
theorem G4_at (w a b) : G4 w (ix2 a b) = w b := rfl
theorem N5_at (w a b) : N5 w (ix2 a b) = w a b := rfl
theorem N4_at (w a b) : N4 w (ix2 a b) = w a b := rfl
end

theorem exists_ix2 {p q : ℕ} (j : (⟨2, ![p, q]⟩ : Shape).Idx) : ∃ a b, j = ix2 a b :=
  ⟨j 0, j 1, by funext k; fin_cases k <;> rfl⟩

/-- The arguments. -/
structure Args where
  ma : (⟨2, ![2048, 512]⟩ : Shape).Idx → EReal
  mb : (⟨2, ![2048, 512]⟩ : Shape).Idx → EReal
  ug : (⟨2, ![2048, 2048]⟩ : Shape).Idx → EReal
  x : (⟨2, ![2048, 1024]⟩ : Shape).Idx → EReal
  t : (⟨2, ![2048, 1024]⟩ : Shape).Idx → EReal
  wa : (⟨2, ![512, 1024]⟩ : Shape).Idx → EReal
  wb : (⟨2, ![512, 1024]⟩ : Shape).Idx → EReal
  wo : (⟨2, ![1024, 1024]⟩ : Shape).Idx → EReal
  fg : (⟨1, ![1024]⟩ : Shape).Idx → EReal

/-- The weights among the arguments. -/
def Args.wt (A : Args) : Wt where
  wa k n := A.wa (ix2 k n)
  wb k n := A.wb (ix2 k n)
  wo k n := A.wo (ix2 k n)
  fg n := A.fg (ix1 n)

/-- A row of the arguments. -/
def Args.line (A : Args) (n : Fin 2048) : Row where
  ma k := A.ma (ix2 n k)
  mb k := A.mb (ix2 n k)
  ug k := A.ug (ix2 n k)
  x k := A.x (ix2 n k)
  t k := A.t (ix2 n k)

end Cert.Proof.Merge

end
-- ==== Proof.MergeKer.lean ====
/- What `merge_fwd_bwd` computes from one tile of rows, row by row. -/
module

public import proofs.«01_k».proof.Defs
public import proofs.«01_k».proof.Proof.MergeSpec
public import proofs.«01_k».proof.Proof.Gen.MergeIdeal.Skeleton
public import Idealize.ShloMosaic.Lib.Pointwise

@[expose] public section

set_option maxRecDepth 16384

noncomputable section

namespace Cert.Proof.Merge

open Idealize.ShloMosaic Idealize.ShloMosaic.TcCoe Idealize.SL.Sem Cert.Proof
open Cert.MergeIdeal Cert.MergeIdeal.Gen

variable (W : Wt) (R : Fin 256 → Row)

theorem k_fg : k0_pay8 (F := Ideal) (G4 W.fg)
    = G4 W.fg := by
  funext j
  obtain ⟨a, b, rfl⟩ := exists_ix2 j
  pointwise [k0_pay8]

theorem k_ma : k0_pay9 (F := Ideal) (E Row.ma R)
    = E Row.ma R := by
  funext j
  obtain ⟨a, b, rfl⟩ := exists_ix2 j
  pointwise [k0_pay9]

theorem k_mb : k0_pay10 (F := Ideal) (E Row.mb R)
    = E Row.mb R := by
  funext j
  obtain ⟨a, b, rfl⟩ := exists_ix2 j
  pointwise [k0_pay10]

theorem k_ya : k0_pay11 (F := Ideal) (N5 W.wa) (E Row.ma R)
    = E4 (ya W) R := by
  unfold k0_pay11
  rw [k_ma]
  funext j
  obtain ⟨a, b, rfl⟩ := exists_ix2 j
  pointwise []
  simp only [E_at, E4_at, E1_at, G4_at, N5_at, N4_at, zero_sub_val]
  all_goals rfl

theorem k_yb : k0_pay12 (F := Ideal) (N5 W.wb) (E Row.mb R)
    = E4 (yb W) R := by
  unfold k0_pay12
  rw [k_mb]
  funext j
  obtain ⟨a, b, rfl⟩ := exists_ix2 j
  pointwise []
  simp only [E_at, E4_at, E1_at, G4_at, N5_at, N4_at, zero_sub_val]
  all_goals rfl

theorem k_sa : k0_pay13 (F := Ideal) (E4 ua R)
    = E4 sa R := by
  funext j
  obtain ⟨a, b, rfl⟩ := exists_ix2 j
  pointwise [k0_pay13]
  simp only [E_at, E4_at, E1_at, G4_at, N5_at, N4_at, zero_sub_val]
  all_goals rfl

theorem k_sb : k0_pay14 (F := Ideal) (E4 ub R)
    = E4 sb R := by
  funext j
  obtain ⟨a, b, rfl⟩ := exists_ix2 j
  pointwise [k0_pay14]
  simp only [E_at, E4_at, E1_at, G4_at, N5_at, N4_at, zero_sub_val]
  all_goals rfl

theorem k_mga : k0_pay15 (F := Ideal) (N5 W.wa) (E Row.ma R) (E4 ua R)
    = E4 (mga W) R := by
  unfold k0_pay15
  rw [k_sa, k_ya]
  funext j
  obtain ⟨a, b, rfl⟩ := exists_ix2 j
  pointwise []
  simp only [E_at, E4_at, E1_at, G4_at, N5_at, N4_at, zero_sub_val]
  all_goals rfl

theorem k_mgb : k0_pay16 (F := Ideal) (N5 W.wb) (E Row.mb R) (E4 ub R)
    = E4 (mgb W) R := by
  unfold k0_pay16
  rw [k_sb, k_yb]
  funext j
  obtain ⟨a, b, rfl⟩ := exists_ix2 j
  pointwise []
  simp only [E_at, E4_at, E1_at, G4_at, N5_at, N4_at, zero_sub_val]
  all_goals rfl

theorem k_mg : k0_pay17 (F := Ideal) (E4 (mga W) R) (E4 (mgb W) R)
    = E4 (mg W) R := by
  funext j
  obtain ⟨a, b, rfl⟩ := exists_ix2 j
  pointwise [k0_pay17]
  simp only [E_at, E4_at, E1_at, G4_at, N5_at, N4_at, zero_sub_val]
  all_goals rfl

theorem k_x2 : k0_pay18 (F := Ideal) (N4 W.wo) (E4 (mga W) R) (E4 (mgb W) R) (E4 Row.x R)
    = E4 (x2 W) R := by
  unfold k0_pay18
  rw [k_mg]
  funext j
  obtain ⟨a, b, rfl⟩ := exists_ix2 j
  pointwise []
  simp only [E_at, E4_at, E1_at, G4_at, N5_at, N4_at, zero_sub_val]
  all_goals rfl

theorem k_rt : k0_pay19 (F := Ideal) (N4 W.wo) (E4 (mga W) R) (E4 (mgb W) R) (E4 Row.x R)
    = E1 (fun R => rowRoot (x2 W R)) R := by
  unfold k0_pay19
  rw [k_x2]
  funext j
  obtain ⟨a, b, rfl⟩ := exists_ix2 j
  pointwise []
  rfl

theorem k_xh : k0_pay20 (F := Ideal) (N4 W.wo) (E4 (mga W) R) (E4 (mgb W) R) (E4 Row.x R)
    = E4 (xh W) R := by
  unfold k0_pay20
  rw [k_x2, k_rt]
  funext j
  obtain ⟨a, b, rfl⟩ := exists_ix2 j
  pointwise []
  simp only [E_at, E4_at, E1_at, G4_at, N5_at, N4_at, zero_sub_val]
  all_goals rfl

theorem k_err : k0_pay21 (F := Ideal) (N4 W.wo) (G4 W.fg) (E4 (mga W) R) (E4 (mgb W) R) (E4 Row.x R) (E4 Row.t R)
    = E4 (err W) R := by
  unfold k0_pay21
  rw [k_xh]
  funext j
  obtain ⟨a, b, rfl⟩ := exists_ix2 j
  pointwise []
  simp only [E_at, E4_at, E1_at, G4_at, N5_at, N4_at, zero_sub_val]
  all_goals rfl

theorem k_dyo : k0_pay23 (F := Ideal) (N4 W.wo) (G4 W.fg) (E4 (mga W) R) (E4 (mgb W) R) (E4 Row.x R) (E4 Row.t R)
    = E4 (dyo W) R := by
  unfold k0_pay23
  rw [k_err]
  funext j
  obtain ⟨a, b, rfl⟩ := exists_ix2 j
  pointwise []
  simp only [E_at, E4_at, E1_at, G4_at, N5_at, N4_at, zero_sub_val]
  all_goals rfl

theorem k_dxh : k0_pay25 (F := Ideal) (N4 W.wo) (G4 W.fg) (E4 (mga W) R) (E4 (mgb W) R) (E4 Row.x R) (E4 Row.t R)
    = E4 (dxh W) R := by
  unfold k0_pay25
  rw [k_dyo]
  funext j
  obtain ⟨a, b, rfl⟩ := exists_ix2 j
  pointwise []
  simp only [E_at, E4_at, E1_at, G4_at, N5_at, N4_at, zero_sub_val]
  all_goals rfl

theorem k_dxx : k0_pay26 (F := Ideal) (N4 W.wo) (G4 W.fg) (E4 (mga W) R) (E4 (mgb W) R) (E4 Row.x R) (E4 Row.t R)
    = E4 (dxx W) R := by
  unfold k0_pay26
  rw [k_dxh, k_xh]
  funext j
  obtain ⟨a, b, rfl⟩ := exists_ix2 j
  pointwise []
  simp only [E_at, E4_at, E1_at, G4_at, N5_at, N4_at, zero_sub_val]
  all_goals rfl

theorem k_dx2 : k0_pay27 (F := Ideal) (E1 (fun R => rowRoot (x2 W R)) R) (E4 (xh W) R) (E4 (dxh W) R) (E4 (dxx W) R)
    = E4 (dx2 W) R := by
  funext j
  obtain ⟨a, b, rfl⟩ := exists_ix2 j
  pointwise [k0_pay27]
  simp only [E_at, E4_at, E1_at, G4_at, N5_at, N4_at, zero_sub_val]
  all_goals rfl

theorem k_dx2b : k0_pay28 (F := Ideal) (E1 (fun R => rowRoot (x2 W R)) R) (E4 (xh W) R) (E4 (dxh W) R) (E4 (dxx W) R)
    = E4 (dx2 W) R := by
  unfold k0_pay28
  rw [k_dx2]
  funext j
  obtain ⟨a, b, rfl⟩ := exists_ix2 j
  pointwise []

theorem k_dmg : k0_pay29 (F := Ideal) (N4 W.wo) (E1 (fun R => rowRoot (x2 W R)) R) (E4 (xh W) R) (E4 (dxh W) R) (E4 (dxx W) R)
    = E4 (dmg W) R := by
  unfold k0_pay29
  rw [k_dx2b]
  funext j
  obtain ⟨a, b, rfl⟩ := exists_ix2 j
  pointwise []
  simp only [E_at, E4_at, E1_at, G4_at, N5_at, N4_at, zero_sub_val]
  all_goals rfl

theorem k_dya : k0_pay31 (F := Ideal) (N4 W.wo) (E4 sa R) (E1 (fun R => rowRoot (x2 W R)) R) (E4 (xh W) R) (E4 (dxh W) R) (E4 (dxx W) R)
    = E4 (dya W) R := by
  unfold k0_pay31
  rw [k_dmg]
  funext j
  obtain ⟨a, b, rfl⟩ := exists_ix2 j
  pointwise []
  simp only [E_at, E4_at, E1_at, G4_at, N5_at, N4_at, zero_sub_val]
  all_goals rfl

theorem k_dyb : k0_pay32 (F := Ideal) (N4 W.wo) (E4 sb R) (E1 (fun R => rowRoot (x2 W R)) R) (E4 (xh W) R) (E4 (dxh W) R) (E4 (dxx W) R)
    = E4 (dyb W) R := by
  unfold k0_pay32
  rw [k_dmg]
  funext j
  obtain ⟨a, b, rfl⟩ := exists_ix2 j
  pointwise []
  simp only [E_at, E4_at, E1_at, G4_at, N5_at, N4_at, zero_sub_val]
  all_goals rfl

theorem k_dua : k0_pay33 (F := Ideal) (N4 W.wo) (E4 (ya W) R) (E4 sa R) (E1 (fun R => rowRoot (x2 W R)) R) (E4 (xh W) R) (E4 (dxh W) R) (E4 (dxx W) R)
    = E4 (dua W) R := by
  unfold k0_pay33
  rw [k_dya]
  funext j
  obtain ⟨a, b, rfl⟩ := exists_ix2 j
  pointwise []
  simp only [E_at, E4_at, E1_at, G4_at, N5_at, N4_at, zero_sub_val]
  all_goals rfl

theorem k_dub : k0_pay34 (F := Ideal) (N4 W.wo) (E4 (yb W) R) (E4 sb R) (E1 (fun R => rowRoot (x2 W R)) R) (E4 (xh W) R) (E4 (dxh W) R) (E4 (dxx W) R)
    = E4 (dub W) R := by
  unfold k0_pay34
  rw [k_dyb]
  funext j
  obtain ⟨a, b, rfl⟩ := exists_ix2 j
  pointwise []
  simp only [E_at, E4_at, E1_at, G4_at, N5_at, N4_at, zero_sub_val]
  all_goals rfl

theorem k_dyab : k0_pay35 (F := Ideal) (N4 W.wo) (E4 sa R) (E1 (fun R => rowRoot (x2 W R)) R) (E4 (xh W) R) (E4 (dxh W) R) (E4 (dxx W) R)
    = E4 (dya W) R := by
  unfold k0_pay35
  rw [k_dya]
  funext j
  obtain ⟨a, b, rfl⟩ := exists_ix2 j
  pointwise []

theorem k_dybb : k0_pay36 (F := Ideal) (N4 W.wo) (E4 sb R) (E1 (fun R => rowRoot (x2 W R)) R) (E4 (xh W) R) (E4 (dxh W) R) (E4 (dxx W) R)
    = E4 (dyb W) R := by
  unfold k0_pay36
  rw [k_dyb]
  funext j
  obtain ⟨a, b, rfl⟩ := exists_ix2 j
  pointwise []

theorem k_dma : k0_pay37 (F := Ideal) (N5 W.wa) (N4 W.wo) (E4 sa R) (E1 (fun R => rowRoot (x2 W R)) R) (E4 (xh W) R) (E4 (dxh W) R) (E4 (dxx W) R)
    = E (dma W) R := by
  unfold k0_pay37
  rw [k_dyab]
  funext j
  obtain ⟨a, b, rfl⟩ := exists_ix2 j
  pointwise []
  simp only [E_at, E4_at, E1_at, G4_at, N5_at, N4_at, zero_sub_val]
  all_goals rfl

theorem k_dmb : k0_pay38 (F := Ideal) (N5 W.wb) (N4 W.wo) (E4 sb R) (E1 (fun R => rowRoot (x2 W R)) R) (E4 (xh W) R) (E4 (dxh W) R) (E4 (dxx W) R)
    = E (dmb W) R := by
  unfold k0_pay38
  rw [k_dybb]
  funext j
  obtain ⟨a, b, rfl⟩ := exists_ix2 j
  pointwise []
  simp only [E_at, E4_at, E1_at, G4_at, N5_at, N4_at, zero_sub_val]
  all_goals rfl

theorem k_sq (p : S1x1024.Idx → EReal) (a b) : k0_pay22 (F := Ideal) (N4 W.wo) (G4 W.fg) (E4 (mga W) R) (E4 (mgb W) R) (E4 Row.x R) (E4 Row.t R) p (ix2 a b)
    = p (ix2 a b) + ∑ n, sq W (R n) b := by
  obtain rfl := Subsingleton.elim a 0
  unfold k0_pay22
  rw [k_err]
  pointwise []
  simp only [E_at, E4_at]
  all_goals rfl

theorem k_dfg (p : S1x1024.Idx → EReal) (a b) : k0_pay24 (F := Ideal) (N4 W.wo) (G4 W.fg) (E4 (mga W) R) (E4 (mgb W) R) (E4 Row.x R) (E4 Row.t R) p (ix2 a b)
    = p (ix2 a b) + ∑ n, dfg W (R n) b := by
  obtain rfl := Subsingleton.elim a 0
  unfold k0_pay24
  rw [k_dyo, k_xh]
  pointwise []
  simp only [E_at, E4_at]
  all_goals rfl

theorem k_dwo (p : S1024x1024.Idx → EReal) (a b) : k0_pay30 (F := Ideal) (E4 (mg W) R) (E1 (fun R => rowRoot (x2 W R)) R) (E4 (xh W) R) (E4 (dxh W) R) (E4 (dxx W) R) p (ix2 a b)
    = p (ix2 a b) + ∑ n, mg W (R n) a * dx2 W (R n) b := by
  unfold k0_pay30
  rw [k_dx2b]
  pointwise []
  simp only [E_at, E4_at]
  all_goals rfl

theorem k_dwa (p : S512x1024.Idx → EReal) (a b) : k0_pay1 (F := Ideal) (E Row.ma R) (E4 (dya W) R) p (ix2 a b)
    = p (ix2 a b) + ∑ n, (R n).ma a * dya W (R n) b := by
  pointwise [k0_pay1]
  simp only [E_at, E4_at]
  all_goals rfl

theorem k_dwb (p : S512x1024.Idx → EReal) (a b) : k0_pay2 (F := Ideal) (E Row.mb R) (E4 (dyb W) R) p (ix2 a b)
    = p (ix2 a b) + ∑ n, (R n).mb a * dyb W (R n) b := by
  pointwise [k0_pay2]
  simp only [E_at, E4_at]
  all_goals rfl

end Cert.Proof.Merge

end
-- ==== Proof.MergeVal.lean ====
/- What `merge_fwd_bwd` leaves at each grid point. -/
module

public import proofs.«01_k».proof.Proof.MergeKer
public import proofs.«01_k».proof.Proof.Gen.MergeIdeal.Value
public import Idealize.ShloMosaic.Lib.Pipeline.ReadBack

@[expose] public section

set_option maxRecDepth 16384

noncomputable section

namespace Cert.Proof.Merge

open Idealize.ShloMosaic Idealize.ShloMosaic.TcCoe Idealize.SL.Sem Cert.Proof
open Cert.MergeIdeal Cert.MergeIdeal.Gen

/-- The arguments in memory. -/
def args (m : (ℓ : Loc nD τ sig) → Buf (Elt Ideal) ℓ) (c : Dev nD) : Args where
  ma := m ((c : Thread nD τ).loc main_arg0)
  mb := m ((c : Thread nD τ).loc main_arg1)
  ug := m ((c : Thread nD τ).loc main_arg2)
  x := m ((c : Thread nD τ).loc main_arg3)
  t := m ((c : Thread nD τ).loc main_arg4)
  wa := m ((c : Thread nD τ).loc main_arg5)
  wb := m ((c : Thread nD τ).loc main_arg6)
  wo := m ((c : Thread nD τ).loc main_arg7)
  fg := m ((c : Thread nD τ).loc main_arg8)

variable {m : (ℓ : Loc nD τ sig) → Buf (Elt Ideal) ℓ} {c : Dev nD} (t : Fin cfg0.N)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![0, 0] ∧ win0_6.index t = ![0, 0] ∧ win0_7.index t = ![0, 0] ∧ win0_8.index t = ![0, 0] ∧ win0_9.index t = ![t.val, 0] ∧ win0_10.index t = ![t.val, 0] ∧ win0_11.index t = ![t.val, 0] ∧ win0_12.index t = ![t.val, 0] ∧ win0_13.index t = ![0, 0] ∧ win0_14.index t = ![0, 0] ∧ win0_15.index t = ![0, 0] ∧ win0_16.index t = ![0, 0] ∧ win0_17.index t = ![0, 0] ∧ t.val < 8 :=
  (by decide +kernel : ∀ t : Fin grid0.N, _)

/-- The row of the arrays a block's row is. -/
def row (t : Fin cfg0.N) (a : Fin 256) : Fin 2048 := ⟨t.val * 256 + a.val, by have := (idx t).2.2.2.2.2.2.2.2.2.2.2.2.2.2.2.2.2.2; omega⟩

/-- The rows of a block. -/
def rows (m : (ℓ : Loc nD τ sig) → Buf (Elt Ideal) ℓ) (c : Dev nD) (t : Fin cfg0.N) (a : Fin 256) : Row := (args m c).line (row t a)

theorem arr_fg : V m c main_v0 = G4 (args m c).wt.fg := by
  simp only [V, List.flatten_cons, List.flatten_nil, List.append_nil, List.cons_append, List.nil_append]
  after_results
  funext j
  idx_vars j
  pointwise []
  rfl

theorem blk0 : iblk m c 0 t = E Row.ma (rows m c t) := by
  funext j
  blk_simp [iblk]
  refine (congrFun (V_main_arg0 m c) _).trans (congrArg (m ((c : Thread nD τ).loc main_arg0)) ?_)
  blk_ext [iblk, V, idx t]
  all_goals rfl

theorem blk1 : iblk m c 1 t = E Row.mb (rows m c t) := by
  funext j
  blk_simp [iblk]
  refine (congrFun (V_main_arg1 m c) _).trans (congrArg (m ((c : Thread nD τ).loc main_arg1)) ?_)
  blk_ext [iblk, V, idx t]
  all_goals rfl

theorem blk2 : iblk m c 2 t = fun i : S256x2048.Idx => (rows m c t (i 0)).ug (i 1) := by
  funext j
  blk_simp [iblk]
  refine (congrFun (V_main_arg2 m c) _).trans (congrArg (m ((c : Thread nD τ).loc main_arg2)) ?_)
  blk_ext [iblk, V, idx t]
  all_goals rfl

theorem blk3 : iblk m c 3 t = E4 Row.x (rows m c t) := by
  funext j
  blk_simp [iblk]
  refine (congrFun (V_main_arg3 m c) _).trans (congrArg (m ((c : Thread nD τ).loc main_arg3)) ?_)
  blk_ext [iblk, V, idx t]
  all_goals rfl

theorem blk4 : iblk m c 4 t = E4 Row.t (rows m c t) := by
  funext j
  blk_simp [iblk]
  refine (congrFun (V_main_arg4 m c) _).trans (congrArg (m ((c : Thread nD τ).loc main_arg4)) ?_)
  blk_ext [iblk, V, idx t]
  all_goals rfl

theorem blk5 : iblk m c 5 t = N5 (args m c).wt.wa := by
  funext j
  blk_simp [iblk]
  refine (congrFun (V_main_arg5 m c) _).trans (congrArg (m ((c : Thread nD τ).loc main_arg5)) ?_)
  blk_ext [iblk, V, idx t]
  all_goals rfl

theorem blk6 : iblk m c 6 t = N5 (args m c).wt.wb := by
  funext j
  blk_simp [iblk]
  refine (congrFun (V_main_arg6 m c) _).trans (congrArg (m ((c : Thread nD τ).loc main_arg6)) ?_)
  blk_ext [iblk, V, idx t]
  all_goals rfl

theorem blk7 : iblk m c 7 t = N4 (args m c).wt.wo := by
  funext j
  blk_simp [iblk]
  refine (congrFun (V_main_arg7 m c) _).trans (congrArg (m ((c : Thread nD τ).loc main_arg7)) ?_)
  blk_ext [iblk, V, idx t]
  all_goals rfl

theorem blk8 : iblk m c 8 t = G4 (args m c).wt.fg := by
  rw [← arr_fg]
  funext j
  blk_simp [iblk]
  refine congrArg (V m c main_v0) ?_
  blk_ext [iblk, V, idx t]

theorem ld_ua (R : Fin 256 → Row) (inb : ∀ a, ![0, 0] a + ![256, 1024] a ≤ S256x2048.size a) :
    View.ld (Val := Elt Ideal) (e' := .f32) (S := S256x2048) (fun i => (R (i 0)).ug (i 1)) (Rect.unit ![0, 0] ![256, 1024] inb) = E4 ua R := by
  funext j
  have hj : (j 1).val < 1024 := (j 1).isLt
  rw [View.ld_unit_apply_of _ _ _ _ j (ix2 (j 0) ⟨(j 1).val, by omega⟩) (by intro a; fin_cases a <;> simp [ix2])]
  rfl

theorem ld_ub (R : Fin 256 → Row) (inb : ∀ a, ![0, 1024] a + ![256, 1024] a ≤ S256x2048.size a) :
    View.ld (Val := Elt Ideal) (e' := .f32) (S := S256x2048) (fun i => (R (i 0)).ug (i 1)) (Rect.unit ![0, 1024] ![256, 1024] inb) = E4 ub R := by
  funext j
  have hj : (j 1).val < 1024 := (j 1).isLt
  rw [View.ld_unit_apply_of _ _ _ _ j (ix2 (j 0) ⟨1024 + (j 1).val, by omega⟩) (by intro a; fin_cases a <;> simp [ix2])]
  rfl

theorem ix2_ext {p q : ℕ} {x : (⟨2, ![p, q]⟩ : Shape).Idx} {a : Fin p} {b : Fin q} (h0 : (x 0).val = a.val) (h1 : (x 1).val = b.val) : x = ix2 a b := by
  funext d
  match d with
  | ⟨0, _⟩ => exact Fin.ext h0
  | ⟨1, _⟩ => exact Fin.ext h1

/-- The two stores of a block of the gates' gradient, the last first. -/
abbrev stores (B A : S256x1024.Idx → EReal) : List (View.Piece (Elt Ideal) S256x2048 .f32) :=
  [⟨Rect.unit ![0, 1024] ![256, 1024] inb_S256x2048_S256x1024_0_1024, B⟩, ⟨Rect.unit ![0, 0] ![256, 1024] inb_S256x2048_S256x1024_0_0, A⟩]

theorem stores_cover (B A : S256x1024.Idx → EReal) : ∀ y : S256x2048.Idx, ∃ p ∈ stores B A, y ∈ p.1.set :=
  View.cover_of_tiledBy _ ![256, 1024] (by sl_kernel_rfl)

theorem canon_dug (B A : S256x1024.Idx → EReal) (a : Fin 256) (b : Fin 2048) : View.canon (stores B A) (ix2 a b)
    = if h : b.val < 1024 then A (ix2 a ⟨b.val, h⟩) else B (ix2 a ⟨b.val - 1024, by omega⟩) := by
  generalize hy : (ix2 a b : S256x2048.Idx) = y
  have hy0 : (y 0).val = a.val := by rw [← hy]; rfl
  have hy1 : (y 1).val = b.val := by rw [← hy]; rfl
  unfold stores
  canon_tiles x h using stores_cover B A y
  case piece0 =>
    rw [dif_neg (by omega)]
    exact congrArg B (ix2_ext (by omega) (show _ = b.val - 1024 by omega))
  case piece1 =>
    rw [dif_pos (by omega)]
    exact congrArg A (ix2_ext (by omega) (show _ = b.val by omega))

theorem dx2_A (h : t.val % 8 = 0) (a : Fin 256) (b : Fin 1024) : (outsAt0 m c t.val t.isLt).1 (ix2 a b) = dx2 (args m c).wt (rows m c t a) b := by
  rw [outsAt0_A m c t h]
  frame_out
  simp only [blk0 t, blk1 t, blk2 t, blk3 t, blk4 t, blk5 t, blk6 t, blk7 t, blk8 t, k_fg, k_ma, k_mb, k_ya, k_yb, k_sa, k_sb, k_mga, k_mgb, k_mg, k_x2, k_rt, k_xh, k_err, k_dyo, k_dxh, k_dxx, k_dx2, k_dx2b, k_dmg, k_dya, k_dyb, k_dua, k_dub, k_dyab, k_dybb, k_dma, k_dmb, ld_ua, ld_ub]
  rfl

theorem dx2_B (h : ¬ t.val % 8 = 0) (a : Fin 256) (b : Fin 1024) : (outsAt0 m c t.val t.isLt).1 (ix2 a b) = dx2 (args m c).wt (rows m c t a) b := by
  rw [outsAt0_B m c t h]
  frame_out
  simp only [blk0 t, blk1 t, blk2 t, blk3 t, blk4 t, blk5 t, blk6 t, blk7 t, blk8 t, k_fg, k_ma, k_mb, k_ya, k_yb, k_sa, k_sb, k_mga, k_mgb, k_mg, k_x2, k_rt, k_xh, k_err, k_dyo, k_dxh, k_dxx, k_dx2, k_dx2b, k_dmg, k_dya, k_dyb, k_dua, k_dub, k_dyab, k_dybb, k_dma, k_dmb, ld_ua, ld_ub]
  rfl

theorem dma_A (h : t.val % 8 = 0) (a : Fin 256) (b : Fin 512) : (outsAt0 m c t.val t.isLt).2.1 (ix2 a b) = dma (args m c).wt (rows m c t a) b := by
  rw [outsAt0_A m c t h]
  frame_out
  simp only [blk0 t, blk1 t, blk2 t, blk3 t, blk4 t, blk5 t, blk6 t, blk7 t, blk8 t, k_fg, k_ma, k_mb, k_ya, k_yb, k_sa, k_sb, k_mga, k_mgb, k_mg, k_x2, k_rt, k_xh, k_err, k_dyo, k_dxh, k_dxx, k_dx2, k_dx2b, k_dmg, k_dya, k_dyb, k_dua, k_dub, k_dyab, k_dybb, k_dma, k_dmb, ld_ua, ld_ub]
  rfl

theorem dma_B (h : ¬ t.val % 8 = 0) (a : Fin 256) (b : Fin 512) : (outsAt0 m c t.val t.isLt).2.1 (ix2 a b) = dma (args m c).wt (rows m c t a) b := by
  rw [outsAt0_B m c t h]
  frame_out
  simp only [blk0 t, blk1 t, blk2 t, blk3 t, blk4 t, blk5 t, blk6 t, blk7 t, blk8 t, k_fg, k_ma, k_mb, k_ya, k_yb, k_sa, k_sb, k_mga, k_mgb, k_mg, k_x2, k_rt, k_xh, k_err, k_dyo, k_dxh, k_dxx, k_dx2, k_dx2b, k_dmg, k_dya, k_dyb, k_dua, k_dub, k_dyab, k_dybb, k_dma, k_dmb, ld_ua, ld_ub]
  rfl

theorem dmb_A (h : t.val % 8 = 0) (a : Fin 256) (b : Fin 512) : (outsAt0 m c t.val t.isLt).2.2.1 (ix2 a b) = dmb (args m c).wt (rows m c t a) b := by
  rw [outsAt0_A m c t h]
  frame_out
  simp only [blk0 t, blk1 t, blk2 t, blk3 t, blk4 t, blk5 t, blk6 t, blk7 t, blk8 t, k_fg, k_ma, k_mb, k_ya, k_yb, k_sa, k_sb, k_mga, k_mgb, k_mg, k_x2, k_rt, k_xh, k_err, k_dyo, k_dxh, k_dxx, k_dx2, k_dx2b, k_dmg, k_dya, k_dyb, k_dua, k_dub, k_dyab, k_dybb, k_dma, k_dmb, ld_ua, ld_ub]
  rfl

theorem dmb_B (h : ¬ t.val % 8 = 0) (a : Fin 256) (b : Fin 512) : (outsAt0 m c t.val t.isLt).2.2.1 (ix2 a b) = dmb (args m c).wt (rows m c t a) b := by
  rw [outsAt0_B m c t h]
  frame_out
  simp only [blk0 t, blk1 t, blk2 t, blk3 t, blk4 t, blk5 t, blk6 t, blk7 t, blk8 t, k_fg, k_ma, k_mb, k_ya, k_yb, k_sa, k_sb, k_mga, k_mgb, k_mg, k_x2, k_rt, k_xh, k_err, k_dyo, k_dxh, k_dxx, k_dx2, k_dx2b, k_dmg, k_dya, k_dyb, k_dua, k_dub, k_dyab, k_dybb, k_dma, k_dmb, ld_ua, ld_ub]
  rfl

theorem dug_A (h : t.val % 8 = 0) (a : Fin 256) (b : Fin 2048) : (outsAt0 m c t.val t.isLt).2.2.2.1 (ix2 a b) = dug (args m c).wt (rows m c t a) b := by
  rw [outsAt0_A m c t h]
  frame_out
  simp only [blk0 t, blk1 t, blk2 t, blk3 t, blk4 t, blk5 t, blk6 t, blk7 t, blk8 t, k_fg, k_ma, k_mb, k_ya, k_yb, k_sa, k_sb, k_mga, k_mgb, k_mg, k_x2, k_rt, k_xh, k_err, k_dyo, k_dxh, k_dxx, k_dx2, k_dx2b, k_dmg, k_dya, k_dyb, k_dua, k_dub, k_dyab, k_dybb, k_dma, k_dmb, ld_ua, ld_ub]
  exact canon_dug _ _ a b

theorem dug_B (h : ¬ t.val % 8 = 0) (a : Fin 256) (b : Fin 2048) : (outsAt0 m c t.val t.isLt).2.2.2.1 (ix2 a b) = dug (args m c).wt (rows m c t a) b := by
  rw [outsAt0_B m c t h]
  frame_out
  simp only [blk0 t, blk1 t, blk2 t, blk3 t, blk4 t, blk5 t, blk6 t, blk7 t, blk8 t, k_fg, k_ma, k_mb, k_ya, k_yb, k_sa, k_sb, k_mga, k_mgb, k_mg, k_x2, k_rt, k_xh, k_err, k_dyo, k_dxh, k_dxx, k_dx2, k_dx2b, k_dmg, k_dya, k_dyb, k_dua, k_dub, k_dyab, k_dybb, k_dma, k_dmb, ld_ua, ld_ub]
  exact canon_dug _ _ a b

theorem dwa_A (h : t.val % 8 = 0) (a : Fin 512) (b : Fin 1024) : (outsAt0 m c t.val t.isLt).2.2.2.2.1 (ix2 a b)
    = 0 + ∑ n, (rows m c t n).ma a * dya (args m c).wt (rows m c t n) b := by
  rw [outsAt0_A m c t h]
  frame_out
  simp only [blk0 t, blk1 t, blk2 t, blk3 t, blk4 t, blk5 t, blk6 t, blk7 t, blk8 t, k_fg, k_ma, k_mb, k_ya, k_yb, k_sa, k_sb, k_mga, k_mgb, k_mg, k_x2, k_rt, k_xh, k_err, k_dyo, k_dxh, k_dxx, k_dx2, k_dx2b, k_dmg, k_dya, k_dyb, k_dua, k_dub, k_dyab, k_dybb, k_dma, k_dmb, ld_ua, ld_ub]
  refine (k_dwa _ _ _ a b).trans (congrArg (· + _) ?_)
  pointwise [k0_pay3]

theorem dwa_B (h : ¬ t.val % 8 = 0) (a : Fin 512) (b : Fin 1024) : (outsAt0 m c t.val t.isLt).2.2.2.2.1 (ix2 a b)
    = (outsAt0 m c (t.val - 1) (Nat.lt_of_le_of_lt (Nat.sub_le _ _) t.isLt)).2.2.2.2.1 (ix2 a b) + ∑ n, (rows m c t n).ma a * dya (args m c).wt (rows m c t n) b := by
  rw [outsAt0_B m c t h]
  frame_out
  simp only [blk0 t, blk1 t, blk2 t, blk3 t, blk4 t, blk5 t, blk6 t, blk7 t, blk8 t, k_fg, k_ma, k_mb, k_ya, k_yb, k_sa, k_sb, k_mga, k_mgb, k_mg, k_x2, k_rt, k_xh, k_err, k_dyo, k_dxh, k_dxx, k_dx2, k_dx2b, k_dmg, k_dya, k_dyb, k_dua, k_dub, k_dyab, k_dybb, k_dma, k_dmb, ld_ua, ld_ub]
  refine (k_dwa _ _ _ a b).trans (congrArg (· + _) ?_)
  try rfl

theorem dwb_A (h : t.val % 8 = 0) (a : Fin 512) (b : Fin 1024) : (outsAt0 m c t.val t.isLt).2.2.2.2.2.1 (ix2 a b)
    = 0 + ∑ n, (rows m c t n).mb a * dyb (args m c).wt (rows m c t n) b := by
  rw [outsAt0_A m c t h]
  frame_out
  simp only [blk0 t, blk1 t, blk2 t, blk3 t, blk4 t, blk5 t, blk6 t, blk7 t, blk8 t, k_fg, k_ma, k_mb, k_ya, k_yb, k_sa, k_sb, k_mga, k_mgb, k_mg, k_x2, k_rt, k_xh, k_err, k_dyo, k_dxh, k_dxx, k_dx2, k_dx2b, k_dmg, k_dya, k_dyb, k_dua, k_dub, k_dyab, k_dybb, k_dma, k_dmb, ld_ua, ld_ub]
  refine (k_dwb _ _ _ a b).trans (congrArg (· + _) ?_)
  pointwise [k0_pay4]

theorem dwb_B (h : ¬ t.val % 8 = 0) (a : Fin 512) (b : Fin 1024) : (outsAt0 m c t.val t.isLt).2.2.2.2.2.1 (ix2 a b)
    = (outsAt0 m c (t.val - 1) (Nat.lt_of_le_of_lt (Nat.sub_le _ _) t.isLt)).2.2.2.2.2.1 (ix2 a b) + ∑ n, (rows m c t n).mb a * dyb (args m c).wt (rows m c t n) b := by
  rw [outsAt0_B m c t h]
  frame_out
  simp only [blk0 t, blk1 t, blk2 t, blk3 t, blk4 t, blk5 t, blk6 t, blk7 t, blk8 t, k_fg, k_ma, k_mb, k_ya, k_yb, k_sa, k_sb, k_mga, k_mgb, k_mg, k_x2, k_rt, k_xh, k_err, k_dyo, k_dxh, k_dxx, k_dx2, k_dx2b, k_dmg, k_dya, k_dyb, k_dua, k_dub, k_dyab, k_dybb, k_dma, k_dmb, ld_ua, ld_ub]
  refine (k_dwb _ _ _ a b).trans (congrArg (· + _) ?_)
  try rfl

theorem dwo_A (h : t.val % 8 = 0) (a : Fin 1024) (b : Fin 1024) : (outsAt0 m c t.val t.isLt).2.2.2.2.2.2.1 (ix2 a b)
    = 0 + ∑ n, mg (args m c).wt (rows m c t n) a * dx2 (args m c).wt (rows m c t n) b := by
  rw [outsAt0_A m c t h]
  frame_out
  simp only [blk0 t, blk1 t, blk2 t, blk3 t, blk4 t, blk5 t, blk6 t, blk7 t, blk8 t, k_fg, k_ma, k_mb, k_ya, k_yb, k_sa, k_sb, k_mga, k_mgb, k_mg, k_x2, k_rt, k_xh, k_err, k_dyo, k_dxh, k_dxx, k_dx2, k_dx2b, k_dmg, k_dya, k_dyb, k_dua, k_dub, k_dyab, k_dybb, k_dma, k_dmb, ld_ua, ld_ub]
  refine (k_dwo _ _ _ a b).trans (congrArg (· + _) ?_)
  pointwise [k0_pay5]

theorem dwo_B (h : ¬ t.val % 8 = 0) (a : Fin 1024) (b : Fin 1024) : (outsAt0 m c t.val t.isLt).2.2.2.2.2.2.1 (ix2 a b)
    = (outsAt0 m c (t.val - 1) (Nat.lt_of_le_of_lt (Nat.sub_le _ _) t.isLt)).2.2.2.2.2.2.1 (ix2 a b) + ∑ n, mg (args m c).wt (rows m c t n) a * dx2 (args m c).wt (rows m c t n) b := by
  rw [outsAt0_B m c t h]
  frame_out
  simp only [blk0 t, blk1 t, blk2 t, blk3 t, blk4 t, blk5 t, blk6 t, blk7 t, blk8 t, k_fg, k_ma, k_mb, k_ya, k_yb, k_sa, k_sb, k_mga, k_mgb, k_mg, k_x2, k_rt, k_xh, k_err, k_dyo, k_dxh, k_dxx, k_dx2, k_dx2b, k_dmg, k_dya, k_dyb, k_dua, k_dub, k_dyab, k_dybb, k_dma, k_dmb, ld_ua, ld_ub]
  refine (k_dwo _ _ _ a b).trans (congrArg (· + _) ?_)
  try rfl

theorem dfg_A (h : t.val % 8 = 0) (a : Fin 1) (b : Fin 1024) : (outsAt0 m c t.val t.isLt).2.2.2.2.2.2.2.1 (ix2 a b)
    = 0 + ∑ n, dfg (args m c).wt (rows m c t n) b := by
  rw [outsAt0_A m c t h]
  frame_out
  simp only [blk0 t, blk1 t, blk2 t, blk3 t, blk4 t, blk5 t, blk6 t, blk7 t, blk8 t, k_fg, k_ma, k_mb, k_ya, k_yb, k_sa, k_sb, k_mga, k_mgb, k_mg, k_x2, k_rt, k_xh, k_err, k_dyo, k_dxh, k_dxx, k_dx2, k_dx2b, k_dmg, k_dya, k_dyb, k_dua, k_dub, k_dyab, k_dybb, k_dma, k_dmb, ld_ua, ld_ub]
  refine (k_dfg _ _ _ a b).trans (congrArg (· + _) ?_)
  pointwise [k0_pay6]

theorem dfg_B (h : ¬ t.val % 8 = 0) (a : Fin 1) (b : Fin 1024) : (outsAt0 m c t.val t.isLt).2.2.2.2.2.2.2.1 (ix2 a b)
    = (outsAt0 m c (t.val - 1) (Nat.lt_of_le_of_lt (Nat.sub_le _ _) t.isLt)).2.2.2.2.2.2.2.1 (ix2 a b) + ∑ n, dfg (args m c).wt (rows m c t n) b := by
  rw [outsAt0_B m c t h]
  frame_out
  simp only [blk0 t, blk1 t, blk2 t, blk3 t, blk4 t, blk5 t, blk6 t, blk7 t, blk8 t, k_fg, k_ma, k_mb, k_ya, k_yb, k_sa, k_sb, k_mga, k_mgb, k_mg, k_x2, k_rt, k_xh, k_err, k_dyo, k_dxh, k_dxx, k_dx2, k_dx2b, k_dmg, k_dya, k_dyb, k_dua, k_dub, k_dyab, k_dybb, k_dma, k_dmb, ld_ua, ld_ub]
  refine (k_dfg _ _ _ a b).trans (congrArg (· + _) ?_)
  try rfl

theorem sq_A (h : t.val % 8 = 0) (a : Fin 1) (b : Fin 1024) : (outsAt0 m c t.val t.isLt).2.2.2.2.2.2.2.2 (ix2 a b)
    = 0 + ∑ n, sq (args m c).wt (rows m c t n) b := by
  rw [outsAt0_A m c t h]
  frame_out
  simp only [blk0 t, blk1 t, blk2 t, blk3 t, blk4 t, blk5 t, blk6 t, blk7 t, blk8 t, k_fg, k_ma, k_mb, k_ya, k_yb, k_sa, k_sb, k_mga, k_mgb, k_mg, k_x2, k_rt, k_xh, k_err, k_dyo, k_dxh, k_dxx, k_dx2, k_dx2b, k_dmg, k_dya, k_dyb, k_dua, k_dub, k_dyab, k_dybb, k_dma, k_dmb, ld_ua, ld_ub]
  refine (k_sq _ _ _ a b).trans (congrArg (· + _) ?_)
  pointwise [k0_pay7]

theorem sq_B (h : ¬ t.val % 8 = 0) (a : Fin 1) (b : Fin 1024) : (outsAt0 m c t.val t.isLt).2.2.2.2.2.2.2.2 (ix2 a b)
    = (outsAt0 m c (t.val - 1) (Nat.lt_of_le_of_lt (Nat.sub_le _ _) t.isLt)).2.2.2.2.2.2.2.2 (ix2 a b) + ∑ n, sq (args m c).wt (rows m c t n) b := by
  rw [outsAt0_B m c t h]
  frame_out
  simp only [blk0 t, blk1 t, blk2 t, blk3 t, blk4 t, blk5 t, blk6 t, blk7 t, blk8 t, k_fg, k_ma, k_mb, k_ya, k_yb, k_sa, k_sb, k_mga, k_mgb, k_mg, k_x2, k_rt, k_xh, k_err, k_dyo, k_dxh, k_dxx, k_dx2, k_dx2b, k_dmg, k_dya, k_dyb, k_dua, k_dub, k_dyab, k_dybb, k_dma, k_dmb, ld_ua, ld_ub]
  refine (k_sq _ _ _ a b).trans (congrArg (· + _) ?_)
  try rfl

end Cert.Proof.Merge

end
-- ==== Proof.Tile.lean ====
/- Arrays of real numbers given row by row, and the functions of one real number that the output half of the layer uses. -/
module

public import proofs.«01_k».proof.Proof.Common
public import proofs.«01_k».proof.Proof.RowNorm

@[expose] public section

set_option maxRecDepth 16384

noncomputable section

namespace Cert.Proof

open Idealize.ShloMosaic Idealize.ShloMosaic.TcCoe Idealize.SL.Sem Cert.Proof

/-- The constant under the root of the group norm is a positive real number. -/
theorem c_lnEps : ∃ e : ℝ, 0 < e ∧ Ideal.ofBits .f32 0x3A27C5AC#32 = (e : EReal) := by
  refine ⟨_, ?_, by simp only [Ideal.ofBits, Ideal.ieee]; simp [-EReal.coe_mul]; rfl⟩
  norm_num

def lnEps : ℝ := c_lnEps.choose
theorem lnEps_pos : 0 < lnEps := c_lnEps.choose_spec.1
theorem c_ln : Ideal.ofBits .f32 0x3A27C5AC#32 = (lnEps : EReal) := c_lnEps.choose_spec.2

theorem c_inv1024 : Ideal.ofBits .f32 0x3A800000#32 = ((1 / 1024 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num
theorem c_half : Ideal.ofBits .f32 0x3F000000#32 = ((1 / 2 : ℝ) : EReal) := by
  simp [Ideal.ofBits, Ideal.ieee, -EReal.coe_mul]; norm_num

/-- The logistic function. -/
def sg (x : ℝ) : ℝ := 1 / (1 + Real.exp (-x))

theorem sg_val (x : ℝ) : Ideal.div 1 (1 + Ideal.exp (-(x : EReal))) = (sg x : EReal) := by
  have hp : 0 < 1 + Real.exp (-x) := by positivity
  rw [show (1 : EReal) = ((1 : ℝ) : EReal) from rfl, ← EReal.coe_neg, Ideal.exp_coe, ← EReal.coe_add, Ideal.div_coe hp.ne', ← EReal.coe_mul, one_mul]
  rfl

/-- One over the root of a positive number. -/
def rt (x : ℝ) : ℝ := (√x)⁻¹

theorem rt_val {x : ℝ} (h : 0 < x) : Ideal.rsqrt (x : EReal) = (rt x : EReal) := by
  rw [Ideal.rsqrt_coe, if_neg (not_lt.2 h.le), if_neg h.ne']; rfl

theorem rt_div {x : ℝ} (h : 0 < x) : rt x * (1 / x) = rt x * rt x * rt x := by
  have e : rt x * rt x = 1 / x := by unfold rt; rw [← mul_inv, Real.mul_self_sqrt h.le, one_div]
  rw [← e]; ring

theorem div64 (x : ℝ) : Ideal.div (x : EReal) ((64 : ℝ) : EReal) = ((x * (1 / 64) : ℝ) : EReal) := by
  rw [Ideal.div_coe (by norm_num), ← EReal.coe_mul]

/-- The sum over the head of a lane. -/
def hs (f : Fin 512 → ℝ) (b : Fin 512) : ℝ := ∑ d : Fin 64, f (lane b d)

theorem hs_lane (f : Fin 512 → ℝ) (b : Fin 512) (d : Fin 64) : hs f (lane b d) = hs f b :=
  Finset.sum_congr rfl fun e _ => by rw [lane_lane]

variable {ρ : Type}

/-- The array whose rows are `f` of the rows `R`, 512 wide. -/
def A {p : ℕ} (f : ρ → Fin 512 → ℝ) (R : Fin p → ρ) : (⟨2, ![p, 512]⟩ : Shape).Idx → EReal := fun i => (f (R (i 0)) (i 1) : EReal)
def B (w : Fin 512 → ℝ) : (⟨2, ![1, 512]⟩ : Shape).Idx → EReal := fun i => (w (i 1) : EReal)

theorem A_at {p : ℕ} (f : ρ → Fin 512 → ℝ) (R : Fin p → ρ) (a b) : A f R (ix2 a b) = (f (R a) b : EReal) := rfl
theorem B_at (w a b) : B w (ix2 a b) = (w b : EReal) := rfl

theorem exists_ix2 {n m : ℕ} (j : (⟨2, ![n, m]⟩ : Shape).Idx) : ∃ a b, j = ix2 a b := by
  refine ⟨j 0, j 1, funext fun d => ?_⟩
  match d with
  | ⟨0, _⟩ => rfl
  | ⟨1, _⟩ => rfl

end Cert.Proof

end
-- ==== Proof.MergeRef.lean ====
/- The reference of `merge_fwd_bwd`, read as the formulas. -/
module

public import proofs.«01_k».proof.Defs
public import proofs.«01_k».proof.Proof.Tile
public import proofs.«01_k».proof.Proof.MergeSpec
public import proofs.«01_k».proof.Proof.Gen.MergeRefIdeal.Read
public import Idealize.ShloMosaic.Lib.Pointwise

@[expose] public section

set_option maxRecDepth 16384

noncomputable section

namespace Cert.Proof.Merge

open Idealize.ShloMosaic Idealize.ShloMosaic.TcCoe Idealize.SL.Sem Cert.Proof
open Cert.MergeRefIdeal Cert.MergeRefIdeal.Read

variable (W : Wt) (R : Fin 2048 → Row)

theorem exists_ix1 {p : ℕ} (j : (⟨1, ![p]⟩ : Shape).Idx) : ∃ a, j = ix1 a :=
  ⟨j 0, by funext k; fin_cases k; rfl⟩

/-- Half the gradient of a square, over the width, is the number over the width. -/
theorem c_dyo (x : EReal) : Ideal.div (Ideal.ofBits .f32 0x3F000000#32) (Ideal.ofBits .f32 0x44800000#32) * (Ideal.ofBits .f32 0x40000000#32 * x)
    = x * Ideal.ofBits .f32 0x3A800000#32 := by
  rw [c_half, c_1024, c_two, c_inv1024, Ideal.div_coe (by norm_num), ← mul_assoc, ← EReal.coe_mul, ← EReal.coe_mul, mul_comm]
  norm_num

theorem r_ya : val_main_v3 (F := Ideal) (E Row.ma R) (N5 W.wa)
    = E4 (ya W) R := by
  funext j
  obtain ⟨a, b, rfl⟩ := exists_ix2 j
  pointwise [val_main_v3, val_main_v0]
  simp only [E_at, E4_at, E1_at, G4_at, N5_at, N4_at, U_at, H1_at, V4_at]
  all_goals rfl

theorem r_yb : val_main_v4 (F := Ideal) (E Row.mb R) (N5 W.wb)
    = E4 (yb W) R := by
  funext j
  obtain ⟨a, b, rfl⟩ := exists_ix2 j
  pointwise [val_main_v4, val_main_v1]
  simp only [E_at, E4_at, E1_at, G4_at, N5_at, N4_at, U_at, H1_at, V4_at]
  all_goals rfl

theorem r_sa : val_main_v12 (F := Ideal) (U Row.ug R)
    = E4 sa R := by
  funext j
  obtain ⟨a, b, rfl⟩ := exists_ix2 j
  pointwise [val_main_v12, val_main_cst_0, val_main_v11, val_main_v10, val_main_v9, val_main_cst, val_main_v8, val_main_v7, val_main_v5]
  simp only [E_at, E4_at, E1_at, G4_at, N5_at, N4_at, U_at, H1_at, V4_at]
  all_goals rfl

theorem r_sb : val_main_v22 (F := Ideal) (U Row.ug R)
    = E4 sb R := by
  funext j
  obtain ⟨a, b, rfl⟩ := exists_ix2 j
  pointwise [val_main_v22, val_main_cst_3, val_main_v21, val_main_v20, val_main_v19, val_main_cst_2, val_main_v18, val_main_v17, val_main_v6]
  simp only [E_at, E4_at, E1_at, G4_at, N5_at, N4_at, U_at, H1_at, V4_at]
  all_goals rfl

theorem r_mg : val_main_v27 (F := Ideal) (E Row.ma R) (E Row.mb R) (U Row.ug R) (N5 W.wa) (N5 W.wb)
    = E4 (mg W) R := by
  unfold val_main_v27 val_main_v16 val_main_v26
  rw [r_sa, r_sb, r_ya, r_yb]
  funext j
  obtain ⟨a, b, rfl⟩ := exists_ix2 j
  pointwise []
  simp only [E_at, E4_at, E1_at, G4_at, N5_at, N4_at, U_at, H1_at, V4_at]
  all_goals rfl

theorem r_x2 : val_main_v29 (F := Ideal) (E Row.ma R) (E Row.mb R) (U Row.ug R) (E4 Row.x R) (N5 W.wa) (N5 W.wb) (N4 W.wo)
    = E4 (x2 W) R := by
  unfold val_main_v29 val_main_v28
  rw [r_mg]
  funext j
  obtain ⟨a, b, rfl⟩ := exists_ix2 j
  pointwise [val_main_v2]
  simp only [E_at, E4_at, E1_at, G4_at, N5_at, N4_at, U_at, H1_at, V4_at]
  all_goals rfl

theorem r_ms : val_main_v36 (F := Ideal) (E Row.ma R) (E Row.mb R) (U Row.ug R) (E4 Row.x R) (N5 W.wa) (N5 W.wb) (N4 W.wo)
    = E1 (fun R => rowMean (x2 W R)) R := by
  unfold val_main_v36 val_main_v34 val_main_v32 val_main_v31 val_main_v30
  rw [r_x2]
  funext j
  obtain ⟨a, b, rfl⟩ := exists_ix2 j
  pointwise [val_main_cst_5, val_main_cst_6, val_main_cst_7, val_main_v33, val_main_v35]
  simp only [E_at, E4_at, E1_at, G4_at, N5_at, N4_at, U_at, H1_at, V4_at]
  all_goals rfl

theorem r_rt : val_main_v37 (F := Ideal) (E Row.ma R) (E Row.mb R) (U Row.ug R) (E4 Row.x R) (N5 W.wa) (N5 W.wb) (N4 W.wo)
    = E1 (fun R => rowRoot (x2 W R)) R := by
  unfold val_main_v37
  rw [r_ms]
  funext j
  obtain ⟨a, b, rfl⟩ := exists_ix2 j
  pointwise []
  simp only [E_at, E4_at, E1_at, G4_at, N5_at, N4_at, U_at, H1_at, V4_at]
  all_goals rfl

theorem r_xh : val_main_v42 (F := Ideal) (E Row.ma R) (E Row.mb R) (U Row.ug R) (E4 Row.x R) (N5 W.wa) (N5 W.wb) (N4 W.wo)
    = E4 (xh W) R := by
  unfold val_main_v42 val_main_v41
  rw [r_x2, r_rt]
  funext j
  obtain ⟨a, b, rfl⟩ := exists_ix2 j
  pointwise []
  simp only [E_at, E4_at, E1_at, G4_at, N5_at, N4_at, U_at, H1_at, V4_at]
  all_goals rfl

theorem r_err : val_main_v46 (F := Ideal) (E Row.ma R) (E Row.mb R) (U Row.ug R) (E4 Row.x R) (E4 Row.t R) (N5 W.wa) (N5 W.wb) (N4 W.wo) (V4 W.fg)
    = E4 (err W) R := by
  unfold val_main_v46 val_main_v45
  rw [r_xh]
  funext j
  obtain ⟨a, b, rfl⟩ := exists_ix2 j
  pointwise [val_main_v44, val_main_v43]
  simp only [E_at, E4_at, E1_at, G4_at, N5_at, N4_at, U_at, H1_at, V4_at]
  all_goals rfl

theorem r_sq : val_main_v56 (F := Ideal) (E Row.ma R) (E Row.mb R) (U Row.ug R) (E4 Row.x R) (E4 Row.t R) (N5 W.wa) (N5 W.wb) (N4 W.wo) (V4 W.fg)
    = fun i => ∑ n, sq W (R n) (i 1) := by
  unfold val_main_v56 val_main_v55 val_main_v47
  rw [r_err]
  funext j
  obtain ⟨a, b, rfl⟩ := exists_ix2 j
  pointwise [val_main_cst_14]
  simp only [E_at, E4_at, E1_at, G4_at, N5_at, N4_at, U_at, H1_at, V4_at]
  all_goals rfl

theorem r_dyo : val_main_v62 (F := Ideal) (E Row.ma R) (E Row.mb R) (U Row.ug R) (E4 Row.x R) (E4 Row.t R) (N5 W.wa) (N5 W.wb) (N4 W.wo) (V4 W.fg)
    = E4 (dyo W) R := by
  unfold val_main_v62 val_main_v49
  rw [r_err]
  funext j
  obtain ⟨a, b, rfl⟩ := exists_ix2 j
  pointwise [val_main_v61, val_main_v60, val_main_v58, val_main_v57, val_main_cst_15, val_main_cst_16, val_main_v59, val_main_cst_17, val_main_v48, val_main_cst_9]
  simp only [E_at, E4_at, E1_at, G4_at, N5_at, N4_at, U_at, H1_at, V4_at]
  exact c_dyo _

theorem r_dfg : val_main_v99 (F := Ideal) (E Row.ma R) (E Row.mb R) (U Row.ug R) (E4 Row.x R) (E4 Row.t R) (N5 W.wa) (N5 W.wb) (N4 W.wo) (V4 W.fg)
    = fun i => ∑ n, dfg W (R n) (i 1) := by
  unfold val_main_v99 val_main_v68 val_main_v65 val_main_v64 val_main_v63
  rw [r_xh, r_dyo]
  funext j
  obtain ⟨a, b, rfl⟩ := exists_ix2 j
  pointwise [val_main_cst_18, val_main_cst_19]
  simp only [E_at, E4_at, E1_at, G4_at, N5_at, N4_at, U_at, H1_at, V4_at]
  simp only [Fin.sum_univ_one, zero_add]
  exact Finset.sum_congr rfl fun n _ => mul_comm _ _

theorem r_dxh : val_main_v67 (F := Ideal) (E Row.ma R) (E Row.mb R) (U Row.ug R) (E4 Row.x R) (E4 Row.t R) (N5 W.wa) (N5 W.wb) (N4 W.wo) (V4 W.fg)
    = E4 (dxh W) R := by
  unfold val_main_v67
  rw [r_dyo]
  funext j
  obtain ⟨a, b, rfl⟩ := exists_ix2 j
  pointwise [val_main_v66, val_main_v43]
  simp only [E_at, E4_at, E1_at, G4_at, N5_at, N4_at, U_at, H1_at, V4_at]
  all_goals rfl

theorem r_coef : val_main_v77 (F := Ideal) (E Row.ma R) (E Row.mb R) (U Row.ug R) (E4 Row.x R) (E4 Row.t R) (N5 W.wa) (N5 W.wb) (N4 W.wo) (V4 W.fg)
    = H1 (fun R => rowCoef (x2 W R) (dxh W R)) R := by
  unfold val_main_v77 val_main_v76 val_main_v74 val_main_v71 val_main_v70 val_main_v69 val_main_v40 val_main_v38
  rw [r_x2, r_dxh, r_rt, r_ms]
  funext j
  obtain ⟨a, rfl⟩ := exists_ix1 j
  pointwise [val_main_cst_22, val_main_v75, val_main_cst_21, val_main_cst_20, val_main_v39, val_main_cst_8]
  simp only [E_at, E4_at, E1_at, G4_at, N5_at, N4_at, U_at, H1_at, V4_at]
  try simp only [Fin.sum_univ_one, zero_add]
  all_goals rfl

theorem r_dx2 : val_main_v82 (F := Ideal) (E Row.ma R) (E Row.mb R) (U Row.ug R) (E4 Row.x R) (E4 Row.t R) (N5 W.wa) (N5 W.wb) (N4 W.wo) (V4 W.fg)
    = E4 (dx2 W) R := by
  unfold val_main_v82 val_main_v80 val_main_v81 val_main_v73 val_main_v79 val_main_v78 val_main_v72
  rw [r_dxh, r_rt, r_x2, r_coef]
  funext j
  obtain ⟨a, b, rfl⟩ := exists_ix2 j
  pointwise []
  simp only [E_at, E4_at, E1_at, G4_at, N5_at, N4_at, U_at, H1_at, V4_at]
  have h := row_grad (x2 W (R a)) (dxh W (R a)) b 0
  rw [zero_add, zero_add] at h
  exact h.symm

theorem r_dwo : val_main_v84 (F := Ideal) (E Row.ma R) (E Row.mb R) (U Row.ug R) (E4 Row.x R) (E4 Row.t R) (N5 W.wa) (N5 W.wb) (N4 W.wo) (V4 W.fg)
    = fun i => ∑ n, mg W (R n) (i 0) * dx2 W (R n) (i 1) := by
  unfold val_main_v84 val_main_v83
  rw [r_dx2, r_mg]
  funext j
  obtain ⟨a, b, rfl⟩ := exists_ix2 j
  pointwise []
  simp only [E_at, E4_at, E1_at, G4_at, N5_at, N4_at, U_at, H1_at, V4_at]
  exact Finset.sum_congr rfl fun n _ => mul_comm _ _

theorem r_dmg : val_main_v85 (F := Ideal) (E Row.ma R) (E Row.mb R) (U Row.ug R) (E4 Row.x R) (E4 Row.t R) (N5 W.wa) (N5 W.wb) (N4 W.wo) (V4 W.fg)
    = E4 (dmg W) R := by
  unfold val_main_v85
  rw [r_dx2]
  funext j
  obtain ⟨a, b, rfl⟩ := exists_ix2 j
  pointwise [val_main_v2]
  simp only [E_at, E4_at, E1_at, G4_at, N5_at, N4_at, U_at, H1_at, V4_at]
  all_goals rfl

theorem r_dyb : val_main_v86 (F := Ideal) (E Row.ma R) (E Row.mb R) (U Row.ug R) (E4 Row.x R) (E4 Row.t R) (N5 W.wa) (N5 W.wb) (N4 W.wo) (V4 W.fg)
    = E4 (dyb W) R := by
  unfold val_main_v86
  rw [r_sb, r_dmg]
  funext j
  obtain ⟨a, b, rfl⟩ := exists_ix2 j
  pointwise []
  simp only [E_at, E4_at, E1_at, G4_at, N5_at, N4_at, U_at, H1_at, V4_at]
  exact mul_comm _ _

theorem r_dya : val_main_v89 (F := Ideal) (E Row.ma R) (E Row.mb R) (U Row.ug R) (E4 Row.x R) (E4 Row.t R) (N5 W.wa) (N5 W.wb) (N4 W.wo) (V4 W.fg)
    = E4 (dya W) R := by
  unfold val_main_v89
  rw [r_sa, r_dmg]
  funext j
  obtain ⟨a, b, rfl⟩ := exists_ix2 j
  pointwise []
  simp only [E_at, E4_at, E1_at, G4_at, N5_at, N4_at, U_at, H1_at, V4_at]
  exact mul_comm _ _

theorem r_dub : val_main_v88 (F := Ideal) (E Row.ma R) (E Row.mb R) (U Row.ug R) (E4 Row.x R) (E4 Row.t R) (N5 W.wa) (N5 W.wb) (N4 W.wo) (V4 W.fg)
    = E4 (dub W) R := by
  unfold val_main_v88 val_main_v87 val_main_v25 val_main_v24
  rw [r_dmg, r_yb, r_sb]
  funext j
  obtain ⟨a, b, rfl⟩ := exists_ix2 j
  pointwise [val_main_v23, val_main_cst_4]
  simp only [E_at, E4_at, E1_at, G4_at, N5_at, N4_at, U_at, H1_at, V4_at]
  refine (mul_mul_mul_comm _ _ _ _).trans (mul_assoc _ _ _).symm

theorem r_dua : val_main_v91 (F := Ideal) (E Row.ma R) (E Row.mb R) (U Row.ug R) (E4 Row.x R) (E4 Row.t R) (N5 W.wa) (N5 W.wb) (N4 W.wo) (V4 W.fg)
    = E4 (dua W) R := by
  unfold val_main_v91 val_main_v90 val_main_v15 val_main_v14
  rw [r_dmg, r_ya, r_sa]
  funext j
  obtain ⟨a, b, rfl⟩ := exists_ix2 j
  pointwise [val_main_v13, val_main_cst_1]
  simp only [E_at, E4_at, E1_at, G4_at, N5_at, N4_at, U_at, H1_at, V4_at]
  refine (mul_mul_mul_comm _ _ _ _).trans (mul_assoc _ _ _).symm

theorem r_dug : val_main_v92 (F := Ideal) (E Row.ma R) (E Row.mb R) (U Row.ug R) (E4 Row.x R) (E4 Row.t R) (N5 W.wa) (N5 W.wb) (N4 W.wo) (V4 W.fg)
    = U (dug W) R := by
  unfold val_main_v92
  rw [r_dua, r_dub]
  funext j
  obtain ⟨a, b, rfl⟩ := exists_ix2 j
  pointwise []
  simp only [E_at, E4_at, E1_at, G4_at, N5_at, N4_at, U_at, H1_at, V4_at]
  all_goals rfl

theorem r_dwb : val_main_v94 (F := Ideal) (E Row.ma R) (E Row.mb R) (U Row.ug R) (E4 Row.x R) (E4 Row.t R) (N5 W.wa) (N5 W.wb) (N4 W.wo) (V4 W.fg)
    = fun i => ∑ n, (R n).mb (i 0) * dyb W (R n) (i 1) := by
  unfold val_main_v94 val_main_v93
  rw [r_dyb]
  funext j
  obtain ⟨a, b, rfl⟩ := exists_ix2 j
  pointwise []
  simp only [E_at, E4_at, E1_at, G4_at, N5_at, N4_at, U_at, H1_at, V4_at]
  exact Finset.sum_congr rfl fun n _ => mul_comm _ _

theorem r_dwa : val_main_v97 (F := Ideal) (E Row.ma R) (E Row.mb R) (U Row.ug R) (E4 Row.x R) (E4 Row.t R) (N5 W.wa) (N5 W.wb) (N4 W.wo) (V4 W.fg)
    = fun i => ∑ n, (R n).ma (i 0) * dya W (R n) (i 1) := by
  unfold val_main_v97 val_main_v96
  rw [r_dya]
  funext j
  obtain ⟨a, b, rfl⟩ := exists_ix2 j
  pointwise []
  simp only [E_at, E4_at, E1_at, G4_at, N5_at, N4_at, U_at, H1_at, V4_at]
  exact Finset.sum_congr rfl fun n _ => mul_comm _ _

theorem r_dmb : val_main_v95 (F := Ideal) (E Row.ma R) (E Row.mb R) (U Row.ug R) (E4 Row.x R) (E4 Row.t R) (N5 W.wa) (N5 W.wb) (N4 W.wo) (V4 W.fg)
    = E (dmb W) R := by
  unfold val_main_v95
  rw [r_dyb]
  funext j
  obtain ⟨a, b, rfl⟩ := exists_ix2 j
  pointwise [val_main_v1]
  simp only [E_at, E4_at, E1_at, G4_at, N5_at, N4_at, U_at, H1_at, V4_at]
  all_goals rfl

theorem r_dma : val_main_v98 (F := Ideal) (E Row.ma R) (E Row.mb R) (U Row.ug R) (E4 Row.x R) (E4 Row.t R) (N5 W.wa) (N5 W.wb) (N4 W.wo) (V4 W.fg)
    = E (dma W) R := by
  unfold val_main_v98
  rw [r_dya]
  funext j
  obtain ⟨a, b, rfl⟩ := exists_ix2 j
  pointwise [val_main_v0]
  simp only [E_at, E4_at, E1_at, G4_at, N5_at, N4_at, U_at, H1_at, V4_at]
  all_goals rfl

end Cert.Proof.Merge

end
-- ==== Proof.MergeEnd.lean ====
/- `merge_fwd_bwd`: the final arrays, and the claims. -/
module

public import proofs.«01_k».proof.Proof.MergeVal
public import proofs.«01_k».proof.Proof.MergeRef
public import proofs.«01_k».proof.Proof.Gen.MergeRefIdeal.Run
public import Idealize.ShloMosaic.Lib.Claim

@[expose] public section

set_option maxRecDepth 16384

noncomputable section

namespace Cert.Proof.Merge

open Idealize.ShloMosaic Idealize.ShloMosaic.TcCoe Idealize.SL.Sem Cert.Proof
open Cert.MergeIdeal Cert.MergeIdeal.Gen

variable {m : (ℓ : Loc nD τ sig) → Buf (Elt Ideal) ℓ} {c : Dev nD}

theorem sum_rows (f : Row → EReal) : ∑ t : Fin cfg0.N, ∑ x : Fin 256, f (rows m c t x) = ∑ n : Fin 2048, f ((args m c).line n) := by
  rw [← Fin.sum_mul_add_fin 8 256 (fun n => f ((args m c).line n)) rfl]
  rfl

theorem arr_dx2 : (dats m 0 c).arrAt 9 cfg0.N = E4 (dx2 (args m c).wt) (args m c).line := by
  refine (dats m 0 c).arrAt_eq_of_covers 9 _ (by decide +kernel) fun t hf y => ?_
  have e : ∀ j, (outsAt0 m c t.val t.isLt).1 j = dx2 (args m c).wt (rows m c t (j 0)) (j 1) := fun j => by
    idx_vars j
    by_cases h : t.val % 8 = 0
    · exact dx2_A t h _ _
    · exact dx2_B t h _ _
  blk_simp
  rw [after0_9, e]
  refine congrArg₂ (fun r => dx2 (args m c).wt ((args m c).line r)) (Fin.ext ?_) (Fin.ext ?_) <;> blk_simp [idx t]
  all_goals rfl

theorem arr_dma : (dats m 0 c).arrAt 10 cfg0.N = E (dma (args m c).wt) (args m c).line := by
  refine (dats m 0 c).arrAt_eq_of_covers 10 _ (by decide +kernel) fun t hf y => ?_
  have e : ∀ j, (outsAt0 m c t.val t.isLt).2.1 j = dma (args m c).wt (rows m c t (j 0)) (j 1) := fun j => by
    idx_vars j
    by_cases h : t.val % 8 = 0
    · exact dma_A t h _ _
    · exact dma_B t h _ _
  blk_simp
  rw [after0_10, e]
  refine congrArg₂ (fun r => dma (args m c).wt ((args m c).line r)) (Fin.ext ?_) (Fin.ext ?_) <;> blk_simp [idx t]
  all_goals rfl

theorem arr_dmb : (dats m 0 c).arrAt 11 cfg0.N = E (dmb (args m c).wt) (args m c).line := by
  refine (dats m 0 c).arrAt_eq_of_covers 11 _ (by decide +kernel) fun t hf y => ?_
  have e : ∀ j, (outsAt0 m c t.val t.isLt).2.2.1 j = dmb (args m c).wt (rows m c t (j 0)) (j 1) := fun j => by
    idx_vars j
    by_cases h : t.val % 8 = 0
    · exact dmb_A t h _ _
    · exact dmb_B t h _ _
  blk_simp
  rw [after0_11, e]
  refine congrArg₂ (fun r => dmb (args m c).wt ((args m c).line r)) (Fin.ext ?_) (Fin.ext ?_) <;> blk_simp [idx t]
  all_goals rfl

theorem arr_dug : (dats m 0 c).arrAt 12 cfg0.N = U (dug (args m c).wt) (args m c).line := by
  refine (dats m 0 c).arrAt_eq_of_covers 12 _ (by decide +kernel) fun t hf y => ?_
  have e : ∀ j, (outsAt0 m c t.val t.isLt).2.2.2.1 j = dug (args m c).wt (rows m c t (j 0)) (j 1) := fun j => by
    idx_vars j
    by_cases h : t.val % 8 = 0
    · exact dug_A t h _ _
    · exact dug_B t h _ _
  blk_simp
  rw [after0_12, e]
  refine congrArg₂ (fun r => dug (args m c).wt ((args m c).line r)) (Fin.ext ?_) (Fin.ext ?_) <;> blk_simp [idx t]
  all_goals rfl

theorem arr_dwa : (dats m 0 c).arrAt 13 cfg0.N = fun i => ∑ n, ((args m c).line n).ma (i 0) * dya (args m c).wt ((args m c).line n) (i 1) := by
  refine (dats m 0 c).arrAt_eq_of_after_last 13 t0_7 (by decide +kernel) _ fun j => ?_
  idx_vars j
  blk_simp
  rw [after0_13, Pipeline.eq_sum_fin_of_reset_step_apply_last (fun n h => (outsAt0 m c n h).2.2.2.2.1) 8 (fun _ => 0)
    (fun t j => ∑ x : Fin 256, (rows m c t x).ma (j 0) * dya (args m c).wt (rows m c t x) (j 1))
    (fun t h j => by idx_vars j; exact dwa_A t h _ _)
    (fun t h j => by idx_vars j; exact dwa_B t h _ _) (le_of_eq N_0) t0_7 rfl]
  rw [zero_add]
  exact sum_rows fun R => R.ma j0 * dya (args m c).wt R j1

theorem arr_dwb : (dats m 0 c).arrAt 14 cfg0.N = fun i => ∑ n, ((args m c).line n).mb (i 0) * dyb (args m c).wt ((args m c).line n) (i 1) := by
  refine (dats m 0 c).arrAt_eq_of_after_last 14 t0_7 (by decide +kernel) _ fun j => ?_
  idx_vars j
  blk_simp
  rw [after0_14, Pipeline.eq_sum_fin_of_reset_step_apply_last (fun n h => (outsAt0 m c n h).2.2.2.2.2.1) 8 (fun _ => 0)
    (fun t j => ∑ x : Fin 256, (rows m c t x).mb (j 0) * dyb (args m c).wt (rows m c t x) (j 1))
    (fun t h j => by idx_vars j; exact dwb_A t h _ _)
    (fun t h j => by idx_vars j; exact dwb_B t h _ _) (le_of_eq N_0) t0_7 rfl]
  rw [zero_add]
  exact sum_rows fun R => R.mb j0 * dyb (args m c).wt R j1

theorem arr_dwo : (dats m 0 c).arrAt 15 cfg0.N = fun i => ∑ n, mg (args m c).wt ((args m c).line n) (i 0) * dx2 (args m c).wt ((args m c).line n) (i 1) := by
  refine (dats m 0 c).arrAt_eq_of_after_last 15 t0_7 (by decide +kernel) _ fun j => ?_
  idx_vars j
  blk_simp
  rw [after0_15, Pipeline.eq_sum_fin_of_reset_step_apply_last (fun n h => (outsAt0 m c n h).2.2.2.2.2.2.1) 8 (fun _ => 0)
    (fun t j => ∑ x : Fin 256, mg (args m c).wt (rows m c t x) (j 0) * dx2 (args m c).wt (rows m c t x) (j 1))
    (fun t h j => by idx_vars j; exact dwo_A t h _ _)
    (fun t h j => by idx_vars j; exact dwo_B t h _ _) (le_of_eq N_0) t0_7 rfl]
  rw [zero_add]
  exact sum_rows fun R => mg (args m c).wt R j0 * dx2 (args m c).wt R j1

theorem arr_dfg : (dats m 0 c).arrAt 16 cfg0.N = fun i => ∑ n, dfg (args m c).wt ((args m c).line n) (i 1) := by
  refine (dats m 0 c).arrAt_eq_of_after_last 16 t0_7 (by decide +kernel) _ fun j => ?_
  idx_vars j
  blk_simp
  rw [after0_16, Pipeline.eq_sum_fin_of_reset_step_apply_last (fun n h => (outsAt0 m c n h).2.2.2.2.2.2.2.1) 8 (fun _ => 0)
    (fun t j => ∑ x : Fin 256, dfg (args m c).wt (rows m c t x) (j 1))
    (fun t h j => by idx_vars j; exact dfg_A t h _ _)
    (fun t h j => by idx_vars j; exact dfg_B t h _ _) (le_of_eq N_0) t0_7 rfl]
  rw [zero_add]
  exact sum_rows fun R => dfg (args m c).wt R j1

theorem arr_sq : (dats m 0 c).arrAt 17 cfg0.N = fun i => ∑ n, sq (args m c).wt ((args m c).line n) (i 1) := by
  refine (dats m 0 c).arrAt_eq_of_after_last 17 t0_7 (by decide +kernel) _ fun j => ?_
  idx_vars j
  blk_simp
  rw [after0_17, Pipeline.eq_sum_fin_of_reset_step_apply_last (fun n h => (outsAt0 m c n h).2.2.2.2.2.2.2.2) 8 (fun _ => 0)
    (fun t j => ∑ x : Fin 256, sq (args m c).wt (rows m c t x) (j 1))
    (fun t h j => by idx_vars j; exact sq_A t h _ _)
    (fun t h j => by idx_vars j; exact sq_B t h _ _) (le_of_eq N_0) t0_7 rfl]
  rw [zero_add]
  exact sum_rows fun R => sq (args m c).wt R j1

theorem frame_ref : Cert.quiescent_MergeRefIdeal (hMergeRefIdeal := Cert.MergeRefIdeal.Gen.facts) :=
  fun m g _ => θ_run_mono (Cert.MergeRefIdeal.Value.run m g) fun _ hr => ⟨fun c => (hr c).2.2.2.2.2.2.2.2.2, sem_eq_zero_of_no_sems rfl _⟩

theorem split2 {p q : ℕ} (f : (⟨2, ![p, q]⟩ : Shape).Idx → EReal) : f = fun i => f (ix2 (i 0) (i 1)) := by
  funext j
  obtain ⟨a, b, rfl⟩ := exists_ix2 j
  rfl

theorem split1 {p : ℕ} (f : (⟨1, ![p]⟩ : Shape).Idx → EReal) : f = fun i => f (ix1 (i 0)) := by
  funext j
  obtain ⟨a, rfl⟩ := exists_ix1 j
  rfl

theorem algebraic : Cert.algebraic_MergeIdeal_MergeRefIdeal (hMergeIdeal := Cert.MergeIdeal.Gen.facts) (hMergeRefIdeal := Cert.MergeRefIdeal.Gen.facts) := by
  intro m g m' g' _ hargs
  refine ⟨fun c => (E4 (dx2 (args m c).wt) (args m c).line : S2048x1024.Idx → EReal),
    fun c => (E (dma (args m c).wt) (args m c).line : S2048x512.Idx → EReal),
    fun c => (E (dmb (args m c).wt) (args m c).line : S2048x512.Idx → EReal),
    fun c => (U (dug (args m c).wt) (args m c).line : S2048x2048.Idx → EReal),
    fun c => (fun i => ∑ n, ((args m c).line n).ma (i 0) * dya (args m c).wt ((args m c).line n) (i 1) : S512x1024.Idx → EReal),
    fun c => (fun i => ∑ n, ((args m c).line n).mb (i 0) * dyb (args m c).wt ((args m c).line n) (i 1) : S512x1024.Idx → EReal),
    fun c => (fun i => ∑ n, mg (args m c).wt ((args m c).line n) (i 0) * dx2 (args m c).wt ((args m c).line n) (i 1) : S1024x1024.Idx → EReal),
    fun c => (fun i => ∑ n, dfg (args m c).wt ((args m c).line n) (i 1) : S1x1024.Idx → EReal),
    fun c => (fun i => ∑ n, sq (args m c).wt ((args m c).line n) (i 1) : S1x1024.Idx → EReal), ?_, ?_⟩
  · refine θ_run_mono (Cert.MergeIdeal.Value.run_blocks m g) fun r hr c => ?_
    obtain ⟨r0, r1, r2, r3, r4, r5, r6, r7, r8, rs⟩ := hr c
    exact ⟨r0.trans arr_dx2, r1.trans arr_dma, r2.trans arr_dmb, r3.trans arr_dug, r4.trans arr_dwa, r5.trans arr_dwb, r6.trans arr_dwo, r7.trans arr_dfg, r8.trans arr_sq, rs⟩
  · refine θ_run_mono (Cert.MergeRefIdeal.Value.run m' g') fun r hr c => ?_
    obtain ⟨r0, r1, r2, r3, r4, r5, r6, r7, r8, rs⟩ := hr c
    obtain ⟨a0, a1, a2, a3, a4, a5, a6, a7, a8⟩ := hargs c
    have b0 : _ = E Row.ma (args m c).line := a0.trans (split2 _)
    have b1 : _ = E Row.mb (args m c).line := a1.trans (split2 _)
    have b2 : _ = U Row.ug (args m c).line := a2.trans (split2 _)
    have b3 : _ = E4 Row.x (args m c).line := a3.trans (split2 _)
    have b4 : _ = E4 Row.t (args m c).line := a4.trans (split2 _)
    have b5 : _ = N5 (args m c).wt.wa := a5.trans (split2 _)
    have b6 : _ = N5 (args m c).wt.wb := a6.trans (split2 _)
    have b7 : _ = N4 (args m c).wt.wo := a7.trans (split2 _)
    have b8 : _ = V4 (args m c).wt.fg := a8.trans (split1 _)
    refine ⟨(r0.trans (Cert.MergeRefIdeal.Read.val_main_v82_eq ..)).trans ?_, (r1.trans (Cert.MergeRefIdeal.Read.val_main_v98_eq ..)).trans ?_, (r2.trans (Cert.MergeRefIdeal.Read.val_main_v95_eq ..)).trans ?_, (r3.trans (Cert.MergeRefIdeal.Read.val_main_v92_eq ..)).trans ?_, (r4.trans (Cert.MergeRefIdeal.Read.val_main_v97_eq ..)).trans ?_, (r5.trans (Cert.MergeRefIdeal.Read.val_main_v94_eq ..)).trans ?_, (r6.trans (Cert.MergeRefIdeal.Read.val_main_v84_eq ..)).trans ?_, (r7.trans (Cert.MergeRefIdeal.Read.val_main_v99_eq ..)).trans ?_, (r8.trans (Cert.MergeRefIdeal.Read.val_main_v56_eq ..)).trans ?_, rs⟩
    all_goals rw [b0, b1, b2, b3, b4, b5, b6, b7, b8]
    · exact r_dx2 ..
    · exact r_dma ..
    · exact r_dmb ..
    · exact r_dug ..
    · exact r_dwa ..
    · exact r_dwb ..
    · exact r_dwo ..
    · exact r_dfg ..
    · exact r_sq ..

end Cert.Proof.Merge

end
-- ==== Proof.PostSpec.lean ====
/- A group norm with bonus under a gate, and the gradient of it, on one row of real numbers. Kernel and reference are both read as these. -/
module

public import proofs.«01_k».proof.Proof.Tile

@[expose] public section

set_option maxRecDepth 16384

noncomputable section

namespace Cert.Proof.Post

open Idealize.ShloMosaic Idealize.ShloMosaic.TcCoe Idealize.SL.Sem Cert.Proof

/-- What a row of the sequence brings. -/
structure Row where
  dm : Fin 512 → ℝ
  y : Fin 512 → ℝ
  r : Fin 512 → ℝ
  k : Fin 512 → ℝ
  v : Fin 512 → ℝ
  ga : Fin 512 → ℝ

/-- The weights. -/
structure Wt where
  lw : Fin 512 → ℝ
  lb : Fin 512 → ℝ
  rk : Fin 512 → ℝ

variable (W : Wt) (R : Row)

def yc (b : Fin 512) : ℝ := R.y b - hs R.y b * (1 / 64)
def var (b : Fin 512) : ℝ := hs (fun b => yc R b * yc R b) b * (1 / 64) + lnEps
def rstd (b : Fin 512) : ℝ := rt (var R b)
def yn (b : Fin 512) : ℝ := yc R b * rstd R b
def rkp (b : Fin 512) : ℝ := R.r b * R.k b * W.rk b
def rkk (b : Fin 512) : ℝ := hs (rkp W R) b
def sga (b : Fin 512) : ℝ := sg (R.ga b)
def sia (b : Fin 512) : ℝ := R.ga b * sga R b
def pre (b : Fin 512) : ℝ := yn R b * W.lw b + W.lb b + rkk W R b * R.v b
def dga (b : Fin 512) : ℝ := R.dm b * pre W R b * (sga R b * (1 + R.ga b * (1 - sga R b)))
def dpre (b : Fin 512) : ℝ := R.dm b * sia R b
def dlw (b : Fin 512) : ℝ := dpre R b * yn R b
def dyn (b : Fin 512) : ℝ := dpre R b * W.lw b
def m1 (b : Fin 512) : ℝ := hs (dyn W R) b * (1 / 64)
def m2 (b : Fin 512) : ℝ := hs (fun b => dyn W R b * yn R b) b * (1 / 64)
def dy (b : Fin 512) : ℝ := rstd R b * (dyn W R b - m1 W R b - yn R b * m2 W R b)
def dvb (b : Fin 512) : ℝ := dpre R b * rkk W R b
def dpv (b : Fin 512) : ℝ := dpre R b * R.v b
def drkk (b : Fin 512) : ℝ := hs (dpv R) b
def drb (b : Fin 512) : ℝ := drkk R b * R.k b * W.rk b
def dkb (b : Fin 512) : ℝ := drkk R b * R.r b * W.rk b
def drk (b : Fin 512) : ℝ := drkk R b * R.r b * R.k b

theorem var_pos (b : Fin 512) : 0 < var R b := by
  have h : 0 ≤ hs (fun b => yc R b * yc R b) b := Finset.sum_nonneg fun _ _ => mul_self_nonneg _
  have := lnEps_pos
  unfold var; positivity

theorem var_lane (b : Fin 512) (d : Fin 64) : var R (lane b d) = var R b := by unfold var; rw [hs_lane]
theorem rstd_lane (b : Fin 512) (d : Fin 64) : rstd R (lane b d) = rstd R b := by unfold rstd; rw [var_lane]
theorem rkk_lane (b : Fin 512) (d : Fin 64) : rkk W R (lane b d) = rkk W R b := hs_lane _ _ _

end Cert.Proof.Post

end
-- ==== Proof.PostKer.lean ====
/- What `rwkv_post_bwd` computes from one tile of rows, when the loaded blocks are arrays of real numbers. -/
module

public import proofs.«01_k».proof.Defs
public import proofs.«01_k».proof.Proof.PostSpec
public import proofs.«01_k».proof.Proof.Gen.PostIdeal.Skeleton

@[expose] public section

set_option maxRecDepth 16384

noncomputable section

namespace Cert.Proof.Post

open Idealize.ShloMosaic Idealize.ShloMosaic.TcCoe Idealize.SL.Sem Cert.Proof
open Cert.PostIdeal Cert.PostIdeal.Gen

theorem pay6_eq : k0_pay6 (F := Ideal) = fun j => headOne (j 0).val (j 1).val := by
  funext j
  idx_vars j
  pointwise [k0_pay6]
  exact headOne_eq j0 j1

variable (W : Wt) (R : Fin 256 → Row)

theorem k_yc : k0_pay9 (F := Ideal) k0_pay6 (A Row.y R) (k0_pay8 (A Row.y R))
    = A yc R := by
  unfold k0_pay8
  rw [pay6_eq]
  funext j
  obtain ⟨a, b, rfl⟩ := exists_ix2 j
  pointwise [k0_pay9]
  simp only [A_at]
  refine Eq.trans ?_ (show _ = ((yc (R a) b : ℝ) : EReal) from by rw [yc, EReal.coe_sub, EReal.coe_mul, ← c_inv64])
  refine congrArg (((R a).y b : EReal) - · * _) ?_
  have hb := b.isLt
  split_ifs with h0 h1 h2
  · exact chunk (R a).y b 0 _ rfl (by omega) (by omega) (fun x => ⟨x.val, by omega⟩) (fun x => (Nat.zero_add _).symm)
  · exact chunk (R a).y b 128 _ rfl (by omega) (by omega) (fun x => ⟨128 + x.val, by omega⟩) (fun x => rfl)
  · exact chunk (R a).y b 256 _ rfl (by omega) (by omega) (fun x => ⟨256 + x.val, by omega⟩) (fun x => rfl)
  · exact chunk (R a).y b 384 _ rfl (by omega) (by omega) (fun x => ⟨384 + x.val, by omega⟩) (fun x => rfl)

theorem k_rstd : k0_pay17 (F := Ideal) (k0_pay16 k0_pay6 (k0_pay10 k0_pay6 (A Row.y R) (k0_pay8 (A Row.y R)))
    (k0_pay12 k0_pay6 (A Row.y R) (k0_pay8 (A Row.y R))) (k0_pay13 k0_pay6 (A Row.y R) (k0_pay8 (A Row.y R)))
    (k0_pay14 k0_pay6 (A Row.y R) (k0_pay8 (A Row.y R))) (k0_pay15 k0_pay6 (A Row.y R) (k0_pay8 (A Row.y R)))) (Scalar.ofBits .f32 0x3C800000#32)
    = A rstd R := by
  have h10 : k0_pay10 (F := Ideal) k0_pay6 (A Row.y R) (k0_pay8 (A Row.y R)) = A (fun R b => yc R b * yc R b) R := by
    unfold k0_pay10; rw [k_yc]; funext j
    exact (EReal.coe_mul _ _).symm
  unfold k0_pay15 k0_pay14 k0_pay13 k0_pay12 k0_pay11
  rw [h10]
  rw [pay6_eq]
  funext j
  obtain ⟨a, b, rfl⟩ := exists_ix2 j
  pointwise [k0_pay17, k0_pay16]
  refine Eq.trans ?_ (show _ = ((rstd (R a) b : ℝ) : EReal) from rt_val (var_pos (R a) b))
  rw [var, EReal.coe_add, EReal.coe_mul, ← c_inv64, ← c_ln]
  refine congrArg Ideal.rsqrt (congrArg (· + _) (congrArg (· * _) ?_))
  have hb := b.isLt
  split_ifs with h0 h1 h2
  · exact chunk (fun b => yc (R a) b * yc (R a) b) b 0 _ rfl (by omega) (by omega) (fun x => ⟨x.val, by omega⟩) (fun x => (Nat.zero_add _).symm)
  · exact chunk (fun b => yc (R a) b * yc (R a) b) b 128 _ rfl (by omega) (by omega) (fun x => ⟨128 + x.val, by omega⟩) (fun x => rfl)
  · exact chunk (fun b => yc (R a) b * yc (R a) b) b 256 _ rfl (by omega) (by omega) (fun x => ⟨256 + x.val, by omega⟩) (fun x => rfl)
  · exact chunk (fun b => yc (R a) b * yc (R a) b) b 384 _ rfl (by omega) (by omega) (fun x => ⟨384 + x.val, by omega⟩) (fun x => rfl)

theorem k_yn : k0_pay18 (F := Ideal) (A yc R) (k0_pay16 k0_pay6 (k0_pay10 k0_pay6 (A Row.y R) (k0_pay8 (A Row.y R)))
    (k0_pay12 k0_pay6 (A Row.y R) (k0_pay8 (A Row.y R))) (k0_pay13 k0_pay6 (A Row.y R) (k0_pay8 (A Row.y R)))
    (k0_pay14 k0_pay6 (A Row.y R) (k0_pay8 (A Row.y R))) (k0_pay15 k0_pay6 (A Row.y R) (k0_pay8 (A Row.y R)))) (Scalar.ofBits .f32 0x3C800000#32)
    = A yn R := by
  unfold k0_pay18
  rw [k_rstd]
  funext j
  exact (EReal.coe_mul _ _).symm

theorem k_rk : k0_pay7 (F := Ideal) (B W.rk)
    = B W.rk := by
  funext j
  obtain ⟨a, b, rfl⟩ := exists_ix2 j
  pointwise [k0_pay7]

theorem k_rkp : k0_pay19 (F := Ideal) (A Row.r R) (A Row.k R) (B W.rk)
    = A (rkp W) R := by
  funext j
  obtain ⟨a, b, rfl⟩ := exists_ix2 j
  pointwise [k0_pay19]
  simp only [A_at, B_at, c_one, zero_sub, sg_val, ← EReal.coe_mul,
    ← EReal.coe_add, ← EReal.coe_sub, ← coe_sum]
  all_goals rfl

theorem k_rkk : k0_pay25 (F := Ideal) k0_pay6 (k0_pay20 k0_pay6 (A Row.r R) (A Row.k R) (B W.rk)) (k0_pay21 k0_pay6 (A Row.r R) (A Row.k R) (B W.rk))
    (k0_pay22 k0_pay6 (A Row.r R) (A Row.k R) (B W.rk)) (k0_pay23 (A Row.r R) (A Row.k R) (B W.rk)) (k0_pay24 (A Row.r R) (A Row.k R) (B W.rk))
    = A (rkk W) R := by
  unfold k0_pay20 k0_pay21 k0_pay22 k0_pay24 k0_pay23
  rw [k_rkp]
  rw [pay6_eq]
  funext j
  obtain ⟨a, b, rfl⟩ := exists_ix2 j
  pointwise [k0_pay25]
  have hb := b.isLt
  split_ifs with h0 h1 h2
  · exact chunk (rkp W (R a)) b 0 _ rfl (by omega) (by omega) (fun x => ⟨x.val, by omega⟩) (fun x => (Nat.zero_add _).symm)
  · exact chunk (rkp W (R a)) b 128 _ rfl (by omega) (by omega) (fun x => ⟨128 + x.val, by omega⟩) (fun x => rfl)
  · exact chunk (rkp W (R a)) b 256 _ rfl (by omega) (by omega) (fun x => ⟨256 + x.val, by omega⟩) (fun x => rfl)
  · exact chunk (rkp W (R a)) b 384 _ rfl (by omega) (by omega) (fun x => ⟨384 + x.val, by omega⟩) (fun x => rfl)

theorem k_sga : k0_pay26 (F := Ideal) (A Row.ga R)
    = A sga R := by
  funext j
  obtain ⟨a, b, rfl⟩ := exists_ix2 j
  pointwise [k0_pay26]
  simp only [A_at, B_at, c_one, zero_sub, sg_val, ← EReal.coe_mul,
    ← EReal.coe_add, ← EReal.coe_sub, ← coe_sum]
  all_goals rfl

theorem k_dga : k0_pay27 (F := Ideal) k0_pay6 (A Row.v R) (A Row.ga R) (B W.lw) (B W.lb) (A yn R) (k0_pay20 k0_pay6 (A Row.r R) (A Row.k R) (B W.rk)) (k0_pay21 k0_pay6 (A Row.r R) (A Row.k R) (B W.rk))
    (k0_pay22 k0_pay6 (A Row.r R) (A Row.k R) (B W.rk)) (k0_pay23 (A Row.r R) (A Row.k R) (B W.rk)) (k0_pay24 (A Row.r R) (A Row.k R) (B W.rk)) (A Row.dm R)
    = A (dga W) R := by
  unfold k0_pay27
  rw [k_rkk, k_sga]
  funext j
  obtain ⟨a, b, rfl⟩ := exists_ix2 j
  pointwise []
  simp only [A_at, B_at, c_one, zero_sub, sg_val, ← EReal.coe_mul,
    ← EReal.coe_add, ← EReal.coe_sub, ← coe_sum]
  all_goals rfl

theorem k_dpre : k0_pay28 (F := Ideal) (A Row.ga R) (A Row.dm R)
    = A dpre R := by
  unfold k0_pay28
  rw [k_sga]
  funext j
  obtain ⟨a, b, rfl⟩ := exists_ix2 j
  pointwise []
  simp only [A_at, B_at, c_one, zero_sub, sg_val, ← EReal.coe_mul,
    ← EReal.coe_add, ← EReal.coe_sub, ← coe_sum]
  all_goals rfl

theorem k_dyn : k0_pay31 (F := Ideal) (B W.lw) (A dpre R)
    = A (dyn W) R := by
  funext j
  obtain ⟨a, b, rfl⟩ := exists_ix2 j
  pointwise [k0_pay31]
  simp only [A_at, B_at, c_one, zero_sub, sg_val, ← EReal.coe_mul,
    ← EReal.coe_add, ← EReal.coe_sub, ← coe_sum]
  all_goals rfl

theorem k_m1 : k0_pay40 (F := Ideal) k0_pay6 (A (dyn W) R) (k0_pay32 k0_pay6 (B W.lw) (A dpre R)) (k0_pay33 k0_pay6 (B W.lw) (A dpre R)) (k0_pay37 (B W.lw) (A dpre R))
    (k0_pay38 (B W.lw) (A dpre R)) (k0_pay39 k0_pay6 (B W.lw) (A dpre R)) (constant ⟨2, ![256, 128]⟩ .f32 0x00000000#32)
    = A (m1 W) R := by
  unfold k0_pay39 k0_pay38 k0_pay37 k0_pay36 k0_pay35 k0_pay34 k0_pay33 k0_pay32
  rw [k_dyn]
  rw [pay6_eq]
  funext j
  obtain ⟨a, b, rfl⟩ := exists_ix2 j
  pointwise [k0_pay40]
  refine Eq.trans ?_ (show _ = ((m1 W (R a) b : ℝ) : EReal) from by rw [m1, EReal.coe_mul, ← c_inv64])
  refine congrArg (· * _) ?_
  have hb := b.isLt
  split_ifs with h0 h1 h2
  · exact chunk (dyn W (R a)) b 0 _ rfl (by omega) (by omega) (fun x => ⟨x.val, by omega⟩) (fun x => (Nat.zero_add _).symm)
  · exact chunk (dyn W (R a)) b 128 _ rfl (by omega) (by omega) (fun x => ⟨128 + x.val, by omega⟩) (fun x => rfl)
  · exact chunk (dyn W (R a)) b 256 _ rfl (by omega) (by omega) (fun x => ⟨256 + x.val, by omega⟩) (fun x => rfl)
  · exact chunk (dyn W (R a)) b 384 _ rfl (by omega) (by omega) (fun x => ⟨384 + x.val, by omega⟩) (fun x => rfl)

theorem k_dy : k0_pay46 (F := Ideal) k0_pay6 (A rstd R) (A yn R) (A (dyn W) R) (A (m1 W) R)
    (k0_pay41 (A yn R) (A (dyn W) R)) (k0_pay42 k0_pay6 (A yn R) (A (dyn W) R)) (k0_pay43 k0_pay6 (A yn R) (A (dyn W) R))
    (k0_pay44 (A yn R) (A (dyn W) R)) (k0_pay45 (A yn R) (A (dyn W) R))
    = A (dy W) R := by
  have h41 : k0_pay41 (F := Ideal) (A yn R) (A (dyn W) R) = A (fun R b => dyn W R b * yn R b) R := by
    funext j
    exact (EReal.coe_mul _ _).symm
  unfold k0_pay45 k0_pay44 k0_pay43 k0_pay42
  rw [h41]
  rw [pay6_eq]
  funext j
  obtain ⟨a, b, rfl⟩ := exists_ix2 j
  pointwise [k0_pay46]
  simp only [A_at]
  refine Eq.trans ?_ (show _ = ((dy W (R a) b : ℝ) : EReal) from by
    rw [dy, m2, EReal.coe_mul, EReal.coe_sub, EReal.coe_sub, EReal.coe_mul, EReal.coe_mul, ← c_inv64])
  refine congrArg ((rstd (R a) b : EReal) * ·) (congrArg (((dyn W (R a) b : EReal) - (m1 W (R a) b : EReal)) - ·)
    (congrArg ((yn (R a) b : EReal) * ·) (congrArg (· * _) ?_)))
  have hb := b.isLt
  split_ifs with h0 h1 h2
  · exact chunk (fun b => dyn W (R a) b * yn (R a) b) b 0 _ rfl (by omega) (by omega) (fun x => ⟨x.val, by omega⟩) (fun x => (Nat.zero_add _).symm)
  · exact chunk (fun b => dyn W (R a) b * yn (R a) b) b 128 _ rfl (by omega) (by omega) (fun x => ⟨128 + x.val, by omega⟩) (fun x => rfl)
  · exact chunk (fun b => dyn W (R a) b * yn (R a) b) b 256 _ rfl (by omega) (by omega) (fun x => ⟨256 + x.val, by omega⟩) (fun x => rfl)
  · exact chunk (fun b => dyn W (R a) b * yn (R a) b) b 384 _ rfl (by omega) (by omega) (fun x => ⟨384 + x.val, by omega⟩) (fun x => rfl)

theorem k_dvb : k0_pay47 (F := Ideal) (A (rkk W) R) (A dpre R)
    = A (dvb W) R := by
  funext j
  obtain ⟨a, b, rfl⟩ := exists_ix2 j
  pointwise [k0_pay47]
  simp only [A_at, B_at, c_one, zero_sub, sg_val, ← EReal.coe_mul,
    ← EReal.coe_add, ← EReal.coe_sub, ← coe_sum]
  all_goals rfl

theorem k_dpv : k0_pay48 (F := Ideal) (A Row.v R) (A dpre R)
    = A dpv R := by
  funext j
  obtain ⟨a, b, rfl⟩ := exists_ix2 j
  pointwise [k0_pay48]
  simp only [A_at, B_at, c_one, zero_sub, sg_val, ← EReal.coe_mul,
    ← EReal.coe_add, ← EReal.coe_sub, ← coe_sum]
  all_goals rfl

theorem k_drkk : k0_pay56 (F := Ideal) k0_pay6 (A dpv R) (k0_pay53 (A Row.v R) (A dpre R)) (k0_pay54 k0_pay6 (A Row.v R) (A dpre R))
    (k0_pay55 k0_pay6 (A Row.v R) (A dpre R))
    = A drkk R := by
  unfold k0_pay55 k0_pay54 k0_pay53 k0_pay52 k0_pay51 k0_pay50 k0_pay49
  rw [k_dpv]
  rw [pay6_eq]
  funext j
  obtain ⟨a, b, rfl⟩ := exists_ix2 j
  pointwise [k0_pay56]
  have hb := b.isLt
  split_ifs with h0 h1 h2
  · exact chunk (dpv (R a)) b 0 _ rfl (by omega) (by omega) (fun x => ⟨x.val, by omega⟩) (fun x => (Nat.zero_add _).symm)
  · exact chunk (dpv (R a)) b 128 _ rfl (by omega) (by omega) (fun x => ⟨128 + x.val, by omega⟩) (fun x => rfl)
  · exact chunk (dpv (R a)) b 256 _ rfl (by omega) (by omega) (fun x => ⟨256 + x.val, by omega⟩) (fun x => rfl)
  · exact chunk (dpv (R a)) b 384 _ rfl (by omega) (by omega) (fun x => ⟨384 + x.val, by omega⟩) (fun x => rfl)

theorem k_drb : k0_pay57 (F := Ideal) k0_pay6 (A Row.k R) (B W.rk) (A dpv R) (k0_pay53 (A Row.v R) (A dpre R)) (k0_pay54 k0_pay6 (A Row.v R) (A dpre R))
    (k0_pay55 k0_pay6 (A Row.v R) (A dpre R))
    = A (drb W) R := by
  unfold k0_pay57
  rw [k_drkk]
  funext j
  obtain ⟨a, b, rfl⟩ := exists_ix2 j
  pointwise []
  simp only [A_at, B_at, c_one, zero_sub, sg_val, ← EReal.coe_mul,
    ← EReal.coe_add, ← EReal.coe_sub, ← coe_sum]
  all_goals rfl

theorem k_dkb : k0_pay1 (F := Ideal) (A Row.r R) (B W.rk) (A drkk R)
    = A (dkb W) R := by
  funext j
  obtain ⟨a, b, rfl⟩ := exists_ix2 j
  pointwise [k0_pay1]
  simp only [A_at, B_at, c_one, zero_sub, sg_val, ← EReal.coe_mul,
    ← EReal.coe_add, ← EReal.coe_sub, ← coe_sum]
  all_goals rfl

theorem k_dlw (p : S1x512.Idx → EReal) (a b) : k0_pay29 (F := Ideal) (A Row.ga R) (A yn R) (A Row.dm R) p (ix2 a b)
    = p (ix2 a b) + ((∑ n, dlw (R n) b : ℝ) : EReal) := by
  obtain rfl := Subsingleton.elim a 0
  unfold k0_pay29
  rw [k_dpre]
  pointwise []
  simp only [A_at, ← EReal.coe_mul, ← coe_sum]
  all_goals rfl

theorem k_dlb (p : S1x512.Idx → EReal) (a b) : k0_pay30 (F := Ideal) (A dpre R) p (ix2 a b)
    = p (ix2 a b) + ((∑ n, dpre (R n) b : ℝ) : EReal) := by
  obtain rfl := Subsingleton.elim a 0
  pointwise [k0_pay30]
  simp only [A_at, ← EReal.coe_mul, ← coe_sum]
  all_goals rfl

theorem k_drk (p : S1x512.Idx → EReal) (a b) : k0_pay2 (F := Ideal) (A Row.r R) (A Row.k R) (A drkk R) p (ix2 a b)
    = p (ix2 a b) + ((∑ n, drk (R n) b : ℝ) : EReal) := by
  obtain rfl := Subsingleton.elim a 0
  pointwise [k0_pay2]
  simp only [A_at, ← EReal.coe_mul, ← coe_sum]
  all_goals rfl

end Cert.Proof.Post

end
-- ==== Proof.PostRef.lean ====
/- The reference of `rwkv_post_bwd`, read as the formulas. -/
module

public import proofs.«01_k».proof.Defs
public import proofs.«01_k».proof.Proof.PostSpec
public import proofs.«01_k».proof.Proof.RowNorm
public import proofs.«01_k».proof.Proof.Gen.PostRefIdeal.Read
public import Idealize.ShloMosaic.Lib.Pointwise

@[expose] public section

set_option maxRecDepth 16384

noncomputable section

namespace Cert.Proof.Post

open Idealize.ShloMosaic Idealize.ShloMosaic.TcCoe Idealize.SL.Sem Cert.Proof
open Cert.PostRefIdeal Cert.PostRefIdeal.Gen Cert.PostRefIdeal.Read

/-- The lane of a head. -/
def cell (h : Fin 8) (d : Fin 64) : Fin 512 := ⟨h.val * 64 + d.val, by omega⟩

theorem lane_cell (h : Fin 8) (d e : Fin 64) : lane (cell h d) e = cell h e := Fin.ext (by
  show (h.val * 64 + d.val) / 64 * 64 + e.val = h.val * 64 + e.val
  omega)

theorem hs_cell (f : Fin 512 → ℝ) (h : Fin 8) (d : Fin 64) : hs f (cell h d) = ∑ e, f (cell h e) :=
  Finset.sum_congr rfl fun e _ => by rw [lane_cell]

theorem cell_split (b : Fin 512) : cell ⟨b.val / 64, by omega⟩ ⟨b.val % 64, by omega⟩ = b := Fin.ext (by
  show b.val / 64 * 64 + b.val % 64 = b.val
  omega)

/-- One less a number. -/
theorem one_sub_val (x : ℝ) : 1 - (x : EReal) = ((1 - x : ℝ) : EReal) := by
  rw [EReal.coe_sub]; rfl

section
variable {ρ : Type} (f : ρ → Fin 512 → ℝ) (R : Fin 2048 → ρ) (w : Fin 512 → ℝ)

/-- The array by heads. -/
def T : (⟨3, ![2048, 8, 64]⟩ : Shape).Idx → EReal := fun i => (f (R (i 0)) (cell (i 1) (i 2)) : EReal)
/-- One number for each head. -/
def T2 : (⟨2, ![2048, 8]⟩ : Shape).Idx → EReal := fun i => (f (R (i 0)) (cell (i 1) 0) : EReal)
/-- The same, as an array of three axes. -/
def T3 : (⟨3, ![2048, 8, 1]⟩ : Shape).Idx → EReal := fun i => (f (R (i 0)) (cell (i 1) 0) : EReal)
/-- A weight by heads. -/
def K2 : (⟨2, ![8, 64]⟩ : Shape).Idx → EReal := fun i => (w (cell (i 0) (i 1)) : EReal)

theorem T_at (a h d) : T f R (ix3 a h d) = (f (R a) (cell h d) : EReal) := rfl
theorem T2_at (a h) : T2 f R (ix2 a h) = (f (R a) (cell h 0) : EReal) := rfl
theorem T3_at (a h d) : T3 f R (ix3 a h d) = (f (R a) (cell h 0) : EReal) := rfl
theorem K2_at (h d) : K2 w (ix2 h d) = (w (cell h d) : EReal) := rfl

theorem exists_ix3 {p q r : ℕ} (j : (⟨3, ![p, q, r]⟩ : Shape).Idx) : ∃ a b c, j = ix3 a b c :=
  ⟨j 0, j 1, j 2, by funext k; fin_cases k <;> rfl⟩

theorem to_heads : shapeCast S2048x8x64 (A f R : FVec Ideal S2048x512 .f32) shapeCasts_S2048x512_S2048x8x64 = T f R := by
  funext j
  obtain ⟨a, h, d, rfl⟩ := exists_ix3 j
  pointwise []
  rfl

theorem from_heads : shapeCast S2048x512 (T f R : FVec Ideal S2048x8x64 .f32) shapeCasts_S2048x8x64_S2048x512 = A f R := by
  funext j
  obtain ⟨a, b, rfl⟩ := exists_ix2 j
  pointwise []
  rw [T_at, cell_split, A_at]

theorem weight_heads : shapeCast S8x64 (B w : FVec Ideal S1x512 .f32) shapeCasts_S1x512_S8x64 = K2 w := by
  funext j
  obtain ⟨h, d, rfl⟩ := exists_ix2 j
  pointwise []
  rfl

theorem heads_weight : shapeCast S1x512 (K2 w : FVec Ideal S8x64 .f32) shapeCasts_S8x64_S1x512 = B w := by
  funext j
  obtain ⟨h, d, rfl⟩ := exists_ix2 j
  obtain rfl := Subsingleton.elim h 0
  pointwise []
  rw [K2_at, cell_split, B_at]

end

variable (W : Wt) (R : Fin 2048 → Row)

theorem q_y : val_main_v0 (F := Ideal) (A Row.y R)
    = T Row.y R := by
  unfold val_main_v0
  exact to_heads _ _

theorem q_r : val_main_v32 (F := Ideal) (A Row.r R)
    = T Row.r R := by
  unfold val_main_v32
  exact to_heads _ _

theorem q_k : val_main_v33 (F := Ideal) (A Row.k R)
    = T Row.k R := by
  unfold val_main_v33
  exact to_heads _ _

theorem q_v : val_main_v40 (F := Ideal) (A Row.v R)
    = T Row.v R := by
  unfold val_main_v40
  exact to_heads _ _

theorem q_lw : val_main_v24 (F := Ideal) (B W.lw)
    = K2 W.lw := by
  unfold val_main_v24
  exact weight_heads _

theorem q_lb : val_main_v28 (F := Ideal) (B W.lb)
    = K2 W.lb := by
  unfold val_main_v28
  exact weight_heads _

theorem q_mean : val_main_v4 (F := Ideal) (A Row.y R)
    = T3 (fun R b => hs R.y b * (1 / 64)) R := by
  unfold val_main_v4 val_main_v2 val_main_v1
  rw [q_y]
  funext j
  obtain ⟨a, h, d, rfl⟩ := exists_ix3 j
  pointwise [val_main_cst, val_main_v3, val_main_cst_0]
  simp only [A_at, B_at, T_at, T2_at, T3_at, K2_at, c_64, c_two, c_neg_half, c_ln, Fin.sum_univ_one, zero_add, sg_val, div64, ← EReal.coe_mul, ← EReal.coe_add,
    ← EReal.coe_sub, ← EReal.coe_neg, ← coe_sum]
  refine congrArg (fun x : ℝ => (x : EReal)) ?_
  rw [hs_cell]

theorem q_yc : val_main_v6 (F := Ideal) (A Row.y R)
    = T yc R := by
  unfold val_main_v6 val_main_v5
  rw [q_y, q_mean]
  funext j
  obtain ⟨a, h, d, rfl⟩ := exists_ix3 j
  pointwise []
  simp only [A_at, B_at, T_at, T2_at, T3_at, K2_at, c_64, c_two, c_neg_half, c_ln, Fin.sum_univ_one, zero_add, sg_val, div64, ← EReal.coe_mul, ← EReal.coe_add,
    ← EReal.coe_sub, ← EReal.coe_neg, ← coe_sum]
  refine congrArg (fun x : ℝ => (x : EReal)) ?_
  unfold yc; rw [hs_cell, hs_cell]

theorem q_yc2 : val_main_v15 (F := Ideal) (A Row.y R)
    = T yc R := by
  unfold val_main_v15 val_main_v14
  rw [q_y, q_mean]
  funext j
  obtain ⟨a, h, d, rfl⟩ := exists_ix3 j
  pointwise []
  simp only [A_at, B_at, T_at, T2_at, T3_at, K2_at, c_64, c_two, c_neg_half, c_ln, Fin.sum_univ_one, zero_add, sg_val, div64, ← EReal.coe_mul, ← EReal.coe_add,
    ← EReal.coe_sub, ← EReal.coe_neg, ← coe_sum]
  refine congrArg (fun x : ℝ => (x : EReal)) ?_
  unfold yc; rw [hs_cell, hs_cell]

theorem q_var : val_main_v17 (F := Ideal) (A Row.y R)
    = T3 var R := by
  unfold val_main_v17 val_main_v13 val_main_v11 val_main_v10 val_main_v7
  rw [q_yc]
  funext j
  obtain ⟨a, h, d, rfl⟩ := exists_ix3 j
  pointwise [val_main_cst_2, val_main_v12, val_main_cst_3, val_main_v16, val_main_cst_4]
  simp only [A_at, B_at, T_at, T2_at, T3_at, K2_at, c_64, c_two, c_neg_half, c_ln, Fin.sum_univ_one, zero_add, sg_val, div64, ← EReal.coe_mul, ← EReal.coe_add,
    ← EReal.coe_sub, ← EReal.coe_neg, ← coe_sum]
  refine congrArg (fun x : ℝ => (x : EReal)) ?_
  unfold var; rw [hs_cell]

theorem q_rstd : val_main_v18 (F := Ideal) (A Row.y R)
    = T3 rstd R := by
  unfold val_main_v18
  rw [q_var]
  funext j
  obtain ⟨a, h, d, rfl⟩ := exists_ix3 j
  pointwise []
  simp only [A_at, B_at, T_at, T2_at, T3_at, K2_at, c_64, c_two, c_neg_half, c_ln, Fin.sum_univ_one, zero_add, sg_val, div64, ← EReal.coe_mul, ← EReal.coe_add,
    ← EReal.coe_sub, ← EReal.coe_neg, ← coe_sum]
  exact rt_val (var_pos _ _)

theorem q_yn : val_main_v23 (F := Ideal) (A Row.y R)
    = T yn R := by
  unfold val_main_v23 val_main_v22
  rw [q_yc2, q_rstd]
  funext j
  obtain ⟨a, h, d, rfl⟩ := exists_ix3 j
  pointwise []
  simp only [A_at, B_at, T_at, T2_at, T3_at, K2_at, c_64, c_two, c_neg_half, c_ln, Fin.sum_univ_one, zero_add, sg_val, div64, ← EReal.coe_mul, ← EReal.coe_add,
    ← EReal.coe_sub, ← EReal.coe_neg, ← coe_sum]
  refine congrArg (fun x : ℝ => (x : EReal)) ?_
  rw [← rstd_lane (R a) (cell h 0) d, lane_cell]; rfl

theorem q_rkk : val_main_v39 (F := Ideal) (A Row.r R) (A Row.k R) (K2 W.rk)
    = T3 (rkk W) R := by
  unfold val_main_v39 val_main_v38 val_main_v37 val_main_v34
  rw [q_r, q_k]
  funext j
  obtain ⟨a, h, d, rfl⟩ := exists_ix3 j
  pointwise [val_main_cst_6, val_main_v36, val_main_v35]
  simp only [A_at, B_at, T_at, T2_at, T3_at, K2_at, c_64, c_two, c_neg_half, c_ln, Fin.sum_univ_one, zero_add, sg_val, div64, ← EReal.coe_mul, ← EReal.coe_add,
    ← EReal.coe_sub, ← EReal.coe_neg, ← coe_sum]
  refine congrArg (fun x : ℝ => (x : EReal)) ?_
  unfold rkk; rw [hs_cell]; rfl

theorem q_pre3 : val_main_v43 (F := Ideal) (A Row.y R) (A Row.r R) (A Row.k R) (A Row.v R) (B W.lw) (B W.lb) (K2 W.rk)
    = T (pre W) R := by
  unfold val_main_v43 val_main_v31 val_main_v27 val_main_v42 val_main_v41 val_main_v26 val_main_v25 val_main_v30 val_main_v29
  rw [q_yn, q_lw, q_lb, q_rkk, q_v]
  funext j
  obtain ⟨a, h, d, rfl⟩ := exists_ix3 j
  pointwise []
  simp only [A_at, B_at, T_at, T2_at, T3_at, K2_at, c_64, c_two, c_neg_half, c_ln, Fin.sum_univ_one, zero_add, sg_val, div64, ← EReal.coe_mul, ← EReal.coe_add,
    ← EReal.coe_sub, ← EReal.coe_neg, ← coe_sum]
  refine congrArg (fun x : ℝ => (x : EReal)) ?_
  rw [← rkk_lane W (R a) (cell h 0) d, lane_cell]; rfl

theorem q_pre : val_main_v44 (F := Ideal) (A Row.y R) (A Row.r R) (A Row.k R) (A Row.v R) (B W.lw) (B W.lb) (K2 W.rk)
    = A (pre W) R := by
  unfold val_main_v44
  rw [q_pre3]; exact from_heads _ _

theorem q_sga : val_main_v45_2 (F := Ideal) (A Row.ga R)
    = A sga R := by
  funext j
  obtain ⟨a, b, rfl⟩ := exists_ix2 j
  pointwise [val_main_v45_2, val_main_call0_v4, val_main_call0_cst_0, val_main_call0_v3, val_main_call0_v2, val_main_call0_cst, val_main_call0_v1, val_main_call0_v0]
  simp only [A_at, B_at, T_at, T2_at, T3_at, K2_at, c_64, c_two, c_neg_half, c_ln, Fin.sum_univ_one, zero_add, sg_val, div64, ← EReal.coe_mul, ← EReal.coe_add,
    ← EReal.coe_sub, ← EReal.coe_neg, ← coe_sum]
  rw [EReal.coe_neg, sg_val]; rfl

theorem q_dpre : val_main_v48 (F := Ideal) (A Row.dm R) (A Row.ga R)
    = A dpre R := by
  unfold val_main_v48 val_main_v45_0
  rw [q_sga]
  funext j
  obtain ⟨a, b, rfl⟩ := exists_ix2 j
  pointwise []
  simp only [A_at, B_at, T_at, T2_at, T3_at, K2_at, c_64, c_two, c_neg_half, c_ln, Fin.sum_univ_one, zero_add, sg_val, div64, ← EReal.coe_mul, ← EReal.coe_add,
    ← EReal.coe_sub, ← EReal.coe_neg, ← coe_sum]
  all_goals rfl

theorem q_dga : val_main_v49 (F := Ideal) (A Row.dm R) (A Row.y R) (A Row.r R) (A Row.k R) (A Row.v R) (A Row.ga R) (B W.lw) (B W.lb) (K2 W.rk)
    = A (dga W) R := by
  unfold val_main_v49 val_main_call1_v1 val_main_call1_v2 val_main_call1_v0 val_main_v47 val_main_v45_1 val_main_call0_v7
  rw [q_pre, q_sga]
  funext j
  obtain ⟨a, b, rfl⟩ := exists_ix2 j
  pointwise [val_main_call0_v6, val_main_call0_cst_1]
  simp only [A_at, B_at, T_at, T2_at, T3_at, K2_at, c_64, c_two, c_neg_half, c_ln, Fin.sum_univ_one, zero_add, sg_val, div64, ← EReal.coe_mul, ← EReal.coe_add,
    ← EReal.coe_sub, ← EReal.coe_neg, ← coe_sum, one_sub_val]
  refine congrArg (fun x : ℝ => (x : EReal)) ?_
  unfold dga; ring

theorem q_dpreh : val_main_v50 (F := Ideal) (A Row.dm R) (A Row.ga R)
    = T dpre R := by
  unfold val_main_v50
  rw [q_dpre]; exact to_heads _ _

theorem q_dvb3 : val_main_v52 (F := Ideal) (A Row.dm R) (A Row.r R) (A Row.k R) (A Row.ga R) (K2 W.rk)
    = T (dvb W) R := by
  unfold val_main_v52 val_main_v51
  rw [q_rkk, q_dpreh]
  funext j
  obtain ⟨a, h, d, rfl⟩ := exists_ix3 j
  pointwise []
  simp only [A_at, B_at, T_at, T2_at, T3_at, K2_at, c_64, c_two, c_neg_half, c_ln, Fin.sum_univ_one, zero_add, sg_val, div64, ← EReal.coe_mul, ← EReal.coe_add,
    ← EReal.coe_sub, ← EReal.coe_neg, ← coe_sum]
  refine congrArg (fun x : ℝ => (x : EReal)) ?_
  rw [← rkk_lane W (R a) (cell h 0) d, lane_cell]; exact mul_comm _ _

theorem q_dvb : val_main_v56 (F := Ideal) (A Row.dm R) (A Row.r R) (A Row.k R) (A Row.ga R) (K2 W.rk)
    = A (dvb W) R := by
  unfold val_main_v56
  rw [q_dvb3]; exact from_heads _ _

theorem q_drkk : val_main_v58 (F := Ideal) (A Row.dm R) (A Row.v R) (A Row.ga R)
    = T drkk R := by
  unfold val_main_v58 val_main_v57 val_main_v55 val_main_v54 val_main_v53
  rw [q_dpreh, q_v]
  funext j
  obtain ⟨a, h, d, rfl⟩ := exists_ix3 j
  pointwise [val_main_cst_7, val_main_cst_8]
  simp only [A_at, B_at, T_at, T2_at, T3_at, K2_at, c_64, c_two, c_neg_half, c_ln, Fin.sum_univ_one, zero_add, sg_val, div64, ← EReal.coe_mul, ← EReal.coe_add,
    ← EReal.coe_sub, ← EReal.coe_neg, ← coe_sum]
  refine congrArg (fun x : ℝ => (x : EReal)) ?_
  unfold drkk; rw [hs_cell]; rfl

theorem q_dkb3 : val_main_v65 (F := Ideal) (A Row.dm R) (A Row.r R) (A Row.v R) (A Row.ga R) (K2 W.rk)
    = T (dkb W) R := by
  unfold val_main_v65 val_main_v63 val_main_v62 val_main_v35
  rw [q_r, q_drkk]
  funext j
  obtain ⟨a, h, d, rfl⟩ := exists_ix3 j
  pointwise []
  simp only [A_at, B_at, T_at, T2_at, T3_at, K2_at, c_64, c_two, c_neg_half, c_ln, Fin.sum_univ_one, zero_add, sg_val, div64, ← EReal.coe_mul, ← EReal.coe_add,
    ← EReal.coe_sub, ← EReal.coe_neg, ← coe_sum]
  refine congrArg (fun x : ℝ => (x : EReal)) ?_
  unfold dkb; ring

theorem q_dkb : val_main_v67 (F := Ideal) (A Row.dm R) (A Row.r R) (A Row.v R) (A Row.ga R) (K2 W.rk)
    = A (dkb W) R := by
  unfold val_main_v67
  rw [q_dkb3]; exact from_heads _ _

theorem q_drb3 : val_main_v66 (F := Ideal) (A Row.dm R) (A Row.k R) (A Row.v R) (A Row.ga R) (K2 W.rk)
    = T (drb W) R := by
  unfold val_main_v66 val_main_v63 val_main_v62 val_main_v35
  rw [q_k, q_drkk]
  funext j
  obtain ⟨a, h, d, rfl⟩ := exists_ix3 j
  pointwise []
  simp only [A_at, B_at, T_at, T2_at, T3_at, K2_at, c_64, c_two, c_neg_half, c_ln, Fin.sum_univ_one, zero_add, sg_val, div64, ← EReal.coe_mul, ← EReal.coe_add,
    ← EReal.coe_sub, ← EReal.coe_neg, ← coe_sum]
  refine congrArg (fun x : ℝ => (x : EReal)) ?_
  unfold drb; ring

theorem q_drb : val_main_v68 (F := Ideal) (A Row.dm R) (A Row.k R) (A Row.v R) (A Row.ga R) (K2 W.rk)
    = A (drb W) R := by
  unfold val_main_v68
  rw [q_drb3]; exact from_heads _ _

theorem q_dlb2 : val_main_v71 (F := Ideal) (A Row.dm R) (A Row.ga R)
    = K2 (fun b => ∑ n, dpre (R n) b) := by
  unfold val_main_v71 val_main_v70 val_main_v69
  rw [q_dpreh]
  funext j
  obtain ⟨a, b, rfl⟩ := exists_ix2 j
  pointwise [val_main_cst_11, val_main_cst_12]
  simp only [A_at, B_at, T_at, T2_at, T3_at, K2_at, c_64, c_two, c_neg_half, c_ln, Fin.sum_univ_one, zero_add, sg_val, div64, ← EReal.coe_mul, ← EReal.coe_add,
    ← EReal.coe_sub, ← EReal.coe_neg, ← coe_sum]
  all_goals rfl

theorem q_dlb : val_main_v72 (F := Ideal) (A Row.dm R) (A Row.ga R)
    = B (fun b => ∑ n, dpre (R n) b) := by
  unfold val_main_v72
  rw [q_dlb2]; exact heads_weight _

theorem q_dlw2 : val_main_v78 (F := Ideal) (A Row.dm R) (A Row.y R) (A Row.ga R)
    = K2 (fun b => ∑ n, dlw (R n) b) := by
  unfold val_main_v78 val_main_v75 val_main_v74 val_main_v73
  rw [q_yn, q_dpreh]
  funext j
  obtain ⟨a, b, rfl⟩ := exists_ix2 j
  pointwise [val_main_cst_13, val_main_cst_14]
  simp only [A_at, B_at, T_at, T2_at, T3_at, K2_at, c_64, c_two, c_neg_half, c_ln, Fin.sum_univ_one, zero_add, sg_val, div64, ← EReal.coe_mul, ← EReal.coe_add,
    ← EReal.coe_sub, ← EReal.coe_neg, ← coe_sum]
  refine congrArg (fun x : ℝ => (x : EReal)) ?_
  exact Finset.sum_congr rfl fun n _ => mul_comm _ _

theorem q_dlw : val_main_v79 (F := Ideal) (A Row.dm R) (A Row.y R) (A Row.ga R)
    = B (fun b => ∑ n, dlw (R n) b) := by
  unfold val_main_v79
  rw [q_dlw2]; exact heads_weight _

theorem q_drk2 : val_main_v64 (F := Ideal) (A Row.dm R) (A Row.r R) (A Row.k R) (A Row.v R) (A Row.ga R)
    = K2 (fun b => ∑ n, drk (R n) b) := by
  unfold val_main_v64 val_main_v61 val_main_v60 val_main_v59 val_main_v34
  rw [q_r, q_k, q_drkk]
  funext j
  obtain ⟨a, b, rfl⟩ := exists_ix2 j
  pointwise [val_main_cst_9, val_main_cst_10]
  simp only [A_at, B_at, T_at, T2_at, T3_at, K2_at, c_64, c_two, c_neg_half, c_ln, Fin.sum_univ_one, zero_add, sg_val, div64, ← EReal.coe_mul, ← EReal.coe_add,
    ← EReal.coe_sub, ← EReal.coe_neg, ← coe_sum]
  refine congrArg (fun x : ℝ => (x : EReal)) ?_
  refine Finset.sum_congr rfl fun n _ => ?_; unfold drk; ring

theorem q_drk : val_main_v105 (F := Ideal) (A Row.dm R) (A Row.r R) (A Row.k R) (A Row.v R) (A Row.ga R)
    = B (fun b => ∑ n, drk (R n) b) := by
  unfold val_main_v105
  rw [q_drk2]; exact heads_weight _

theorem q_dyn : val_main_v77 (F := Ideal) (A Row.dm R) (A Row.ga R) (B W.lw)
    = T (dyn W) R := by
  unfold val_main_v77 val_main_v76 val_main_v25
  rw [q_dpreh, q_lw]
  funext j
  obtain ⟨a, h, d, rfl⟩ := exists_ix3 j
  pointwise []
  simp only [A_at, B_at, T_at, T2_at, T3_at, K2_at, c_64, c_two, c_neg_half, c_ln, Fin.sum_univ_one, zero_add, sg_val, div64, ← EReal.coe_mul, ← EReal.coe_add,
    ← EReal.coe_sub, ← EReal.coe_neg, ← coe_sum]
  all_goals rfl

theorem q_dynr : val_main_v84 (F := Ideal) (A Row.dm R) (A Row.y R) (A Row.ga R) (B W.lw)
    = T (fun R b => dyn W R b * rstd R b) R := by
  unfold val_main_v84 val_main_v83
  rw [q_dyn, q_rstd]
  funext j
  obtain ⟨a, h, d, rfl⟩ := exists_ix3 j
  pointwise []
  simp only [A_at, B_at, T_at, T2_at, T3_at, K2_at, c_64, c_two, c_neg_half, c_ln, Fin.sum_univ_one, zero_add, sg_val, div64, ← EReal.coe_mul, ← EReal.coe_add,
    ← EReal.coe_sub, ← EReal.coe_neg, ← coe_sum]
  refine congrArg (fun x : ℝ => (x : EReal)) ?_
  rw [← rstd_lane (R a) (cell h 0) d, lane_cell]

/-- What the reference multiplies the centred numbers by. -/
def gc (R : Row) (b : Fin 512) : ℝ := hs (fun b => yc R b * dyn W R b) b * (-1 / 2 * (rstd R b * (1 / var R b))) * (1 / 64)

theorem gc_lane (R : Row) (b : Fin 512) (d : Fin 64) : gc W R (lane b d) = gc W R b := by unfold gc; rw [hs_lane, rstd_lane, var_lane]

theorem div_var (R : Row) (x : ℝ) (b : Fin 512) : Ideal.div (x : EReal) (var R b : EReal) = ((x * (1 / var R b) : ℝ) : EReal) := by
  rw [Ideal.div_coe (var_pos R b).ne', ← EReal.coe_mul]

theorem q_gc : val_main_v92 (F := Ideal) (A Row.dm R) (A Row.y R) (A Row.ga R) (B W.lw)
    = T (gc W) R := by
  unfold val_main_v92 val_main_v91 val_main_v90 val_main_v85 val_main_v82 val_main_v81 val_main_v80 val_main_v21 val_main_v19
  rw [q_yc2, q_dyn, q_rstd, q_var]
  funext j
  obtain ⟨a, h, d, rfl⟩ := exists_ix3 j
  pointwise [val_main_cst_18, val_main_v89, val_main_cst_17, val_main_cst_15, val_main_v20, val_main_cst_5]
  simp only [A_at, B_at, T_at, T2_at, T3_at, K2_at, c_64, c_two, c_neg_half, c_ln, Fin.sum_univ_one, zero_add, sg_val, div64, ← EReal.coe_mul, ← EReal.coe_add,
    ← EReal.coe_sub, ← EReal.coe_neg, ← coe_sum, div_var]
  refine congrArg (fun x : ℝ => (x : EReal)) ?_
  rw [← gc_lane W (R a) (cell h d) 0, lane_cell]; unfold gc; rw [hs_cell]

theorem q_gy : val_main_v93 (F := Ideal) (A Row.dm R) (A Row.y R) (A Row.ga R) (B W.lw)
    = T (fun R b => gc W R b * (2 * yc R b)) R := by
  unfold val_main_v93 val_main_v9
  rw [q_gc, q_yc]
  funext j
  obtain ⟨a, h, d, rfl⟩ := exists_ix3 j
  pointwise [val_main_v8, val_main_cst_1]
  simp only [A_at, B_at, T_at, T2_at, T3_at, K2_at, c_64, c_two, c_neg_half, c_ln, Fin.sum_univ_one, zero_add, sg_val, div64, ← EReal.coe_mul, ← EReal.coe_add,
    ← EReal.coe_sub, ← EReal.coe_neg, ← coe_sum]
  all_goals rfl

/-- The centred numbers of a head add to zero. -/
theorem sum_yc (R : Row) (h : Fin 8) : ∑ e, yc R (cell h e) = 0 := by
  have e1 : ∀ e : Fin 64, yc R (cell h e) = R.y (cell h e) - (∑ d, R.y (cell h d)) * (1 / 64) := fun e => by unfold yc; rw [hs_cell]
  simp only [e1, Finset.sum_sub_distrib, Finset.sum_const, Finset.card_univ, Fintype.card_fin, nsmul_eq_mul]
  ring

/-- The two forms of the gradient through the norm of a head. -/
theorem dy_eq (R : Row) (h : Fin 8) (d : Fin 64) :
    dyn W R (cell h d) * rstd R (cell h d) + gc W R (cell h d) * (2 * yc R (cell h d))
      + ((∑ e, -(dyn W R (cell h e) * rstd R (cell h e))) + ∑ e, -(gc W R (cell h e) * (2 * yc R (cell h e)))) * (1 / 64) = dy W R (cell h d) := by
  have hr : ∀ e, rstd R (cell h e) = rstd R (cell h d) := fun e => by rw [← rstd_lane R (cell h d) e, lane_cell]
  have hg : ∀ e, gc W R (cell h e) = gc W R (cell h d) := fun e => by rw [← gc_lane W R (cell h d) e, lane_cell]
  have hv : rstd R (cell h d) * (1 / var R (cell h d)) = rstd R (cell h d) * rstd R (cell h d) * rstd R (cell h d) := rt_div (var_pos R (cell h d))
  have s1 : (∑ e, -(dyn W R (cell h e) * rstd R (cell h e))) = -((∑ e, dyn W R (cell h e)) * rstd R (cell h d)) := by
    simp only [hr, Finset.sum_neg_distrib, Finset.sum_mul]
  have s2 : (∑ e, -(gc W R (cell h e) * (2 * yc R (cell h e)))) = 0 := by
    have : ∀ e, -(gc W R (cell h e) * (2 * yc R (cell h e))) = -(gc W R (cell h d) * 2) * yc R (cell h e) := fun e => by rw [hg]; ring
    simp only [this, ← Finset.mul_sum, sum_yc, mul_zero]
  have s3 : (∑ e, dyn W R (cell h e) * yn R (cell h e)) = (∑ e, yc R (cell h e) * dyn W R (cell h e)) * rstd R (cell h d) := by
    rw [Finset.sum_mul]
    exact Finset.sum_congr rfl fun e _ => by unfold yn; rw [hr]; ring
  rw [s1, s2]
  unfold gc dy m1 m2
  rw [hv, hs_cell, hs_cell, hs_cell, s3]
  unfold yn
  ring

theorem q_dy3 : val_main_v103 (F := Ideal) (A Row.dm R) (A Row.y R) (A Row.ga R) (B W.lw)
    = T (dy W) R := by
  unfold val_main_v103 val_main_v102 val_main_v101 val_main_v100 val_main_v98 val_main_v97 val_main_v96 val_main_v95 val_main_v94 val_main_v88 val_main_v87 val_main_v86
  rw [q_dynr, q_gy]
  funext j
  obtain ⟨a, h, d, rfl⟩ := exists_ix3 j
  pointwise [val_main_cst_21, val_main_v99, val_main_cst_20, val_main_cst_16, val_main_cst_19]
  simp only [A_at, B_at, T_at, T2_at, T3_at, K2_at, c_64, c_two, c_neg_half, c_ln, Fin.sum_univ_one, zero_add, sg_val, div64, ← EReal.coe_mul, ← EReal.coe_add,
    ← EReal.coe_sub, ← EReal.coe_neg, ← coe_sum]
  refine congrArg (fun x : ℝ => (x : EReal)) ?_
  exact dy_eq W (R a) h d

theorem q_dy : val_main_v104 (F := Ideal) (A Row.dm R) (A Row.y R) (A Row.ga R) (B W.lw)
    = A (dy W) R := by
  unfold val_main_v104
  rw [q_dy3]; exact from_heads _ _

end Cert.Proof.Post

end
-- ==== Proof.PostVal.lean ====
/- What `rwkv_post_bwd` leaves at each grid point, when memory holds real numbers. -/
module

public import proofs.«01_k».proof.Proof.PostKer
public import proofs.«01_k».proof.Proof.PostRef
public import proofs.«01_k».proof.Proof.Gen.PostIdeal.Value
public import Idealize.ShloMosaic.Lib.Pipeline.ReadBack

@[expose] public section

set_option maxRecDepth 16384

noncomputable section

namespace Cert.Proof.Post

open Idealize.ShloMosaic Idealize.ShloMosaic.TcCoe Idealize.SL.Sem Cert.Proof
open Cert.PostIdeal Cert.PostIdeal.Gen

/-- Memory holds these rows and weights. -/
structure Holds (W : Wt) (R : Fin 2048 → Row) (m : (ℓ : Loc nD τ sig) → Buf (Elt Ideal) ℓ) (c : Dev nD) : Prop where
  dm : m ((c : Thread nD τ).loc main_arg0) = A Row.dm R
  y : m ((c : Thread nD τ).loc main_arg1) = A Row.y R
  r : m ((c : Thread nD τ).loc main_arg2) = A Row.r R
  k : m ((c : Thread nD τ).loc main_arg3) = A Row.k R
  v : m ((c : Thread nD τ).loc main_arg4) = A Row.v R
  ga : m ((c : Thread nD τ).loc main_arg5) = A Row.ga R
  lw : m ((c : Thread nD τ).loc main_arg6) = B W.lw
  lb : m ((c : Thread nD τ).loc main_arg7) = B W.lb
  rk : m ((c : Thread nD τ).loc main_arg8) = K2 W.rk

variable {W : Wt} {R : Fin 2048 → Row} {m : (ℓ : Loc nD τ sig) → Buf (Elt Ideal) ℓ} {c : Dev nD} (H : Holds W R m c) (t : Fin cfg0.N)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![0, 0] ∧ win0_7.index t = ![0, 0] ∧ win0_8.index t = ![0, 0] ∧ win0_9.index t = ![t.val, 0] ∧ win0_10.index t = ![t.val, 0] ∧ win0_11.index t = ![t.val, 0] ∧ win0_12.index t = ![t.val, 0] ∧ win0_13.index t = ![t.val, 0] ∧ win0_14.index t = ![0, 0] ∧ win0_15.index t = ![0, 0] ∧ win0_16.index t = ![0, 0] ∧ t.val < 8 :=
  (by decide +kernel : ∀ t : Fin grid0.N, _)

/-- The row of the arrays a block's row is. -/
def row (t : Fin cfg0.N) (a : Fin 256) : Fin 2048 := ⟨t.val * 256 + a.val, by have := (idx t).2.2.2.2.2.2.2.2.2.2.2.2.2.2.2.2.2; omega⟩

include H in
theorem arr_rk : V m c main_v0 = B W.rk := by
  simp only [V, List.flatten_cons, List.flatten_nil, List.append_nil, List.cons_append, List.nil_append]
  after_results
  refine (congrArg (fun x : FVec Ideal S8x64 .f32 => shapeCast S1x512 x shapeCasts_S8x64_S1x512) H.rk).trans ?_
  exact heads_weight _

include H in
theorem blk0 : iblk m c 0 t = A Row.dm (fun a => R (row t a)) := by
  funext j
  idx_vars j
  blk_simp [iblk]
  refine (congrFun ((V_main_arg0 m c).trans H.dm) _).trans ?_
  refine Eq.trans (b := A Row.dm R (ix2 (row t j0) j1)) ?_ rfl
  refine congrArg (A Row.dm R) ?_
  blk_ext [iblk, V, idx t]
  all_goals rfl

include H in
theorem blk1 : iblk m c 1 t = A Row.y (fun a => R (row t a)) := by
  funext j
  idx_vars j
  blk_simp [iblk]
  refine (congrFun ((V_main_arg1 m c).trans H.y) _).trans ?_
  refine Eq.trans (b := A Row.y R (ix2 (row t j0) j1)) ?_ rfl
  refine congrArg (A Row.y R) ?_
  blk_ext [iblk, V, idx t]
  all_goals rfl

include H in
theorem blk2 : iblk m c 2 t = A Row.r (fun a => R (row t a)) := by
  funext j
  idx_vars j
  blk_simp [iblk]
  refine (congrFun ((V_main_arg2 m c).trans H.r) _).trans ?_
  refine Eq.trans (b := A Row.r R (ix2 (row t j0) j1)) ?_ rfl
  refine congrArg (A Row.r R) ?_
  blk_ext [iblk, V, idx t]
  all_goals rfl

include H in
theorem blk3 : iblk m c 3 t = A Row.k (fun a => R (row t a)) := by
  funext j
  idx_vars j
  blk_simp [iblk]
  refine (congrFun ((V_main_arg3 m c).trans H.k) _).trans ?_
  refine Eq.trans (b := A Row.k R (ix2 (row t j0) j1)) ?_ rfl
  refine congrArg (A Row.k R) ?_
  blk_ext [iblk, V, idx t]
  all_goals rfl

include H in
theorem blk4 : iblk m c 4 t = A Row.v (fun a => R (row t a)) := by
  funext j
  idx_vars j
  blk_simp [iblk]
  refine (congrFun ((V_main_arg4 m c).trans H.v) _).trans ?_
  refine Eq.trans (b := A Row.v R (ix2 (row t j0) j1)) ?_ rfl
  refine congrArg (A Row.v R) ?_
  blk_ext [iblk, V, idx t]
  all_goals rfl

include H in
theorem blk5 : iblk m c 5 t = A Row.ga (fun a => R (row t a)) := by
  funext j
  idx_vars j
  blk_simp [iblk]
  refine (congrFun ((V_main_arg5 m c).trans H.ga) _).trans ?_
  refine Eq.trans (b := A Row.ga R (ix2 (row t j0) j1)) ?_ rfl
  refine congrArg (A Row.ga R) ?_
  blk_ext [iblk, V, idx t]
  all_goals rfl

include H in
theorem blk6 : iblk m c 6 t = B W.lw := by
  funext j
  idx_vars j
  blk_simp [iblk]
  refine (congrFun ((V_main_arg6 m c).trans H.lw) _).trans ?_
  refine Eq.trans (b := B W.lw (ix2 j0 j1)) ?_ rfl
  refine congrArg (B W.lw) ?_
  blk_ext [iblk, V, idx t]

include H in
theorem blk7 : iblk m c 7 t = B W.lb := by
  funext j
  idx_vars j
  blk_simp [iblk]
  refine (congrFun ((V_main_arg7 m c).trans H.lb) _).trans ?_
  refine Eq.trans (b := B W.lb (ix2 j0 j1)) ?_ rfl
  refine congrArg (B W.lb) ?_
  blk_ext [iblk, V, idx t]

include H in
theorem blk8 : iblk m c 8 t = B W.rk := by
  rw [← arr_rk H]
  funext j
  blk_simp [iblk]
  refine congrArg (V m c main_v0) ?_
  blk_ext [iblk, V, idx t]

include H in
theorem dy_A (h : t.val % 8 = 0) (a : Fin 256) (b : Fin 512) : (outsAt0 m c t.val t.isLt).1 (ix2 a b) = ((dy W (R (row t a)) b : ℝ) : EReal) := by
  rw [outsAt0_A m c t h]
  frame_out
  simp only [blk0 H t, blk1 H t, blk2 H t, blk3 H t, blk4 H t, blk5 H t, blk6 H t, blk7 H t, blk8 H t, k_yc, k_rstd, k_yn, k_rk, k_rkp, k_rkk, k_sga, k_dga, k_dpre, k_dyn, k_m1, k_dy, k_dvb, k_dpv, k_drkk, k_drb, k_dkb]
  rfl

include H in
theorem dy_B (h : ¬ t.val % 8 = 0) (a : Fin 256) (b : Fin 512) : (outsAt0 m c t.val t.isLt).1 (ix2 a b) = ((dy W (R (row t a)) b : ℝ) : EReal) := by
  rw [outsAt0_B m c t h]
  frame_out
  simp only [blk0 H t, blk1 H t, blk2 H t, blk3 H t, blk4 H t, blk5 H t, blk6 H t, blk7 H t, blk8 H t, k_yc, k_rstd, k_yn, k_rk, k_rkp, k_rkk, k_sga, k_dga, k_dpre, k_dyn, k_m1, k_dy, k_dvb, k_dpv, k_drkk, k_drb, k_dkb]
  rfl

include H in
theorem drb_A (h : t.val % 8 = 0) (a : Fin 256) (b : Fin 512) : (outsAt0 m c t.val t.isLt).2.1 (ix2 a b) = ((drb W (R (row t a)) b : ℝ) : EReal) := by
  rw [outsAt0_A m c t h]
  frame_out
  simp only [blk0 H t, blk1 H t, blk2 H t, blk3 H t, blk4 H t, blk5 H t, blk6 H t, blk7 H t, blk8 H t, k_yc, k_rstd, k_yn, k_rk, k_rkp, k_rkk, k_sga, k_dga, k_dpre, k_dyn, k_m1, k_dy, k_dvb, k_dpv, k_drkk, k_drb, k_dkb]
  rfl

include H in
theorem drb_B (h : ¬ t.val % 8 = 0) (a : Fin 256) (b : Fin 512) : (outsAt0 m c t.val t.isLt).2.1 (ix2 a b) = ((drb W (R (row t a)) b : ℝ) : EReal) := by
  rw [outsAt0_B m c t h]
  frame_out
  simp only [blk0 H t, blk1 H t, blk2 H t, blk3 H t, blk4 H t, blk5 H t, blk6 H t, blk7 H t, blk8 H t, k_yc, k_rstd, k_yn, k_rk, k_rkp, k_rkk, k_sga, k_dga, k_dpre, k_dyn, k_m1, k_dy, k_dvb, k_dpv, k_drkk, k_drb, k_dkb]
  rfl

include H in
theorem dkb_A (h : t.val % 8 = 0) (a : Fin 256) (b : Fin 512) : (outsAt0 m c t.val t.isLt).2.2.1 (ix2 a b) = ((dkb W (R (row t a)) b : ℝ) : EReal) := by
  rw [outsAt0_A m c t h]
  frame_out
  simp only [blk0 H t, blk1 H t, blk2 H t, blk3 H t, blk4 H t, blk5 H t, blk6 H t, blk7 H t, blk8 H t, k_yc, k_rstd, k_yn, k_rk, k_rkp, k_rkk, k_sga, k_dga, k_dpre, k_dyn, k_m1, k_dy, k_dvb, k_dpv, k_drkk, k_drb, k_dkb]
  rfl

include H in
theorem dkb_B (h : ¬ t.val % 8 = 0) (a : Fin 256) (b : Fin 512) : (outsAt0 m c t.val t.isLt).2.2.1 (ix2 a b) = ((dkb W (R (row t a)) b : ℝ) : EReal) := by
  rw [outsAt0_B m c t h]
  frame_out
  simp only [blk0 H t, blk1 H t, blk2 H t, blk3 H t, blk4 H t, blk5 H t, blk6 H t, blk7 H t, blk8 H t, k_yc, k_rstd, k_yn, k_rk, k_rkp, k_rkk, k_sga, k_dga, k_dpre, k_dyn, k_m1, k_dy, k_dvb, k_dpv, k_drkk, k_drb, k_dkb]
  rfl

include H in
theorem dvb_A (h : t.val % 8 = 0) (a : Fin 256) (b : Fin 512) : (outsAt0 m c t.val t.isLt).2.2.2.1 (ix2 a b) = ((dvb W (R (row t a)) b : ℝ) : EReal) := by
  rw [outsAt0_A m c t h]
  frame_out
  simp only [blk0 H t, blk1 H t, blk2 H t, blk3 H t, blk4 H t, blk5 H t, blk6 H t, blk7 H t, blk8 H t, k_yc, k_rstd, k_yn, k_rk, k_rkp, k_rkk, k_sga, k_dga, k_dpre, k_dyn, k_m1, k_dy, k_dvb, k_dpv, k_drkk, k_drb, k_dkb]
  rfl

include H in
theorem dvb_B (h : ¬ t.val % 8 = 0) (a : Fin 256) (b : Fin 512) : (outsAt0 m c t.val t.isLt).2.2.2.1 (ix2 a b) = ((dvb W (R (row t a)) b : ℝ) : EReal) := by
  rw [outsAt0_B m c t h]
  frame_out
  simp only [blk0 H t, blk1 H t, blk2 H t, blk3 H t, blk4 H t, blk5 H t, blk6 H t, blk7 H t, blk8 H t, k_yc, k_rstd, k_yn, k_rk, k_rkp, k_rkk, k_sga, k_dga, k_dpre, k_dyn, k_m1, k_dy, k_dvb, k_dpv, k_drkk, k_drb, k_dkb]
  rfl

include H in
theorem dga_A (h : t.val % 8 = 0) (a : Fin 256) (b : Fin 512) : (outsAt0 m c t.val t.isLt).2.2.2.2.1 (ix2 a b) = ((dga W (R (row t a)) b : ℝ) : EReal) := by
  rw [outsAt0_A m c t h]
  frame_out
  simp only [blk0 H t, blk1 H t, blk2 H t, blk3 H t, blk4 H t, blk5 H t, blk6 H t, blk7 H t, blk8 H t, k_yc, k_rstd, k_yn, k_rk, k_rkp, k_rkk, k_sga, k_dga, k_dpre, k_dyn, k_m1, k_dy, k_dvb, k_dpv, k_drkk, k_drb, k_dkb]
  rfl

include H in
theorem dga_B (h : ¬ t.val % 8 = 0) (a : Fin 256) (b : Fin 512) : (outsAt0 m c t.val t.isLt).2.2.2.2.1 (ix2 a b) = ((dga W (R (row t a)) b : ℝ) : EReal) := by
  rw [outsAt0_B m c t h]
  frame_out
  simp only [blk0 H t, blk1 H t, blk2 H t, blk3 H t, blk4 H t, blk5 H t, blk6 H t, blk7 H t, blk8 H t, k_yc, k_rstd, k_yn, k_rk, k_rkp, k_rkk, k_sga, k_dga, k_dpre, k_dyn, k_m1, k_dy, k_dvb, k_dpv, k_drkk, k_drb, k_dkb]
  rfl

include H in
theorem dlw_A (h : t.val % 8 = 0) (a : Fin 1) (b : Fin 512) : (outsAt0 m c t.val t.isLt).2.2.2.2.2.1 (ix2 a b)
    = 0 + ((∑ n, dlw (R (row t n)) b : ℝ) : EReal) := by
  rw [outsAt0_A m c t h]
  frame_out
  simp only [blk0 H t, blk1 H t, blk2 H t, blk3 H t, blk4 H t, blk5 H t, blk6 H t, blk7 H t, blk8 H t, k_yc, k_rstd, k_yn, k_rk, k_rkp, k_rkk, k_sga, k_dga, k_dpre, k_dyn, k_m1, k_dy, k_dvb, k_dpv, k_drkk, k_drb, k_dkb]
  refine (k_dlw _ _ a b).trans (congrArg (· + _) ?_)
  pointwise [k0_pay3]

include H in
theorem dlw_B (h : ¬ t.val % 8 = 0) (a : Fin 1) (b : Fin 512) : (outsAt0 m c t.val t.isLt).2.2.2.2.2.1 (ix2 a b)
    = (outsAt0 m c (t.val - 1) (Nat.lt_of_le_of_lt (Nat.sub_le _ _) t.isLt)).2.2.2.2.2.1 (ix2 a b) + ((∑ n, dlw (R (row t n)) b : ℝ) : EReal) := by
  rw [outsAt0_B m c t h]
  frame_out
  simp only [blk0 H t, blk1 H t, blk2 H t, blk3 H t, blk4 H t, blk5 H t, blk6 H t, blk7 H t, blk8 H t, k_yc, k_rstd, k_yn, k_rk, k_rkp, k_rkk, k_sga, k_dga, k_dpre, k_dyn, k_m1, k_dy, k_dvb, k_dpv, k_drkk, k_drb, k_dkb]
  refine (k_dlw _ _ a b).trans (congrArg (· + _) ?_)
  try rfl

include H in
theorem dlb_A (h : t.val % 8 = 0) (a : Fin 1) (b : Fin 512) : (outsAt0 m c t.val t.isLt).2.2.2.2.2.2.1 (ix2 a b)
    = 0 + ((∑ n, dpre (R (row t n)) b : ℝ) : EReal) := by
  rw [outsAt0_A m c t h]
  frame_out
  simp only [blk0 H t, blk1 H t, blk2 H t, blk3 H t, blk4 H t, blk5 H t, blk6 H t, blk7 H t, blk8 H t, k_yc, k_rstd, k_yn, k_rk, k_rkp, k_rkk, k_sga, k_dga, k_dpre, k_dyn, k_m1, k_dy, k_dvb, k_dpv, k_drkk, k_drb, k_dkb]
  refine (k_dlb _ _ a b).trans (congrArg (· + _) ?_)
  pointwise [k0_pay4]

include H in
theorem dlb_B (h : ¬ t.val % 8 = 0) (a : Fin 1) (b : Fin 512) : (outsAt0 m c t.val t.isLt).2.2.2.2.2.2.1 (ix2 a b)
    = (outsAt0 m c (t.val - 1) (Nat.lt_of_le_of_lt (Nat.sub_le _ _) t.isLt)).2.2.2.2.2.2.1 (ix2 a b) + ((∑ n, dpre (R (row t n)) b : ℝ) : EReal) := by
  rw [outsAt0_B m c t h]
  frame_out
  simp only [blk0 H t, blk1 H t, blk2 H t, blk3 H t, blk4 H t, blk5 H t, blk6 H t, blk7 H t, blk8 H t, k_yc, k_rstd, k_yn, k_rk, k_rkp, k_rkk, k_sga, k_dga, k_dpre, k_dyn, k_m1, k_dy, k_dvb, k_dpv, k_drkk, k_drb, k_dkb]
  refine (k_dlb _ _ a b).trans (congrArg (· + _) ?_)
  try rfl

include H in
theorem drk_A (h : t.val % 8 = 0) (a : Fin 1) (b : Fin 512) : (outsAt0 m c t.val t.isLt).2.2.2.2.2.2.2 (ix2 a b)
    = 0 + ((∑ n, drk (R (row t n)) b : ℝ) : EReal) := by
  rw [outsAt0_A m c t h]
  frame_out
  simp only [blk0 H t, blk1 H t, blk2 H t, blk3 H t, blk4 H t, blk5 H t, blk6 H t, blk7 H t, blk8 H t, k_yc, k_rstd, k_yn, k_rk, k_rkp, k_rkk, k_sga, k_dga, k_dpre, k_dyn, k_m1, k_dy, k_dvb, k_dpv, k_drkk, k_drb, k_dkb]
  refine (k_drk _ _ a b).trans (congrArg (· + _) ?_)
  pointwise [k0_pay5]

include H in
theorem drk_B (h : ¬ t.val % 8 = 0) (a : Fin 1) (b : Fin 512) : (outsAt0 m c t.val t.isLt).2.2.2.2.2.2.2 (ix2 a b)
    = (outsAt0 m c (t.val - 1) (Nat.lt_of_le_of_lt (Nat.sub_le _ _) t.isLt)).2.2.2.2.2.2.2 (ix2 a b) + ((∑ n, drk (R (row t n)) b : ℝ) : EReal) := by
  rw [outsAt0_B m c t h]
  frame_out
  simp only [blk0 H t, blk1 H t, blk2 H t, blk3 H t, blk4 H t, blk5 H t, blk6 H t, blk7 H t, blk8 H t, k_yc, k_rstd, k_yn, k_rk, k_rkp, k_rkk, k_sga, k_dga, k_dpre, k_dyn, k_m1, k_dy, k_dvb, k_dpv, k_drkk, k_drb, k_dkb]
  refine (k_drk _ _ a b).trans (congrArg (· + _) ?_)
  try rfl

end Cert.Proof.Post

end
-- ==== Proof.PostEnd.lean ====
/- `rwkv_post_bwd`: the final arrays, and the claims. -/
module

public import proofs.«01_k».proof.Proof.PostVal
public import proofs.«01_k».proof.Proof.Gen.PostRefIdeal.Run
public import proofs.«01_k».proof.Proof.Gen.Pre_finite_post
public import Idealize.ShloMosaic.Lib.Claim

@[expose] public section

set_option maxRecDepth 16384

noncomputable section

namespace Cert.Proof.Post

open Idealize.ShloMosaic Idealize.ShloMosaic.TcCoe Idealize.SL.Sem Cert.Proof
open Cert.PostIdeal Cert.PostIdeal.Gen

variable {W : Wt} {R : Fin 2048 → Row} {m : (ℓ : Loc nD τ sig) → Buf (Elt Ideal) ℓ} {c : Dev nD} (H : Holds W R m c)

theorem sum_rows (f : Row → ℝ) : ∑ t : Fin cfg0.N, ((∑ x : Fin 256, f (R (row t x)) : ℝ) : EReal) = ((∑ n : Fin 2048, f (R n) : ℝ) : EReal) := by
  rw [← coe_sum]
  refine congrArg (fun x : ℝ => (x : EReal)) ?_
  rw [← Fin.sum_mul_add_fin 8 256 (fun n => f (R n)) rfl]
  rfl

include H in
theorem arr_dy : (dats m 0 c).arrAt 9 cfg0.N = A (dy W) R := by
  refine (dats m 0 c).arrAt_eq_of_covers 9 _ (by decide +kernel) fun t hf y => ?_
  have e : ∀ j, (outsAt0 m c t.val t.isLt).1 j = ((dy W (R (row t (j 0))) (j 1) : ℝ) : EReal) := fun j => by
    idx_vars j
    by_cases h : t.val % 8 = 0
    · exact dy_A H t h _ _
    · exact dy_B H t h _ _
  blk_simp
  rw [after0_9, e]
  refine congrArg₂ (fun r b => ((dy W (R r) b : ℝ) : EReal)) (Fin.ext ?_) (Fin.ext ?_) <;> blk_simp [idx t]
  all_goals rfl

include H in
theorem arr_drb : (dats m 0 c).arrAt 10 cfg0.N = A (drb W) R := by
  refine (dats m 0 c).arrAt_eq_of_covers 10 _ (by decide +kernel) fun t hf y => ?_
  have e : ∀ j, (outsAt0 m c t.val t.isLt).2.1 j = ((drb W (R (row t (j 0))) (j 1) : ℝ) : EReal) := fun j => by
    idx_vars j
    by_cases h : t.val % 8 = 0
    · exact drb_A H t h _ _
    · exact drb_B H t h _ _
  blk_simp
  rw [after0_10, e]
  refine congrArg₂ (fun r b => ((drb W (R r) b : ℝ) : EReal)) (Fin.ext ?_) (Fin.ext ?_) <;> blk_simp [idx t]
  all_goals rfl

include H in
theorem arr_dkb : (dats m 0 c).arrAt 11 cfg0.N = A (dkb W) R := by
  refine (dats m 0 c).arrAt_eq_of_covers 11 _ (by decide +kernel) fun t hf y => ?_
  have e : ∀ j, (outsAt0 m c t.val t.isLt).2.2.1 j = ((dkb W (R (row t (j 0))) (j 1) : ℝ) : EReal) := fun j => by
    idx_vars j
    by_cases h : t.val % 8 = 0
    · exact dkb_A H t h _ _
    · exact dkb_B H t h _ _
  blk_simp
  rw [after0_11, e]
  refine congrArg₂ (fun r b => ((dkb W (R r) b : ℝ) : EReal)) (Fin.ext ?_) (Fin.ext ?_) <;> blk_simp [idx t]
  all_goals rfl

include H in
theorem arr_dvb : (dats m 0 c).arrAt 12 cfg0.N = A (dvb W) R := by
  refine (dats m 0 c).arrAt_eq_of_covers 12 _ (by decide +kernel) fun t hf y => ?_
  have e : ∀ j, (outsAt0 m c t.val t.isLt).2.2.2.1 j = ((dvb W (R (row t (j 0))) (j 1) : ℝ) : EReal) := fun j => by
    idx_vars j
    by_cases h : t.val % 8 = 0
    · exact dvb_A H t h _ _
    · exact dvb_B H t h _ _
  blk_simp
  rw [after0_12, e]
  refine congrArg₂ (fun r b => ((dvb W (R r) b : ℝ) : EReal)) (Fin.ext ?_) (Fin.ext ?_) <;> blk_simp [idx t]
  all_goals rfl

include H in
theorem arr_dga : (dats m 0 c).arrAt 13 cfg0.N = A (dga W) R := by
  refine (dats m 0 c).arrAt_eq_of_covers 13 _ (by decide +kernel) fun t hf y => ?_
  have e : ∀ j, (outsAt0 m c t.val t.isLt).2.2.2.2.1 j = ((dga W (R (row t (j 0))) (j 1) : ℝ) : EReal) := fun j => by
    idx_vars j
    by_cases h : t.val % 8 = 0
    · exact dga_A H t h _ _
    · exact dga_B H t h _ _
  blk_simp
  rw [after0_13, e]
  refine congrArg₂ (fun r b => ((dga W (R r) b : ℝ) : EReal)) (Fin.ext ?_) (Fin.ext ?_) <;> blk_simp [idx t]
  all_goals rfl

include H in
theorem arr_dlw : (dats m 0 c).arrAt 14 cfg0.N = B (fun b => ∑ n, dlw (R n) b) := by
  refine (dats m 0 c).arrAt_eq_of_after_last 14 t0_7 (by decide +kernel) _ fun j => ?_
  idx_vars j
  blk_simp
  rw [after0_14, Pipeline.eq_sum_fin_of_reset_step_apply_last (fun n h => (outsAt0 m c n h).2.2.2.2.2.1) 8 (fun _ => 0)
    (fun t j => ((∑ x : Fin 256, dlw (R (row t x)) (j 1) : ℝ) : EReal))
    (fun t h j => by idx_vars j; exact dlw_A H t h _ _)
    (fun t h j => by idx_vars j; exact dlw_B H t h _ _) (le_of_eq N_0) t0_7 rfl]
  rw [zero_add]
  exact sum_rows fun R => dlw R j1

include H in
theorem arr_dlb : (dats m 0 c).arrAt 15 cfg0.N = B (fun b => ∑ n, dpre (R n) b) := by
  refine (dats m 0 c).arrAt_eq_of_after_last 15 t0_7 (by decide +kernel) _ fun j => ?_
  idx_vars j
  blk_simp
  rw [after0_15, Pipeline.eq_sum_fin_of_reset_step_apply_last (fun n h => (outsAt0 m c n h).2.2.2.2.2.2.1) 8 (fun _ => 0)
    (fun t j => ((∑ x : Fin 256, dpre (R (row t x)) (j 1) : ℝ) : EReal))
    (fun t h j => by idx_vars j; exact dlb_A H t h _ _)
    (fun t h j => by idx_vars j; exact dlb_B H t h _ _) (le_of_eq N_0) t0_7 rfl]
  rw [zero_add]
  exact sum_rows fun R => dpre R j1

include H in
theorem arr_drk : (dats m 0 c).arrAt 16 cfg0.N = B (fun b => ∑ n, drk (R n) b) := by
  refine (dats m 0 c).arrAt_eq_of_after_last 16 t0_7 (by decide +kernel) _ fun j => ?_
  idx_vars j
  blk_simp
  rw [after0_16, Pipeline.eq_sum_fin_of_reset_step_apply_last (fun n h => (outsAt0 m c n h).2.2.2.2.2.2.2) 8 (fun _ => 0)
    (fun t j => ((∑ x : Fin 256, drk (R (row t x)) (j 1) : ℝ) : EReal))
    (fun t h j => by idx_vars j; exact drk_A H t h _ _)
    (fun t h j => by idx_vars j; exact drk_B H t h _ _) (le_of_eq N_0) t0_7 rfl]
  rw [zero_add]
  exact sum_rows fun R => drk R j1

theorem div_cell (h : Fin 8) (d : Fin 64) : (cell h d).val / 64 = h.val := by
  show (h.val * 64 + d.val) / 64 = h.val
  omega

theorem mod_cell (h : Fin 8) (d : Fin 64) : (cell h d).val % 64 = d.val := by
  show (h.val * 64 + d.val) % 64 = d.val
  omega

theorem isA {ρ : Type} {x : (⟨2, ![2048, 512]⟩ : Shape).Idx → EReal} {X : (⟨2, ![2048, 512]⟩ : Shape).Idx → ℝ} (e : x = fun i => (X i : EReal))
    (f : ρ → Fin 512 → ℝ) (R : Fin 2048 → ρ) (h : ∀ n b, f (R n) b = X (ix2 n b)) : x = A f R := by
  subst e
  funext j
  obtain ⟨a, b, rfl⟩ := exists_ix2 j
  rw [A_at, h]

theorem isB {x : (⟨2, ![1, 512]⟩ : Shape).Idx → EReal} {X : (⟨2, ![1, 512]⟩ : Shape).Idx → ℝ} (e : x = fun i => (X i : EReal)) : x = B fun b => X (ix2 0 b) := by
  subst e
  funext j
  obtain ⟨a, b, rfl⟩ := exists_ix2 j
  obtain rfl := Subsingleton.elim a 0
  rfl

theorem isK {x : (⟨2, ![8, 64]⟩ : Shape).Idx → EReal} {X : (⟨2, ![8, 64]⟩ : Shape).Idx → ℝ} (e : x = fun i => (X i : EReal)) :
    x = K2 fun b => X (ix2 ⟨b.val / 64, by omega⟩ ⟨b.val % 64, by omega⟩) := by
  subst e
  funext j
  obtain ⟨a, b, rfl⟩ := exists_ix2 j
  rw [K2_at]
  exact congrArg (fun i => (X i : EReal)) (congrArg₂ ix2 (Fin.ext (div_cell a b)) (Fin.ext (mod_cell a b))).symm

theorem holds_of_pre (m : (ℓ : Loc nD τ sig) → Buf (Elt Ideal) ℓ) (c : Dev nD) (hpre : Cert.Pre_PostIdeal_finite_post m) : ∃ (W : Wt) (R : Fin 2048 → Row), Holds W R m c := by
  have h := congrFun (hpre c) (fun d => d.elim0)
  simp only [Cert.Pre_finite_post.fn, Cert.Pre_finite_post.fn_part1, Cert.Pre_finite_post.fn_part2, andi, IntOp.andi_eq_one] at h
  obtain ⟨⟨⟨⟨⟨⟨⟨⟨h0, h1⟩, h2⟩, h3⟩, h4⟩, h5⟩, h6⟩, h7⟩, h8⟩ := h
  obtain ⟨a0, e0⟩ := exists_real (isReal_of_all _ _ (fun _ => c_top) _ _ _ _ _ _ h0)
  obtain ⟨a1, e1⟩ := exists_real (isReal_of_all _ _ (fun _ => c_top) _ _ _ _ _ _ h1)
  obtain ⟨a2, e2⟩ := exists_real (isReal_of_all _ _ (fun _ => c_top) _ _ _ _ _ _ h2)
  obtain ⟨a3, e3⟩ := exists_real (isReal_of_all _ _ (fun _ => c_top) _ _ _ _ _ _ h3)
  obtain ⟨a4, e4⟩ := exists_real (isReal_of_all _ _ (fun _ => c_top) _ _ _ _ _ _ h4)
  obtain ⟨a5, e5⟩ := exists_real (isReal_of_all _ _ (fun _ => c_top) _ _ _ _ _ _ h5)
  obtain ⟨a6, e6⟩ := exists_real (isReal_of_all _ _ (fun _ => c_top) _ _ _ _ _ _ h6)
  obtain ⟨a7, e7⟩ := exists_real (isReal_of_all _ _ (fun _ => c_top) _ _ _ _ _ _ h7)
  obtain ⟨a8, e8⟩ := exists_real (isReal_of_all _ _ (fun _ => c_top) _ _ _ _ _ _ h8)
  exact ⟨⟨_, _, _⟩, fun n => ⟨fun b => a0 (ix2 n b), fun b => a1 (ix2 n b), fun b => a2 (ix2 n b), fun b => a3 (ix2 n b), fun b => a4 (ix2 n b), fun b => a5 (ix2 n b)⟩,
    isA e0 _ _ fun _ _ => rfl, isA e1 _ _ fun _ _ => rfl, isA e2 _ _ fun _ _ => rfl, isA e3 _ _ fun _ _ => rfl, isA e4 _ _ fun _ _ => rfl, isA e5 _ _ fun _ _ => rfl, isB e6, isB e7, isK e8⟩

theorem frame_ref : Cert.quiescent_PostRefIdeal (hPostRefIdeal := Cert.PostRefIdeal.Gen.facts) :=
  fun m g _ => θ_run_mono (Cert.PostRefIdeal.Value.run m g) fun _ hr => ⟨fun c => (hr c).2.2.2.2.2.2.2.2, sem_eq_zero_of_no_sems rfl _⟩

theorem algebraic : Cert.algebraic_PostIdeal_PostRefIdeal_pre_finite_post (hPostIdeal := Cert.PostIdeal.Gen.facts) (hPostRefIdeal := Cert.PostRefIdeal.Gen.facts) := by
  intro m g m' g' hpre hargs
  choose W R H using fun c => holds_of_pre m c hpre
  refine ⟨fun c => (A (dy (W c)) (R c) : S2048x512.Idx → EReal),
    fun c => (A (drb (W c)) (R c) : S2048x512.Idx → EReal),
    fun c => (A (dkb (W c)) (R c) : S2048x512.Idx → EReal),
    fun c => (A (dvb (W c)) (R c) : S2048x512.Idx → EReal),
    fun c => (A (dga (W c)) (R c) : S2048x512.Idx → EReal),
    fun c => (B (fun b => ∑ n, dlw (R c n) b) : S1x512.Idx → EReal),
    fun c => (B (fun b => ∑ n, dpre (R c n) b) : S1x512.Idx → EReal),
    fun c => (B (fun b => ∑ n, drk (R c n) b) : S1x512.Idx → EReal), ?_, ?_⟩
  · refine θ_run_mono (Cert.PostIdeal.Value.run_blocks m g) fun r hr c => ?_
    obtain ⟨r0, r1, r2, r3, r4, r5, r6, r7, rs⟩ := hr c
    exact ⟨r0.trans (arr_dy (H c)), r1.trans (arr_drb (H c)), r2.trans (arr_dkb (H c)), r3.trans (arr_dvb (H c)), r4.trans (arr_dga (H c)), r5.trans (arr_dlw (H c)), r6.trans (arr_dlb (H c)), r7.trans (arr_drk (H c)), rs⟩
  · refine θ_run_mono (Cert.PostRefIdeal.Value.run m' g') fun r hr c => ?_
    obtain ⟨r0, r1, r2, r3, r4, r5, r6, r7, rs⟩ := hr c
    obtain ⟨a0, a1, a2, a3, a4, a5, a6, a7, a8⟩ := hargs c
    have b0 := a0.trans (H c).dm
    have b1 := a1.trans (H c).y
    have b2 := a2.trans (H c).r
    have b3 := a3.trans (H c).k
    have b4 := a4.trans (H c).v
    have b5 := a5.trans (H c).ga
    have b6 := a6.trans (H c).lw
    have b7 := a7.trans (H c).lb
    have b8 := a8.trans (H c).rk
    refine ⟨(r0.trans (Cert.PostRefIdeal.Read.val_main_v104_eq ..)).trans ?_, (r1.trans (Cert.PostRefIdeal.Read.val_main_v68_eq ..)).trans ?_, (r2.trans (Cert.PostRefIdeal.Read.val_main_v67_eq ..)).trans ?_, (r3.trans (Cert.PostRefIdeal.Read.val_main_v56_eq ..)).trans ?_, (r4.trans (Cert.PostRefIdeal.Read.val_main_v49_eq ..)).trans ?_, (r5.trans (Cert.PostRefIdeal.Read.val_main_v79_eq ..)).trans ?_, (r6.trans (Cert.PostRefIdeal.Read.val_main_v72_eq ..)).trans ?_, (r7.trans (Cert.PostRefIdeal.Read.val_main_v105_eq ..)).trans ?_, rs⟩
    all_goals simp only [b0, b1, b2, b3, b4, b5, b6, b7, b8]
    · exact q_dy ..
    · exact q_drb ..
    · exact q_dkb ..
    · exact q_dvb ..
    · exact q_dga ..
    · exact q_dlw ..
    · exact q_dlb ..
    · exact q_drk ..

end Cert.Proof.Post

end
-- ==== Proof.DwRwkv.lean ====
/- `dw_rwkv`: the accumulated product of the transposed hidden states with the recurrent columns' gradient is the product over
   all rows. -/
module

public import proofs.«01_k».proof.Defs
public import proofs.«01_k».proof.Proof.Common
public import proofs.«01_k».proof.Proof.Gen.DwRwkvIdeal.Value
public import proofs.«01_k».proof.Proof.Gen.DwRwkvRefIdeal.Run
public import proofs.«01_k».proof.Proof.Gen.DwRwkvRefIdeal.Read
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.Proof.DwRwkv

open Idealize.ShloMosaic Idealize.ShloMosaic.TcCoe Idealize.SL.Sem
open Cert.DwRwkvIdeal Cert.DwRwkvIdeal.Gen

/-- An entry of the weight gradient. -/
def dw (h : (⟨2, ![2048, 1024]⟩ : Shape).Idx → EReal) (g : (⟨2, ![2048, 2176]⟩ : Shape).Idx → EReal) (i : Fin 1024) (j : Fin 2176) : EReal :=
  ∑ n : Fin 2048, h (ix2 n i) * g (ix2 n j)

/-- An entry of the reference. -/
theorem ref_val (h : (⟨2, ![2048, 1024]⟩ : Shape).Idx → EReal) (g : (⟨2, ![2048, 2176]⟩ : Shape).Idx → EReal) :
    Cert.DwRwkvRefIdeal.Read.val_main_v4 (F := Ideal) h g = fun i => dw h g (i 0) (i 1) := by
  funext j
  idx_vars j
  pointwise [Cert.DwRwkvRefIdeal.Read.val_main_v4, Cert.DwRwkvRefIdeal.Read.val_main_v3, Cert.DwRwkvRefIdeal.Read.val_main_v1]
  exact Finset.sum_congr rfl fun n _ => mul_comm _ _

variable {m : (ℓ : Loc nD τ sig) → Buf (Elt Ideal) ℓ} {c : Dev nD} (t : Fin cfg0.N)

/-- The first argument in memory. -/
abbrev hid (m : (ℓ : Loc nD τ sig) → Buf (Elt Ideal) ℓ) (c : Dev nD) : (⟨2, ![2048, 1024]⟩ : Shape).Idx → EReal := m ((c : Thread nD τ).loc main_arg0)

/-- The second argument in memory. -/
abbrev grad (m : (ℓ : Loc nD τ sig) → Buf (Elt Ideal) ℓ) (c : Dev nD) : (⟨2, ![2048, 2176]⟩ : Shape).Idx → EReal := m ((c : Thread nD τ).loc main_arg1)

theorem idx : ∀ t : Fin cfg0.N, win0_0.index t = ![0, t.val] ∧ win0_1.index t = ![t.val, 0] ∧ win0_2.index t = ![0, 0] ∧ t.val < 4 :=
  (by decide +kernel : ∀ t : Fin grid0.N, _)

/-- The row of the arrays a block's row is. -/
def row (t : Fin cfg0.N) (a : Fin 512) : Fin 2048 := ⟨t.val * 512 + a.val, by have := (idx t).2.2.2; omega⟩

theorem arr_ht : V m c main_v0 = fun i => hid m c (ix2 (i 1) (i 0)) := by
  simp only [V, List.flatten_cons, List.flatten_nil, List.append_nil, List.cons_append, List.nil_append]
  after_results
  funext j
  idx_vars j
  pointwise []

theorem blk0 : iblk m c 0 t = fun i : S1024x512.Idx => hid m c (ix2 (row t (i 1)) (i 0)) := by
  funext j
  blk_simp [iblk]
  rw [arr_ht]
  refine congrArg _ (congrArg₂ _ (Fin.ext ?_) (Fin.ext ?_)) <;> blk_simp [idx t] <;> rfl

theorem blk1 : iblk m c 1 t = fun i : S512x2176.Idx => grad m c (ix2 (row t (i 0)) (i 1)) := by
  funext j
  blk_simp [iblk]
  refine (congrFun (V_main_arg1 m c) _).trans ?_
  refine congrArg (m ((c : Thread nD τ).loc main_arg1)) ?_
  blk_ext [iblk, V, idx t]
  rfl

theorem acc_val (acc : Vec Ideal S1024x2176 .f32) (x : Vec Ideal S1024x512 .bf16) (y : Vec Ideal S512x2176 .f32) (i : Fin 1024) (j : Fin 2176) :
    k0_pay2 acc x y (ix2 i j) = acc (ix2 i j) + ∑ k : Fin 512, x (ix2 i k) * y (ix2 k j) := by
  pointwise [k0_pay2]

theorem out_A (h : t.val % 4 = 0) (i : Fin 1024) (j : Fin 2176) :
    outsAt0 m c t.val t.isLt (ix2 i j) = 0 + ∑ k : Fin 512, hid m c (ix2 (row t k) i) * grad m c (ix2 (row t k) j) := by
  rw [outsAt0_A m c t h, Cert.DwRwkvIdeal.Value.out_A_2_eq, blk0, blk1, acc_val]
  refine congrArg₂ (· + ·) ?_ rfl
  pointwise [k0_pay1]

theorem out_B (h : ¬ t.val % 4 = 0) (i : Fin 1024) (j : Fin 2176) :
    outsAt0 m c t.val t.isLt (ix2 i j) = outsAt0 m c (t.val - 1) (Nat.lt_of_le_of_lt (Nat.sub_le _ _) t.isLt) (ix2 i j)
      + ∑ k : Fin 512, hid m c (ix2 (row t k) i) * grad m c (ix2 (row t k) j) := by
  rw [outsAt0_B m c t h, Cert.DwRwkvIdeal.Value.out_B_2_eq, blk0, blk1, acc_val]
  rfl

theorem sum_rows (f : Fin 2048 → EReal) : ∑ t : Fin cfg0.N, ∑ x : Fin 512, f (row t x) = ∑ n : Fin 2048, f n := by
  rw [← Fin.sum_mul_add_fin 4 512 f rfl]
  rfl

theorem arr_dw : (dats m 0 c).arrAt 2 cfg0.N = fun i => dw (hid m c) (grad m c) (i 0) (i 1) := by
  refine (dats m 0 c).arrAt_eq_of_after_last 2 t0_3 (by decide +kernel) _ fun j => ?_
  idx_vars j
  blk_simp
  rw [after0_2, Pipeline.eq_sum_fin_of_reset_step_apply_last (fun n h => outsAt0 m c n h) 4 (fun _ => 0)
    (fun t j => ∑ x : Fin 512, hid m c (ix2 (row t x) (j 0)) * grad m c (ix2 (row t x) (j 1)))
    (fun t h j => by idx_vars j; exact out_A t h _ _) (fun t h j => by idx_vars j; exact out_B t h _ _) (le_of_eq N_0) t0_3 rfl]
  rw [zero_add]
  exact sum_rows fun n => hid m c (ix2 n _) * grad m c (ix2 n _)

theorem frame_ref : Cert.quiescent_DwRwkvRefIdeal (hDwRwkvRefIdeal := Cert.DwRwkvRefIdeal.Gen.facts) :=
  fun m g _ => θ_run_mono (Cert.DwRwkvRefIdeal.Value.run m g) fun _ hr => ⟨fun c => (hr c).2, sem_eq_zero_of_no_sems rfl _⟩

theorem algebraic : Cert.algebraic_DwRwkvIdeal_DwRwkvRefIdeal (hDwRwkvIdeal := Cert.DwRwkvIdeal.Gen.facts) (hDwRwkvRefIdeal := Cert.DwRwkvRefIdeal.Gen.facts) := by
  intro m g m' g' _ hargs
  refine ⟨fun c => (fun i => dw (hid m c) (grad m c) (i 0) (i 1) : S1024x2176.Idx → EReal), ?_, ?_⟩
  · refine θ_run_mono (Cert.DwRwkvIdeal.Value.run_blocks m g) fun r hr c => ?_
    obtain ⟨r0, rs⟩ := hr c
    exact ⟨r0.trans arr_dw, rs⟩
  · refine θ_run_mono (Cert.DwRwkvRefIdeal.Value.run m' g') fun r hr c => ?_
    obtain ⟨r0, rs⟩ := hr c
    obtain ⟨a0, a1⟩ := hargs c
    refine ⟨(r0.trans (Cert.DwRwkvRefIdeal.Read.val_main_v4_eq _ _)).trans ?_, rs⟩
    rw [a0, a1]
    exact ref_val _ _

end Cert.Proof.DwRwkv

end
-- ==== Proof.ProjRwkv.lean ====
/- `inproj_rwkv`: the product of the hidden states with the recurrent columns of the input weight, block of rows by block of rows. -/
module

public import proofs.«01_k».proof.Defs
public import proofs.«01_k».proof.Proof.Common
public import proofs.«01_k».proof.Proof.Gen.ProjRwkvIdeal.Value
public import proofs.«01_k».proof.Proof.Gen.ProjRwkvRefIdeal.Run
public import proofs.«01_k».proof.Proof.Gen.ProjRwkvRefIdeal.Read
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.Proof.ProjRwkv

open Idealize.ShloMosaic Idealize.ShloMosaic.TcCoe Idealize.SL.Sem
open Cert.ProjRwkvIdeal Cert.ProjRwkvIdeal.Gen

/-- An entry of the product. -/
def proj (h : (⟨2, ![2048, 1024]⟩ : Shape).Idx → EReal) (w : (⟨2, ![1024, 6280]⟩ : Shape).Idx → EReal) (n : Fin 2048) (j : Fin 2176) : EReal :=
  ∑ k : Fin 1024, h (ix2 n k) * w (ix2 k ⟨0 + j.val, by omega⟩)

/-- An entry of the reference. -/
theorem ref_val (h : (⟨2, ![2048, 1024]⟩ : Shape).Idx → EReal) (w : (⟨2, ![1024, 6280]⟩ : Shape).Idx → EReal) :
    Cert.ProjRwkvRefIdeal.Read.val_main_v3 (F := Ideal) h w = fun i => proj h w (i 0) (i 1) := by
  funext j
  idx_vars j
  pointwise [Cert.ProjRwkvRefIdeal.Read.val_main_v3, Cert.ProjRwkvRefIdeal.Read.val_main_v2, Cert.ProjRwkvRefIdeal.Read.val_main_v1, Cert.ProjRwkvRefIdeal.Read.val_main_v0]
  refine Finset.sum_congr rfl fun k _ => ?_
  refine congrArg (fun x => h _ * w (ix2 _ x)) (Fin.ext ?_)
  simp only [Fin.val_mk]
  all_goals omega

variable {m : (ℓ : Loc nD τ sig) → Buf (Elt Ideal) ℓ} {c : Dev nD} (t : Fin cfg0.N)

variable (m c) in
/-- The first argument in memory. -/
abbrev hid : (⟨2, ![2048, 1024]⟩ : Shape).Idx → EReal := m ((c : Thread nD τ).loc main_arg0)

variable (m c) in
/-- The second argument in memory. -/
abbrev weight : (⟨2, ![1024, 6280]⟩ : Shape).Idx → EReal := m ((c : Thread nD τ).loc main_arg1)

theorem idx : ∀ t : Fin cfg0.N, win0_0.index t = ![t.val, 0] ∧ win0_1.index t = ![0, 0] ∧ win0_2.index t = ![t.val, 0] ∧ t.val < 4 :=
  (by decide +kernel : ∀ t : Fin grid0.N, _)

/-- The row of the arrays a block's row is. -/
def row (t : Fin cfg0.N) (a : Fin 512) : Fin 2048 := ⟨t.val * 512 + a.val, by have := (idx t).2.2.2; omega⟩

theorem arr_w : V m c main_v0 = fun i : S1024x2176.Idx => weight m c (ix2 (i 0) ⟨0 + (i 1).val, by have : (i 1).val < 2176 := (i 1).isLt; omega⟩) := by
  simp only [V, List.flatten_cons, List.flatten_nil, List.append_nil, List.cons_append, List.nil_append]
  after_results
  funext j
  idx_vars j
  pointwise []

theorem blk0 : iblk m c 0 t = fun i : S512x1024.Idx => hid m c (ix2 (row t (i 0)) (i 1)) := by
  funext j
  blk_simp [iblk]
  refine (congrFun (V_main_arg0 m c) _).trans ?_
  refine congrArg (m ((c : Thread nD τ).loc main_arg0)) ?_
  blk_ext [iblk, V, idx t]
  rfl

theorem blk1 : iblk m c 1 t = fun i : S1024x2176.Idx => weight m c (ix2 (i 0) ⟨0 + (i 1).val, by have : (i 1).val < 2176 := (i 1).isLt; omega⟩) := by
  funext j
  blk_simp [iblk]
  rw [arr_w]
  refine congrArg₂ (fun a b => weight m c (ix2 a b)) (Fin.ext ?_) (Fin.ext ?_) <;> blk_simp [idx t]

theorem hz2 : (![0, 0] : Fin 2 → Nat) = fun _ => 0 := by decide

theorem pay_val (x : Vec Ideal S512x1024 .bf16) (y : Vec Ideal S1024x2176 .bf16) (i : Fin 512) (j : Fin 2176) :
    k0_pay1 x y (ix2 i j) = ∑ k : Fin 1024, x (ix2 i k) * y (ix2 k j) := by
  pointwise [k0_pay1]

theorem out_val (i : Fin 512) (j : Fin 2176) :
    out0_2 (iblk m c 0 t) (iblk m c 1 t) (ix2 i j) = proj (hid m c) (weight m c) (row t i) j := by
  unfold out0_2 r0_0 r0_1 r0_2
  rw [View.canon_cons_unit_zero (S := S512x2176) hz2, View.ld_unit_zero (S := S512x1024) hz2, View.ld_unit_zero (S := S1024x2176) hz2, blk0, blk1, pay_val]
  rfl

theorem arr_proj : (dats m 0 c).arrAt 2 cfg0.N = fun i => proj (hid m c) (weight m c) (i 0) (i 1) := by
  refine (dats m 0 c).arrAt_eq_of_covers 2 _ (by decide +kernel) fun t hf y => ?_
  have e : ∀ j, out0_2 (iblk m c 0 t) (iblk m c 1 t) j = proj (hid m c) (weight m c) (row t (j 0)) (j 1) := fun j => by
    idx_vars j
    exact out_val t _ _
  blk_simp
  rw [after0_2, e]
  refine congrArg₂ (proj (hid m c) (weight m c)) (Fin.ext ?_) (Fin.ext ?_) <;> blk_simp [idx t]
  all_goals rfl

theorem frame_ref : Cert.quiescent_ProjRwkvRefIdeal (hProjRwkvRefIdeal := Cert.ProjRwkvRefIdeal.Gen.facts) :=
  fun m g _ => θ_run_mono (Cert.ProjRwkvRefIdeal.Value.run m g) fun _ hr => ⟨fun c => (hr c).2, sem_eq_zero_of_no_sems rfl _⟩

theorem algebraic : Cert.algebraic_ProjRwkvIdeal_ProjRwkvRefIdeal (hProjRwkvIdeal := Cert.ProjRwkvIdeal.Gen.facts) (hProjRwkvRefIdeal := Cert.ProjRwkvRefIdeal.Gen.facts) := by
  intro m g m' g' _ hargs
  refine ⟨fun c => (fun i => proj (hid m c) (weight m c) (i 0) (i 1) : S2048x2176.Idx → EReal), ?_, ?_⟩
  · refine θ_run_mono (Cert.ProjRwkvIdeal.Value.run_blocks m g) fun r hr c => ?_
    obtain ⟨r0, rs⟩ := hr c
    exact ⟨r0.trans arr_proj, rs⟩
  · refine θ_run_mono (Cert.ProjRwkvRefIdeal.Value.run m' g') fun r hr c => ?_
    obtain ⟨r0, rs⟩ := hr c
    obtain ⟨a0, a1⟩ := hargs c
    refine ⟨(r0.trans (Cert.ProjRwkvRefIdeal.Read.val_main_v3_eq ..)).trans ?_, rs⟩
    rw [a0, a1]
    exact ref_val _ _

end Cert.Proof.ProjRwkv

end
-- ==== Proof.ProjGate.lean ====
/- `inproj_gate`: the product of the hidden states with the gate columns of the input weight, block of rows by block of rows. -/
module

public import proofs.«01_k».proof.Defs
public import proofs.«01_k».proof.Proof.Common
public import proofs.«01_k».proof.Proof.Gen.ProjGateIdeal.Value
public import proofs.«01_k».proof.Proof.Gen.ProjGateRefIdeal.Run
public import proofs.«01_k».proof.Proof.Gen.ProjGateRefIdeal.Read
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.Proof.ProjGate

open Idealize.ShloMosaic Idealize.ShloMosaic.TcCoe Idealize.SL.Sem
open Cert.ProjGateIdeal Cert.ProjGateIdeal.Gen

/-- An entry of the product. -/
def proj (h : (⟨2, ![2048, 1024]⟩ : Shape).Idx → EReal) (w : (⟨2, ![1024, 6280]⟩ : Shape).Idx → EReal) (n : Fin 2048) (j : Fin 2048) : EReal :=
  ∑ k : Fin 1024, h (ix2 n k) * w (ix2 k ⟨4232 + j.val, by omega⟩)

/-- An entry of the reference. -/
theorem ref_val (h : (⟨2, ![2048, 1024]⟩ : Shape).Idx → EReal) (w : (⟨2, ![1024, 6280]⟩ : Shape).Idx → EReal) :
    Cert.ProjGateRefIdeal.Read.val_main_v3 (F := Ideal) h w = fun i => proj h w (i 0) (i 1) := by
  funext j
  idx_vars j
  pointwise [Cert.ProjGateRefIdeal.Read.val_main_v3, Cert.ProjGateRefIdeal.Read.val_main_v2, Cert.ProjGateRefIdeal.Read.val_main_v1, Cert.ProjGateRefIdeal.Read.val_main_v0]
  refine Finset.sum_congr rfl fun k _ => ?_
  refine congrArg (fun x => h _ * w (ix2 _ x)) (Fin.ext ?_)
  simp only [Fin.val_mk]
  all_goals omega

variable {m : (ℓ : Loc nD τ sig) → Buf (Elt Ideal) ℓ} {c : Dev nD} (t : Fin cfg0.N)

variable (m c) in
/-- The first argument in memory. -/
abbrev hid : (⟨2, ![2048, 1024]⟩ : Shape).Idx → EReal := m ((c : Thread nD τ).loc main_arg0)

variable (m c) in
/-- The second argument in memory. -/
abbrev weight : (⟨2, ![1024, 6280]⟩ : Shape).Idx → EReal := m ((c : Thread nD τ).loc main_arg1)

theorem idx : ∀ t : Fin cfg0.N, win0_0.index t = ![t.val, 0] ∧ win0_1.index t = ![0, 0] ∧ win0_2.index t = ![t.val, 0] ∧ t.val < 4 :=
  (by decide +kernel : ∀ t : Fin grid0.N, _)

/-- The row of the arrays a block's row is. -/
def row (t : Fin cfg0.N) (a : Fin 512) : Fin 2048 := ⟨t.val * 512 + a.val, by have := (idx t).2.2.2; omega⟩

theorem arr_w : V m c main_v0 = fun i : S1024x2048.Idx => weight m c (ix2 (i 0) ⟨4232 + (i 1).val, by have : (i 1).val < 2048 := (i 1).isLt; omega⟩) := by
  simp only [V, List.flatten_cons, List.flatten_nil, List.append_nil, List.cons_append, List.nil_append]
  after_results
  funext j
  idx_vars j
  pointwise []

theorem blk0 : iblk m c 0 t = fun i : S512x1024.Idx => hid m c (ix2 (row t (i 0)) (i 1)) := by
  funext j
  blk_simp [iblk]
  refine (congrFun (V_main_arg0 m c) _).trans ?_
  refine congrArg (m ((c : Thread nD τ).loc main_arg0)) ?_
  blk_ext [iblk, V, idx t]
  rfl

theorem blk1 : iblk m c 1 t = fun i : S1024x2048.Idx => weight m c (ix2 (i 0) ⟨4232 + (i 1).val, by have : (i 1).val < 2048 := (i 1).isLt; omega⟩) := by
  funext j
  blk_simp [iblk]
  rw [arr_w]
  refine congrArg₂ (fun a b => weight m c (ix2 a b)) (Fin.ext ?_) (Fin.ext ?_) <;> blk_simp [idx t]

theorem hz2 : (![0, 0] : Fin 2 → Nat) = fun _ => 0 := by decide

theorem pay_val (x : Vec Ideal S512x1024 .bf16) (y : Vec Ideal S1024x2048 .bf16) (i : Fin 512) (j : Fin 2048) :
    k0_pay1 x y (ix2 i j) = ∑ k : Fin 1024, x (ix2 i k) * y (ix2 k j) := by
  pointwise [k0_pay1]

theorem out_val (i : Fin 512) (j : Fin 2048) :
    out0_2 (iblk m c 0 t) (iblk m c 1 t) (ix2 i j) = proj (hid m c) (weight m c) (row t i) j := by
  unfold out0_2 r0_0 r0_1 r0_2
  rw [View.canon_cons_unit_zero (S := S512x2048) hz2, View.ld_unit_zero (S := S512x1024) hz2, View.ld_unit_zero (S := S1024x2048) hz2, blk0, blk1, pay_val]
  rfl

theorem arr_proj : (dats m 0 c).arrAt 2 cfg0.N = fun i => proj (hid m c) (weight m c) (i 0) (i 1) := by
  refine (dats m 0 c).arrAt_eq_of_covers 2 _ (by decide +kernel) fun t hf y => ?_
  have e : ∀ j, out0_2 (iblk m c 0 t) (iblk m c 1 t) j = proj (hid m c) (weight m c) (row t (j 0)) (j 1) := fun j => by
    idx_vars j
    exact out_val t _ _
  blk_simp
  rw [after0_2, e]
  refine congrArg₂ (proj (hid m c) (weight m c)) (Fin.ext ?_) (Fin.ext ?_) <;> blk_simp [idx t]
  all_goals rfl

theorem frame_ref : Cert.quiescent_ProjGateRefIdeal (hProjGateRefIdeal := Cert.ProjGateRefIdeal.Gen.facts) :=
  fun m g _ => θ_run_mono (Cert.ProjGateRefIdeal.Value.run m g) fun _ hr => ⟨fun c => (hr c).2, sem_eq_zero_of_no_sems rfl _⟩

theorem algebraic : Cert.algebraic_ProjGateIdeal_ProjGateRefIdeal (hProjGateIdeal := Cert.ProjGateIdeal.Gen.facts) (hProjGateRefIdeal := Cert.ProjGateRefIdeal.Gen.facts) := by
  intro m g m' g' _ hargs
  refine ⟨fun c => (fun i => proj (hid m c) (weight m c) (i 0) (i 1) : S2048x2048.Idx → EReal), ?_, ?_⟩
  · refine θ_run_mono (Cert.ProjGateIdeal.Value.run_blocks m g) fun r hr c => ?_
    obtain ⟨r0, rs⟩ := hr c
    exact ⟨r0.trans arr_proj, rs⟩
  · refine θ_run_mono (Cert.ProjGateRefIdeal.Value.run m' g') fun r hr c => ?_
    obtain ⟨r0, rs⟩ := hr c
    obtain ⟨a0, a1⟩ := hargs c
    refine ⟨(r0.trans (Cert.ProjGateRefIdeal.Read.val_main_v3_eq ..)).trans ?_, rs⟩
    rw [a0, a1]
    exact ref_val _ _

end Cert.Proof.ProjGate

end
-- ==== Proof.AdamwSpec.lean ====
/- `adamw`: one entry of the step. -/
module

public import proofs.«01_k».proof.Proof.Common

@[expose] public section

noncomputable section

namespace Cert.Proof.Adamw

open Idealize.ShloMosaic

/-- The new first moment. -/
def newM (g m : EReal) : EReal := Ideal.ofBits .f32 0x3F666666#32 * m + Ideal.ofBits .f32 0x3DCCCCCD#32 * g

/-- The new second moment. -/
def newV (g v : EReal) : EReal := Ideal.ofBits .f32 0x3F7FBE77#32 * v + Ideal.ofBits .f32 0x3A83126F#32 * (g * g)

/-- The step of the weight. -/
def delta (g w m v : EReal) : EReal :=
  Ideal.ofBits .f32 0xBA83126F#32 * (Ideal.div (Ideal.div (newM g m) (Ideal.ofBits .f32 0x3F26BD02#32))
    (Ideal.sqrt (Ideal.div (newV g v) (Ideal.ofBits .f32 0x3C231ACC#32)) + Ideal.ofBits .f32 0x322BCC77#32)
    + Ideal.ofBits .f32 0x3C23D70A#32 * w)

end Cert.Proof.Adamw

end
-- ==== Proof.AdamwIn.lean ====
/- `adamw` of the input projection: the step on the rows of a block is the step on the array. -/
module

public import proofs.«01_k».proof.Defs
public import proofs.«01_k».proof.Proof.AdamwSpec
public import proofs.«01_k».proof.Proof.Gen.AdamwInIdeal.Value
public import proofs.«01_k».proof.Proof.Gen.AdamwInRefIdeal.Run
public import proofs.«01_k».proof.Proof.Gen.AdamwInRefIdeal.Read
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.Proof.AdamwIn

open Idealize.ShloMosaic Idealize.ShloMosaic.TcCoe Idealize.SL.Sem
open Cert.AdamwInIdeal Cert.AdamwInIdeal.Gen Cert.Proof.Adamw

/-- An array of the shard's shape. -/
abbrev Arr := (⟨2, ![1024, 1570]⟩ : Shape).Idx → EReal

variable {m : (ℓ : Loc nD τ sig) → Buf (Elt Ideal) ℓ} {c : Dev nD} (t : Fin cfg0.N)

theorem hz2 : (![0, 0] : Fin 2 → Nat) = fun _ => 0 := by decide
theorem hz1 : (![0] : Fin 1 → Nat) = fun _ => 0 := by decide

theorem ref_g (x3 x4 : Arr) : Cert.AdamwInRefIdeal.Read.val_main_v0 (F := Ideal) x3 x4 = fun i => x3 i + x4 i := by
  funext j
  idx_vars j
  pointwise [Cert.AdamwInRefIdeal.Read.val_main_v0]

theorem ref_m (x1 x3 x4 : Arr) : Cert.AdamwInRefIdeal.Read.val_main_v5 (F := Ideal) x1 x3 x4 = fun i => newM (x3 i + x4 i) (x1 i) := by
  funext j
  rfl

theorem ref_v (x2 x3 x4 : Arr) : Cert.AdamwInRefIdeal.Read.val_main_v11 (F := Ideal) x2 x3 x4 = fun i => newV (x3 i + x4 i) (x2 i) := by
  funext j
  rfl

theorem ref_d (x0 x1 x2 x3 x4 : Arr) : Cert.AdamwInRefIdeal.Read.val_main_v24 (F := Ideal) x0 x1 x2 x3 x4
    = fun i => delta (x3 i + x4 i) (x0 i) (x1 i) (x2 i) := by
  funext j
  rfl

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![0] ∧ t.val < 4 :=
  (by decide +kernel : ∀ t : Fin grid0.N, _)

/-- The row of the arrays a block's row is. -/
def row (t : Fin cfg0.N) (a : Fin 256) : Fin 1024 := ⟨t.val * 256 + a.val, by have := (idx t).2.2.2.2.2.2.2.2.2.2; omega⟩

variable (m c) in
/-- The arguments in memory. -/
abbrev arg0 : Arr := m ((c : Thread nD τ).loc main_arg0)
variable (m c) in
@[inherit_doc arg0] abbrev arg1 : Arr := m ((c : Thread nD τ).loc main_arg1)
variable (m c) in
@[inherit_doc arg0] abbrev arg2 : Arr := m ((c : Thread nD τ).loc main_arg2)
variable (m c) in
@[inherit_doc arg0] abbrev arg3 : Arr := m ((c : Thread nD τ).loc main_arg3)
variable (m c) in
@[inherit_doc arg0] abbrev arg4 : Arr := m ((c : Thread nD τ).loc main_arg4)

theorem blk0 : iblk m c 0 t = fun i : S256x1570.Idx => arg0 m c (ix2 (row t (i 0)) (i 1)) := by
  funext j
  blk_simp [iblk]
  refine (congrFun (V_main_arg0 m c) _).trans ?_
  refine congrArg (m ((c : Thread nD τ).loc main_arg0)) ?_
  blk_ext [iblk, V, idx t]
  rfl

theorem blk1 : iblk m c 1 t = fun i : S256x1570.Idx => arg1 m c (ix2 (row t (i 0)) (i 1)) := by
  funext j
  blk_simp [iblk]
  refine (congrFun (V_main_arg1 m c) _).trans ?_
  refine congrArg (m ((c : Thread nD τ).loc main_arg1)) ?_
  blk_ext [iblk, V, idx t]
  rfl

theorem blk2 : iblk m c 2 t = fun i : S256x1570.Idx => arg2 m c (ix2 (row t (i 0)) (i 1)) := by
  funext j
  blk_simp [iblk]
  refine (congrFun (V_main_arg2 m c) _).trans ?_
  refine congrArg (m ((c : Thread nD τ).loc main_arg2)) ?_
  blk_ext [iblk, V, idx t]
  rfl

theorem blk3 : iblk m c 3 t = fun i : S256x1570.Idx => arg3 m c (ix2 (row t (i 0)) (i 1)) := by
  funext j
  blk_simp [iblk]
  refine (congrFun (V_main_arg3 m c) _).trans ?_
  refine congrArg (m ((c : Thread nD τ).loc main_arg3)) ?_
  blk_ext [iblk, V, idx t]
  rfl

theorem blk4 : iblk m c 4 t = fun i : S256x1570.Idx => arg4 m c (ix2 (row t (i 0)) (i 1)) := by
  funext j
  blk_simp [iblk]
  refine (congrFun (V_main_arg4 m c) _).trans ?_
  refine congrArg (m ((c : Thread nD τ).loc main_arg4)) ?_
  blk_ext [iblk, V, idx t]
  rfl

theorem out5 : (outsAt0 m c t).1 = k0_pay1 (iblk m c 3 t) (iblk m c 4 t) := by
  unfold outsAt0
  dsimp only
  unfold out0_A_5
  rw [View.read_writes_eq_canon _ _ _ (fun y => cover0_A_5 _ _ _ _ _ _ _ _ _ _ _ _ _ _ _ _ _ _ _ _ _ _ _ _ _ _ _ y)]
  unfold kernelRun0_A
  dsimp only
  sl_unfold_words
  rw [View.canon_cons_unit_zero (S := S256x1570) hz2]
  simp only [View.readAt_eq_ld, Memref.IsWhole.read_unread, View.ld_unit_zero (S := S256x1570) hz2, (hs0_0 t).read_unread, (hs0_1 t).read_unread, (hs0_2 t).read_unread, (hs0_3 t).read_unread, (hs0_4 t).read_unread]

theorem out6 : (outsAt0 m c t).2.1 = k0_pay4 (iblk m c 3 t) (iblk m c 4 t) (iblk m c 0 t) (iblk m c 1 t) (iblk m c 2 t) := by
  unfold outsAt0
  dsimp only
  unfold out0_A_6
  rw [View.read_writes_eq_canon _ _ _ (fun y => cover0_A_6 _ _ _ _ _ _ _ _ _ _ _ _ _ _ _ _ _ _ _ _ _ _ _ _ _ _ _ y)]
  unfold kernelRun0_A
  dsimp only
  sl_unfold_words
  rw [View.canon_cons_unit_zero (S := S256x1570) hz2]
  simp only [View.readAt_eq_ld, Memref.IsWhole.read_unread, View.ld_unit_zero (S := S256x1570) hz2, (hs0_0 t).read_unread, (hs0_1 t).read_unread, (hs0_2 t).read_unread, (hs0_3 t).read_unread, (hs0_4 t).read_unread]

theorem out7 : (outsAt0 m c t).2.2.1 = k0_pay2 (iblk m c 3 t) (iblk m c 4 t) (iblk m c 1 t) := by
  unfold outsAt0
  dsimp only
  unfold out0_A_7
  rw [View.read_writes_eq_canon _ _ _ (fun y => cover0_A_7 _ _ _ _ _ _ _ _ _ _ _ _ _ _ _ _ _ _ _ _ _ _ _ _ _ _ _ y)]
  unfold kernelRun0_A
  dsimp only
  sl_unfold_words
  rw [View.canon_cons_unit_zero (S := S256x1570) hz2]
  simp only [View.readAt_eq_ld, Memref.IsWhole.read_unread, View.ld_unit_zero (S := S256x1570) hz2, (hs0_0 t).read_unread, (hs0_1 t).read_unread, (hs0_2 t).read_unread, (hs0_3 t).read_unread, (hs0_4 t).read_unread]

theorem out8 : (outsAt0 m c t).2.2.2.1 = k0_pay3 (iblk m c 3 t) (iblk m c 4 t) (iblk m c 2 t) := by
  unfold outsAt0
  dsimp only
  unfold out0_A_8
  rw [View.read_writes_eq_canon _ _ _ (fun y => cover0_A_8 _ _ _ _ _ _ _ _ _ _ _ _ _ _ _ _ _ _ _ _ _ _ _ _ _ _ _ y)]
  unfold kernelRun0_A
  dsimp only
  sl_unfold_words
  rw [View.canon_cons_unit_zero (S := S256x1570) hz2]
  simp only [View.readAt_eq_ld, Memref.IsWhole.read_unread, View.ld_unit_zero (S := S256x1570) hz2, (hs0_0 t).read_unread, (hs0_1 t).read_unread, (hs0_2 t).read_unread, (hs0_3 t).read_unread, (hs0_4 t).read_unread]

theorem out9 : (outsAt0 m c t).2.2.2.2 = fun _ => 0#32 := by
  unfold outsAt0
  dsimp only
  unfold out0_A_9
  rw [View.read_writes_eq_canon _ _ _ (fun y => cover0_A_9 _ _ _ _ _ _ _ _ _ _ _ _ _ _ _ _ _ _ _ _ _ _ _ _ _ _ _ y)]
  unfold kernelRun0_A
  dsimp only
  sl_unfold_words
  rw [View.canon_cons_unit_zero (S := S1) hz1]
  rfl

theorem gAt (i : S256x1570.Idx) : (outsAt0 m c t).1 i = (fun i : (⟨2, ![1024, 1570]⟩ : Shape).Idx => arg3 m c i + arg4 m c i) (ix2 (row t (i 0)) (i 1)) := by
  rw [out5, blk3, blk4]
  rfl

theorem arr5 : (dats m 0 c).arrAt 5 cfg0.N = fun i : (⟨2, ![1024, 1570]⟩ : Shape).Idx => arg3 m c i + arg4 m c i := by
  refine (dats m 0 c).arrAt_eq_of_covers 5 _ (by decide +kernel) fun t hf y => ?_
  blk_simp
  rw [after0_5, gAt]
  refine congrArg (fun i : (⟨2, ![1024, 1570]⟩ : Shape).Idx => arg3 m c i + arg4 m c i) ?_
  blk_ext [idx t]
  all_goals rfl

theorem dAt (i : S256x1570.Idx) : (outsAt0 m c t).2.1 i = (fun i : (⟨2, ![1024, 1570]⟩ : Shape).Idx => delta (arg3 m c i + arg4 m c i) (arg0 m c i) (arg1 m c i) (arg2 m c i)) (ix2 (row t (i 0)) (i 1)) := by
  rw [out6, blk3, blk4, blk0, blk1, blk2]
  rfl

theorem arr6 : (dats m 0 c).arrAt 6 cfg0.N = fun i : (⟨2, ![1024, 1570]⟩ : Shape).Idx => delta (arg3 m c i + arg4 m c i) (arg0 m c i) (arg1 m c i) (arg2 m c i) := by
  refine (dats m 0 c).arrAt_eq_of_covers 6 _ (by decide +kernel) fun t hf y => ?_
  blk_simp
  rw [after0_6, dAt]
  refine congrArg (fun i : (⟨2, ![1024, 1570]⟩ : Shape).Idx => delta (arg3 m c i + arg4 m c i) (arg0 m c i) (arg1 m c i) (arg2 m c i)) ?_
  blk_ext [idx t]
  all_goals rfl

theorem mAt (i : S256x1570.Idx) : (outsAt0 m c t).2.2.1 i = (fun i : (⟨2, ![1024, 1570]⟩ : Shape).Idx => newM (arg3 m c i + arg4 m c i) (arg1 m c i)) (ix2 (row t (i 0)) (i 1)) := by
  rw [out7, blk3, blk4, blk1]
  rfl

theorem arr7 : (dats m 0 c).arrAt 7 cfg0.N = fun i : (⟨2, ![1024, 1570]⟩ : Shape).Idx => newM (arg3 m c i + arg4 m c i) (arg1 m c i) := by
  refine (dats m 0 c).arrAt_eq_of_covers 7 _ (by decide +kernel) fun t hf y => ?_
  blk_simp
  rw [after0_7, mAt]
  refine congrArg (fun i : (⟨2, ![1024, 1570]⟩ : Shape).Idx => newM (arg3 m c i + arg4 m c i) (arg1 m c i)) ?_
  blk_ext [idx t]
  all_goals rfl

theorem vAt (i : S256x1570.Idx) : (outsAt0 m c t).2.2.2.1 i = (fun i : (⟨2, ![1024, 1570]⟩ : Shape).Idx => newV (arg3 m c i + arg4 m c i) (arg2 m c i)) (ix2 (row t (i 0)) (i 1)) := by
  rw [out8, blk3, blk4, blk2]
  rfl

theorem arr8 : (dats m 0 c).arrAt 8 cfg0.N = fun i : (⟨2, ![1024, 1570]⟩ : Shape).Idx => newV (arg3 m c i + arg4 m c i) (arg2 m c i) := by
  refine (dats m 0 c).arrAt_eq_of_covers 8 _ (by decide +kernel) fun t hf y => ?_
  blk_simp
  rw [after0_8, vAt]
  refine congrArg (fun i : (⟨2, ![1024, 1570]⟩ : Shape).Idx => newV (arg3 m c i + arg4 m c i) (arg2 m c i)) ?_
  blk_ext [idx t]
  all_goals rfl

theorem arr9 : (dats m 0 c).arrAt 9 cfg0.N = fun _ => 0#32 := by
  refine (dats m 0 c).arrAt_eq_of_covers 9 _ (by decide +kernel) fun t hf y => ?_
  blk_simp
  rw [after0_9, out9]

theorem frame_ref : Cert.quiescent_AdamwInRefIdeal (hAdamwInRefIdeal := Cert.AdamwInRefIdeal.Gen.facts) :=
  fun m g _ => θ_run_mono (Cert.AdamwInRefIdeal.Value.run m g) fun _ hr => ⟨fun c => (hr c).2.2.2.2.2, sem_eq_zero_of_no_sems rfl _⟩

theorem algebraic : Cert.algebraic_AdamwInIdeal_AdamwInRefIdeal (hAdamwInIdeal := Cert.AdamwInIdeal.Gen.facts) (hAdamwInRefIdeal := Cert.AdamwInRefIdeal.Gen.facts) := by
  intro m g m' g' _ hargs
  refine ⟨fun c => (fun i : (⟨2, ![1024, 1570]⟩ : Shape).Idx => arg3 m c i + arg4 m c i), fun c => (fun i : (⟨2, ![1024, 1570]⟩ : Shape).Idx => delta (arg3 m c i + arg4 m c i) (arg0 m c i) (arg1 m c i) (arg2 m c i)),
    fun c => (fun i : (⟨2, ![1024, 1570]⟩ : Shape).Idx => newM (arg3 m c i + arg4 m c i) (arg1 m c i)), fun c => (fun i : (⟨2, ![1024, 1570]⟩ : Shape).Idx => newV (arg3 m c i + arg4 m c i) (arg2 m c i)),
    fun c => (fun _ => 0#32), ?_, ?_⟩
  · refine θ_run_mono (Cert.AdamwInIdeal.Value.run_blocks m g) fun r hr c => ?_
    obtain ⟨r0, r1, r2, r3, r4, rs⟩ := hr c
    exact ⟨r0.trans arr5, r1.trans arr6, r2.trans arr7, r3.trans arr8, r4.trans arr9, rs⟩
  · refine θ_run_mono (Cert.AdamwInRefIdeal.Value.run m' g') fun r hr c => ?_
    obtain ⟨r0, r1, r2, r3, r4, rs⟩ := hr c
    obtain ⟨a0, a1, a2, a3, a4⟩ := hargs c
    refine ⟨(r0.trans (Cert.AdamwInRefIdeal.Read.val_main_v0_eq ..)).trans ?_, (r1.trans (Cert.AdamwInRefIdeal.Read.val_main_v24_eq ..)).trans ?_,
      (r2.trans (Cert.AdamwInRefIdeal.Read.val_main_v5_eq ..)).trans ?_, (r3.trans (Cert.AdamwInRefIdeal.Read.val_main_v11_eq ..)).trans ?_, r4.trans ?_, rs⟩
    · rw [a3, a4]; exact ref_g _ _
    · rw [a0, a1, a2, a3, a4]; exact ref_d _ _ _ _ _
    · rw [a1, a3, a4]; exact ref_m _ _ _
    · rw [a2, a3, a4]; exact ref_v _ _ _
    · rfl

end Cert.Proof.AdamwIn

end
-- ==== Proof.AdamwLora.lean ====
/- `adamw` of a low-rank product: the step on the rows of a block is the step on the array. -/
module

public import proofs.«01_k».proof.Defs
public import proofs.«01_k».proof.Proof.AdamwSpec
public import proofs.«01_k».proof.Proof.Gen.AdamwLoraIdeal.Value
public import proofs.«01_k».proof.Proof.Gen.AdamwLoraRefIdeal.Run
public import proofs.«01_k».proof.Proof.Gen.AdamwLoraRefIdeal.Read
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.Proof.AdamwLora

open Idealize.ShloMosaic Idealize.ShloMosaic.TcCoe Idealize.SL.Sem
open Cert.AdamwLoraIdeal Cert.AdamwLoraIdeal.Gen Cert.Proof.Adamw

/-- An array of the shard's shape. -/
abbrev Arr := (⟨2, ![64, 128]⟩ : Shape).Idx → EReal

variable {m : (ℓ : Loc nD τ sig) → Buf (Elt Ideal) ℓ} {c : Dev nD} (t : Fin cfg0.N)

theorem hz2 : (![0, 0] : Fin 2 → Nat) = fun _ => 0 := by decide
theorem hz1 : (![0] : Fin 1 → Nat) = fun _ => 0 := by decide

theorem ref_g (x3 x4 : Arr) : Cert.AdamwLoraRefIdeal.Read.val_main_v0 (F := Ideal) x3 x4 = fun i => x3 i + x4 i := by
  funext j
  idx_vars j
  pointwise [Cert.AdamwLoraRefIdeal.Read.val_main_v0]

theorem ref_m (x1 x3 x4 : Arr) : Cert.AdamwLoraRefIdeal.Read.val_main_v5 (F := Ideal) x1 x3 x4 = fun i => newM (x3 i + x4 i) (x1 i) := by
  funext j
  rfl

theorem ref_v (x2 x3 x4 : Arr) : Cert.AdamwLoraRefIdeal.Read.val_main_v11 (F := Ideal) x2 x3 x4 = fun i => newV (x3 i + x4 i) (x2 i) := by
  funext j
  rfl

theorem ref_d (x0 x1 x2 x3 x4 : Arr) : Cert.AdamwLoraRefIdeal.Read.val_main_v24 (F := Ideal) x0 x1 x2 x3 x4
    = fun i => delta (x3 i + x4 i) (x0 i) (x1 i) (x2 i) := by
  funext j
  rfl

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![0] ∧ t.val < 1 :=
  (by decide +kernel : ∀ t : Fin grid0.N, _)

/-- The row of the arrays a block's row is. -/
def row (_ : Fin cfg0.N) (a : Fin 64) : Fin 64 := a

variable (m c) in
/-- The arguments in memory. -/
abbrev arg0 : Arr := m ((c : Thread nD τ).loc main_arg0)
variable (m c) in
@[inherit_doc arg0] abbrev arg1 : Arr := m ((c : Thread nD τ).loc main_arg1)
variable (m c) in
@[inherit_doc arg0] abbrev arg2 : Arr := m ((c : Thread nD τ).loc main_arg2)
variable (m c) in
@[inherit_doc arg0] abbrev arg3 : Arr := m ((c : Thread nD τ).loc main_arg3)
variable (m c) in
@[inherit_doc arg0] abbrev arg4 : Arr := m ((c : Thread nD τ).loc main_arg4)

theorem blk0 : iblk m c 0 t = fun i : S64x128.Idx => arg0 m c (ix2 (row t (i 0)) (i 1)) := by
  funext j
  blk_simp [iblk]
  refine (congrFun (V_main_arg0 m c) _).trans ?_
  refine congrArg (m ((c : Thread nD τ).loc main_arg0)) ?_
  blk_ext [iblk, V, idx t]
  rfl

theorem blk1 : iblk m c 1 t = fun i : S64x128.Idx => arg1 m c (ix2 (row t (i 0)) (i 1)) := by
  funext j
  blk_simp [iblk]
  refine (congrFun (V_main_arg1 m c) _).trans ?_
  refine congrArg (m ((c : Thread nD τ).loc main_arg1)) ?_
  blk_ext [iblk, V, idx t]
  rfl

theorem blk2 : iblk m c 2 t = fun i : S64x128.Idx => arg2 m c (ix2 (row t (i 0)) (i 1)) := by
  funext j
  blk_simp [iblk]
  refine (congrFun (V_main_arg2 m c) _).trans ?_
  refine congrArg (m ((c : Thread nD τ).loc main_arg2)) ?_
  blk_ext [iblk, V, idx t]
  rfl

theorem blk3 : iblk m c 3 t = fun i : S64x128.Idx => arg3 m c (ix2 (row t (i 0)) (i 1)) := by
  funext j
  blk_simp [iblk]
  refine (congrFun (V_main_arg3 m c) _).trans ?_
  refine congrArg (m ((c : Thread nD τ).loc main_arg3)) ?_
  blk_ext [iblk, V, idx t]
  rfl

theorem blk4 : iblk m c 4 t = fun i : S64x128.Idx => arg4 m c (ix2 (row t (i 0)) (i 1)) := by
  funext j
  blk_simp [iblk]
  refine (congrFun (V_main_arg4 m c) _).trans ?_
  refine congrArg (m ((c : Thread nD τ).loc main_arg4)) ?_
  blk_ext [iblk, V, idx t]
  rfl

theorem out5 : (outsAt0 m c t).1 = k0_pay1 (iblk m c 3 t) (iblk m c 4 t) := by
  unfold outsAt0
  dsimp only
  unfold out0_A_5
  rw [View.read_writes_eq_canon _ _ _ (fun y => cover0_A_5 _ _ _ _ _ _ _ _ _ _ _ _ _ _ _ _ _ _ _ _ _ _ _ _ _ _ _ y)]
  unfold kernelRun0_A
  dsimp only
  sl_unfold_words
  rw [View.canon_cons_unit_zero (S := S64x128) hz2]
  simp only [View.readAt_eq_ld, Memref.IsWhole.read_unread, View.ld_unit_zero (S := S64x128) hz2, (hs0_0 t).read_unread, (hs0_1 t).read_unread, (hs0_2 t).read_unread, (hs0_3 t).read_unread, (hs0_4 t).read_unread]

theorem out6 : (outsAt0 m c t).2.1 = k0_pay4 (iblk m c 3 t) (iblk m c 4 t) (iblk m c 0 t) (iblk m c 1 t) (iblk m c 2 t) := by
  unfold outsAt0
  dsimp only
  unfold out0_A_6
  rw [View.read_writes_eq_canon _ _ _ (fun y => cover0_A_6 _ _ _ _ _ _ _ _ _ _ _ _ _ _ _ _ _ _ _ _ _ _ _ _ _ _ _ y)]
  unfold kernelRun0_A
  dsimp only
  sl_unfold_words
  rw [View.canon_cons_unit_zero (S := S64x128) hz2]
  simp only [View.readAt_eq_ld, Memref.IsWhole.read_unread, View.ld_unit_zero (S := S64x128) hz2, (hs0_0 t).read_unread, (hs0_1 t).read_unread, (hs0_2 t).read_unread, (hs0_3 t).read_unread, (hs0_4 t).read_unread]

theorem out7 : (outsAt0 m c t).2.2.1 = k0_pay2 (iblk m c 3 t) (iblk m c 4 t) (iblk m c 1 t) := by
  unfold outsAt0
  dsimp only
  unfold out0_A_7
  rw [View.read_writes_eq_canon _ _ _ (fun y => cover0_A_7 _ _ _ _ _ _ _ _ _ _ _ _ _ _ _ _ _ _ _ _ _ _ _ _ _ _ _ y)]
  unfold kernelRun0_A
  dsimp only
  sl_unfold_words
  rw [View.canon_cons_unit_zero (S := S64x128) hz2]
  simp only [View.readAt_eq_ld, Memref.IsWhole.read_unread, View.ld_unit_zero (S := S64x128) hz2, (hs0_0 t).read_unread, (hs0_1 t).read_unread, (hs0_2 t).read_unread, (hs0_3 t).read_unread, (hs0_4 t).read_unread]

theorem out8 : (outsAt0 m c t).2.2.2.1 = k0_pay3 (iblk m c 3 t) (iblk m c 4 t) (iblk m c 2 t) := by
  unfold outsAt0
  dsimp only
  unfold out0_A_8
  rw [View.read_writes_eq_canon _ _ _ (fun y => cover0_A_8 _ _ _ _ _ _ _ _ _ _ _ _ _ _ _ _ _ _ _ _ _ _ _ _ _ _ _ y)]
  unfold kernelRun0_A
  dsimp only
  sl_unfold_words
  rw [View.canon_cons_unit_zero (S := S64x128) hz2]
  simp only [View.readAt_eq_ld, Memref.IsWhole.read_unread, View.ld_unit_zero (S := S64x128) hz2, (hs0_0 t).read_unread, (hs0_1 t).read_unread, (hs0_2 t).read_unread, (hs0_3 t).read_unread, (hs0_4 t).read_unread]

theorem out9 : (outsAt0 m c t).2.2.2.2 = fun _ => 0#32 := by
  unfold outsAt0
  dsimp only
  unfold out0_A_9
  rw [View.read_writes_eq_canon _ _ _ (fun y => cover0_A_9 _ _ _ _ _ _ _ _ _ _ _ _ _ _ _ _ _ _ _ _ _ _ _ _ _ _ _ y)]
  unfold kernelRun0_A
  dsimp only
  sl_unfold_words
  rw [View.canon_cons_unit_zero (S := S1) hz1]
  rfl

theorem gAt (i : S64x128.Idx) : (outsAt0 m c t).1 i = (fun i : (⟨2, ![64, 128]⟩ : Shape).Idx => arg3 m c i + arg4 m c i) (ix2 (row t (i 0)) (i 1)) := by
  rw [out5, blk3, blk4]
  rfl

theorem arr5 : (dats m 0 c).arrAt 5 cfg0.N = fun i : (⟨2, ![64, 128]⟩ : Shape).Idx => arg3 m c i + arg4 m c i := by
  refine (dats m 0 c).arrAt_eq_of_covers 5 _ (by decide +kernel) fun t hf y => ?_
  blk_simp
  rw [after0_5, gAt]
  refine congrArg (fun i : (⟨2, ![64, 128]⟩ : Shape).Idx => arg3 m c i + arg4 m c i) ?_
  blk_ext [idx t]
  all_goals rfl

theorem dAt (i : S64x128.Idx) : (outsAt0 m c t).2.1 i = (fun i : (⟨2, ![64, 128]⟩ : Shape).Idx => delta (arg3 m c i + arg4 m c i) (arg0 m c i) (arg1 m c i) (arg2 m c i)) (ix2 (row t (i 0)) (i 1)) := by
  rw [out6, blk3, blk4, blk0, blk1, blk2]
  rfl

theorem arr6 : (dats m 0 c).arrAt 6 cfg0.N = fun i : (⟨2, ![64, 128]⟩ : Shape).Idx => delta (arg3 m c i + arg4 m c i) (arg0 m c i) (arg1 m c i) (arg2 m c i) := by
  refine (dats m 0 c).arrAt_eq_of_covers 6 _ (by decide +kernel) fun t hf y => ?_
  blk_simp
  rw [after0_6, dAt]
  refine congrArg (fun i : (⟨2, ![64, 128]⟩ : Shape).Idx => delta (arg3 m c i + arg4 m c i) (arg0 m c i) (arg1 m c i) (arg2 m c i)) ?_
  blk_ext [idx t]
  all_goals rfl

theorem mAt (i : S64x128.Idx) : (outsAt0 m c t).2.2.1 i = (fun i : (⟨2, ![64, 128]⟩ : Shape).Idx => newM (arg3 m c i + arg4 m c i) (arg1 m c i)) (ix2 (row t (i 0)) (i 1)) := by
  rw [out7, blk3, blk4, blk1]
  rfl

theorem arr7 : (dats m 0 c).arrAt 7 cfg0.N = fun i : (⟨2, ![64, 128]⟩ : Shape).Idx => newM (arg3 m c i + arg4 m c i) (arg1 m c i) := by
  refine (dats m 0 c).arrAt_eq_of_covers 7 _ (by decide +kernel) fun t hf y => ?_
  blk_simp
  rw [after0_7, mAt]
  refine congrArg (fun i : (⟨2, ![64, 128]⟩ : Shape).Idx => newM (arg3 m c i + arg4 m c i) (arg1 m c i)) ?_
  blk_ext [idx t]
  all_goals rfl

theorem vAt (i : S64x128.Idx) : (outsAt0 m c t).2.2.2.1 i = (fun i : (⟨2, ![64, 128]⟩ : Shape).Idx => newV (arg3 m c i + arg4 m c i) (arg2 m c i)) (ix2 (row t (i 0)) (i 1)) := by
  rw [out8, blk3, blk4, blk2]
  rfl

theorem arr8 : (dats m 0 c).arrAt 8 cfg0.N = fun i : (⟨2, ![64, 128]⟩ : Shape).Idx => newV (arg3 m c i + arg4 m c i) (arg2 m c i) := by
  refine (dats m 0 c).arrAt_eq_of_covers 8 _ (by decide +kernel) fun t hf y => ?_
  blk_simp
  rw [after0_8, vAt]
  refine congrArg (fun i : (⟨2, ![64, 128]⟩ : Shape).Idx => newV (arg3 m c i + arg4 m c i) (arg2 m c i)) ?_
  blk_ext [idx t]
  all_goals rfl

theorem arr9 : (dats m 0 c).arrAt 9 cfg0.N = fun _ => 0#32 := by
  refine (dats m 0 c).arrAt_eq_of_covers 9 _ (by decide +kernel) fun t hf y => ?_
  blk_simp
  rw [after0_9, out9]

theorem frame_ref : Cert.quiescent_AdamwLoraRefIdeal (hAdamwLoraRefIdeal := Cert.AdamwLoraRefIdeal.Gen.facts) :=
  fun m g _ => θ_run_mono (Cert.AdamwLoraRefIdeal.Value.run m g) fun _ hr => ⟨fun c => (hr c).2.2.2.2.2, sem_eq_zero_of_no_sems rfl _⟩

theorem algebraic : Cert.algebraic_AdamwLoraIdeal_AdamwLoraRefIdeal (hAdamwLoraIdeal := Cert.AdamwLoraIdeal.Gen.facts) (hAdamwLoraRefIdeal := Cert.AdamwLoraRefIdeal.Gen.facts) := by
  intro m g m' g' _ hargs
  refine ⟨fun c => (fun i : (⟨2, ![64, 128]⟩ : Shape).Idx => arg3 m c i + arg4 m c i), fun c => (fun i : (⟨2, ![64, 128]⟩ : Shape).Idx => delta (arg3 m c i + arg4 m c i) (arg0 m c i) (arg1 m c i) (arg2 m c i)),
    fun c => (fun i : (⟨2, ![64, 128]⟩ : Shape).Idx => newM (arg3 m c i + arg4 m c i) (arg1 m c i)), fun c => (fun i : (⟨2, ![64, 128]⟩ : Shape).Idx => newV (arg3 m c i + arg4 m c i) (arg2 m c i)),
    fun c => (fun _ => 0#32), ?_, ?_⟩
  · refine θ_run_mono (Cert.AdamwLoraIdeal.Value.run_blocks m g) fun r hr c => ?_
    obtain ⟨r0, r1, r2, r3, r4, rs⟩ := hr c
    exact ⟨r0.trans arr5, r1.trans arr6, r2.trans arr7, r3.trans arr8, r4.trans arr9, rs⟩
  · refine θ_run_mono (Cert.AdamwLoraRefIdeal.Value.run m' g') fun r hr c => ?_
    obtain ⟨r0, r1, r2, r3, r4, rs⟩ := hr c
    obtain ⟨a0, a1, a2, a3, a4⟩ := hargs c
    refine ⟨(r0.trans (Cert.AdamwLoraRefIdeal.Read.val_main_v0_eq ..)).trans ?_, (r1.trans (Cert.AdamwLoraRefIdeal.Read.val_main_v24_eq ..)).trans ?_,
      (r2.trans (Cert.AdamwLoraRefIdeal.Read.val_main_v5_eq ..)).trans ?_, (r3.trans (Cert.AdamwLoraRefIdeal.Read.val_main_v11_eq ..)).trans ?_, r4.trans ?_, rs⟩
    · rw [a3, a4]; exact ref_g _ _
    · rw [a0, a1, a2, a3, a4]; exact ref_d _ _ _ _ _
    · rw [a1, a3, a4]; exact ref_m _ _ _
    · rw [a2, a3, a4]; exact ref_v _ _ _
    · rfl

end Cert.Proof.AdamwLora

end
-- ==== Proof.AdamwOutA.lean ====
/- `adamw` of a mixer's output projection: the step on the rows of a block is the step on the array. -/
module

public import proofs.«01_k».proof.Defs
public import proofs.«01_k».proof.Proof.AdamwSpec
public import proofs.«01_k».proof.Proof.Gen.AdamwOutAIdeal.Value
public import proofs.«01_k».proof.Proof.Gen.AdamwOutARefIdeal.Run
public import proofs.«01_k».proof.Proof.Gen.AdamwOutARefIdeal.Read
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.Proof.AdamwOutA

open Idealize.ShloMosaic Idealize.ShloMosaic.TcCoe Idealize.SL.Sem
open Cert.AdamwOutAIdeal Cert.AdamwOutAIdeal.Gen Cert.Proof.Adamw

/-- An array of the shard's shape. -/
abbrev Arr := (⟨2, ![512, 256]⟩ : Shape).Idx → EReal

variable {m : (ℓ : Loc nD τ sig) → Buf (Elt Ideal) ℓ} {c : Dev nD} (t : Fin cfg0.N)

theorem hz2 : (![0, 0] : Fin 2 → Nat) = fun _ => 0 := by decide
theorem hz1 : (![0] : Fin 1 → Nat) = fun _ => 0 := by decide

theorem ref_g (x3 x4 : Arr) : Cert.AdamwOutARefIdeal.Read.val_main_v0 (F := Ideal) x3 x4 = fun i => x3 i + x4 i := by
  funext j
  idx_vars j
  pointwise [Cert.AdamwOutARefIdeal.Read.val_main_v0]

theorem ref_m (x1 x3 x4 : Arr) : Cert.AdamwOutARefIdeal.Read.val_main_v5 (F := Ideal) x1 x3 x4 = fun i => newM (x3 i + x4 i) (x1 i) := by
  funext j
  rfl

theorem ref_v (x2 x3 x4 : Arr) : Cert.AdamwOutARefIdeal.Read.val_main_v11 (F := Ideal) x2 x3 x4 = fun i => newV (x3 i + x4 i) (x2 i) := by
  funext j
  rfl

theorem ref_d (x0 x1 x2 x3 x4 : Arr) : Cert.AdamwOutARefIdeal.Read.val_main_v24 (F := Ideal) x0 x1 x2 x3 x4
    = fun i => delta (x3 i + x4 i) (x0 i) (x1 i) (x2 i) := by
  funext j
  rfl

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![0] ∧ t.val < 2 :=
  (by decide +kernel : ∀ t : Fin grid0.N, _)

/-- The row of the arrays a block's row is. -/
def row (t : Fin cfg0.N) (a : Fin 256) : Fin 512 := ⟨t.val * 256 + a.val, by have := (idx t).2.2.2.2.2.2.2.2.2.2; omega⟩

variable (m c) in
/-- The arguments in memory. -/
abbrev arg0 : Arr := m ((c : Thread nD τ).loc main_arg0)
variable (m c) in
@[inherit_doc arg0] abbrev arg1 : Arr := m ((c : Thread nD τ).loc main_arg1)
variable (m c) in
@[inherit_doc arg0] abbrev arg2 : Arr := m ((c : Thread nD τ).loc main_arg2)
variable (m c) in
@[inherit_doc arg0] abbrev arg3 : Arr := m ((c : Thread nD τ).loc main_arg3)
variable (m c) in
@[inherit_doc arg0] abbrev arg4 : Arr := m ((c : Thread nD τ).loc main_arg4)

theorem blk0 : iblk m c 0 t = fun i : S256x256.Idx => arg0 m c (ix2 (row t (i 0)) (i 1)) := by
  funext j
  blk_simp [iblk]
  refine (congrFun (V_main_arg0 m c) _).trans ?_
  refine congrArg (m ((c : Thread nD τ).loc main_arg0)) ?_
  blk_ext [iblk, V, idx t]
  rfl

theorem blk1 : iblk m c 1 t = fun i : S256x256.Idx => arg1 m c (ix2 (row t (i 0)) (i 1)) := by
  funext j
  blk_simp [iblk]
  refine (congrFun (V_main_arg1 m c) _).trans ?_
  refine congrArg (m ((c : Thread nD τ).loc main_arg1)) ?_
  blk_ext [iblk, V, idx t]
  rfl

theorem blk2 : iblk m c 2 t = fun i : S256x256.Idx => arg2 m c (ix2 (row t (i 0)) (i 1)) := by
  funext j
  blk_simp [iblk]
  refine (congrFun (V_main_arg2 m c) _).trans ?_
  refine congrArg (m ((c : Thread nD τ).loc main_arg2)) ?_
  blk_ext [iblk, V, idx t]
  rfl

theorem blk3 : iblk m c 3 t = fun i : S256x256.Idx => arg3 m c (ix2 (row t (i 0)) (i 1)) := by
  funext j
  blk_simp [iblk]
  refine (congrFun (V_main_arg3 m c) _).trans ?_
  refine congrArg (m ((c : Thread nD τ).loc main_arg3)) ?_
  blk_ext [iblk, V, idx t]
  rfl

theorem blk4 : iblk m c 4 t = fun i : S256x256.Idx => arg4 m c (ix2 (row t (i 0)) (i 1)) := by
  funext j
  blk_simp [iblk]
  refine (congrFun (V_main_arg4 m c) _).trans ?_
  refine congrArg (m ((c : Thread nD τ).loc main_arg4)) ?_
  blk_ext [iblk, V, idx t]
  rfl

theorem out5 : (outsAt0 m c t).1 = k0_pay1 (iblk m c 3 t) (iblk m c 4 t) := by
  unfold outsAt0
  dsimp only
  unfold out0_A_5
  rw [View.read_writes_eq_canon _ _ _ (fun y => cover0_A_5 _ _ _ _ _ _ _ _ _ _ _ _ _ _ _ _ _ _ _ _ _ _ _ _ _ _ _ y)]
  unfold kernelRun0_A
  dsimp only
  sl_unfold_words
  rw [View.canon_cons_unit_zero (S := S256x256) hz2]
  simp only [View.readAt_eq_ld, Memref.IsWhole.read_unread, View.ld_unit_zero (S := S256x256) hz2, (hs0_0 t).read_unread, (hs0_1 t).read_unread, (hs0_2 t).read_unread, (hs0_3 t).read_unread, (hs0_4 t).read_unread]

theorem out6 : (outsAt0 m c t).2.1 = k0_pay4 (iblk m c 3 t) (iblk m c 4 t) (iblk m c 0 t) (iblk m c 1 t) (iblk m c 2 t) := by
  unfold outsAt0
  dsimp only
  unfold out0_A_6
  rw [View.read_writes_eq_canon _ _ _ (fun y => cover0_A_6 _ _ _ _ _ _ _ _ _ _ _ _ _ _ _ _ _ _ _ _ _ _ _ _ _ _ _ y)]
  unfold kernelRun0_A
  dsimp only
  sl_unfold_words
  rw [View.canon_cons_unit_zero (S := S256x256) hz2]
  simp only [View.readAt_eq_ld, Memref.IsWhole.read_unread, View.ld_unit_zero (S := S256x256) hz2, (hs0_0 t).read_unread, (hs0_1 t).read_unread, (hs0_2 t).read_unread, (hs0_3 t).read_unread, (hs0_4 t).read_unread]

theorem out7 : (outsAt0 m c t).2.2.1 = k0_pay2 (iblk m c 3 t) (iblk m c 4 t) (iblk m c 1 t) := by
  unfold outsAt0
  dsimp only
  unfold out0_A_7
  rw [View.read_writes_eq_canon _ _ _ (fun y => cover0_A_7 _ _ _ _ _ _ _ _ _ _ _ _ _ _ _ _ _ _ _ _ _ _ _ _ _ _ _ y)]
  unfold kernelRun0_A
  dsimp only
  sl_unfold_words
  rw [View.canon_cons_unit_zero (S := S256x256) hz2]
  simp only [View.readAt_eq_ld, Memref.IsWhole.read_unread, View.ld_unit_zero (S := S256x256) hz2, (hs0_0 t).read_unread, (hs0_1 t).read_unread, (hs0_2 t).read_unread, (hs0_3 t).read_unread, (hs0_4 t).read_unread]

theorem out8 : (outsAt0 m c t).2.2.2.1 = k0_pay3 (iblk m c 3 t) (iblk m c 4 t) (iblk m c 2 t) := by
  unfold outsAt0
  dsimp only
  unfold out0_A_8
  rw [View.read_writes_eq_canon _ _ _ (fun y => cover0_A_8 _ _ _ _ _ _ _ _ _ _ _ _ _ _ _ _ _ _ _ _ _ _ _ _ _ _ _ y)]
  unfold kernelRun0_A
  dsimp only
  sl_unfold_words
  rw [View.canon_cons_unit_zero (S := S256x256) hz2]
  simp only [View.readAt_eq_ld, Memref.IsWhole.read_unread, View.ld_unit_zero (S := S256x256) hz2, (hs0_0 t).read_unread, (hs0_1 t).read_unread, (hs0_2 t).read_unread, (hs0_3 t).read_unread, (hs0_4 t).read_unread]

theorem out9 : (outsAt0 m c t).2.2.2.2 = fun _ => 0#32 := by
  unfold outsAt0
  dsimp only
  unfold out0_A_9
  rw [View.read_writes_eq_canon _ _ _ (fun y => cover0_A_9 _ _ _ _ _ _ _ _ _ _ _ _ _ _ _ _ _ _ _ _ _ _ _ _ _ _ _ y)]
  unfold kernelRun0_A
  dsimp only
  sl_unfold_words
  rw [View.canon_cons_unit_zero (S := S1) hz1]
  rfl

theorem gAt (i : S256x256.Idx) : (outsAt0 m c t).1 i = (fun i : (⟨2, ![512, 256]⟩ : Shape).Idx => arg3 m c i + arg4 m c i) (ix2 (row t (i 0)) (i 1)) := by
  rw [out5, blk3, blk4]
  rfl

theorem arr5 : (dats m 0 c).arrAt 5 cfg0.N = fun i : (⟨2, ![512, 256]⟩ : Shape).Idx => arg3 m c i + arg4 m c i := by
  refine (dats m 0 c).arrAt_eq_of_covers 5 _ (by decide +kernel) fun t hf y => ?_
  blk_simp
  rw [after0_5, gAt]
  refine congrArg (fun i : (⟨2, ![512, 256]⟩ : Shape).Idx => arg3 m c i + arg4 m c i) ?_
  blk_ext [idx t]
  all_goals rfl

theorem dAt (i : S256x256.Idx) : (outsAt0 m c t).2.1 i = (fun i : (⟨2, ![512, 256]⟩ : Shape).Idx => delta (arg3 m c i + arg4 m c i) (arg0 m c i) (arg1 m c i) (arg2 m c i)) (ix2 (row t (i 0)) (i 1)) := by
  rw [out6, blk3, blk4, blk0, blk1, blk2]
  rfl

theorem arr6 : (dats m 0 c).arrAt 6 cfg0.N = fun i : (⟨2, ![512, 256]⟩ : Shape).Idx => delta (arg3 m c i + arg4 m c i) (arg0 m c i) (arg1 m c i) (arg2 m c i) := by
  refine (dats m 0 c).arrAt_eq_of_covers 6 _ (by decide +kernel) fun t hf y => ?_
  blk_simp
  rw [after0_6, dAt]
  refine congrArg (fun i : (⟨2, ![512, 256]⟩ : Shape).Idx => delta (arg3 m c i + arg4 m c i) (arg0 m c i) (arg1 m c i) (arg2 m c i)) ?_
  blk_ext [idx t]
  all_goals rfl

theorem mAt (i : S256x256.Idx) : (outsAt0 m c t).2.2.1 i = (fun i : (⟨2, ![512, 256]⟩ : Shape).Idx => newM (arg3 m c i + arg4 m c i) (arg1 m c i)) (ix2 (row t (i 0)) (i 1)) := by
  rw [out7, blk3, blk4, blk1]
  rfl

theorem arr7 : (dats m 0 c).arrAt 7 cfg0.N = fun i : (⟨2, ![512, 256]⟩ : Shape).Idx => newM (arg3 m c i + arg4 m c i) (arg1 m c i) := by
  refine (dats m 0 c).arrAt_eq_of_covers 7 _ (by decide +kernel) fun t hf y => ?_
  blk_simp
  rw [after0_7, mAt]
  refine congrArg (fun i : (⟨2, ![512, 256]⟩ : Shape).Idx => newM (arg3 m c i + arg4 m c i) (arg1 m c i)) ?_
  blk_ext [idx t]
  all_goals rfl

theorem vAt (i : S256x256.Idx) : (outsAt0 m c t).2.2.2.1 i = (fun i : (⟨2, ![512, 256]⟩ : Shape).Idx => newV (arg3 m c i + arg4 m c i) (arg2 m c i)) (ix2 (row t (i 0)) (i 1)) := by
  rw [out8, blk3, blk4, blk2]
  rfl

theorem arr8 : (dats m 0 c).arrAt 8 cfg0.N = fun i : (⟨2, ![512, 256]⟩ : Shape).Idx => newV (arg3 m c i + arg4 m c i) (arg2 m c i) := by
  refine (dats m 0 c).arrAt_eq_of_covers 8 _ (by decide +kernel) fun t hf y => ?_
  blk_simp
  rw [after0_8, vAt]
  refine congrArg (fun i : (⟨2, ![512, 256]⟩ : Shape).Idx => newV (arg3 m c i + arg4 m c i) (arg2 m c i)) ?_
  blk_ext [idx t]
  all_goals rfl

theorem arr9 : (dats m 0 c).arrAt 9 cfg0.N = fun _ => 0#32 := by
  refine (dats m 0 c).arrAt_eq_of_covers 9 _ (by decide +kernel) fun t hf y => ?_
  blk_simp
  rw [after0_9, out9]

theorem frame_ref : Cert.quiescent_AdamwOutARefIdeal (hAdamwOutARefIdeal := Cert.AdamwOutARefIdeal.Gen.facts) :=
  fun m g _ => θ_run_mono (Cert.AdamwOutARefIdeal.Value.run m g) fun _ hr => ⟨fun c => (hr c).2.2.2.2.2, sem_eq_zero_of_no_sems rfl _⟩

theorem algebraic : Cert.algebraic_AdamwOutAIdeal_AdamwOutARefIdeal (hAdamwOutAIdeal := Cert.AdamwOutAIdeal.Gen.facts) (hAdamwOutARefIdeal := Cert.AdamwOutARefIdeal.Gen.facts) := by
  intro m g m' g' _ hargs
  refine ⟨fun c => (fun i : (⟨2, ![512, 256]⟩ : Shape).Idx => arg3 m c i + arg4 m c i), fun c => (fun i : (⟨2, ![512, 256]⟩ : Shape).Idx => delta (arg3 m c i + arg4 m c i) (arg0 m c i) (arg1 m c i) (arg2 m c i)),
    fun c => (fun i : (⟨2, ![512, 256]⟩ : Shape).Idx => newM (arg3 m c i + arg4 m c i) (arg1 m c i)), fun c => (fun i : (⟨2, ![512, 256]⟩ : Shape).Idx => newV (arg3 m c i + arg4 m c i) (arg2 m c i)),
    fun c => (fun _ => 0#32), ?_, ?_⟩
  · refine θ_run_mono (Cert.AdamwOutAIdeal.Value.run_blocks m g) fun r hr c => ?_
    obtain ⟨r0, r1, r2, r3, r4, rs⟩ := hr c
    exact ⟨r0.trans arr5, r1.trans arr6, r2.trans arr7, r3.trans arr8, r4.trans arr9, rs⟩
  · refine θ_run_mono (Cert.AdamwOutARefIdeal.Value.run m' g') fun r hr c => ?_
    obtain ⟨r0, r1, r2, r3, r4, rs⟩ := hr c
    obtain ⟨a0, a1, a2, a3, a4⟩ := hargs c
    refine ⟨(r0.trans (Cert.AdamwOutARefIdeal.Read.val_main_v0_eq ..)).trans ?_, (r1.trans (Cert.AdamwOutARefIdeal.Read.val_main_v24_eq ..)).trans ?_,
      (r2.trans (Cert.AdamwOutARefIdeal.Read.val_main_v5_eq ..)).trans ?_, (r3.trans (Cert.AdamwOutARefIdeal.Read.val_main_v11_eq ..)).trans ?_, r4.trans ?_, rs⟩
    · rw [a3, a4]; exact ref_g _ _
    · rw [a0, a1, a2, a3, a4]; exact ref_d _ _ _ _ _
    · rw [a1, a3, a4]; exact ref_m _ _ _
    · rw [a2, a3, a4]; exact ref_v _ _ _
    · rfl

end Cert.Proof.AdamwOutA

end
-- ==== Proof.AdamwOut.lean ====
/- `adamw` of the output projection: the step on the rows of a block is the step on the array. -/
module

public import proofs.«01_k».proof.Defs
public import proofs.«01_k».proof.Proof.AdamwSpec
public import proofs.«01_k».proof.Proof.Gen.AdamwOutIdeal.Value
public import proofs.«01_k».proof.Proof.Gen.AdamwOutRefIdeal.Run
public import proofs.«01_k».proof.Proof.Gen.AdamwOutRefIdeal.Read
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.Proof.AdamwOut

open Idealize.ShloMosaic Idealize.ShloMosaic.TcCoe Idealize.SL.Sem
open Cert.AdamwOutIdeal Cert.AdamwOutIdeal.Gen Cert.Proof.Adamw

/-- An array of the shard's shape. -/
abbrev Arr := (⟨2, ![256, 1024]⟩ : Shape).Idx → EReal

variable {m : (ℓ : Loc nD τ sig) → Buf (Elt Ideal) ℓ} {c : Dev nD} (t : Fin cfg0.N)

theorem hz2 : (![0, 0] : Fin 2 → Nat) = fun _ => 0 := by decide
theorem hz1 : (![0] : Fin 1 → Nat) = fun _ => 0 := by decide

theorem ref_g (x3 x4 : Arr) : Cert.AdamwOutRefIdeal.Read.val_main_v0 (F := Ideal) x3 x4 = fun i => x3 i + x4 i := by
  funext j
  idx_vars j
  pointwise [Cert.AdamwOutRefIdeal.Read.val_main_v0]

theorem ref_m (x1 x3 x4 : Arr) : Cert.AdamwOutRefIdeal.Read.val_main_v5 (F := Ideal) x1 x3 x4 = fun i => newM (x3 i + x4 i) (x1 i) := by
  funext j
  rfl

theorem ref_v (x2 x3 x4 : Arr) : Cert.AdamwOutRefIdeal.Read.val_main_v11 (F := Ideal) x2 x3 x4 = fun i => newV (x3 i + x4 i) (x2 i) := by
  funext j
  rfl

theorem ref_d (x0 x1 x2 x3 x4 : Arr) : Cert.AdamwOutRefIdeal.Read.val_main_v24 (F := Ideal) x0 x1 x2 x3 x4
    = fun i => delta (x3 i + x4 i) (x0 i) (x1 i) (x2 i) := by
  funext j
  rfl

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![0] ∧ t.val < 1 :=
  (by decide +kernel : ∀ t : Fin grid0.N, _)

/-- The row of the arrays a block's row is. -/
def row (_ : Fin cfg0.N) (a : Fin 256) : Fin 256 := a

variable (m c) in
/-- The arguments in memory. -/
abbrev arg0 : Arr := m ((c : Thread nD τ).loc main_arg0)
variable (m c) in
@[inherit_doc arg0] abbrev arg1 : Arr := m ((c : Thread nD τ).loc main_arg1)
variable (m c) in
@[inherit_doc arg0] abbrev arg2 : Arr := m ((c : Thread nD τ).loc main_arg2)
variable (m c) in
@[inherit_doc arg0] abbrev arg3 : Arr := m ((c : Thread nD τ).loc main_arg3)
variable (m c) in
@[inherit_doc arg0] abbrev arg4 : Arr := m ((c : Thread nD τ).loc main_arg4)

theorem blk0 : iblk m c 0 t = fun i : S256x1024.Idx => arg0 m c (ix2 (row t (i 0)) (i 1)) := by
  funext j
  blk_simp [iblk]
  refine (congrFun (V_main_arg0 m c) _).trans ?_
  refine congrArg (m ((c : Thread nD τ).loc main_arg0)) ?_
  blk_ext [iblk, V, idx t]
  rfl

theorem blk1 : iblk m c 1 t = fun i : S256x1024.Idx => arg1 m c (ix2 (row t (i 0)) (i 1)) := by
  funext j
  blk_simp [iblk]
  refine (congrFun (V_main_arg1 m c) _).trans ?_
  refine congrArg (m ((c : Thread nD τ).loc main_arg1)) ?_
  blk_ext [iblk, V, idx t]
  rfl

theorem blk2 : iblk m c 2 t = fun i : S256x1024.Idx => arg2 m c (ix2 (row t (i 0)) (i 1)) := by
  funext j
  blk_simp [iblk]
  refine (congrFun (V_main_arg2 m c) _).trans ?_
  refine congrArg (m ((c : Thread nD τ).loc main_arg2)) ?_
  blk_ext [iblk, V, idx t]
  rfl

theorem blk3 : iblk m c 3 t = fun i : S256x1024.Idx => arg3 m c (ix2 (row t (i 0)) (i 1)) := by
  funext j
  blk_simp [iblk]
  refine (congrFun (V_main_arg3 m c) _).trans ?_
  refine congrArg (m ((c : Thread nD τ).loc main_arg3)) ?_
  blk_ext [iblk, V, idx t]
  rfl

theorem blk4 : iblk m c 4 t = fun i : S256x1024.Idx => arg4 m c (ix2 (row t (i 0)) (i 1)) := by
  funext j
  blk_simp [iblk]
  refine (congrFun (V_main_arg4 m c) _).trans ?_
  refine congrArg (m ((c : Thread nD τ).loc main_arg4)) ?_
  blk_ext [iblk, V, idx t]
  rfl

theorem out5 : (outsAt0 m c t).1 = k0_pay1 (iblk m c 3 t) (iblk m c 4 t) := by
  unfold outsAt0
  dsimp only
  unfold out0_A_5
  rw [View.read_writes_eq_canon _ _ _ (fun y => cover0_A_5 _ _ _ _ _ _ _ _ _ _ _ _ _ _ _ _ _ _ _ _ _ _ _ _ _ _ _ y)]
  unfold kernelRun0_A
  dsimp only
  sl_unfold_words
  rw [View.canon_cons_unit_zero (S := S256x1024) hz2]
  simp only [View.readAt_eq_ld, Memref.IsWhole.read_unread, View.ld_unit_zero (S := S256x1024) hz2, (hs0_0 t).read_unread, (hs0_1 t).read_unread, (hs0_2 t).read_unread, (hs0_3 t).read_unread, (hs0_4 t).read_unread]

theorem out6 : (outsAt0 m c t).2.1 = k0_pay4 (iblk m c 3 t) (iblk m c 4 t) (iblk m c 0 t) (iblk m c 1 t) (iblk m c 2 t) := by
  unfold outsAt0
  dsimp only
  unfold out0_A_6
  rw [View.read_writes_eq_canon _ _ _ (fun y => cover0_A_6 _ _ _ _ _ _ _ _ _ _ _ _ _ _ _ _ _ _ _ _ _ _ _ _ _ _ _ y)]
  unfold kernelRun0_A
  dsimp only
  sl_unfold_words
  rw [View.canon_cons_unit_zero (S := S256x1024) hz2]
  simp only [View.readAt_eq_ld, Memref.IsWhole.read_unread, View.ld_unit_zero (S := S256x1024) hz2, (hs0_0 t).read_unread, (hs0_1 t).read_unread, (hs0_2 t).read_unread, (hs0_3 t).read_unread, (hs0_4 t).read_unread]

theorem out7 : (outsAt0 m c t).2.2.1 = k0_pay2 (iblk m c 3 t) (iblk m c 4 t) (iblk m c 1 t) := by
  unfold outsAt0
  dsimp only
  unfold out0_A_7
  rw [View.read_writes_eq_canon _ _ _ (fun y => cover0_A_7 _ _ _ _ _ _ _ _ _ _ _ _ _ _ _ _ _ _ _ _ _ _ _ _ _ _ _ y)]
  unfold kernelRun0_A
  dsimp only
  sl_unfold_words
  rw [View.canon_cons_unit_zero (S := S256x1024) hz2]
  simp only [View.readAt_eq_ld, Memref.IsWhole.read_unread, View.ld_unit_zero (S := S256x1024) hz2, (hs0_0 t).read_unread, (hs0_1 t).read_unread, (hs0_2 t).read_unread, (hs0_3 t).read_unread, (hs0_4 t).read_unread]

theorem out8 : (outsAt0 m c t).2.2.2.1 = k0_pay3 (iblk m c 3 t) (iblk m c 4 t) (iblk m c 2 t) := by
  unfold outsAt0
  dsimp only
  unfold out0_A_8
  rw [View.read_writes_eq_canon _ _ _ (fun y => cover0_A_8 _ _ _ _ _ _ _ _ _ _ _ _ _ _ _ _ _ _ _ _ _ _ _ _ _ _ _ y)]
  unfold kernelRun0_A
  dsimp only
  sl_unfold_words
  rw [View.canon_cons_unit_zero (S := S256x1024) hz2]
  simp only [View.readAt_eq_ld, Memref.IsWhole.read_unread, View.ld_unit_zero (S := S256x1024) hz2, (hs0_0 t).read_unread, (hs0_1 t).read_unread, (hs0_2 t).read_unread, (hs0_3 t).read_unread, (hs0_4 t).read_unread]

theorem out9 : (outsAt0 m c t).2.2.2.2 = fun _ => 0#32 := by
  unfold outsAt0
  dsimp only
  unfold out0_A_9
  rw [View.read_writes_eq_canon _ _ _ (fun y => cover0_A_9 _ _ _ _ _ _ _ _ _ _ _ _ _ _ _ _ _ _ _ _ _ _ _ _ _ _ _ y)]
  unfold kernelRun0_A
  dsimp only
  sl_unfold_words
  rw [View.canon_cons_unit_zero (S := S1) hz1]
  rfl

theorem gAt (i : S256x1024.Idx) : (outsAt0 m c t).1 i = (fun i : (⟨2, ![256, 1024]⟩ : Shape).Idx => arg3 m c i + arg4 m c i) (ix2 (row t (i 0)) (i 1)) := by
  rw [out5, blk3, blk4]
  rfl

theorem arr5 : (dats m 0 c).arrAt 5 cfg0.N = fun i : (⟨2, ![256, 1024]⟩ : Shape).Idx => arg3 m c i + arg4 m c i := by
  refine (dats m 0 c).arrAt_eq_of_covers 5 _ (by decide +kernel) fun t hf y => ?_
  blk_simp
  rw [after0_5, gAt]
  refine congrArg (fun i : (⟨2, ![256, 1024]⟩ : Shape).Idx => arg3 m c i + arg4 m c i) ?_
  blk_ext [idx t]
  all_goals rfl

theorem dAt (i : S256x1024.Idx) : (outsAt0 m c t).2.1 i = (fun i : (⟨2, ![256, 1024]⟩ : Shape).Idx => delta (arg3 m c i + arg4 m c i) (arg0 m c i) (arg1 m c i) (arg2 m c i)) (ix2 (row t (i 0)) (i 1)) := by
  rw [out6, blk3, blk4, blk0, blk1, blk2]
  rfl

theorem arr6 : (dats m 0 c).arrAt 6 cfg0.N = fun i : (⟨2, ![256, 1024]⟩ : Shape).Idx => delta (arg3 m c i + arg4 m c i) (arg0 m c i) (arg1 m c i) (arg2 m c i) := by
  refine (dats m 0 c).arrAt_eq_of_covers 6 _ (by decide +kernel) fun t hf y => ?_
  blk_simp
  rw [after0_6, dAt]
  refine congrArg (fun i : (⟨2, ![256, 1024]⟩ : Shape).Idx => delta (arg3 m c i + arg4 m c i) (arg0 m c i) (arg1 m c i) (arg2 m c i)) ?_
  blk_ext [idx t]
  all_goals rfl

theorem mAt (i : S256x1024.Idx) : (outsAt0 m c t).2.2.1 i = (fun i : (⟨2, ![256, 1024]⟩ : Shape).Idx => newM (arg3 m c i + arg4 m c i) (arg1 m c i)) (ix2 (row t (i 0)) (i 1)) := by
  rw [out7, blk3, blk4, blk1]
  rfl

theorem arr7 : (dats m 0 c).arrAt 7 cfg0.N = fun i : (⟨2, ![256, 1024]⟩ : Shape).Idx => newM (arg3 m c i + arg4 m c i) (arg1 m c i) := by
  refine (dats m 0 c).arrAt_eq_of_covers 7 _ (by decide +kernel) fun t hf y => ?_
  blk_simp
  rw [after0_7, mAt]
  refine congrArg (fun i : (⟨2, ![256, 1024]⟩ : Shape).Idx => newM (arg3 m c i + arg4 m c i) (arg1 m c i)) ?_
  blk_ext [idx t]
  all_goals rfl

theorem vAt (i : S256x1024.Idx) : (outsAt0 m c t).2.2.2.1 i = (fun i : (⟨2, ![256, 1024]⟩ : Shape).Idx => newV (arg3 m c i + arg4 m c i) (arg2 m c i)) (ix2 (row t (i 0)) (i 1)) := by
  rw [out8, blk3, blk4, blk2]
  rfl

theorem arr8 : (dats m 0 c).arrAt 8 cfg0.N = fun i : (⟨2, ![256, 1024]⟩ : Shape).Idx => newV (arg3 m c i + arg4 m c i) (arg2 m c i) := by
  refine (dats m 0 c).arrAt_eq_of_covers 8 _ (by decide +kernel) fun t hf y => ?_
  blk_simp
  rw [after0_8, vAt]
  refine congrArg (fun i : (⟨2, ![256, 1024]⟩ : Shape).Idx => newV (arg3 m c i + arg4 m c i) (arg2 m c i)) ?_
  blk_ext [idx t]
  all_goals rfl

theorem arr9 : (dats m 0 c).arrAt 9 cfg0.N = fun _ => 0#32 := by
  refine (dats m 0 c).arrAt_eq_of_covers 9 _ (by decide +kernel) fun t hf y => ?_
  blk_simp
  rw [after0_9, out9]

theorem frame_ref : Cert.quiescent_AdamwOutRefIdeal (hAdamwOutRefIdeal := Cert.AdamwOutRefIdeal.Gen.facts) :=
  fun m g _ => θ_run_mono (Cert.AdamwOutRefIdeal.Value.run m g) fun _ hr => ⟨fun c => (hr c).2.2.2.2.2, sem_eq_zero_of_no_sems rfl _⟩

theorem algebraic : Cert.algebraic_AdamwOutIdeal_AdamwOutRefIdeal (hAdamwOutIdeal := Cert.AdamwOutIdeal.Gen.facts) (hAdamwOutRefIdeal := Cert.AdamwOutRefIdeal.Gen.facts) := by
  intro m g m' g' _ hargs
  refine ⟨fun c => (fun i : (⟨2, ![256, 1024]⟩ : Shape).Idx => arg3 m c i + arg4 m c i), fun c => (fun i : (⟨2, ![256, 1024]⟩ : Shape).Idx => delta (arg3 m c i + arg4 m c i) (arg0 m c i) (arg1 m c i) (arg2 m c i)),
    fun c => (fun i : (⟨2, ![256, 1024]⟩ : Shape).Idx => newM (arg3 m c i + arg4 m c i) (arg1 m c i)), fun c => (fun i : (⟨2, ![256, 1024]⟩ : Shape).Idx => newV (arg3 m c i + arg4 m c i) (arg2 m c i)),
    fun c => (fun _ => 0#32), ?_, ?_⟩
  · refine θ_run_mono (Cert.AdamwOutIdeal.Value.run_blocks m g) fun r hr c => ?_
    obtain ⟨r0, r1, r2, r3, r4, rs⟩ := hr c
    exact ⟨r0.trans arr5, r1.trans arr6, r2.trans arr7, r3.trans arr8, r4.trans arr9, rs⟩
  · refine θ_run_mono (Cert.AdamwOutRefIdeal.Value.run m' g') fun r hr c => ?_
    obtain ⟨r0, r1, r2, r3, r4, rs⟩ := hr c
    obtain ⟨a0, a1, a2, a3, a4⟩ := hargs c
    refine ⟨(r0.trans (Cert.AdamwOutRefIdeal.Read.val_main_v0_eq ..)).trans ?_, (r1.trans (Cert.AdamwOutRefIdeal.Read.val_main_v24_eq ..)).trans ?_,
      (r2.trans (Cert.AdamwOutRefIdeal.Read.val_main_v5_eq ..)).trans ?_, (r3.trans (Cert.AdamwOutRefIdeal.Read.val_main_v11_eq ..)).trans ?_, r4.trans ?_, rs⟩
    · rw [a3, a4]; exact ref_g _ _
    · rw [a0, a1, a2, a3, a4]; exact ref_d _ _ _ _ _
    · rw [a1, a3, a4]; exact ref_m _ _ _
    · rw [a2, a3, a4]; exact ref_v _ _ _
    · rfl

end Cert.Proof.AdamwOut

end
-- ==== Proof.AdamwSmall.lean ====
/- `adamw` of the small leaves: each leaf a row of a slab, and the step on the slab one block. -/
module

public import proofs.«01_k».proof.Defs
public import proofs.«01_k».proof.Proof.AdamwSpec
public import proofs.«01_k».proof.Proof.Gen.AdamwSmallIdeal.Value
public import proofs.«01_k».proof.Proof.Gen.AdamwSmallRefIdeal.Run
public import proofs.«01_k».proof.Proof.Gen.AdamwSmallRefIdeal.Read
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.Proof.AdamwSmall

open Idealize.ShloMosaic Idealize.ShloMosaic.TcCoe Idealize.SL.Sem
open Cert.AdamwSmallIdeal Cert.AdamwSmallIdeal.Gen Cert.Proof.Adamw

/-- A slab. -/
abbrev Slab := (⟨2, ![16, 2176]⟩ : Shape).Idx → EReal

variable {m : (ℓ : Loc nD τ sig) → Buf (Elt Ideal) ℓ} {c : Dev nD} (t : Fin cfg0.N)

theorem hz2 : (![0, 0] : Fin 2 → Nat) = fun _ => 0 := by decide

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

variable (m c) in
/-- The summed gradients. -/
abbrev total : Slab := m ((c : Thread nD τ).loc main_arg3)

variable (m c) in
/-- The slab of the weights. -/
abbrev slabW : Slab := m ((c : Thread nD τ).loc main_arg0)

variable (m c) in
/-- The slab of the first moments. -/
abbrev slabM : Slab := m ((c : Thread nD τ).loc main_arg1)

variable (m c) in
/-- The slab of the second moments. -/
abbrev slabV : Slab := m ((c : Thread nD τ).loc main_arg2)

theorem blk0 : iblk m c 0 t = slabW m c := by
  funext j
  blk_simp [iblk]
  refine (congrFun (V_main_arg0 m c) _).trans ?_
  refine congrArg (m ((c : Thread nD τ).loc main_arg0)) ?_
  blk_ext [iblk, V, idx t]
  all_goals rfl

theorem blk1 : iblk m c 1 t = slabM m c := by
  funext j
  blk_simp [iblk]
  refine (congrFun (V_main_arg1 m c) _).trans ?_
  refine congrArg (m ((c : Thread nD τ).loc main_arg1)) ?_
  blk_ext [iblk, V, idx t]
  all_goals rfl

theorem blk2 : iblk m c 2 t = slabV m c := by
  funext j
  blk_simp [iblk]
  refine (congrFun (V_main_arg2 m c) _).trans ?_
  refine congrArg (m ((c : Thread nD τ).loc main_arg2)) ?_
  blk_ext [iblk, V, idx t]
  all_goals rfl

theorem blk3 : iblk m c 3 t = total m c := by
  funext j
  blk_simp [iblk]
  refine (congrFun (V_main_arg3 m c) _).trans ?_
  refine congrArg (m ((c : Thread nD τ).loc main_arg3)) ?_
  blk_ext [iblk, V, idx t]
  all_goals rfl

theorem at4 (i : S16x2176.Idx) : out0_4 (iblk m c 0 t) (iblk m c 1 t) (iblk m c 2 t) (iblk m c 3 t) i = total m c i := by
  unfold out0_4 r0_0
  rw [View.canon_cons_unit_zero (S := S16x2176) hz2]
  rw [blk3]
  exact congrFun (View.ld_unit_zero (S := S16x2176) hz2 ..) i

theorem arr4 : (dats m 0 c).arrAt 4 cfg0.N = fun i : (⟨2, ![16, 2176]⟩ : Shape).Idx => total m c i := by
  refine (dats m 0 c).arrAt_eq_of_covers 4 _ (by decide +kernel) fun t hf y => ?_
  blk_simp
  rw [after0_4, at4]
  refine congrArg (fun i : (⟨2, ![16, 2176]⟩ : Shape).Idx => total m c i) ?_
  blk_ext [idx t]
  all_goals rfl

theorem at5 (i : S16x2176.Idx) : out0_5 (iblk m c 0 t) (iblk m c 1 t) (iblk m c 2 t) (iblk m c 3 t) i = delta (total m c i) (slabW m c i) (slabM m c i) (slabV m c i) := by
  unfold out0_5 r0_0
  rw [View.canon_cons_unit_zero (S := S16x2176) hz2]
  simp only [View.ld_unit_zero (S := S16x2176) hz2]
  rw [blk0, blk1, blk2, blk3]
  rfl

theorem arr5 : (dats m 0 c).arrAt 5 cfg0.N = fun i : (⟨2, ![16, 2176]⟩ : Shape).Idx => delta (total m c i) (slabW m c i) (slabM m c i) (slabV m c i) := by
  refine (dats m 0 c).arrAt_eq_of_covers 5 _ (by decide +kernel) fun t hf y => ?_
  blk_simp
  rw [after0_5, at5]
  refine congrArg (fun i : (⟨2, ![16, 2176]⟩ : Shape).Idx => delta (total m c i) (slabW m c i) (slabM m c i) (slabV m c i)) ?_
  blk_ext [idx t]
  all_goals rfl

theorem at6 (i : S16x2176.Idx) : out0_6 (iblk m c 0 t) (iblk m c 1 t) (iblk m c 2 t) (iblk m c 3 t) i = newM (total m c i) (slabM m c i) := by
  unfold out0_6 r0_0
  rw [View.canon_cons_unit_zero (S := S16x2176) hz2]
  simp only [View.ld_unit_zero (S := S16x2176) hz2]
  rw [blk1, blk3]
  rfl

theorem arr6 : (dats m 0 c).arrAt 6 cfg0.N = fun i : (⟨2, ![16, 2176]⟩ : Shape).Idx => newM (total m c i) (slabM m c i) := by
  refine (dats m 0 c).arrAt_eq_of_covers 6 _ (by decide +kernel) fun t hf y => ?_
  blk_simp
  rw [after0_6, at6]
  refine congrArg (fun i : (⟨2, ![16, 2176]⟩ : Shape).Idx => newM (total m c i) (slabM m c i)) ?_
  blk_ext [idx t]
  all_goals rfl

theorem at7 (i : S16x2176.Idx) : out0_7 (iblk m c 0 t) (iblk m c 1 t) (iblk m c 2 t) (iblk m c 3 t) i = newV (total m c i) (slabV m c i) := by
  unfold out0_7 r0_0
  rw [View.canon_cons_unit_zero (S := S16x2176) hz2]
  simp only [View.ld_unit_zero (S := S16x2176) hz2]
  rw [blk2, blk3]
  rfl

theorem arr7 : (dats m 0 c).arrAt 7 cfg0.N = fun i : (⟨2, ![16, 2176]⟩ : Shape).Idx => newV (total m c i) (slabV m c i) := by
  refine (dats m 0 c).arrAt_eq_of_covers 7 _ (by decide +kernel) fun t hf y => ?_
  blk_simp
  rw [after0_7, at7]
  refine congrArg (fun i : (⟨2, ![16, 2176]⟩ : Shape).Idx => newV (total m c i) (slabV m c i)) ?_
  blk_ext [idx t]
  all_goals rfl

theorem ref_m (x1 x3 : Slab) : Cert.AdamwSmallRefIdeal.Read.val_main_v4 (F := Ideal) x1 x3 = fun i => newM (x3 i) (x1 i) := by
  funext j
  rfl

theorem ref_v (x2 x3 : Slab) : Cert.AdamwSmallRefIdeal.Read.val_main_v10 (F := Ideal) x2 x3 = fun i => newV (x3 i) (x2 i) := by
  funext j
  rfl

theorem ref_d (x0 x1 x2 x3 : Slab) : Cert.AdamwSmallRefIdeal.Read.val_main_v23 (F := Ideal) x0 x1 x2 x3 = fun i => delta (x3 i) (x0 i) (x1 i) (x2 i) := by
  funext j
  rfl

theorem frame_ref : Cert.quiescent_AdamwSmallRefIdeal (hAdamwSmallRefIdeal := Cert.AdamwSmallRefIdeal.Gen.facts) :=
  fun m g _ => θ_run_mono (Cert.AdamwSmallRefIdeal.Value.run m g) fun _ hr => ⟨fun c => (hr c).2.2.2.2, sem_eq_zero_of_no_sems rfl _⟩

theorem algebraic : Cert.algebraic_AdamwSmallIdeal_AdamwSmallRefIdeal (hAdamwSmallIdeal := Cert.AdamwSmallIdeal.Gen.facts) (hAdamwSmallRefIdeal := Cert.AdamwSmallRefIdeal.Gen.facts) := by
  intro m g m' g' _ hargs
  refine ⟨fun c => (fun i : (⟨2, ![16, 2176]⟩ : Shape).Idx => total m c i), fun c => (fun i : (⟨2, ![16, 2176]⟩ : Shape).Idx => delta (total m c i) (slabW m c i) (slabM m c i) (slabV m c i)),
    fun c => (fun i : (⟨2, ![16, 2176]⟩ : Shape).Idx => newM (total m c i) (slabM m c i)), fun c => (fun i : (⟨2, ![16, 2176]⟩ : Shape).Idx => newV (total m c i) (slabV m c i)), ?_, ?_⟩
  · refine θ_run_mono (Cert.AdamwSmallIdeal.Value.run_blocks m g) fun r hr c => ?_
    obtain ⟨r0, r1, r2, r3, rs⟩ := hr c
    exact ⟨r0.trans arr4, r1.trans arr5, r2.trans arr6, r3.trans arr7, rs⟩
  · refine θ_run_mono (Cert.AdamwSmallRefIdeal.Value.run m' g') fun r hr c => ?_
    obtain ⟨r0, r1, r2, r3, rs⟩ := hr c
    obtain ⟨a0, a1, a2, a3⟩ := hargs c
    refine ⟨r0.trans ?_, (r1.trans (Cert.AdamwSmallRefIdeal.Read.val_main_v23_eq ..)).trans ?_, (r2.trans (Cert.AdamwSmallRefIdeal.Read.val_main_v4_eq ..)).trans ?_,
      (r3.trans (Cert.AdamwSmallRefIdeal.Read.val_main_v10_eq ..)).trans ?_, rs⟩
    · exact a3
    · rw [a0, a1, a2, a3]; exact ref_d _ _ _ _
    · rw [a1, a3]; exact ref_m _ _
    · rw [a2, a3]; exact ref_v _ _

end Cert.Proof.AdamwSmall

end
-- ==== Proof.lean ====
module

public import proofs.«01_k».proof.Defs
public import proofs.«01_k».proof.Proof.Gen.Fox
public import proofs.«01_k».proof.Proof.Gen.Fox.Skeleton
public import proofs.«01_k».proof.Proof.Gen.Fox.Launch
public import proofs.«01_k».proof.Proof.Gen.Fox.Points
public import proofs.«01_k».proof.Proof.Gen.Fox.Frame
public import proofs.«01_k».proof.Proof.Gen.FoxIdeal
public import proofs.«01_k».proof.Proof.Gen.FoxIdeal.Skeleton
public import proofs.«01_k».proof.Proof.Gen.FoxIdeal.Launch
public import proofs.«01_k».proof.Proof.Gen.FoxIdeal.Points
public import proofs.«01_k».proof.Proof.Gen.FoxIdeal.Frame
public import proofs.«01_k».proof.Proof.Gen.FoxIdeal.Value
public import proofs.«01_k».proof.Proof.Gen.FoxRefIdeal
public import proofs.«01_k».proof.Proof.Gen.FoxRefIdeal.Run
public import proofs.«01_k».proof.Proof.Gen.FoxRefIdeal.Read
public import proofs.«01_k».proof.Proof.Gen.Pre_finite
public import proofs.«01_k».proof.Proof.Gen.Inproj.Frame
public import proofs.«01_k».proof.Proof.Gen.InprojIdeal.Value
public import proofs.«01_k».proof.Proof.Gen.InprojRefIdeal.Run
public import proofs.«01_k».proof.Proof.Gen.InprojRefIdeal.Read
public import proofs.«01_k».proof.Proof.Gen.DwGate.Frame
public import proofs.«01_k».proof.Proof.Gen.DwGateIdeal.Value
public import proofs.«01_k».proof.Proof.Gen.DwGateRefIdeal.Run
public import proofs.«01_k».proof.Proof.Gen.DwGateRefIdeal.Read
public import proofs.«01_k».proof.Proof.Gen.Merge.Frame
public import proofs.«01_k».proof.Proof.Gen.Post.Frame
public import proofs.«01_k».proof.Proof.Gen.PostIdeal.Value
public import proofs.«01_k».proof.Proof.Gen.PostRefIdeal.Run
public import proofs.«01_k».proof.Proof.Gen.PostRefIdeal.Read
public import proofs.«01_k».proof.Proof.Gen.Pre_finite_post
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.DwRwkv.Frame
public import proofs.«01_k».proof.Proof.Gen.DwRwkvIdeal.Value
public import proofs.«01_k».proof.Proof.Gen.DwRwkvRefIdeal.Run
public import proofs.«01_k».proof.Proof.Gen.DwRwkvRefIdeal.Read
public import proofs.«01_k».proof.Proof.Gen.ProjRwkv.Frame
public import proofs.«01_k».proof.Proof.Gen.ProjRwkvIdeal.Value
public import proofs.«01_k».proof.Proof.Gen.ProjRwkvRefIdeal.Run
public import proofs.«01_k».proof.Proof.Gen.ProjRwkvRefIdeal.Read
public import proofs.«01_k».proof.Proof.Gen.ProjGate.Frame
public import proofs.«01_k».proof.Proof.Gen.ProjGateIdeal.Value
public import proofs.«01_k».proof.Proof.Gen.ProjGateRefIdeal.Run
public import proofs.«01_k».proof.Proof.Gen.ProjGateRefIdeal.Read
public import proofs.«01_k».proof.Proof.Gen.AdamwIn.Frame
public import proofs.«01_k».proof.Proof.Gen.AdamwInIdeal.Value
public import proofs.«01_k».proof.Proof.Gen.AdamwInRefIdeal.Run
public import proofs.«01_k».proof.Proof.Gen.AdamwInRefIdeal.Read
public import proofs.«01_k».proof.Proof.Gen.AdamwLora.Frame
public import proofs.«01_k».proof.Proof.Gen.AdamwLoraIdeal.Value
public import proofs.«01_k».proof.Proof.Gen.AdamwLoraRefIdeal.Run
public import proofs.«01_k».proof.Proof.Gen.AdamwLoraRefIdeal.Read
public import proofs.«01_k».proof.Proof.Gen.AdamwOutA.Frame
public import proofs.«01_k».proof.Proof.Gen.AdamwOutAIdeal.Value
public import proofs.«01_k».proof.Proof.Gen.AdamwOutARefIdeal.Run
public import proofs.«01_k».proof.Proof.Gen.AdamwOutARefIdeal.Read
public import proofs.«01_k».proof.Proof.Gen.AdamwOut.Frame
public import proofs.«01_k».proof.Proof.Gen.AdamwOutIdeal.Value
public import proofs.«01_k».proof.Proof.Gen.AdamwOutRefIdeal.Run
public import proofs.«01_k».proof.Proof.Gen.AdamwOutRefIdeal.Read
public import proofs.«01_k».proof.Proof.Gen.AdamwSmall.Frame
public import proofs.«01_k».proof.Proof.Gen.AdamwSmallIdeal.Value
public import proofs.«01_k».proof.Proof.Gen.AdamwSmallRefIdeal.Run
public import proofs.«01_k».proof.Proof.Gen.AdamwSmallRefIdeal.Read
public import proofs.«01_k».proof.Proof.FoxEnd
public import proofs.«01_k».proof.Proof.Inproj
public import proofs.«01_k».proof.Proof.DwGate
public import proofs.«01_k».proof.Proof.MergeEnd
public import proofs.«01_k».proof.Proof.PostEnd
public import proofs.«01_k».proof.Proof.DwRwkv
public import proofs.«01_k».proof.Proof.ProjRwkv
public import proofs.«01_k».proof.Proof.ProjGate
public import proofs.«01_k».proof.Proof.AdamwIn
public import proofs.«01_k».proof.Proof.AdamwLora
public import proofs.«01_k».proof.Proof.AdamwOutA
public import proofs.«01_k».proof.Proof.AdamwOut
public import proofs.«01_k».proof.Proof.AdamwSmall
public import Idealize.ShloMosaic.Adequacy
public import Idealize.ShloMosaic.Init

@[expose] public section

noncomputable section

-- The frame claims also say that every semaphore counter ends at zero; the proof must show that too.

namespace Cert.Proof

open Idealize.ShloMosaic Idealize.SL.Sem

/-- The reference has no semaphore, so its run leaves every counter at zero. -/
theorem frame_FoxRefIdeal : Cert.quiescent_FoxRefIdeal (hFoxRefIdeal := Cert.FoxRefIdeal.Gen.facts) := fun m g _ =>
  θ_run_mono (Cert.FoxRefIdeal.Value.run m g) fun _ hr => ⟨fun c => (hr c).2.2.2.2.2, sem_eq_zero_of_no_sems rfl _⟩

theorem claim : Cert.Claim := ⟨Cert.Fox.Gen.facts, Cert.FoxIdeal.Gen.facts, Cert.FoxRefIdeal.Gen.facts, Cert.Inproj.Gen.facts, Cert.InprojIdeal.Gen.facts,
    Cert.InprojRefIdeal.Gen.facts, Cert.DwGate.Gen.facts, Cert.DwGateIdeal.Gen.facts, Cert.DwGateRefIdeal.Gen.facts, Cert.Merge.Gen.facts, Cert.MergeIdeal.Gen.facts,
    Cert.MergeRefIdeal.Gen.facts, Cert.Post.Gen.facts, Cert.PostIdeal.Gen.facts, Cert.PostRefIdeal.Gen.facts,
    Cert.DwRwkv.Gen.facts, Cert.DwRwkvIdeal.Gen.facts, Cert.DwRwkvRefIdeal.Gen.facts,
    Cert.ProjRwkv.Gen.facts, Cert.ProjRwkvIdeal.Gen.facts, Cert.ProjRwkvRefIdeal.Gen.facts,
    Cert.ProjGate.Gen.facts, Cert.ProjGateIdeal.Gen.facts, Cert.ProjGateRefIdeal.Gen.facts,
    Cert.AdamwIn.Gen.facts, Cert.AdamwInIdeal.Gen.facts, Cert.AdamwInRefIdeal.Gen.facts,
    Cert.AdamwLora.Gen.facts, Cert.AdamwLoraIdeal.Gen.facts, Cert.AdamwLoraRefIdeal.Gen.facts,
    Cert.AdamwOutA.Gen.facts, Cert.AdamwOutAIdeal.Gen.facts, Cert.AdamwOutARefIdeal.Gen.facts,
    Cert.AdamwOut.Gen.facts, Cert.AdamwOutIdeal.Gen.facts, Cert.AdamwOutRefIdeal.Gen.facts,
    Cert.AdamwSmall.Gen.facts, Cert.AdamwSmallIdeal.Gen.facts, Cert.AdamwSmallRefIdeal.Gen.facts,
    Cert.Pre_finite.Gen.facts, Cert.Pre_finite_post.Gen.facts, by
  refine ⟨fun m ρ _ => Cert.Fox.Gen.frame m ρ, fun m ρ _ => Cert.FoxIdeal.Gen.frame m ρ, fun m ρ _ => Cert.FoxIdeal.Gen.frame m ρ,
    frame_FoxRefIdeal, fun m ρ _ => frame_FoxRefIdeal m ρ trivial,
    fun m ρ _ => Cert.Inproj.Gen.frame m ρ, fun m ρ _ => Cert.InprojIdeal.Gen.frame m ρ, Inproj.frame_ref,
    fun m ρ _ => Cert.DwGate.Gen.frame m ρ, fun m ρ _ => Cert.DwGateIdeal.Gen.frame m ρ, DwGate.frame_ref,
    fun m ρ _ => Cert.Merge.Gen.frame m ρ, fun m ρ _ => Cert.MergeIdeal.Gen.frame m ρ, Merge.frame_ref,
    fun m ρ _ => Cert.Post.Gen.frame m ρ, fun m ρ _ => Cert.PostIdeal.Gen.frame m ρ, fun m ρ _ => Cert.PostIdeal.Gen.frame m ρ, Post.frame_ref, fun m ρ _ => Post.frame_ref m ρ trivial,
    fun m ρ _ => Cert.DwRwkv.Gen.frame m ρ, fun m ρ _ => Cert.DwRwkvIdeal.Gen.frame m ρ, DwRwkv.frame_ref,
    fun m ρ _ => Cert.ProjRwkv.Gen.frame m ρ, fun m ρ _ => Cert.ProjRwkvIdeal.Gen.frame m ρ, ProjRwkv.frame_ref,
    fun m ρ _ => Cert.ProjGate.Gen.frame m ρ, fun m ρ _ => Cert.ProjGateIdeal.Gen.frame m ρ, ProjGate.frame_ref,
    fun m ρ _ => Cert.AdamwIn.Gen.frame m ρ, fun m ρ _ => Cert.AdamwInIdeal.Gen.frame m ρ, AdamwIn.frame_ref,
    fun m ρ _ => Cert.AdamwLora.Gen.frame m ρ, fun m ρ _ => Cert.AdamwLoraIdeal.Gen.frame m ρ, AdamwLora.frame_ref,
    fun m ρ _ => Cert.AdamwOutA.Gen.frame m ρ, fun m ρ _ => Cert.AdamwOutAIdeal.Gen.frame m ρ, AdamwOutA.frame_ref,
    fun m ρ _ => Cert.AdamwOut.Gen.frame m ρ, fun m ρ _ => Cert.AdamwOutIdeal.Gen.frame m ρ, AdamwOut.frame_ref,
    fun m ρ _ => Cert.AdamwSmall.Gen.frame m ρ, fun m ρ _ => Cert.AdamwSmallIdeal.Gen.frame m ρ, AdamwSmall.frame_ref,
    trivial, Fox.algebraic, trivial, Inproj.algebraic, trivial, DwGate.algebraic, trivial, Merge.algebraic, trivial, Post.algebraic,
    trivial, DwRwkv.algebraic, trivial, ProjRwkv.algebraic, trivial, ProjGate.algebraic, trivial, AdamwIn.algebraic, trivial, AdamwLora.algebraic, trivial, AdamwOutA.algebraic, trivial, AdamwOut.algebraic, trivial, AdamwSmall.algebraic⟩⟩

end Cert.Proof

end
